-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_graph [hPre_setup_graph : Cert.Pre_setup_graph.Facts] (m : (ℓ : Loc Cert.KernelIdeal.nD Cert.KernelIdeal.τ Cert.KernelIdeal.sig) → Buf (Elt Ideal) ℓ) : Prop :=
  ∀ c : Dev Cert.KernelIdeal.nD,
    (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_setup_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_graph [hPre_setup_graph : Cert.Pre_setup_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_setup_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_setup_graph [hKernelIdeal : Cert.KernelIdeal.Facts] [hPre_setup_graph : Cert.Pre_setup_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_setup_graph [hReferenceIdeal : Cert.ReferenceIdeal.Facts] [hPre_setup_graph : Cert.Pre_setup_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_setup_graph [hKernelIdeal : Cert.KernelIdeal.Facts] [hReferenceIdeal : Cert.ReferenceIdeal.Facts] [hPre_setup_graph : Cert.Pre_setup_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_setup_graph : Cert.Pre_setup_graph.Facts),
    quiescent_Kernel (hKernel := hKernel)
    ∧ quiescent_KernelIdeal (hKernelIdeal := hKernelIdeal)
    ∧ quiescent_KernelIdeal_pre_setup_graph (hKernelIdeal := hKernelIdeal) (hPre_setup_graph := hPre_setup_graph)
    ∧ quiescent_ReferenceIdeal (hReferenceIdeal := hReferenceIdeal)
    ∧ quiescent_ReferenceIdeal_pre_setup_graph (hReferenceIdeal := hReferenceIdeal) (hPre_setup_graph := hPre_setup_graph)
    ∧ preserves_Kernel_KernelIdeal
    ∧ algebraic_KernelIdeal_ReferenceIdeal_pre_setup_graph (hKernelIdeal := hKernelIdeal) (hReferenceIdeal := hReferenceIdeal) (hPre_setup_graph := hPre_setup_graph)
-- ==== Pre_setup_graph.lean ====
abbrev S608x256x32 : Shape := ⟨3, ![608, 256, 32]⟩
abbrev S2x10944 : Shape := ⟨2, ![2, 10944]⟩
abbrev S10944 : Shape := ⟨1, ![10944]⟩
abbrev S128x32 : Shape := ⟨2, ![128, 32]⟩
abbrev S34x64 : Shape := ⟨2, ![34, 64]⟩
abbrev S64x2 : Shape := ⟨2, ![64, 2]⟩
abbrev S64 : Shape := ⟨1, ![64]⟩
abbrev S64x16 : Shape := ⟨2, ![64, 16]⟩
abbrev S32x64 : Shape := ⟨2, ![32, 64]⟩
abbrev S64x64 : Shape := ⟨2, ![64, 64]⟩
abbrev S32x19x18 : Shape := ⟨3, ![32, 19, 18]⟩
abbrev S_ : Shape := ⟨0, ![]⟩
abbrev S2x32x19x18 : Shape := ⟨4, ![2, 32, 19, 18]⟩
abbrev S1x32x19x18 : Shape := ⟨4, ![1, 32, 19, 18]⟩
abbrev S64x32 : Shape := ⟨2, ![64, 32]⟩
abbrev S2x64 : Shape := ⟨2, ![2, 64]⟩

class Facts : Prop where
  bcast_S_S32x19x18 : S_.BroadcastsInDim S32x19x18 (![] : Fin 0 → Fin S32x19x18.rank)
  shapeCasts_S2x10944_S2x32x19x18 : S2x10944.ShapeCasts S2x32x19x18
  bcast_S_S64x16 : S_.BroadcastsInDim S64x16 (![] : Fin 0 → Fin S64x16.rank)
  slices_S2x32x19x18_S1x32x19x18_0_0_0_0 : S2x32x19x18.Slices ![0, 0, 0, 0] S1x32x19x18
  shapeCasts_S1x32x19x18_S32x19x18 : S1x32x19x18.ShapeCasts S32x19x18
  slices_S2x32x19x18_S1x32x19x18_1_0_0_0 : S2x32x19x18.Slices ![1, 0, 0, 0] S1x32x19x18
  bcast_S_S608x256x32 : S_.BroadcastsInDim S608x256x32 (![] : Fin 0 → Fin S608x256x32.rank)
  slices_S128x32_S64x32_0_0 : S128x32.Slices ![0, 0] S64x32
  bcast_S_S64x32 : S_.BroadcastsInDim S64x32 (![] : Fin 0 → Fin S64x32.rank)
  slices_S34x64_S2x64_0_0 : S34x64.Slices ![0, 0] S2x64
  bcast_S_S2x64 : S_.BroadcastsInDim S2x64 (![] : Fin 0 → Fin S2x64.rank)
  bcast_S_S64x2 : S_.BroadcastsInDim S64x2 (![] : Fin 0 → Fin S64x2.rank)

variable [Facts]

def fn_where {F : FTy → Type} [FloatOps F] (arg0 : IVec S32x19x18 1) (arg1 : IVec S32x19x18 32) (arg2 : IVec S32x19x18 32) : IVec S32x19x18 32 :=
  let v0 : IVec S32x19x18 32 := select arg0 arg1 arg2
  v0

def fn_part1 {F : FTy → Type} [FloatOps F] (main_arg0 : FVec F S608x256x32 .f32) (main_arg3 : FVec F S128x32 .f32) (main_arg4 : FVec F S34x64 .f32) (main_arg5 : FVec F S64x2 .f32) (main_arg7 : FVec F S64x16 .f32) (main_v0 : IVec S32x19x18 32) (main_v6 : IVec S32x19x18 32) (main_v12 : FVec F S64x16 .f32) (main_v18 : IVec S32x19x18 1) (main_v20 : IVec S32x19x18 32) : IVec S32x19x18 1 × IVec S32x19x18 1 × IVec S64x16 1 × IVec S608x256x32 1 × IVec S64x32 1 × IVec S2x64 1 × IVec S64x2 1 :=
  let main_c_2 : IVec S_ 32 := constantI S_ 32 19#32
  let main_v21 : IVec S32x19x18 32 := broadcastInDim S32x19x18 ![] bcast_S_S32x19x18 main_c_2
  let main_v22 : IVec S32x19x18 32 := muli main_v0 main_v21
  let main_v23 : IVec S32x19x18 32 := addi main_v22 main_v6
  let main_v24 : IVec S32x19x18 1 := cmpi .eq main_v20 main_v23
  let main_v25 : IVec S64x16 1 := cmpf .oeq main_arg7 main_v12
  let main_v26 : FVec F S608x256x32 .f32 := Host.absf main_arg0
  let main_cst : FVec F S_ .f32 := constant S_ .f32 0x7F800000#32
  let main_v27 : FVec F S608x256x32 .f32 := broadcastInDim S608x256x32 ![] bcast_S_S608x256x32 main_cst
  let main_v28 : IVec S608x256x32 1 := cmpf .olt main_v26 main_v27
  let main_v29 : FVec F S64x32 .f32 := (extractStridedSlice S64x32 ![0, 0] · slices_S128x32_S64x32_0_0) main_arg3
  let main_v30 : FVec F S64x32 .f32 := Host.absf main_v29
  let main_cst_3 : FVec F S_ .f32 := constant S_ .f32 0x7F800000#32
  let main_v31 : FVec F S64x32 .f32 := broadcastInDim S64x32 ![] bcast_S_S64x32 main_cst_3
  let main_v32 : IVec S64x32 1 := cmpf .olt main_v30 main_v31
  let main_v33 : FVec F S2x64 .f32 := (extractStridedSlice S2x64 ![0, 0] · slices_S34x64_S2x64_0_0) main_arg4
  let main_v34 : FVec F S2x64 .f32 := Host.absf main_v33
  let main_cst_4 : FVec F S_ .f32 := constant S_ .f32 0x7F800000#32
  let main_v35 : FVec F S2x64 .f32 := broadcastInDim S2x64 ![] bcast_S_S2x64 main_cst_4
  let main_v36 : IVec S2x64 1 := cmpf .olt main_v34 main_v35
  let main_v37 : FVec F S64x2 .f32 := Host.absf main_arg5
  let main_cst_5 : FVec F S_ .f32 := constant S_ .f32 0x7F800000#32
  let main_v38 : FVec F S64x2 .f32 := broadcastInDim S64x2 ![] bcast_S_S64x2 main_cst_5
  let main_v39 : IVec S64x2 1 := cmpf .olt main_v37 main_v38
  (main_v18, main_v24, main_v25, main_v28, main_v32, main_v36, main_v39)

def fn {F : FTy → Type} [FloatOps F] (main_arg0 : FVec F S608x256x32 .f32) (main_arg1 : IVec S2x10944 32) (main_arg2 : FVec F S10944 .f32) (main_arg3 : FVec F S128x32 .f32) (main_arg4 : FVec F S34x64 .f32) (main_arg5 : FVec F S64x2 .f32) (main_arg6 : FVec F S64 .f32) (main_arg7 : FVec F S64x16 .f32) (main_arg8 : FVec F S64 .f32) (main_arg9 : FVec F S32x64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S32x19x18 1 × IVec S32x19x18 1 × IVec S64x16 1 × IVec S608x256x32 1 × IVec S64x32 1 × IVec S2x64 1 × IVec S64x2 1 :=
  let main_v0 : IVec S32x19x18 32 := iotaInDim S32x19x18 32 0
  let main_v1 : IVec S32x19x18 32 := iotaInDim S32x19x18 32 1
  let main_v2 : IVec S32x19x18 32 := iotaInDim S32x19x18 32 2
  let main_v3 : IVec S32x19x18 1 := cmpi .slt main_v2 main_v1
  let main_c : IVec S_ 32 := constantI S_ 32 1#32
  let main_v4 : IVec S32x19x18 32 := broadcastInDim S32x19x18 ![] bcast_S_S32x19x18 main_c
  let main_v5 : IVec S32x19x18 32 := addi main_v2 main_v4
  let main_v6 : IVec S32x19x18 32 := fn_where (F := F) main_v3 main_v2 main_v5
  let main_v7 : IVec S2x32x19x18 32 := shapeCast S2x32x19x18 main_arg1 shapeCasts_S2x10944_S2x32x19x18
  let main_v8 : IVec S64x16 32 := iotaInDim S64x16 32 1
  let main_c_0 : IVec S_ 32 := constantI S_ 32 1#32
  let main_v9 : IVec S64x16 32 := broadcastInDim S64x16 ![] bcast_S_S64x16 main_c_0
  let main_v10 : IVec S64x16 32 := addi main_v8 main_v9
  let main_v11 : FVec F S64x16 .f32 := sitofp .f32 main_v10
  let main_v12 : FVec F S64x16 .f32 := Host.log main_v11
  let main_v13 : IVec S1x32x19x18 32 := (extractStridedSlice S1x32x19x18 ![0, 0, 0, 0] · slices_S2x32x19x18_S1x32x19x18_0_0_0_0) main_v7
  let main_v14 : IVec S32x19x18 32 := shapeCast S32x19x18 main_v13 shapeCasts_S1x32x19x18_S32x19x18
  let main_c_1 : IVec S_ 32 := constantI S_ 32 19#32
  let main_v15 : IVec S32x19x18 32 := broadcastInDim S32x19x18 ![] bcast_S_S32x19x18 main_c_1
  let main_v16 : IVec S32x19x18 32 := muli main_v0 main_v15
  let main_v17 : IVec S32x19x18 32 := addi main_v16 main_v1
  let main_v18 : IVec S32x19x18 1 := cmpi .eq main_v14 main_v17
  let main_v19 : IVec S1x32x19x18 32 := (extractStridedSlice S1x32x19x18 ![1, 0, 0, 0] · slices_S2x32x19x18_S1x32x19x18_1_0_0_0) main_v7
  let main_v20 : IVec S32x19x18 32 := shapeCast S32x19x18 main_v19 shapeCasts_S1x32x19x18_S32x19x18
  fn_part1 (F := F) main_arg0 main_arg3 main_arg4 main_arg5 main_arg7 main_v0 main_v6 main_v12 main_v18 main_v20
-- ==== Kernel.lean ====
abbrev S608x256x32 : Shape := ⟨3, ![608, 256, 32]⟩
abbrev S2x10944 : Shape := ⟨2, ![2, 10944]⟩
abbrev S10944 : Shape := ⟨1, ![10944]⟩
abbrev S128x32 : Shape := ⟨2, ![128, 32]⟩
abbrev S34x64 : Shape := ⟨2, ![34, 64]⟩
abbrev S64x2 : Shape := ⟨2, ![64, 2]⟩
abbrev S64 : Shape := ⟨1, ![64]⟩
abbrev S64x16 : Shape := ⟨2, ![64, 16]⟩
abbrev S32x64 : Shape := ⟨2, ![32, 64]⟩
abbrev S64x64 : Shape := ⟨2, ![64, 64]⟩
abbrev S342 : Shape := ⟨1, ![342]⟩
abbrev S_ : Shape := ⟨0, ![]⟩
abbrev S32x19x19 : Shape := ⟨3, ![32, 19, 19]⟩
abbrev S32x342 : Shape := ⟨2, ![32, 342]⟩
abbrev S342x1 : Shape := ⟨2, ![342, 1]⟩
abbrev S342x2 : Shape := ⟨2, ![342, 2]⟩
abbrev S19x19 : Shape := ⟨2, ![19, 19]⟩
abbrev S1x19x19 : Shape := ⟨3, ![1, 19, 19]⟩
abbrev S32x19 : Shape := ⟨2, ![32, 19]⟩
abbrev S32x1x19 : Shape := ⟨3, ![32, 1, 19]⟩
abbrev S32x19x1 : Shape := ⟨3, ![32, 19, 1]⟩
abbrev S4x152x152 : Shape := ⟨3, ![4, 152, 152]⟩
abbrev S4x8x19x19 : Shape := ⟨4, ![4, 8, 19, 19]⟩
abbrev S4x1x19x19 : Shape := ⟨4, ![4, 1, 19, 19]⟩
abbrev S4x19x19 : Shape := ⟨3, ![4, 19, 19]⟩
abbrev S1 : Shape := ⟨1, ![1]⟩
abbrev S2 : Shape := ⟨1, ![2]⟩
abbrev S64x32 : Shape := ⟨2, ![64, 32]⟩
abbrev S2x64 : Shape := ⟨2, ![2, 64]⟩
abbrev S16x64 : Shape := ⟨2, ![16, 64]⟩
abbrev S64x256 : Shape := ⟨2, ![64, 256]⟩
abbrev S256 : Shape := ⟨1, ![256]⟩
abbrev S1x64 : Shape := ⟨2, ![1, 64]⟩
abbrev S128 : Shape := ⟨1, ![128]⟩
abbrev S64x128 : Shape := ⟨2, ![64, 128]⟩
abbrev S128x128 : Shape := ⟨2, ![128, 128]⟩
abbrev S1024 : Shape := ⟨1, ![1024]⟩
abbrev S64x1 : Shape := ⟨2, ![64, 1]⟩
abbrev S1x1024 : Shape := ⟨2, ![1, 1024]⟩
abbrev S64x1024 : Shape := ⟨2, ![64, 1024]⟩
abbrev S16 : Shape := ⟨1, ![16]⟩
abbrev S16x1 : Shape := ⟨2, ![16, 1]⟩
abbrev S16x1024 : Shape := ⟨2, ![16, 1024]⟩
abbrev S256x2176 : Shape := ⟨2, ![256, 2176]⟩
abbrev S128x1024 : Shape := ⟨2, ![128, 1024]⟩
abbrev S1024x64 : Shape := ⟨2, ![1024, 64]⟩
abbrev S1024x1 : Shape := ⟨2, ![1024, 1]⟩
abbrev S256x608x32 : Shape := ⟨3, ![256, 608, 32]⟩
abbrev S4x64x4x152x32 : Shape := ⟨5, ![4, 64, 4, 152, 32]⟩
abbrev S1x64x1x152x32 : Shape := ⟨5, ![1, 64, 1, 152, 32]⟩
abbrev S1x152x152 : Shape := ⟨3, ![1, 152, 152]⟩
abbrev S64x152x256 : Shape := ⟨3, ![64, 152, 256]⟩
abbrev S152x1024 : Shape := ⟨2, ![152, 1024]⟩
abbrev S9728x32 : Shape := ⟨2, ![9728, 32]⟩
abbrev S9728x64 : Shape := ⟨2, ![9728, 64]⟩
abbrev S9728x256 : Shape := ⟨2, ![9728, 256]⟩
abbrev S1x256 : Shape := ⟨2, ![1, 256]⟩
abbrev S9728x128 : Shape := ⟨2, ![9728, 128]⟩
abbrev S152x152 : Shape := ⟨2, ![152, 152]⟩
abbrev S1x152x256 : Shape := ⟨3, ![1, 152, 256]⟩
abbrev S152x256 : Shape := ⟨2, ![152, 256]⟩
abbrev S152x2176 : Shape := ⟨2, ![152, 2176]⟩
abbrev S152x128 : Shape := ⟨2, ![152, 128]⟩
abbrev S152x64 : Shape := ⟨2, ![152, 64]⟩
abbrev S152x1152 : Shape := ⟨2, ![152, 1152]⟩
abbrev S1x128 : Shape := ⟨2, ![1, 128]⟩
abbrev S1x152x64 : Shape := ⟨3, ![1, 152, 64]⟩

abbrev nBuf : Space → Nat
  | .hbm => 300
  | .vmem => 22
  | .smem => 0
  | _ => 0

abbrev hbmTy0_0 (i : Nat) : BufTy := match i % 128 with
  | 0 => ⟨S608x256x32, .f32⟩
  | 1 => ⟨S2x10944, .i32⟩
  | 2 => ⟨S10944, .f32⟩
  | 3 => ⟨S128x32, .f32⟩
  | 4 => ⟨S34x64, .f32⟩
  | 5 => ⟨S64x2, .f32⟩
  | 6 => ⟨S64, .f32⟩
  | 7 => ⟨S64x16, .f32⟩
  | 8 => ⟨S64, .f32⟩
  | 9 => ⟨S32x64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S342, .i32⟩
  | 17 => ⟨S342, .i1⟩
  | 18 => ⟨S342, .i32⟩
  | 19 => ⟨S342, .i1⟩
  | 20 => ⟨S_, .f32⟩
  | 21 => ⟨S32x19x19, .f32⟩
  | 22 => ⟨S32x342, .f32⟩
  | 23 => ⟨S_, .i32⟩
  | 24 => ⟨S342, .i32⟩
  | 25 => ⟨S342, .i32⟩
  | 26 => ⟨S342, .i32⟩
  | 27 => ⟨S_, .i32⟩
  | 28 => ⟨S342, .i32⟩
  | 29 => ⟨S342, .i32⟩
  | 30 => ⟨S342, .i32⟩
  | 31 => ⟨S342x1, .i32⟩
  | 32 => ⟨S342x1, .i32⟩
  | 33 => ⟨S342x2, .i32⟩
  | 34 => ⟨S32x19x19, .f32⟩
  | 35 => ⟨S19x19, .i32⟩
  | 36 => ⟨S19x19, .i32⟩
  | 37 => ⟨S_, .i32⟩
  | 38 => ⟨S19x19, .i32⟩
  | 39 => ⟨S19x19, .i32⟩
  | 40 => ⟨S19x19, .i1⟩
  | 41 => ⟨S19x19, .f32⟩
  | 42 => ⟨S1x19x19, .f32⟩
  | 43 => ⟨S32x19x19, .f32⟩
  | 44 => ⟨S32x19x19, .f32⟩
  | 45 => ⟨S_, .f32⟩
  | 46 => ⟨S32x19, .f32⟩
  | 47 => ⟨S_, .f32⟩
  | 48 => ⟨S32x19, .f32⟩
  | 49 => ⟨S32x19, .f32⟩
  | 50 => ⟨S32x19, .f32⟩
  | 51 => ⟨S32x19x19, .f32⟩
  | 52 => ⟨S32x1x19, .f32⟩
  | 53 => ⟨S32x19x19, .f32⟩
  | 54 => ⟨S32x19x19, .f32⟩
  | 55 => ⟨S32x19x1, .f32⟩
  | 56 => ⟨S32x19x19, .f32⟩
  | 57 => ⟨S32x19x19, .f32⟩
  | 58 => ⟨S_, .f32⟩
  | 59 => ⟨S4x152x152, .f32⟩
  | 60 => ⟨S4x8x19x19, .f32⟩
  | 61 => ⟨S4x1x19x19, .f32⟩
  | 62 => ⟨S4x19x19, .f32⟩
  | 63 => ⟨S_, .i32⟩
  | 64 => ⟨S1, .i32⟩
  | 65 => ⟨S_, .i32⟩
  | 66 => ⟨S1, .i32⟩
  | 67 => ⟨S2, .i32⟩
  | 68 => ⟨S4x152x152, .f32⟩
  | 69 => ⟨S4x8x19x19, .f32⟩
  | 70 => ⟨S4x1x19x19, .f32⟩
  | 71 => ⟨S4x19x19, .f32⟩
  | 72 => ⟨S_, .i32⟩
  | 73 => ⟨S1, .i32⟩
  | 74 => ⟨S_, .i32⟩
  | 75 => ⟨S1, .i32⟩
  | 76 => ⟨S2, .i32⟩
  | 77 => ⟨S4x152x152, .f32⟩
  | 78 => ⟨S4x8x19x19, .f32⟩
  | 79 => ⟨S4x1x19x19, .f32⟩
  | 80 => ⟨S4x19x19, .f32⟩
  | 81 => ⟨S_, .i32⟩
  | 82 => ⟨S1, .i32⟩
  | 83 => ⟨S_, .i32⟩
  | 84 => ⟨S1, .i32⟩
  | 85 => ⟨S2, .i32⟩
  | 86 => ⟨S4x152x152, .f32⟩
  | 87 => ⟨S4x8x19x19, .f32⟩
  | 88 => ⟨S4x1x19x19, .f32⟩
  | 89 => ⟨S4x19x19, .f32⟩
  | 90 => ⟨S_, .i32⟩
  | 91 => ⟨S1, .i32⟩
  | 92 => ⟨S_, .i32⟩
  | 93 => ⟨S1, .i32⟩
  | 94 => ⟨S2, .i32⟩
  | 95 => ⟨S4x152x152, .f32⟩
  | 96 => ⟨S4x8x19x19, .f32⟩
  | 97 => ⟨S4x1x19x19, .f32⟩
  | 98 => ⟨S4x19x19, .f32⟩
  | 99 => ⟨S_, .i32⟩
  | 100 => ⟨S1, .i32⟩
  | 101 => ⟨S_, .i32⟩
  | 102 => ⟨S1, .i32⟩
  | 103 => ⟨S2, .i32⟩
  | 104 => ⟨S4x152x152, .f32⟩
  | 105 => ⟨S4x8x19x19, .f32⟩
  | 106 => ⟨S4x1x19x19, .f32⟩
  | 107 => ⟨S4x19x19, .f32⟩
  | 108 => ⟨S_, .i32⟩
  | 109 => ⟨S1, .i32⟩
  | 110 => ⟨S_, .i32⟩
  | 111 => ⟨S1, .i32⟩
  | 112 => ⟨S2, .i32⟩
  | 113 => ⟨S4x152x152, .f32⟩
  | 114 => ⟨S4x8x19x19, .f32⟩
  | 115 => ⟨S4x1x19x19, .f32⟩
  | 116 => ⟨S4x19x19, .f32⟩
  | 117 => ⟨S_, .i32⟩
  | 118 => ⟨S1, .i32⟩
  | 119 => ⟨S_, .i32⟩
  | 120 => ⟨S1, .i32⟩
  | 121 => ⟨S2, .i32⟩
  | 122 => ⟨S4x152x152, .f32⟩
  | 123 => ⟨S4x8x19x19, .f32⟩
  | 124 => ⟨S4x1x19x19, .f32⟩
  | 125 => ⟨S4x19x19, .f32⟩
  | 126 => ⟨S_, .i32⟩
  | 127 => ⟨S1, .i32⟩
  | _ => ⟨S608x256x32, .f32⟩

abbrev hbmTy0_1 (i : Nat) : BufTy := match i % 128 with
  | 0 => ⟨S_, .i32⟩
  | 1 => ⟨S1, .i32⟩
  | 2 => ⟨S2, .i32⟩
  | 3 => ⟨S4x152x152, .f32⟩
  | 4 => ⟨S64x32, .f32⟩
  | 5 => ⟨S32x64, .f32⟩
  | 6 => ⟨S64x32, .f32⟩
  | 7 => ⟨S32x64, .f32⟩
  | 8 => ⟨S2x64, .f32⟩
  | 9 => ⟨S64x2, .f32⟩
  | 10 => ⟨S2x64, .f32⟩
  | 11 => ⟨S64x64, .f32⟩
  | 12 => ⟨S16x64, .f32⟩
  | 13 => ⟨S64x16, .f32⟩
  | 14 => ⟨S16x64, .f32⟩
  | 15 => ⟨S64x16, .f32⟩
  | 16 => ⟨S_, .f32⟩
  | 17 => ⟨S64x256, .f32⟩
  | 18 => ⟨S_, .i32⟩
  | 19 => ⟨S1, .i32⟩
  | 20 => ⟨S64x256, .f32⟩
  | 21 => ⟨S_, .i32⟩
  | 22 => ⟨S1, .i32⟩
  | 23 => ⟨S64x256, .f32⟩
  | 24 => ⟨S64x64, .i32⟩
  | 25 => ⟨S64x64, .i32⟩
  | 26 => ⟨S_, .i32⟩
  | 27 => ⟨S64x64, .i32⟩
  | 28 => ⟨S64x64, .i32⟩
  | 29 => ⟨S64x64, .i1⟩
  | 30 => ⟨S64x64, .f32⟩
  | 31 => ⟨S_, .i32⟩
  | 32 => ⟨S1, .i32⟩
  | 33 => ⟨S64x256, .f32⟩
  | 34 => ⟨S_, .i32⟩
  | 35 => ⟨S1, .i32⟩
  | 36 => ⟨S64x256, .f32⟩
  | 37 => ⟨S_, .i32⟩
  | 38 => ⟨S1, .i32⟩
  | 39 => ⟨S64x256, .f32⟩
  | 40 => ⟨S_, .f32⟩
  | 41 => ⟨S256, .f32⟩
  | 42 => ⟨S1x64, .f32⟩
  | 43 => ⟨S2x64, .f32⟩
  | 44 => ⟨S128, .f32⟩
  | 45 => ⟨S_, .i32⟩
  | 46 => ⟨S1, .i32⟩
  | 47 => ⟨S256, .f32⟩
  | 48 => ⟨S_, .f32⟩
  | 49 => ⟨S64x64, .f32⟩
  | 50 => ⟨S64x64, .f32⟩
  | 51 => ⟨S64x64, .f32⟩
  | 52 => ⟨S64x128, .f32⟩
  | 53 => ⟨S64x128, .f32⟩
  | 54 => ⟨S128x128, .f32⟩
  | 55 => ⟨S64x64, .f32⟩
  | 56 => ⟨S64x64, .f32⟩
  | 57 => ⟨S64x128, .f32⟩
  | 58 => ⟨S64x128, .f32⟩
  | 59 => ⟨S128x128, .f32⟩
  | 60 => ⟨S64x32, .f32⟩
  | 61 => ⟨S1024, .i32⟩
  | 62 => ⟨S_, .i32⟩
  | 63 => ⟨S_, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i1⟩
  | 70 => ⟨S1024, .i32⟩
  | 71 => ⟨S1024, .i32⟩
  | 72 => ⟨S_, .i32⟩
  | 73 => ⟨S1024, .i32⟩
  | 74 => ⟨S1024, .i1⟩
  | 75 => ⟨S1024, .i1⟩
  | 76 => ⟨S_, .i32⟩
  | 77 => ⟨S1024, .i32⟩
  | 78 => ⟨S1024, .i32⟩
  | 79 => ⟨S1024, .i32⟩
  | 80 => ⟨S1024, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i1⟩
  | 95 => ⟨S_, .i32⟩
  | 96 => ⟨S_, .i1⟩
  | 97 => ⟨S1024, .i1⟩
  | 98 => ⟨S1024, .i1⟩
  | 99 => ⟨S1024, .i1⟩
  | 100 => ⟨S1024, .i32⟩
  | 101 => ⟨S1024, .i32⟩
  | 102 => ⟨S1024, .i32⟩
  | 103 => ⟨S64, .i32⟩
  | 104 => ⟨S64x1, .i32⟩
  | 105 => ⟨S1x1024, .i32⟩
  | 106 => ⟨S64x1024, .i32⟩
  | 107 => ⟨S64x1024, .i32⟩
  | 108 => ⟨S64x1024, .i1⟩
  | 109 => ⟨S64x1024, .f32⟩
  | 110 => ⟨S16, .i32⟩
  | 111 => ⟨S16x1, .i32⟩
  | 112 => ⟨S1x1024, .i32⟩
  | 113 => ⟨S16x1024, .i32⟩
  | 114 => ⟨S16x1024, .i32⟩
  | 115 => ⟨S16x1024, .i1⟩
  | 116 => ⟨S16x1024, .f32⟩
  | 117 => ⟨S_, .f32⟩
  | 118 => ⟨S256x2176, .f32⟩
  | 119 => ⟨S_, .i32⟩
  | 120 => ⟨S1, .i32⟩
  | 121 => ⟨S_, .i32⟩
  | 122 => ⟨S1, .i32⟩
  | 123 => ⟨S2, .i32⟩
  | 124 => ⟨S256x2176, .f32⟩
  | 125 => ⟨S_, .i32⟩
  | 126 => ⟨S1, .i32⟩
  | 127 => ⟨S_, .i32⟩
  | _ => ⟨S608x256x32, .f32⟩

abbrev hbmTy0_2 (i : Nat) : BufTy := match i % 128 with
  | 0 => ⟨S1, .i32⟩
  | 1 => ⟨S2, .i32⟩
  | 2 => ⟨S256x2176, .f32⟩
  | 3 => ⟨S64x64, .f32⟩
  | 4 => ⟨S_, .i32⟩
  | 5 => ⟨S1, .i32⟩
  | 6 => ⟨S_, .i32⟩
  | 7 => ⟨S1, .i32⟩
  | 8 => ⟨S2, .i32⟩
  | 9 => ⟨S256x2176, .f32⟩
  | 10 => ⟨S_, .f32⟩
  | 11 => ⟨S128x1024, .f32⟩
  | 12 => ⟨S_, .i32⟩
  | 13 => ⟨S1, .i32⟩
  | 14 => ⟨S128x1024, .f32⟩
  | 15 => ⟨S1024x64, .f32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024, .f32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024, .f32⟩
  | 34 => ⟨S_, .f32⟩
  | 35 => ⟨S128, .f32⟩
  | 36 => ⟨S_, .i32⟩
  | 37 => ⟨S1, .i32⟩
  | 38 => ⟨S128, .f32⟩
  | 39 => ⟨S256x608x32, .f32⟩
  | 40 => ⟨S4x64x4x152x32, .f32⟩
  | 41 => ⟨S4x64x4x152x32, .f32⟩
  | 42 => ⟨S256x608x32, .f32⟩
  | 43 => ⟨S608x256x32, .f32⟩
  | _ => ⟨S608x256x32, .f32⟩

abbrev hbmTy (i : Nat) : BufTy := match i / 128 with
  | 0 => hbmTy0_0 i
  | 1 => hbmTy0_1 i
  | 2 => hbmTy0_2 i
  | _ => ⟨S608x256x32, .f32⟩

abbrev bufTy : (tb : Table) → Fin (tcTables nBuf tb) → BufTy
  | .hbm, ⟨i, _⟩ => hbmTy i
  | .local _ .vmem, ⟨0, _⟩ => ⟨S1x64x1x152x32, .f32⟩
  | .local _ .vmem, ⟨1, _⟩ => ⟨S1x64x1x152x32, .f32⟩
  | .local _ .vmem, ⟨2, _⟩ => ⟨S1x152x152, .f32⟩
  | .local _ .vmem, ⟨3, _⟩ => ⟨S1x152x152, .f32⟩
  | .local _ .vmem, ⟨4, _⟩ => ⟨S32x64, .f32⟩
  | .local _ .vmem, ⟨5, _⟩ => ⟨S64x256, .f32⟩
  | .local _ .vmem, ⟨6, _⟩ => ⟨S128x128, .f32⟩
  | .local _ .vmem, ⟨7, _⟩ => ⟨S128x128, .f32⟩
  | .local _ .vmem, ⟨8, _⟩ => ⟨S256x2176, .f32⟩
  | .local _ .vmem, ⟨9, _⟩ => ⟨S128x1024, .f32⟩
  | .local _ .vmem, ⟨10, _⟩ => ⟨S1024x64, .f32⟩
  | .local _ .vmem, ⟨11, _⟩ => ⟨S256, .f32⟩
  | .local _ .vmem, ⟨12, _⟩ => ⟨S128, .f32⟩
  | .local _ .vmem, ⟨13, _⟩ => ⟨S1024, .f32⟩
  | .local _ .vmem, ⟨14, _⟩ => ⟨S1024, .f32⟩
  | .local _ .vmem, ⟨15, _⟩ => ⟨S64, .f32⟩
  | .local _ .vmem, ⟨16, _⟩ => ⟨S32x64, .f32⟩
  | .local _ .vmem, ⟨17, _⟩ => ⟨S64x32, .f32⟩
  | .local _ .vmem, ⟨18, _⟩ => ⟨S1x64x1x152x32, .f32⟩
  | .local _ .vmem, ⟨19, _⟩ => ⟨S1x64x1x152x32, .f32⟩
  | .local _ .vmem, ⟨20, _⟩ => ⟨S64x152x256, .f32⟩
  | .local _ .vmem, ⟨21, _⟩ => ⟨S152x1024, .f32⟩
  | _, _ => ⟨S608x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_c_0 : Ref sig .tc := ⟨.hbm, 17, rfl⟩
abbrev main_call0_c_1 : Ref sig .tc := ⟨.hbm, 18, rfl⟩
abbrev main_call0_c_2 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_c_3 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_c_5 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_cst_6 : Ref sig .tc := ⟨.hbm, 45, rfl⟩
abbrev main_call0_v21 : Ref sig .tc := ⟨.hbm, 46, rfl⟩
abbrev main_call0_cst_7 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_8 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_c_9 : Ref sig .tc := ⟨.hbm, 63, rfl⟩
abbrev main_call0_v36 : Ref sig .tc := ⟨.hbm, 64, rfl⟩
abbrev main_call0_c_10 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_c_11 : Ref sig .tc := ⟨.hbm, 72, rfl⟩
abbrev main_call0_v43 : Ref sig .tc := ⟨.hbm, 73, rfl⟩
abbrev main_call0_c_12 : Ref sig .tc := ⟨.hbm, 74, rfl⟩
abbrev main_call0_v44 : Ref sig .tc := ⟨.hbm, 75, rfl⟩
abbrev main_call0_v45 : Ref sig .tc := ⟨.hbm, 76, rfl⟩
abbrev main_call0_v46 : Ref sig .tc := ⟨.hbm, 77, rfl⟩
abbrev main_call0_v47 : Ref sig .tc := ⟨.hbm, 78, rfl⟩
abbrev main_call0_v48 : Ref sig .tc := ⟨.hbm, 79, rfl⟩
abbrev main_call0_v49 : Ref sig .tc := ⟨.hbm, 80, rfl⟩
abbrev main_call0_c_13 : Ref sig .tc := ⟨.hbm, 81, rfl⟩
abbrev main_call0_v50 : Ref sig .tc := ⟨.hbm, 82, rfl⟩
abbrev main_call0_c_14 : Ref sig .tc := ⟨.hbm, 83, rfl⟩
abbrev main_call0_v51 : Ref sig .tc := ⟨.hbm, 84, rfl⟩
abbrev main_call0_v52 : Ref sig .tc := ⟨.hbm, 85, rfl⟩
abbrev main_call0_v53 : Ref sig .tc := ⟨.hbm, 86, rfl⟩
abbrev main_call0_v54 : Ref sig .tc := ⟨.hbm, 87, rfl⟩
abbrev main_call0_v55 : Ref sig .tc := ⟨.hbm, 88, rfl⟩
abbrev main_call0_v56 : Ref sig .tc := ⟨.hbm, 89, rfl⟩
abbrev main_call0_c_15 : Ref sig .tc := ⟨.hbm, 90, rfl⟩
abbrev main_call0_v57 : Ref sig .tc := ⟨.hbm, 91, rfl⟩
abbrev main_call0_c_16 : Ref sig .tc := ⟨.hbm, 92, rfl⟩
abbrev main_call0_v58 : Ref sig .tc := ⟨.hbm, 93, rfl⟩
abbrev main_call0_v59 : Ref sig .tc := ⟨.hbm, 94, rfl⟩
abbrev main_call0_v60 : Ref sig .tc := ⟨.hbm, 95, rfl⟩
abbrev main_call0_v61 : Ref sig .tc := ⟨.hbm, 96, rfl⟩
abbrev main_call0_v62 : Ref sig .tc := ⟨.hbm, 97, rfl⟩
abbrev main_call0_v63 : Ref sig .tc := ⟨.hbm, 98, rfl⟩
abbrev main_call0_c_17 : Ref sig .tc := ⟨.hbm, 99, rfl⟩
abbrev main_call0_v64 : Ref sig .tc := ⟨.hbm, 100, rfl⟩
abbrev main_call0_c_18 : Ref sig .tc := ⟨.hbm, 101, rfl⟩
abbrev main_call0_v65 : Ref sig .tc := ⟨.hbm, 102, rfl⟩
abbrev main_call0_v66 : Ref sig .tc := ⟨.hbm, 103, rfl⟩
abbrev main_call0_v67 : Ref sig .tc := ⟨.hbm, 104, rfl⟩
abbrev main_call0_v68 : Ref sig .tc := ⟨.hbm, 105, rfl⟩
abbrev main_call0_v69 : Ref sig .tc := ⟨.hbm, 106, rfl⟩
abbrev main_call0_v70 : Ref sig .tc := ⟨.hbm, 107, rfl⟩
abbrev main_call0_c_19 : Ref sig .tc := ⟨.hbm, 108, rfl⟩
abbrev main_call0_v71 : Ref sig .tc := ⟨.hbm, 109, rfl⟩
abbrev main_call0_c_20 : Ref sig .tc := ⟨.hbm, 110, rfl⟩
abbrev main_call0_v72 : Ref sig .tc := ⟨.hbm, 111, rfl⟩
abbrev main_call0_v73 : Ref sig .tc := ⟨.hbm, 112, rfl⟩
abbrev main_call0_v74 : Ref sig .tc := ⟨.hbm, 113, rfl⟩
abbrev main_call0_v75 : Ref sig .tc := ⟨.hbm, 114, rfl⟩
abbrev main_call0_v76 : Ref sig .tc := ⟨.hbm, 115, rfl⟩
abbrev main_call0_v77 : Ref sig .tc := ⟨.hbm, 116, rfl⟩
abbrev main_call0_c_21 : Ref sig .tc := ⟨.hbm, 117, rfl⟩
abbrev main_call0_v78 : Ref sig .tc := ⟨.hbm, 118, rfl⟩
abbrev main_call0_c_22 : Ref sig .tc := ⟨.hbm, 119, rfl⟩
abbrev main_call0_v79 : Ref sig .tc := ⟨.hbm, 120, rfl⟩
abbrev main_call0_v80 : Ref sig .tc := ⟨.hbm, 121, rfl⟩
abbrev main_call0_v81 : Ref sig .tc := ⟨.hbm, 122, rfl⟩
abbrev main_call0_v82 : Ref sig .tc := ⟨.hbm, 123, rfl⟩
abbrev main_call0_v83 : Ref sig .tc := ⟨.hbm, 124, rfl⟩
abbrev main_call0_v84 : Ref sig .tc := ⟨.hbm, 125, rfl⟩
abbrev main_call0_c_23 : Ref sig .tc := ⟨.hbm, 126, rfl⟩
abbrev main_call0_v85 : Ref sig .tc := ⟨.hbm, 127, rfl⟩
abbrev main_call0_c_24 : Ref sig .tc := ⟨.hbm, 128, rfl⟩
abbrev main_call0_v86 : Ref sig .tc := ⟨.hbm, 129, rfl⟩
abbrev main_call0_v87 : Ref sig .tc := ⟨.hbm, 130, rfl⟩
abbrev main_call0_v88 : Ref sig .tc := ⟨.hbm, 131, rfl⟩
abbrev main_call0_v89 : Ref sig .tc := ⟨.hbm, 132, rfl⟩
abbrev main_call0_v90 : Ref sig .tc := ⟨.hbm, 133, rfl⟩
abbrev main_call0_v91 : Ref sig .tc := ⟨.hbm, 134, rfl⟩
abbrev main_call0_v92 : Ref sig .tc := ⟨.hbm, 135, rfl⟩
abbrev main_call0_v93 : Ref sig .tc := ⟨.hbm, 136, rfl⟩
abbrev main_call0_v94 : Ref sig .tc := ⟨.hbm, 137, rfl⟩
abbrev main_call0_v95 : Ref sig .tc := ⟨.hbm, 138, rfl⟩
abbrev main_call0_v96 : Ref sig .tc := ⟨.hbm, 139, rfl⟩
abbrev main_call0_v97 : Ref sig .tc := ⟨.hbm, 140, rfl⟩
abbrev main_call0_v98 : Ref sig .tc := ⟨.hbm, 141, rfl⟩
abbrev main_call0_v99 : Ref sig .tc := ⟨.hbm, 142, rfl⟩
abbrev main_call0_v100 : Ref sig .tc := ⟨.hbm, 143, rfl⟩
abbrev main_call0_cst_25 : Ref sig .tc := ⟨.hbm, 144, rfl⟩
abbrev main_call0_v101 : Ref sig .tc := ⟨.hbm, 145, rfl⟩
abbrev main_call0_c_26 : Ref sig .tc := ⟨.hbm, 146, rfl⟩
abbrev main_call0_v102 : Ref sig .tc := ⟨.hbm, 147, rfl⟩
abbrev main_call0_v103 : Ref sig .tc := ⟨.hbm, 148, rfl⟩
abbrev main_call0_c_27 : Ref sig .tc := ⟨.hbm, 149, rfl⟩
abbrev main_call0_v104 : Ref sig .tc := ⟨.hbm, 150, rfl⟩
abbrev main_call0_v105 : Ref sig .tc := ⟨.hbm, 151, rfl⟩
abbrev main_call0_v106 : Ref sig .tc := ⟨.hbm, 152, rfl⟩
abbrev main_call0_v107 : Ref sig .tc := ⟨.hbm, 153, rfl⟩
abbrev main_call0_c_28 : Ref sig .tc := ⟨.hbm, 154, rfl⟩
abbrev main_call0_v108 : Ref sig .tc := ⟨.hbm, 155, rfl⟩
abbrev main_call0_v109 : Ref sig .tc := ⟨.hbm, 156, rfl⟩
abbrev main_call0_v110 : Ref sig .tc := ⟨.hbm, 157, rfl⟩
abbrev main_call0_v111 : Ref sig .tc := ⟨.hbm, 158, rfl⟩
abbrev main_call0_c_29 : Ref sig .tc := ⟨.hbm, 159, rfl⟩
abbrev main_call0_v112 : Ref sig .tc := ⟨.hbm, 160, rfl⟩
abbrev main_call0_v113 : Ref sig .tc := ⟨.hbm, 161, rfl⟩
abbrev main_call0_c_30 : Ref sig .tc := ⟨.hbm, 162, rfl⟩
abbrev main_call0_v114 : Ref sig .tc := ⟨.hbm, 163, rfl⟩
abbrev main_call0_v115 : Ref sig .tc := ⟨.hbm, 164, rfl⟩
abbrev main_call0_c_31 : Ref sig .tc := ⟨.hbm, 165, rfl⟩
abbrev main_call0_v116 : Ref sig .tc := ⟨.hbm, 166, rfl⟩
abbrev main_call0_v117 : Ref sig .tc := ⟨.hbm, 167, rfl⟩
abbrev main_call0_cst_32 : Ref sig .tc := ⟨.hbm, 168, rfl⟩
abbrev main_call0_v118 : Ref sig .tc := ⟨.hbm, 169, rfl⟩
abbrev main_call0_v119 : Ref sig .tc := ⟨.hbm, 170, rfl⟩
abbrev main_call0_v120 : Ref sig .tc := ⟨.hbm, 171, rfl⟩
abbrev main_call0_v121 : Ref sig .tc := ⟨.hbm, 172, rfl⟩
abbrev main_call0_c_33 : Ref sig .tc := ⟨.hbm, 173, rfl⟩
abbrev main_call0_v122 : Ref sig .tc := ⟨.hbm, 174, rfl⟩
abbrev main_call0_v123 : Ref sig .tc := ⟨.hbm, 175, rfl⟩
abbrev main_call0_cst_34 : Ref sig .tc := ⟨.hbm, 176, rfl⟩
abbrev main_call0_v124 : Ref sig .tc := ⟨.hbm, 177, rfl⟩
abbrev main_call0_v125 : Ref sig .tc := ⟨.hbm, 178, rfl⟩
abbrev main_call0_v126 : Ref sig .tc := ⟨.hbm, 179, rfl⟩
abbrev main_call0_call0_v0 : Ref sig .tc := ⟨.hbm, 180, rfl⟩
abbrev main_call0_call0_v1 : Ref sig .tc := ⟨.hbm, 181, rfl⟩
abbrev main_call0_v127 : Ref sig .tc := ⟨.hbm, 182, rfl⟩
abbrev main_call0_v128 : Ref sig .tc := ⟨.hbm, 183, rfl⟩
abbrev main_call0_v129 : Ref sig .tc := ⟨.hbm, 184, rfl⟩
abbrev main_call0_call1_v0 : Ref sig .tc := ⟨.hbm, 185, rfl⟩
abbrev main_call0_call1_v1 : Ref sig .tc := ⟨.hbm, 186, rfl⟩
abbrev main_call0_v130 : Ref sig .tc := ⟨.hbm, 187, rfl⟩
abbrev main_call0_v131 : Ref sig .tc := ⟨.hbm, 188, rfl⟩
abbrev main_call0_v132 : Ref sig .tc := ⟨.hbm, 189, rfl⟩
abbrev main_call0_c_35 : Ref sig .tc := ⟨.hbm, 190, rfl⟩
abbrev main_call0_call2_v0 : Ref sig .tc := ⟨.hbm, 191, rfl⟩
abbrev main_call0_call2_v1 : Ref sig .tc := ⟨.hbm, 192, rfl⟩
abbrev main_call0_call2_v2 : Ref sig .tc := ⟨.hbm, 193, rfl⟩
abbrev main_call0_call2_v3 : Ref sig .tc := ⟨.hbm, 194, rfl⟩
abbrev main_call0_call2_v4 : Ref sig .tc := ⟨.hbm, 195, rfl⟩
abbrev main_call0_call2_v5 : Ref sig .tc := ⟨.hbm, 196, rfl⟩
abbrev main_call0_call2_v6 : Ref sig .tc := ⟨.hbm, 197, rfl⟩
abbrev main_call0_call2_v7 : Ref sig .tc := ⟨.hbm, 198, rfl⟩
abbrev main_call0_call2_v8 : Ref sig .tc := ⟨.hbm, 199, rfl⟩
abbrev main_call0_call2_c : Ref sig .tc := ⟨.hbm, 200, rfl⟩
abbrev main_call0_call2_v9 : Ref sig .tc := ⟨.hbm, 201, rfl⟩
abbrev main_call0_call2_v10 : Ref sig .tc := ⟨.hbm, 202, rfl⟩
abbrev main_call0_call2_v11 : Ref sig .tc := ⟨.hbm, 203, rfl⟩
abbrev main_call0_call2_c_0 : Ref sig .tc := ⟨.hbm, 204, rfl⟩
abbrev main_call0_call2_v12 : Ref sig .tc := ⟨.hbm, 205, rfl⟩
abbrev main_call0_call2_v13 : Ref sig .tc := ⟨.hbm, 206, rfl⟩
abbrev main_call0_v133 : Ref sig .tc := ⟨.hbm, 207, rfl⟩
abbrev main_call0_v134 : Ref sig .tc := ⟨.hbm, 208, rfl⟩
abbrev main_call0_c_36 : Ref sig .tc := ⟨.hbm, 209, rfl⟩
abbrev main_call0_call3_v0 : Ref sig .tc := ⟨.hbm, 210, rfl⟩
abbrev main_call0_call3_c : Ref sig .tc := ⟨.hbm, 211, rfl⟩
abbrev main_call0_call3_v1 : Ref sig .tc := ⟨.hbm, 212, rfl⟩
abbrev main_call0_call3_c_0 : Ref sig .tc := ⟨.hbm, 213, rfl⟩
abbrev main_call0_call3_v2 : Ref sig .tc := ⟨.hbm, 214, rfl⟩
abbrev main_call0_call3_v3 : Ref sig .tc := ⟨.hbm, 215, rfl⟩
abbrev main_call0_call3_v4 : Ref sig .tc := ⟨.hbm, 216, rfl⟩
abbrev main_call0_call3_c_1 : Ref sig .tc := ⟨.hbm, 217, rfl⟩
abbrev main_call0_call3_v5 : Ref sig .tc := ⟨.hbm, 218, rfl⟩
abbrev main_call0_call3_v6 : Ref sig .tc := ⟨.hbm, 219, rfl⟩
abbrev main_call0_call3_c_2 : Ref sig .tc := ⟨.hbm, 220, rfl⟩
abbrev main_call0_call3_v7 : Ref sig .tc := ⟨.hbm, 221, rfl⟩
abbrev main_call0_call3_v8 : Ref sig .tc := ⟨.hbm, 222, rfl⟩
abbrev main_call0_call3_c_3 : Ref sig .tc := ⟨.hbm, 223, rfl⟩
abbrev main_call0_call3_v9 : Ref sig .tc := ⟨.hbm, 224, rfl⟩
abbrev main_call0_call3_v10 : Ref sig .tc := ⟨.hbm, 225, rfl⟩
abbrev main_call0_call3_v11 : Ref sig .tc := ⟨.hbm, 226, rfl⟩
abbrev main_call0_call3_v12 : Ref sig .tc := ⟨.hbm, 227, rfl⟩
abbrev main_call0_call3_v13 : Ref sig .tc := ⟨.hbm, 228, rfl⟩
abbrev main_call0_call3_v14 : Ref sig .tc := ⟨.hbm, 229, rfl⟩
abbrev main_call0_v135 : Ref sig .tc := ⟨.hbm, 230, rfl⟩
abbrev main_call0_v136 : Ref sig .tc := ⟨.hbm, 231, rfl⟩
abbrev main_call0_v137 : Ref sig .tc := ⟨.hbm, 232, rfl⟩
abbrev main_call0_v138 : Ref sig .tc := ⟨.hbm, 233, rfl⟩
abbrev main_call0_v139 : Ref sig .tc := ⟨.hbm, 234, rfl⟩
abbrev main_call0_v140 : Ref sig .tc := ⟨.hbm, 235, rfl⟩
abbrev main_call0_v141 : Ref sig .tc := ⟨.hbm, 236, rfl⟩
abbrev main_call0_v142 : Ref sig .tc := ⟨.hbm, 237, rfl⟩
abbrev main_call0_v143 : Ref sig .tc := ⟨.hbm, 238, rfl⟩
abbrev main_call0_v144 : Ref sig .tc := ⟨.hbm, 239, rfl⟩
abbrev main_call0_v145 : Ref sig .tc := ⟨.hbm, 240, rfl⟩
abbrev main_call0_v146 : Ref sig .tc := ⟨.hbm, 241, rfl⟩
abbrev main_call0_v147 : Ref sig .tc := ⟨.hbm, 242, rfl⟩
abbrev main_call0_v148 : Ref sig .tc := ⟨.hbm, 243, rfl⟩
abbrev main_call0_v149 : Ref sig .tc := ⟨.hbm, 244, rfl⟩
abbrev main_call0_cst_37 : Ref sig .tc := ⟨.hbm, 245, rfl⟩
abbrev main_call0_v150 : Ref sig .tc := ⟨.hbm, 246, rfl⟩
abbrev main_call0_c_38 : Ref sig .tc := ⟨.hbm, 247, rfl⟩
abbrev main_call0_v151 : Ref sig .tc := ⟨.hbm, 248, rfl⟩
abbrev main_call0_c_39 : Ref sig .tc := ⟨.hbm, 249, rfl⟩
abbrev main_call0_v152 : Ref sig .tc := ⟨.hbm, 250, rfl⟩
abbrev main_call0_v153 : Ref sig .tc := ⟨.hbm, 251, rfl⟩
abbrev main_call0_v154 : Ref sig .tc := ⟨.hbm, 252, rfl⟩
abbrev main_call0_c_40 : Ref sig .tc := ⟨.hbm, 253, rfl⟩
abbrev main_call0_v155 : Ref sig .tc := ⟨.hbm, 254, rfl⟩
abbrev main_call0_c_41 : Ref sig .tc := ⟨.hbm, 255, rfl⟩
abbrev main_call0_v156 : Ref sig .tc := ⟨.hbm, 256, rfl⟩
abbrev main_call0_v157 : Ref sig .tc := ⟨.hbm, 257, rfl⟩
abbrev main_call0_v158 : Ref sig .tc := ⟨.hbm, 258, rfl⟩
abbrev main_call0_v159 : Ref sig .tc := ⟨.hbm, 259, rfl⟩
abbrev main_call0_c_42 : Ref sig .tc := ⟨.hbm, 260, rfl⟩
abbrev main_call0_v160 : Ref sig .tc := ⟨.hbm, 261, rfl⟩
abbrev main_call0_c_43 : Ref sig .tc := ⟨.hbm, 262, rfl⟩
abbrev main_call0_v161 : Ref sig .tc := ⟨.hbm, 263, rfl⟩
abbrev main_call0_v162 : Ref sig .tc := ⟨.hbm, 264, rfl⟩
abbrev main_call0_v163 : Ref sig .tc := ⟨.hbm, 265, rfl⟩
abbrev main_call0_cst_44 : Ref sig .tc := ⟨.hbm, 266, rfl⟩
abbrev main_call0_v164 : Ref sig .tc := ⟨.hbm, 267, rfl⟩
abbrev main_call0_c_45 : Ref sig .tc := ⟨.hbm, 268, rfl⟩
abbrev main_call0_v165 : Ref sig .tc := ⟨.hbm, 269, rfl⟩
abbrev main_call0_v166 : Ref sig .tc := ⟨.hbm, 270, rfl⟩
abbrev main_call0_v167 : Ref sig .tc := ⟨.hbm, 271, rfl⟩
abbrev main_call0_c_46 : Ref sig .tc := ⟨.hbm, 272, rfl⟩
abbrev main_call0_v168 : Ref sig .tc := ⟨.hbm, 273, rfl⟩
abbrev main_call0_v169 : Ref sig .tc := ⟨.hbm, 274, rfl⟩
abbrev main_call0_c_47 : Ref sig .tc := ⟨.hbm, 275, rfl⟩
abbrev main_call0_v170 : Ref sig .tc := ⟨.hbm, 276, rfl⟩
abbrev main_call0_v171 : Ref sig .tc := ⟨.hbm, 277, rfl⟩
abbrev main_call0_v172 : Ref sig .tc := ⟨.hbm, 278, rfl⟩
abbrev main_call0_v173 : Ref sig .tc := ⟨.hbm, 279, rfl⟩
abbrev main_call0_v174 : Ref sig .tc := ⟨.hbm, 280, rfl⟩
abbrev main_call0_c_48 : Ref sig .tc := ⟨.hbm, 281, rfl⟩
abbrev main_call0_v175 : Ref sig .tc := ⟨.hbm, 282, rfl⟩
abbrev main_call0_v176 : Ref sig .tc := ⟨.hbm, 283, rfl⟩
abbrev main_call0_c_49 : Ref sig .tc := ⟨.hbm, 284, rfl⟩
abbrev main_call0_v177 : Ref sig .tc := ⟨.hbm, 285, rfl⟩
abbrev main_call0_v178 : Ref sig .tc := ⟨.hbm, 286, rfl⟩
abbrev main_call0_v179 : Ref sig .tc := ⟨.hbm, 287, rfl⟩
abbrev main_call0_v180 : Ref sig .tc := ⟨.hbm, 288, rfl⟩
abbrev main_call0_v181 : Ref sig .tc := ⟨.hbm, 289, rfl⟩
abbrev main_call0_cst_50 : Ref sig .tc := ⟨.hbm, 290, rfl⟩
abbrev main_call0_v182 : Ref sig .tc := ⟨.hbm, 291, rfl⟩
abbrev main_call0_c_51 : Ref sig .tc := ⟨.hbm, 292, rfl⟩
abbrev main_call0_v183 : Ref sig .tc := ⟨.hbm, 293, rfl⟩
abbrev main_call0_v184 : Ref sig .tc := ⟨.hbm, 294, rfl⟩
abbrev main_call0_v185 : Ref sig .tc := ⟨.hbm, 295, rfl⟩
abbrev main_call0_v186 : Ref sig .tc := ⟨.hbm, 296, rfl⟩
abbrev main_call0_v187 : Ref sig .tc := ⟨.hbm, 297, rfl⟩
abbrev main_call0_v188 : Ref sig .tc := ⟨.hbm, 298, rfl⟩
abbrev main_v0 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_33 : BitVec 32 := 0#32
  let c8_i32 : BitVec 32 := 8#32
  let v63 : BitVec 32 := Scalar.addi c0_i32_33 c8_i32
  let c1_i32 : BitVec 32 := 1#32
  ⟨c0_i32_33, v63, c1_i32⟩
def k0_off1 (k0_t1 : Fin k0_t1_loop.trips) (c0_i32_53 : BitVec 32) : Fin 3 → Nat :=
  let c0_i32_33 : BitVec 32 := 0#32
  let c1_i32 : BitVec 32 := 1#32
  let arg21 : BitVec 32 := Scf.iv c0_i32_33 c1_i32 k0_t1
  let c8_i32_52 : BitVec 32 := 8#32
  let v85 : BitVec 32 := Scalar.muli arg21 c8_i32_52
  let v86 : BitVec 32 := Scalar.addi v85 c0_i32_53
  let v87 : Index := Scalar.indexCast v86
  let c0_54 : Index := 0#32
  let c0_55 : Index := 0#32
  ![v87.toNat, 0, 0]
def k0_off2 (k0_t1 : Fin k0_t1_loop.trips) (c0_i32_53 : BitVec 32) : Fin 3 → Nat :=
  let c0_i32_33 : BitVec 32 := 0#32
  let c1_i32 : BitVec 32 := 1#32
  let arg21 : BitVec 32 := Scf.iv c0_i32_33 c1_i32 k0_t1
  let c8_i32_52 : BitVec 32 := 8#32
  let v85 : BitVec 32 := Scalar.muli arg21 c8_i32_52
  let v86 : BitVec 32 := Scalar.addi v85 c0_i32_53
  let v164 : Index := Scalar.indexCast v86
  let c0_77 : Index := 0#32
  let c192 : Index := 192#32
  ![v164.toNat, 0, 192]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S1x64x1x152x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x152x152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x64x1x152x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S608x256x32 : Shape := ⟨3, ![608, 256, 32]⟩
abbrev S2x10944 : Shape := ⟨2, ![2, 10944]⟩
abbrev S10944 : Shape := ⟨1, ![10944]⟩
abbrev S128x32 : Shape := ⟨2, ![128, 32]⟩
abbrev S34x64 : Shape := ⟨2, ![34, 64]⟩
abbrev S64x2 : Shape := ⟨2, ![64, 2]⟩
abbrev S64 : Shape := ⟨1, ![64]⟩
abbrev S64x16 : Shape := ⟨2, ![64, 16]⟩
abbrev S32x64 : Shape := ⟨2, ![32, 64]⟩
abbrev S64x64 : Shape := ⟨2, ![64, 64]⟩
abbrev S608 : Shape := ⟨1, ![608]⟩
abbrev S1x10944 : Shape := ⟨2, ![1, 10944]⟩
abbrev S11552 : Shape := ⟨1, ![11552]⟩
abbrev S_ : Shape := ⟨0, ![]⟩
abbrev S11552x1 : Shape := ⟨2, ![11552, 1]⟩
abbrev S608x256x128 : Shape := ⟨3, ![608, 256, 128]⟩
abbrev S608x256x64 : Shape := ⟨3, ![608, 256, 64]⟩
abbrev S608x256x34 : Shape := ⟨3, ![608, 256, 34]⟩
abbrev S608x256x2 : Shape := ⟨3, ![608, 256, 2]⟩
abbrev S608x256x16 : Shape := ⟨3, ![608, 256, 16]⟩
abbrev S1x1x64 : Shape := ⟨3, ![1, 1, 64]⟩
abbrev S256x608x64 : Shape := ⟨3, ![256, 608, 64]⟩
abbrev S256x608x16 : Shape := ⟨3, ![256, 608, 16]⟩
abbrev S608x64x16 : Shape := ⟨3, ![608, 64, 16]⟩
abbrev S1x608x64 : Shape := ⟨3, ![1, 608, 64]⟩
abbrev S608x64 : Shape := ⟨2, ![608, 64]⟩
abbrev S1x608x16 : Shape := ⟨3, ![1, 608, 16]⟩
abbrev S608x16 : Shape := ⟨2, ![608, 16]⟩
abbrev S608x64x1 : Shape := ⟨3, ![608, 64, 1]⟩
abbrev S1x64x16 : Shape := ⟨3, ![1, 64, 16]⟩
abbrev S64x608x16 : Shape := ⟨3, ![64, 608, 16]⟩
abbrev S11552x1x1 : Shape := ⟨3, ![11552, 1, 1]⟩
abbrev S11552x64x16 : Shape := ⟨3, ![11552, 64, 16]⟩
abbrev S1x64x1 : Shape := ⟨3, ![1, 64, 1]⟩
abbrev S11552x64 : Shape := ⟨2, ![11552, 64]⟩
abbrev S1x64 : Shape := ⟨2, ![1, 64]⟩
abbrev S608x1x16 : Shape := ⟨3, ![608, 1, 16]⟩

abbrev nBuf : Space → Nat
  | .hbm => 234
  | .vmem => 0
  | .smem => 0
  | _ => 0

abbrev hbmTy0_0 (i : Nat) : BufTy := match i % 128 with
  | 0 => ⟨S608x256x32, .f32⟩
  | 1 => ⟨S2x10944, .i32⟩
  | 2 => ⟨S10944, .f32⟩
  | 3 => ⟨S128x32, .f32⟩
  | 4 => ⟨S34x64, .f32⟩
  | 5 => ⟨S64x2, .f32⟩
  | 6 => ⟨S64, .f32⟩
  | 7 => ⟨S64x16, .f32⟩
  | 8 => ⟨S64, .f32⟩
  | 9 => ⟨S32x64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S608, .i32⟩
  | 17 => ⟨S1x10944, .i32⟩
  | 18 => ⟨S10944, .i32⟩
  | 19 => ⟨S11552, .i32⟩
  | 20 => ⟨S1x10944, .i32⟩
  | 21 => ⟨S10944, .i32⟩
  | 22 => ⟨S11552, .i32⟩
  | 23 => ⟨S_, .f32⟩
  | 24 => ⟨S608, .f32⟩
  | 25 => ⟨S11552, .f32⟩
  | 26 => ⟨S_, .f32⟩
  | 27 => ⟨S608, .f32⟩
  | 28 => ⟨S11552x1, .i32⟩
  | 29 => ⟨S608, .f32⟩
  | 30 => ⟨S_, .f32⟩
  | 31 => ⟨S608, .f32⟩
  | 32 => ⟨S608, .f32⟩
  | 33 => ⟨S608, .f32⟩
  | 34 => ⟨S_, .i32⟩
  | 35 => ⟨S11552, .i32⟩
  | 36 => ⟨S11552, .i1⟩
  | 37 => ⟨S_, .i32⟩
  | 38 => ⟨S11552, .i32⟩
  | 39 => ⟨S11552, .i32⟩
  | 40 => ⟨S11552, .i32⟩
  | 41 => ⟨S11552x1, .i32⟩
  | 42 => ⟨S11552, .f32⟩
  | 43 => ⟨S11552, .f32⟩
  | 44 => ⟨S_, .i32⟩
  | 45 => ⟨S11552, .i32⟩
  | 46 => ⟨S11552, .i1⟩
  | 47 => ⟨S_, .i32⟩
  | 48 => ⟨S11552, .i32⟩
  | 49 => ⟨S11552, .i32⟩
  | 50 => ⟨S11552, .i32⟩
  | 51 => ⟨S11552x1, .i32⟩
  | 52 => ⟨S11552, .f32⟩
  | 53 => ⟨S11552, .f32⟩
  | 54 => ⟨S608x256x128, .f32⟩
  | 55 => ⟨S608x256x64, .f32⟩
  | 56 => ⟨S608x256x64, .f32⟩
  | 57 => ⟨S608x256x34, .f32⟩
  | 58 => ⟨S608x256x2, .f32⟩
  | 59 => ⟨S608x256x16, .f32⟩
  | 60 => ⟨S608x256x16, .f32⟩
  | 61 => ⟨S608x256x64, .f32⟩
  | 62 => ⟨S1x1x64, .f32⟩
  | 63 => ⟨S608x256x64, .f32⟩
  | 64 => ⟨S608x256x64, .f32⟩
  | 65 => ⟨S_, .f32⟩
  | 66 => ⟨S608x256x64, .f32⟩
  | 67 => ⟨S608x256x64, .f32⟩
  | 68 => ⟨S608x256x64, .f32⟩
  | 69 => ⟨S608x256x64, .f32⟩
  | 70 => ⟨S608x256x64, .i1⟩
  | 71 => ⟨S608x256x64, .f32⟩
  | 72 => ⟨S608x256x64, .f32⟩
  | 73 => ⟨S608x256x64, .f32⟩
  | 74 => ⟨S608x256x64, .f32⟩
  | 75 => ⟨S608x256x64, .f32⟩
  | 76 => ⟨S608x256x64, .f32⟩
  | 77 => ⟨S608x256x64, .f32⟩
  | 78 => ⟨S608x256x64, .f32⟩
  | 79 => ⟨S64x16, .f32⟩
  | 80 => ⟨S64x16, .f32⟩
  | 81 => ⟨S256x608x64, .f32⟩
  | 82 => ⟨S256x608x16, .f32⟩
  | 83 => ⟨S256x608x16, .f32⟩
  | 84 => ⟨S256x608x64, .f32⟩
  | 85 => ⟨S256x608x64, .f32⟩
  | 86 => ⟨S_, .f32⟩
  | 87 => ⟨S608x64x16, .f32⟩
  | 88 => ⟨S_, .f32⟩
  | 89 => ⟨S256x608x64, .f32⟩
  | 90 => ⟨S_, .i32⟩
  | 91 => ⟨S256x608x64, .f32⟩
  | 92 => ⟨S256x608x16, .f32⟩
  | 93 => ⟨S256x608x16, .f32⟩
  | 94 => ⟨S256x608x64, .f32⟩
  | 95 => ⟨S256x608x64, .f32⟩
  | 96 => ⟨S64x16, .f32⟩
  | 97 => ⟨S64x64, .f32⟩
  | 98 => ⟨S11552, .f32⟩
  | 99 => ⟨S11552, .i32⟩
  | 100 => ⟨S11552, .i32⟩
  | 101 => ⟨S64, .f32⟩
  | 102 => ⟨S64x64, .f32⟩
  | 103 => ⟨S64, .f32⟩
  | 104 => ⟨S64x64, .f32⟩
  | 105 => ⟨S64, .f32⟩
  | 106 => ⟨S64, .f32⟩
  | 107 => ⟨S_, .i32⟩
  | 108 => ⟨S608x64x16, .f32⟩
  | 109 => ⟨S256x608x64, .f32⟩
  | 110 => ⟨S_, .i32⟩
  | 111 => ⟨S_, .i1⟩
  | 112 => ⟨S_, .i32⟩
  | 113 => ⟨S_, .i32⟩
  | 114 => ⟨S1x608x64, .f32⟩
  | 115 => ⟨S608x64, .f32⟩
  | 116 => ⟨S_, .i32⟩
  | 117 => ⟨S_, .i32⟩
  | 118 => ⟨S1x608x16, .f32⟩
  | 119 => ⟨S608x16, .f32⟩
  | 120 => ⟨S_, .i32⟩
  | 121 => ⟨S_, .i32⟩
  | 122 => ⟨S1x608x16, .f32⟩
  | 123 => ⟨S608x16, .f32⟩
  | 124 => ⟨S_, .i32⟩
  | 125 => ⟨S_, .i32⟩
  | 126 => ⟨S1x608x64, .f32⟩
  | 127 => ⟨S608x64, .f32⟩
  | _ => ⟨S608x256x32, .f32⟩

abbrev hbmTy0_1 (i : Nat) : BufTy := match i % 128 with
  | 0 => ⟨S_, .i32⟩
  | 1 => ⟨S_, .i32⟩
  | 2 => ⟨S1x608x64, .f32⟩
  | 3 => ⟨S608x64, .f32⟩
  | 4 => ⟨S608x64x1, .f32⟩
  | 5 => ⟨S1x64x16, .f32⟩
  | 6 => ⟨S608x64x16, .f32⟩
  | 7 => ⟨S608x64x16, .f32⟩
  | 8 => ⟨S608x64x16, .f32⟩
  | 9 => ⟨S608x64x16, .f32⟩
  | 10 => ⟨S64x608x16, .f32⟩
  | 11 => ⟨S608x64x16, .f32⟩
  | 12 => ⟨S11552x1x1, .f32⟩
  | 13 => ⟨S_, .i32⟩
  | 14 => ⟨S11552, .i32⟩
  | 15 => ⟨S11552, .i1⟩
  | 16 => ⟨S_, .i32⟩
  | 17 => ⟨S11552, .i32⟩
  | 18 => ⟨S11552, .i32⟩
  | 19 => ⟨S11552, .i32⟩
  | 20 => ⟨S11552x1, .i32⟩
  | 21 => ⟨S11552x64x16, .f32⟩
  | 22 => ⟨S11552x64x16, .f32⟩
  | 23 => ⟨S11552x64x16, .f32⟩
  | 24 => ⟨S_, .f32⟩
  | 25 => ⟨S608x64x16, .f32⟩
  | 26 => ⟨S11552x1, .i32⟩
  | 27 => ⟨S608x64x16, .f32⟩
  | 28 => ⟨S1x64x1, .f32⟩
  | 29 => ⟨S608x64x16, .f32⟩
  | 30 => ⟨S608x64x16, .f32⟩
  | 31 => ⟨S64x64, .f32⟩
  | 32 => ⟨S608x64, .f32⟩
  | 33 => ⟨S11552x1, .f32⟩
  | 34 => ⟨S_, .i32⟩
  | 35 => ⟨S11552, .i32⟩
  | 36 => ⟨S11552, .i1⟩
  | 37 => ⟨S_, .i32⟩
  | 38 => ⟨S11552, .i32⟩
  | 39 => ⟨S11552, .i32⟩
  | 40 => ⟨S11552, .i32⟩
  | 41 => ⟨S11552x1, .i32⟩
  | 42 => ⟨S11552x64, .f32⟩
  | 43 => ⟨S11552x64, .f32⟩
  | 44 => ⟨S11552x64, .f32⟩
  | 45 => ⟨S_, .f32⟩
  | 46 => ⟨S608x64, .f32⟩
  | 47 => ⟨S11552x1, .i32⟩
  | 48 => ⟨S608x64, .f32⟩
  | 49 => ⟨S1x64, .f32⟩
  | 50 => ⟨S608x64, .f32⟩
  | 51 => ⟨S608x64, .f32⟩
  | 52 => ⟨S608x64x16, .f32⟩
  | 53 => ⟨S608x64x1, .f32⟩
  | 54 => ⟨S608x64x1, .f32⟩
  | 55 => ⟨S608x1x16, .f32⟩
  | 56 => ⟨S608x64x16, .f32⟩
  | 57 => ⟨S608x64x16, .f32⟩
  | 58 => ⟨S608x64x16, .f32⟩
  | 59 => ⟨S608x64x16, .f32⟩
  | 60 => ⟨S608x64x16, .f32⟩
  | 61 => ⟨S608x64x16, .f32⟩
  | 62 => ⟨S64x608x16, .f32⟩
  | 63 => ⟨S608x64x16, .f32⟩
  | 64 => ⟨S11552x1x1, .f32⟩
  | 65 => ⟨S_, .i32⟩
  | 66 => ⟨S11552, .i32⟩
  | 67 => ⟨S11552, .i1⟩
  | 68 => ⟨S_, .i32⟩
  | 69 => ⟨S11552, .i32⟩
  | 70 => ⟨S11552, .i32⟩
  | 71 => ⟨S11552, .i32⟩
  | 72 => ⟨S11552x1, .i32⟩
  | 73 => ⟨S11552x64x16, .f32⟩
  | 74 => ⟨S11552x64x16, .f32⟩
  | 75 => ⟨S11552x64x16, .f32⟩
  | 76 => ⟨S_, .f32⟩
  | 77 => ⟨S608x64x16, .f32⟩
  | 78 => ⟨S11552x1, .i32⟩
  | 79 => ⟨S608x64x16, .f32⟩
  | 80 => ⟨S1x64x1, .f32⟩
  | 81 => ⟨S608x64x16, .f32⟩
  | 82 => ⟨S608x64x16, .f32⟩
  | 83 => ⟨S608x64, .f32⟩
  | 84 => ⟨S1x64, .f32⟩
  | 85 => ⟨S608x64, .f32⟩
  | 86 => ⟨S608x64, .f32⟩
  | 87 => ⟨S608x64, .f32⟩
  | 88 => ⟨S608x64, .f32⟩
  | 89 => ⟨S608x64, .f32⟩
  | 90 => ⟨S_, .f32⟩
  | 91 => ⟨S608x64, .f32⟩
  | 92 => ⟨S608x64, .f32⟩
  | 93 => ⟨S_, .f32⟩
  | 94 => ⟨S608x64, .f32⟩
  | 95 => ⟨S608x64, .f32⟩
  | 96 => ⟨S608x64, .f32⟩
  | 97 => ⟨S608x64, .f32⟩
  | 98 => ⟨S1x608x64, .f32⟩
  | 99 => ⟨S_, .i32⟩
  | 100 => ⟨S_, .i32⟩
  | 101 => ⟨S256x608x64, .f32⟩
  | 102 => ⟨S_, .i32⟩
  | 103 => ⟨S_, .i32⟩
  | 104 => ⟨S608x256x64, .f32⟩
  | 105 => ⟨S608x256x32, .f32⟩
  | _ => ⟨S608x256x32, .f32⟩

abbrev hbmTy (i : Nat) : BufTy := match i / 128 with
  | 0 => hbmTy0_0 i
  | 1 => hbmTy0_1 i
  | _ => ⟨S608x256x32, .f32⟩

abbrev bufTy : (tb : Table) → Fin (tcTables nBuf tb) → BufTy
  | .hbm, ⟨i, _⟩ => hbmTy i
  | _, _ => ⟨S608x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_5 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_c_7 : Ref sig .tc := ⟨.hbm, 90, rfl⟩
abbrev main_v52_0 : Ref sig .tc := ⟨.hbm, 91, rfl⟩
abbrev main_v52_1 : Ref sig .tc := ⟨.hbm, 92, rfl⟩
abbrev main_v52_2 : Ref sig .tc := ⟨.hbm, 93, rfl⟩
abbrev main_v52_3 : Ref sig .tc := ⟨.hbm, 94, rfl⟩
abbrev main_v52_4 : Ref sig .tc := ⟨.hbm, 95, rfl⟩
abbrev main_v52_5 : Ref sig .tc := ⟨.hbm, 96, rfl⟩
abbrev main_v52_6 : Ref sig .tc := ⟨.hbm, 97, rfl⟩
abbrev main_v52_7 : Ref sig .tc := ⟨.hbm, 98, rfl⟩
abbrev main_v52_8 : Ref sig .tc := ⟨.hbm, 99, rfl⟩
abbrev main_v52_9 : Ref sig .tc := ⟨.hbm, 100, rfl⟩
abbrev main_v52_10 : Ref sig .tc := ⟨.hbm, 101, rfl⟩
abbrev main_v52_11 : Ref sig .tc := ⟨.hbm, 102, rfl⟩
abbrev main_v52_12 : Ref sig .tc := ⟨.hbm, 103, rfl⟩
abbrev main_v52_13 : Ref sig .tc := ⟨.hbm, 104, rfl⟩
abbrev main_v52_14 : Ref sig .tc := ⟨.hbm, 105, rfl⟩
abbrev main_v52_15 : Ref sig .tc := ⟨.hbm, 106, rfl⟩
abbrev main_v52_16 : Ref sig .tc := ⟨.hbm, 107, rfl⟩
abbrev main_v52_17 : Ref sig .tc := ⟨.hbm, 108, rfl⟩
abbrev main_v52_18 : Ref sig .tc := ⟨.hbm, 109, rfl⟩
abbrev main_while0c_c_26 : Ref sig .tc := ⟨.hbm, 110, rfl⟩
abbrev main_while0c_v55 : Ref sig .tc := ⟨.hbm, 111, rfl⟩
abbrev main_while0b_call1_c : Ref sig .tc := ⟨.hbm, 112, rfl⟩
abbrev main_while0b_call1_c_0 : Ref sig .tc := ⟨.hbm, 113, rfl⟩
abbrev main_while0b_call1_v0 : Ref sig .tc := ⟨.hbm, 114, rfl⟩
abbrev main_while0b_v55 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v56 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v57 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_v0 : Ref sig .tc := ⟨.hbm, 126, rfl⟩
abbrev main_while0b_v58 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_v0 : Ref sig .tc := ⟨.hbm, 130, rfl⟩
abbrev main_while0b_v59 : Ref sig .tc := ⟨.hbm, 131, rfl⟩
abbrev main_while0b_v60 : Ref sig .tc := ⟨.hbm, 132, rfl⟩
abbrev main_while0b_v61 : Ref sig .tc := ⟨.hbm, 133, rfl⟩
abbrev main_while0b_v62 : Ref sig .tc := ⟨.hbm, 134, rfl⟩
abbrev main_while0b_v63 : Ref sig .tc := ⟨.hbm, 135, rfl⟩
abbrev main_while0b_v64 : Ref sig .tc := ⟨.hbm, 136, rfl⟩
abbrev main_while0b_v65 : Ref sig .tc := ⟨.hbm, 137, rfl⟩
abbrev main_while0b_v66 : Ref sig .tc := ⟨.hbm, 138, rfl⟩
abbrev main_while0b_v67 : Ref sig .tc := ⟨.hbm, 139, rfl⟩
abbrev main_while0b_v68 : Ref sig .tc := ⟨.hbm, 140, rfl⟩
abbrev main_while0b_c_26 : Ref sig .tc := ⟨.hbm, 141, rfl⟩
abbrev main_while0b_v69 : Ref sig .tc := ⟨.hbm, 142, rfl⟩
abbrev main_while0b_v70 : Ref sig .tc := ⟨.hbm, 143, rfl⟩
abbrev main_while0b_c_27 : Ref sig .tc := ⟨.hbm, 144, rfl⟩
abbrev main_while0b_v71 : Ref sig .tc := ⟨.hbm, 145, rfl⟩
abbrev main_while0b_v72 : Ref sig .tc := ⟨.hbm, 146, rfl⟩
abbrev main_while0b_v73 : Ref sig .tc := ⟨.hbm, 147, rfl⟩
abbrev main_while0b_v74 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_cst_28 : Ref sig .tc := ⟨.hbm, 152, rfl⟩
abbrev main_while0b_v78 : Ref sig .tc := ⟨.hbm, 153, rfl⟩
abbrev main_while0b_v79 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_v86 : Ref sig .tc := ⟨.hbm, 161, rfl⟩
abbrev main_while0b_c_29 : Ref sig .tc := ⟨.hbm, 162, rfl⟩
abbrev main_while0b_v87 : Ref sig .tc := ⟨.hbm, 163, rfl⟩
abbrev main_while0b_v88 : Ref sig .tc := ⟨.hbm, 164, rfl⟩
abbrev main_while0b_c_30 : Ref sig .tc := ⟨.hbm, 165, rfl⟩
abbrev main_while0b_v89 : Ref sig .tc := ⟨.hbm, 166, rfl⟩
abbrev main_while0b_v90 : Ref sig .tc := ⟨.hbm, 167, rfl⟩
abbrev main_while0b_v91 : Ref sig .tc := ⟨.hbm, 168, rfl⟩
abbrev main_while0b_v92 : Ref sig .tc := ⟨.hbm, 169, rfl⟩
abbrev main_while0b_v93 : Ref sig .tc := ⟨.hbm, 170, rfl⟩
abbrev main_while0b_v94 : Ref sig .tc := ⟨.hbm, 171, rfl⟩
abbrev main_while0b_v95 : Ref sig .tc := ⟨.hbm, 172, rfl⟩
abbrev main_while0b_cst_31 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_c_32 : Ref sig .tc := ⟨.hbm, 193, rfl⟩
abbrev main_while0b_v115 : Ref sig .tc := ⟨.hbm, 194, rfl⟩
abbrev main_while0b_v116 : Ref sig .tc := ⟨.hbm, 195, rfl⟩
abbrev main_while0b_c_33 : Ref sig .tc := ⟨.hbm, 196, rfl⟩
abbrev main_while0b_v117 : Ref sig .tc := ⟨.hbm, 197, rfl⟩
abbrev main_while0b_v118 : Ref sig .tc := ⟨.hbm, 198, rfl⟩
abbrev main_while0b_v119 : Ref sig .tc := ⟨.hbm, 199, rfl⟩
abbrev main_while0b_v120 : Ref sig .tc := ⟨.hbm, 200, rfl⟩
abbrev main_while0b_v121 : Ref sig .tc := ⟨.hbm, 201, rfl⟩
abbrev main_while0b_v122 : Ref sig .tc := ⟨.hbm, 202, rfl⟩
abbrev main_while0b_v123 : Ref sig .tc := ⟨.hbm, 203, rfl⟩
abbrev main_while0b_cst_34 : Ref sig .tc := ⟨.hbm, 204, rfl⟩
abbrev main_while0b_v124 : Ref sig .tc := ⟨.hbm, 205, rfl⟩
abbrev main_while0b_v125 : Ref sig .tc := ⟨.hbm, 206, rfl⟩
abbrev main_while0b_v126 : Ref sig .tc := ⟨.hbm, 207, rfl⟩
abbrev main_while0b_v127 : Ref sig .tc := ⟨.hbm, 208, rfl⟩
abbrev main_while0b_v128 : Ref sig .tc := ⟨.hbm, 209, rfl⟩
abbrev main_while0b_v129 : Ref sig .tc := ⟨.hbm, 210, rfl⟩
abbrev main_while0b_v130 : Ref sig .tc := ⟨.hbm, 211, rfl⟩
abbrev main_while0b_v131 : Ref sig .tc := ⟨.hbm, 212, rfl⟩
abbrev main_while0b_v132 : Ref sig .tc := ⟨.hbm, 213, rfl⟩
abbrev main_while0b_v133 : Ref sig .tc := ⟨.hbm, 214, rfl⟩
abbrev main_while0b_v134 : Ref sig .tc := ⟨.hbm, 215, rfl⟩
abbrev main_while0b_call6_v0 : Ref sig .tc := ⟨.hbm, 216, rfl⟩
abbrev main_while0b_call6_v1 : Ref sig .tc := ⟨.hbm, 217, rfl⟩
abbrev main_while0b_call6_cst : Ref sig .tc := ⟨.hbm, 218, rfl⟩
abbrev main_while0b_call6_v2 : Ref sig .tc := ⟨.hbm, 219, rfl⟩
abbrev main_while0b_call6_v3 : Ref sig .tc := ⟨.hbm, 220, rfl⟩
abbrev main_while0b_call6_cst_0 : Ref sig .tc := ⟨.hbm, 221, rfl⟩
abbrev main_while0b_call6_v4 : Ref sig .tc := ⟨.hbm, 222, rfl⟩
abbrev main_while0b_call6_v5 : Ref sig .tc := ⟨.hbm, 223, rfl⟩
abbrev main_while0b_v135 : Ref sig .tc := ⟨.hbm, 224, rfl⟩
abbrev main_while0b_v136 : Ref sig .tc := ⟨.hbm, 225, rfl⟩
abbrev main_while0b_call7_v0 : Ref sig .tc := ⟨.hbm, 226, rfl⟩
abbrev main_while0b_call7_c : Ref sig .tc := ⟨.hbm, 227, rfl⟩
abbrev main_while0b_call7_c_0 : Ref sig .tc := ⟨.hbm, 228, rfl⟩
abbrev main_while0b_v137 : Ref sig .tc := ⟨.hbm, 229, rfl⟩
abbrev main_while0b_c_35 : Ref sig .tc := ⟨.hbm, 230, rfl⟩
abbrev main_while0b_v138 : Ref sig .tc := ⟨.hbm, 231, rfl⟩
abbrev main_v53 : Ref sig .tc := ⟨.hbm, 232, rfl⟩
abbrev main_v54 : Ref sig .tc := ⟨.hbm, 233, rfl⟩

abbrev nD : Nat := 1
abbrev τ : Topo := Topo.v7x

variable {F : FTy → Type} [FloatOps F]

abbrev main_while0_count : Scf.Loop 32 := ⟨0#32, 256#32, 1#32⟩
-- ==== Proof.Trip.lean ====
/- What one trip of the kernel's time loop leaves in its two scratch buffers: eight time steps, each reading one
   row of the staged projections and the state, and writing 64 output columns of that row. -/
module

public import proofs.«01_k».proof.Proof.Gen.KernelIdeal.Frame
public import Idealize.ShloMosaic.Lib.WritesUnit
public import Idealize.ShloMosaic.Lib.Pointwise.Index

@[expose] public section

set_option maxRecDepth 8192

noncomputable section

namespace Cert.Proof.Trip

open Idealize.ShloMosaic Idealize.ShloMosaic.TcCoe
open Cert.KernelIdeal Cert.KernelIdeal.Gen

variable {F : FTy → Type} [FloatOps F]

/-- The constant operands one time step reads. -/
structure Wts (F : FTy → Type) where
  mv : Vec F S1x152x152 .f32
  ga : Vec F S128x128 .f32
  gc : Vec F S128x128 .f32
  eall : Vec F S256x2176 .f32
  edp : Vec F S128x1024 .f32
  esp : Vec F S1024x64 .f32
  ba : Vec F S1024 .f32
  bc : Vec F S1024 .f32
  bb : Vec F S128 .f32

/-- The aggregated state and input of one step, before the biases. -/
def agg (W : Wts F) (row : Vec F S1x152x256 .f32) (s : Vec F S152x1024 .f32) : FVec F S152x1152 .f32 :=
  k0_pay7 (k0_pay110 W.mv) (k0_pay111 W.ga) (k0_pay113 W.eall) s row

/-- The state after one step. -/
def stS (W : Wts F) (row : Vec F S1x152x256 .f32) (s : Vec F S152x1024 .f32) : FVec F S152x1024 .f32 :=
  k0_pay8 (k0_pay114 W.edp) (k0_pay116 W.ba) (k0_pay118 W.bb) (k0_pay2 row) (k0_pay4 (k0_pay113 W.eall) row)
    (k0_pay6 row) (agg W row s)

/-- The 64 output columns of one step. -/
def stY (W : Wts F) (row : Vec F S1x152x256 .f32) (s : Vec F S152x1024 .f32) : FVec F S1x152x64 .f32 :=
  k0_pay9 (k0_pay110 W.mv) (k0_pay112 W.gc) (k0_pay114 W.edp) (k0_pay115 W.esp) (k0_pay116 W.ba) (k0_pay117 W.bc)
    (k0_pay118 W.bb) (k0_pay2 row) (k0_pay4 (k0_pay113 W.eall) row) (k0_pay5 (k0_pay113 W.eall) row) (k0_pay6 row)
    (agg W row s)

/-- The state after `n` steps over given rows. -/
def stAfter (W : Wts F) (R : ℕ → Vec F S1x152x256 .f32) (s : Vec F S152x1024 .f32) : ℕ → Vec F S152x1024 .f32
  | 0 => s
  | n + 1 => stS W (R n) (stAfter W R s n)

/-- Row `8 k + r` of the staging buffer as trip `k` loads it. -/
def ldRow (arg19 : Memref sig .tc .vmem S64x152x256 .f32) (k : Fin k0_t1_loop.trips)
    (f : BufTy.Contents (Elt F) arg19.view.ty) (r : Fin 8) : Vec F S1x152x256 .f32 :=
  View.readAt (Elt F) arg19.view
    (Rect.unit (s := S64x152x256) (k0_off1 k (BitVec.ofNat 32 r.val)) S1x152x256.size (k0_off1_inb k r)).toLoadRect f

/-- The whole state as a trip loads it. -/
def ldS (arg20 : Memref sig .tc .vmem S152x1024 .f32) (f : BufTy.Contents (Elt F) arg20.view.ty) :
    Vec F S152x1024 .f32 :=
  View.readAt (Elt F) arg20.view (Rect.unit (s := S152x1024) ![0, 0] S152x1024.size inb_S152x1024_S152x1024_0_0).toLoadRect f

section

variable (𝒱 : Variants) (c : Dev nD) (bd : Option 𝒱.V) (i : grid0.Coords) (arg2 : Memref sig .tc .vmem S1x64x1x152x32 .f32) (harg2 : arg2.IsWhole) (arg3 : Memref sig .tc .vmem S1x152x152 .f32) (harg3 : arg3.IsWhole) (arg4 : Memref sig .tc .vmem S32x64 .f32) (harg4 : arg4.IsWhole) (arg5 : Memref sig .tc .vmem S64x256 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x2176 .f32) (harg8 : arg8.IsWhole) (arg9 : Memref sig .tc .vmem S128x1024 .f32) (harg9 : arg9.IsWhole) (arg10 : Memref sig .tc .vmem S1024x64 .f32) (harg10 : arg10.IsWhole) (arg11 : Memref sig .tc .vmem S256 .f32) (harg11 : arg11.IsWhole) (arg12 : Memref sig .tc .vmem S128 .f32) (harg12 : arg12.IsWhole) (arg13 : Memref sig .tc .vmem S1024 .f32) (harg13 : arg13.IsWhole) (arg14 : Memref sig .tc .vmem S1024 .f32) (harg14 : arg14.IsWhole) (arg15 : Memref sig .tc .vmem S64 .f32) (harg15 : arg15.IsWhole) (arg16 : Memref sig .tc .vmem S32x64 .f32) (harg16 : arg16.IsWhole) (arg17 : Memref sig .tc .vmem S64x32 .f32) (harg17 : arg17.IsWhole) (arg18 : Memref sig .tc .vmem S1x64x1x152x32 .f32) (harg18 : arg18.IsWhole) (arg19 : Memref sig .tc .vmem S64x152x256 .f32) (harg19 : arg19.IsWhole) (arg20 : Memref sig .tc .vmem S152x1024 .f32) (harg20 : arg20.IsWhole)
  (a1 : BitVec 32) (p0 : FVec F S64x152x256 .f32) (W : Wts F) (k : Fin k0_t1_loop.trips)
  (f : BufTy.Contents (Elt F) arg19.view.ty) (g : BufTy.Contents (Elt F) arg20.view.ty)

/-- The state of trip `k` before its step `n`. -/
def sT (n : ℕ) : Vec F S152x1024 .f32 :=
  stAfter W (fun r => ldRow arg19 k f (Fin.ofNat 8 r)) (ldS arg20 g) n

theorem trip_state :
    (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb k f g).2
      = [⟨Rect.unit ![0, 0] S152x1024.size inb_S152x1024_S152x1024_0_0, k0_pay120 (sT arg19 arg20 W k f g 8)⟩] := by
  unfold tripL_k0_t1 trip_k0_t1
  rfl

/-- The piece step `r` of trip `k` stores. -/
def yPiece (r : Fin 8) : View.Piece (Elt F) S64x152x256 .f32 :=
  ⟨Rect.unit (k0_off2 k (BitVec.ofNat 32 r.val)) S1x152x64.size (k0_off2_inb k r),
    stY W (ldRow arg19 k f r) (sT arg19 arg20 W k f g r.val)⟩

theorem trip_rows :
    (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb k f g).1
      = [yPiece arg19 arg20 W k f g 7, yPiece arg19 arg20 W k f g 6, yPiece arg19 arg20 W k f g 5, yPiece arg19 arg20 W k f g 4,
         yPiece arg19 arg20 W k f g 3, yPiece arg19 arg20 W k f g 2, yPiece arg19 arg20 W k f g 1, yPiece arg19 arg20 W k f g 0] := by
  unfold tripL_k0_t1 trip_k0_t1
  rfl

end

end Cert.Proof.Trip

end
-- ==== Proof.Body.lean ====
/- The kernel's time loop as one recurrence: after `k` trips the staging buffer holds, on the rows already visited, the
   step outputs in its last 64 columns, and the state buffer holds the state after `8 k` steps. -/
module

public import proofs.«01_k».proof.Proof.Trip
public import Idealize.ShloMosaic.Lib.VecWindow
public import Idealize.ShloMosaic.Lib.Pointwise

@[expose] public section

set_option maxRecDepth 8192

noncomputable section

namespace Cert.Proof.Trip

open Idealize.ShloMosaic Idealize.ShloMosaic.TcCoe
open Cert.KernelIdeal Cert.KernelIdeal.Gen

variable {F : FTy → Type} [FloatOps F]

/-- Row `t` of the staged projections. -/
def rowAt (P : Vec F S64x152x256 .f32) (t : ℕ) : Vec F S1x152x256 .f32 :=
  fun y => P (ix3 (Fin.ofNat 64 t) (y 1) (y 2))

/-- The state after `n` steps over the staged projections `P`. -/
def sAt (W : Wts F) (P : Vec F S64x152x256 .f32) (s : Vec F S152x1024 .f32) (n : ℕ) : Vec F S152x1024 .f32 :=
  stAfter W (rowAt P) s n

/-- The output columns of step `t`. -/
def yAt (W : Wts F) (P : Vec F S64x152x256 .f32) (s : Vec F S152x1024 .f32) (t : ℕ) : Vec F S1x152x64 .f32 :=
  stY W (rowAt P t) (sAt W P s t)

/-- The staging buffer once the first `n` rows have been visited. -/
def overlay (W : Wts F) (P : Vec F S64x152x256 .f32) (s : Vec F S152x1024 .f32) (n : ℕ) : Vec F S64x152x256 .f32 :=
  fun y => if (y 0).val < n ∧ 192 ≤ (y 2).val then
    yAt W P s (y 0).val (ix3 0 (y 1) (Fin.ofNat 64 ((y 2).val - 192))) else P y

theorem stAfter_add (W : Wts F) (R : ℕ → Vec F S1x152x256 .f32) (s : Vec F S152x1024 .f32) (a b : ℕ) :
    stAfter W R s (a + b) = stAfter W (fun r => R (a + r)) (stAfter W R s a) b := by
  induction b with
  | zero => rfl
  | succ b ih => rw [← Nat.add_assoc]; show stS W _ _ = stS W _ _; rw [ih]

theorem stAfter_congr (W : Wts F) (R R' : ℕ → Vec F S1x152x256 .f32) (s : Vec F S152x1024 .f32) (n : ℕ)
    (h : ∀ r, r < n → R r = R' r) : stAfter W R s n = stAfter W R' s n := by
  induction n with
  | zero => rfl
  | succ n ih =>
    show stS W _ _ = stS W _ _
    rw [ih fun r hr => h r (by omega), h n (by omega)]

theorem pay120_eq (x : Vec F S152x1024 .f32) : k0_pay120 x = x := by
  unfold k0_pay120
  exact shapeCast_self _ _

theorem trips_eq : k0_t1_loop.trips = 8 := by decide

section

variable (𝒱 : Variants) (c : Dev nD) (bd : Option 𝒱.V) (i : grid0.Coords) (arg2 : Memref sig .tc .vmem S1x64x1x152x32 .f32) (harg2 : arg2.IsWhole) (arg3 : Memref sig .tc .vmem S1x152x152 .f32) (harg3 : arg3.IsWhole) (arg4 : Memref sig .tc .vmem S32x64 .f32) (harg4 : arg4.IsWhole) (arg5 : Memref sig .tc .vmem S64x256 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x2176 .f32) (harg8 : arg8.IsWhole) (arg9 : Memref sig .tc .vmem S128x1024 .f32) (harg9 : arg9.IsWhole) (arg10 : Memref sig .tc .vmem S1024x64 .f32) (harg10 : arg10.IsWhole) (arg11 : Memref sig .tc .vmem S256 .f32) (harg11 : arg11.IsWhole) (arg12 : Memref sig .tc .vmem S128 .f32) (harg12 : arg12.IsWhole) (arg13 : Memref sig .tc .vmem S1024 .f32) (harg13 : arg13.IsWhole) (arg14 : Memref sig .tc .vmem S1024 .f32) (harg14 : arg14.IsWhole) (arg15 : Memref sig .tc .vmem S64 .f32) (harg15 : arg15.IsWhole) (arg16 : Memref sig .tc .vmem S32x64 .f32) (harg16 : arg16.IsWhole) (arg17 : Memref sig .tc .vmem S64x32 .f32) (harg17 : arg17.IsWhole) (arg18 : Memref sig .tc .vmem S1x64x1x152x32 .f32) (harg18 : arg18.IsWhole) (arg19 : Memref sig .tc .vmem S64x152x256 .f32) (harg19 : arg19.IsWhole) (arg20 : Memref sig .tc .vmem S152x1024 .f32) (harg20 : arg20.IsWhole)
  (a1 : BitVec 32) (p0 : FVec F S64x152x256 .f32) (W : Wts F)

/-- A loaded row of a buffer that reads `Q`. -/
theorem ldRow_eq (arg19 : Memref sig .tc .vmem S64x152x256 .f32) (k : Fin k0_t1_loop.trips)
    (f : BufTy.Contents (Elt F) arg19.view.ty) (r : Fin 8) (Q : Vec F S64x152x256 .f32)
    (h : arg19.view.read (Elt F) f = Q) : ldRow arg19 k f r = rowAt Q (8 * k.val + r.val) := by
  have hk : k.val < 8 := trips_eq ▸ k.isLt
  have hr := r.isLt
  subst h
  funext y
  unfold ldRow rowAt
  rw [View.readAt_apply]
  congr 1
  funext a
  apply Fin.ext
  show (k0_off1 k (BitVec.ofNat 32 r.val)) a + 1 * (y a).val = _
  rw [k0_off1_eq]
  have h0 : (y 0).val < 1 := (y 0).isLt
  fin_cases a
  · show (8 * k.val + r.val) + 1 * (y 0).val = (8 * k.val + r.val) % 64
    omega
  · show 0 + 1 * (y 1).val = (y 1).val
    omega
  · show 0 + 1 * (y 2).val = (y 2).val
    omega

theorem ldS_eq (arg20 : Memref sig .tc .vmem S152x1024 .f32) (f : BufTy.Contents (Elt F) arg20.view.ty) :
    ldS arg20 f = arg20.view.read (Elt F) f := View.readAt_full _ _ _

theorem overlay_row (W : Wts F) (P : Vec F S64x152x256 .f32) (s : Vec F S152x1024 .f32) (n t : ℕ) (h : n ≤ t) (ht : t < 64) :
    rowAt (overlay W P s n) t = rowAt P t := by
  funext y
  show overlay W P s n _ = _
  unfold overlay
  rw [if_neg]
  · rfl
  · rintro ⟨h1, -⟩
    have h1' : t % 64 < n := h1
    omega

/-- The trip's state before step `n`, from buffers at the loop's own invariant. -/
theorem sT_eq (arg19 : Memref sig .tc .vmem S64x152x256 .f32) (arg20 : Memref sig .tc .vmem S152x1024 .f32) (W : Wts F)
    (k : Fin k0_t1_loop.trips) (f : BufTy.Contents (Elt F) arg19.view.ty) (g : BufTy.Contents (Elt F) arg20.view.ty)
    (P : Vec F S64x152x256 .f32) (s : Vec F S152x1024 .f32)
    (hf : arg19.view.read (Elt F) f = overlay W P s (8 * k.val)) (hg : arg20.view.read (Elt F) g = sAt W P s (8 * k.val))
    (n : ℕ) (hn : n ≤ 8) : sT arg19 arg20 W k f g n = sAt W P s (8 * k.val + n) := by
  have hk : k.val < 8 := trips_eq ▸ k.isLt
  unfold sT
  rw [ldS_eq, hg]
  show _ = stAfter W (rowAt P) s (8 * k.val + n)
  rw [stAfter_add]
  apply stAfter_congr
  intro r hr
  rw [ldRow_eq arg19 k f _ _ hf]
  have e : (Fin.ofNat 8 r).val = r := Nat.mod_eq_of_lt (by omega)
  rw [e, overlay_row _ _ _ _ _ (by omega) (by omega)]

theorem yPiece_eq (arg19 : Memref sig .tc .vmem S64x152x256 .f32) (arg20 : Memref sig .tc .vmem S152x1024 .f32) (W : Wts F)
    (k : Fin k0_t1_loop.trips) (f : BufTy.Contents (Elt F) arg19.view.ty) (g : BufTy.Contents (Elt F) arg20.view.ty)
    (P : Vec F S64x152x256 .f32) (s : Vec F S152x1024 .f32)
    (hf : arg19.view.read (Elt F) f = overlay W P s (8 * k.val)) (hg : arg20.view.read (Elt F) g = sAt W P s (8 * k.val))
    (r : Fin 8) : yPiece arg19 arg20 W k f g r
      = ⟨Rect.unit (s := S64x152x256) (k0_off2 k (BitVec.ofNat 32 r.val)) S1x152x64.size (k0_off2_inb k r), yAt W P s (8 * k.val + r.val)⟩ := by
  have hk : k.val < 8 := trips_eq ▸ k.isLt
  have hr := r.isLt
  unfold yPiece yAt
  rw [sT_eq arg19 arg20 W k f g P s hf hg _ (by omega), ldRow_eq arg19 k f _ _ hf, overlay_row _ _ _ _ _ (by omega) (by omega)]

/-- One more step piece on a buffer at the overlay of the rows before it. -/
theorem overlay_step (arg19 : Memref sig .tc .vmem S64x152x256 .f32) (W : Wts F) (k : Fin k0_t1_loop.trips)
    (f : BufTy.Contents (Elt F) arg19.view.ty) (L : List (View.Piece (Elt F) S64x152x256 .f32))
    (P : Vec F S64x152x256 .f32) (s : Vec F S152x1024 .f32) (r : Fin 8)
    (h : arg19.view.read (Elt F) (arg19.view.writes (Elt F) f L) = overlay W P s (8 * k.val + r.val)) :
    arg19.view.read (Elt F) (arg19.view.writes (Elt F) f
      (⟨Rect.unit (s := S64x152x256) (k0_off2 k (BitVec.ofNat 32 r.val)) S1x152x64.size (k0_off2_inb k r), yAt W P s (8 * k.val + r.val)⟩ :: L))
      = overlay W P s (8 * k.val + (r.val + 1)) := by
  have hk : k.val < 8 := trips_eq ▸ k.isLt
  have hr := r.isLt
  funext y
  by_cases hy : (y 0).val = 8 * k.val + r.val ∧ 192 ≤ (y 2).val
  · have h2 : (y 2).val < 256 := (y 2).isLt
    rw [View.read_writes_cons_unit_of_mem arg19.view f (k0_off2_inb k r) _ L y
      (ix3 0 (y 1) (Fin.ofNat 64 ((y 2).val - 192))) (k0_off2_eq k r)]
    · unfold overlay
      rw [if_pos ⟨by omega, hy.2⟩, hy.1]
    · intro a
      fin_cases a
      · show (y 0).val = (8 * k.val + r.val) + 0
        omega
      · show (y 1).val = 0 + (y 1).val
        omega
      · show (y 2).val = 192 + ((y 2).val - 192) % 64
        omega
  · have e : arg19.view.read (Elt F) (arg19.view.writes (Elt F) f
        (⟨Rect.unit (s := S64x152x256) (k0_off2 k (BitVec.ofNat 32 r.val)) S1x152x64.size (k0_off2_inb k r), yAt W P s (8 * k.val + r.val)⟩ :: L)) y
        = arg19.view.read (Elt F) (arg19.view.writes (Elt F) f L) y := by
      by_cases h2 : 192 ≤ (y 2).val
      · refine View.read_writes_cons_unit_of_not_mem arg19.view f (k0_off2_inb k r) _ L y (k0_off2_eq k r) 0 ?_
        show (y 0).val < 8 * k.val + r.val ∨ 8 * k.val + r.val + 1 ≤ (y 0).val
        have : (y 0).val ≠ 8 * k.val + r.val := fun h0 => hy ⟨h0, h2⟩
        omega
      · refine View.read_writes_cons_unit_of_not_mem arg19.view f (k0_off2_inb k r) _ L y (k0_off2_eq k r) 2 ?_
        show (y 2).val < 192 ∨ 192 + 64 ≤ (y 2).val
        omega
    rw [e, h]
    unfold overlay
    have : ((y 0).val < 8 * k.val + r.val ∧ 192 ≤ (y 2).val) ↔ ((y 0).val < 8 * k.val + (r.val + 1) ∧ 192 ≤ (y 2).val) := by
      constructor
      · rintro ⟨h1, h2⟩; exact ⟨by omega, h2⟩
      · rintro ⟨h1, h2⟩
        have : (y 0).val ≠ 8 * k.val + r.val := fun h0 => hy ⟨h0, h2⟩
        exact ⟨by omega, h2⟩
    simp only [this]

/-- The loop's pieces after `k` trips, read back over the entry contents. -/
theorem loop_inv (G : BufTy.Contents (Elt F) arg19.view.ty) (H : BufTy.Contents (Elt F) arg20.view.ty) (k : ℕ) (hk : k ≤ 8) :
    arg19.view.read (Elt F) (arg19.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H k).1)
      = overlay W (arg19.view.read (Elt F) G) (arg20.view.read (Elt F) H) (8 * k)
    ∧ arg20.view.read (Elt F) (arg20.view.writes (Elt F) H (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H k).2)
      = sAt W (arg19.view.read (Elt F) G) (arg20.view.read (Elt F) H) (8 * k) := by
  induction k with
  | zero =>
    constructor
    · funext y
      unfold overlay
      rw [if_neg (by omega)]
      rfl
    · rfl
  | succ k ih =>
    have hk' : k < k0_t1_loop.trips := by rw [trips_eq]; omega
    obtain ⟨i1, i2⟩ := ih (by omega)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H ⟨k, hk'⟩]
    rw [trip_state, trip_rows]
    dsimp only
    rw [View.writes_append, View.writes_append]
    generalize arg19.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H k).1 = f at i1 ⊢
    generalize arg20.view.writes (Elt F) H (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H k).2 = g at i2 ⊢
    constructor
    · simp only [yPiece_eq arg19 arg20 W ⟨k, hk'⟩ f g _ _ i1 i2]
      exact overlay_step arg19 W ⟨k, hk'⟩ f _ _ _ 7 (overlay_step arg19 W ⟨k, hk'⟩ f _ _ _ 6
        (overlay_step arg19 W ⟨k, hk'⟩ f _ _ _ 5 (overlay_step arg19 W ⟨k, hk'⟩ f _ _ _ 4
        (overlay_step arg19 W ⟨k, hk'⟩ f _ _ _ 3 (overlay_step arg19 W ⟨k, hk'⟩ f _ _ _ 2
        (overlay_step arg19 W ⟨k, hk'⟩ f _ _ _ 1 (overlay_step arg19 W ⟨k, hk'⟩ f [] _ _ 0 i1)))))))
    · rw [sT_eq arg19 arg20 W ⟨k, hk'⟩ f g _ _ i1 i2 8 le_rfl, pay120_eq]
      exact View.read_writes_full arg20.view g _ _ []

end

end Cert.Proof.Trip

end
-- ==== Proof.Outs.lean ====
/- What one grid point leaves in the output block and in the carried state, as functions of its input blocks and of
   the state it starts from. -/
module

public import proofs.«01_k».proof.Proof.Body

@[expose] public section

set_option maxRecDepth 8192

noncomputable section

namespace Cert.Proof.Trip

open Idealize.ShloMosaic Idealize.ShloMosaic.TcCoe
open Cert.KernelIdeal Cert.KernelIdeal.Gen

variable {F : FTy → Type} [FloatOps F]

/-- The step weights among a point's input blocks. -/
def wts (x0 : Vec F S1x64x1x152x32 .f32) (x1 : Vec F S1x152x152 .f32) (x2 : Vec F S32x64 .f32) (x3 : Vec F S64x256 .f32) (x4 : Vec F S128x128 .f32) (x5 : Vec F S128x128 .f32) (x6 : Vec F S256x2176 .f32) (x7 : Vec F S128x1024 .f32) (x8 : Vec F S1024x64 .f32) (x9 : Vec F S256 .f32) (x10 : Vec F S128 .f32) (x11 : Vec F S1024 .f32) (x12 : Vec F S1024 .f32) (x13 : Vec F S64 .f32) (x14 : Vec F S32x64 .f32) (x15 : Vec F S64x32 .f32) : Wts F :=
  ⟨x1, x4, x5, x6, x7, x8, x11, x12, x10⟩

/-- The staged projections of a point. -/
def stg (x0 : Vec F S1x64x1x152x32 .f32) (x2 : Vec F S32x64 .f32) (x3 : Vec F S64x256 .f32) (x9 : Vec F S256 .f32) :
    Vec F S64x152x256 .f32 := k0_pay107 x0 x2 x3 x9

/-- The output block computed from the staging buffer after the loop. -/
def fin16 (x0 : Vec F S1x64x1x152x32 .f32) (x13 : Vec F S64 .f32) (x14 : Vec F S32x64 .f32) (x15 : Vec F S64x32 .f32)
    (V : Vec F S64x152x256 .f32) : Vec F S1x64x1x152x32 .f32 :=
  k0_pay1 (k0_pay106 x0) (k0_pay122 V) (k0_pay123 V) x14 x13 x15

/-- The output block of a point that starts from state `s`. -/
def outBlk (x0 : Vec F S1x64x1x152x32 .f32) (x1 : Vec F S1x152x152 .f32) (x2 : Vec F S32x64 .f32) (x3 : Vec F S64x256 .f32) (x4 : Vec F S128x128 .f32) (x5 : Vec F S128x128 .f32) (x6 : Vec F S256x2176 .f32) (x7 : Vec F S128x1024 .f32) (x8 : Vec F S1024x64 .f32) (x9 : Vec F S256 .f32) (x10 : Vec F S128 .f32) (x11 : Vec F S1024 .f32) (x12 : Vec F S1024 .f32) (x13 : Vec F S64 .f32) (x14 : Vec F S32x64 .f32) (x15 : Vec F S64x32 .f32) (s : Vec F S152x1024 .f32) : Vec F S1x64x1x152x32 .f32 :=
  fin16 x0 x13 x14 x15 (overlay (wts x0 x1 x2 x3 x4 x5 x6 x7 x8 x9 x10 x11 x12 x13 x14 x15) (stg x0 x2 x3 x9) s 64)

/-- The state a point that starts from state `s` leaves. -/
def outSt (x0 : Vec F S1x64x1x152x32 .f32) (x1 : Vec F S1x152x152 .f32) (x2 : Vec F S32x64 .f32) (x3 : Vec F S64x256 .f32) (x4 : Vec F S128x128 .f32) (x5 : Vec F S128x128 .f32) (x6 : Vec F S256x2176 .f32) (x7 : Vec F S128x1024 .f32) (x8 : Vec F S1024x64 .f32) (x9 : Vec F S256 .f32) (x10 : Vec F S128 .f32) (x11 : Vec F S1024 .f32) (x12 : Vec F S1024 .f32) (x13 : Vec F S64 .f32) (x14 : Vec F S32x64 .f32) (x15 : Vec F S64x32 .f32) (s : Vec F S152x1024 .f32) : Vec F S152x1024 .f32 :=
  sAt (wts x0 x1 x2 x3 x4 x5 x6 x7 x8 x9 x10 x11 x12 x13 x14 x15) (stg x0 x2 x3 x9) s 64

theorem pay108_eq (x : Vec F S64x152x256 .f32) : k0_pay108 x = x := by
  unfold k0_pay108
  exact shapeCast_self _ _

/-- A whole operand loaded from the buffer holding it. -/
theorem rd {s : Shape} {e : EltTy} (v : Memref sig .tc .vmem s e) (h : v.IsWhole) (x : Vec F s e) {off : Fin s.rank → ℕ}
    (inb : ∀ a, off a + s.size a ≤ s.size a) :
    View.readAt (Elt F) v.view (Rect.unit off s.size inb).toLoadRect (h.unread x) = x :=
  (View.readAt_full _ _ _).trans (h.read_unread _)

theorem tr8 : Scf.trips (0#32) (Scalar.addi 0#32 8#32) 1#32 = 8 := trips_eq

section

variable (c : Dev nD) (i : grid0.Coords) (arg2 : Memref sig .tc .vmem S1x64x1x152x32 .f32) (harg2 : arg2.IsWhole) (arg3 : Memref sig .tc .vmem S1x152x152 .f32) (harg3 : arg3.IsWhole) (arg4 : Memref sig .tc .vmem S32x64 .f32) (harg4 : arg4.IsWhole) (arg5 : Memref sig .tc .vmem S64x256 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x2176 .f32) (harg8 : arg8.IsWhole) (arg9 : Memref sig .tc .vmem S128x1024 .f32) (harg9 : arg9.IsWhole) (arg10 : Memref sig .tc .vmem S1024x64 .f32) (harg10 : arg10.IsWhole) (arg11 : Memref sig .tc .vmem S256 .f32) (harg11 : arg11.IsWhole) (arg12 : Memref sig .tc .vmem S128 .f32) (harg12 : arg12.IsWhole) (arg13 : Memref sig .tc .vmem S1024 .f32) (harg13 : arg13.IsWhole) (arg14 : Memref sig .tc .vmem S1024 .f32) (harg14 : arg14.IsWhole) (arg15 : Memref sig .tc .vmem S64 .f32) (harg15 : arg15.IsWhole) (arg16 : Memref sig .tc .vmem S32x64 .f32) (harg16 : arg16.IsWhole) (arg17 : Memref sig .tc .vmem S64x32 .f32) (harg17 : arg17.IsWhole) (arg18 : Memref sig .tc .vmem S1x64x1x152x32 .f32) (harg18 : arg18.IsWhole) (arg19 : Memref sig .tc .vmem S64x152x256 .f32) (harg19 : arg19.IsWhole) (arg20 : Memref sig .tc .vmem S152x1024 .f32) (harg20 : arg20.IsWhole)
  (x0 : Vec F S1x64x1x152x32 .f32) (x1 : Vec F S1x152x152 .f32) (x2 : Vec F S32x64 .f32) (x3 : Vec F S64x256 .f32) (x4 : Vec F S128x128 .f32) (x5 : Vec F S128x128 .f32) (x6 : Vec F S256x2176 .f32) (x7 : Vec F S128x1024 .f32) (x8 : Vec F S1024x64 .f32) (x9 : Vec F S256 .f32) (x10 : Vec F S128 .f32) (x11 : Vec F S1024 .f32) (x12 : Vec F S1024 .f32) (x13 : Vec F S64 .f32) (x14 : Vec F S32x64 .f32) (x15 : Vec F S64x32 .f32) (s : Vec F S152x1024 .f32)

/-- The newest piece of the loop in the state buffer is the whole final state. -/
theorem loop_last (𝒱 : Variants) (bd : Option 𝒱.V) (a1 : BitVec 32) (p0 : FVec F S64x152x256 .f32) (W : Wts F)
    (G : BufTy.Contents (Elt F) arg19.view.ty) (H : BufTy.Contents (Elt F) arg20.view.ty) (k : ℕ) (hk : k + 1 ≤ 8) :
    ∃ L, (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H (k + 1)).2
      = ⟨Rect.unit (s := S152x1024) ![0, 0] S152x1024.size inb_S152x1024_S152x1024_0_0,
          sAt W (arg19.view.read (Elt F) G) (arg20.view.read (Elt F) H) (8 * k + 8)⟩ :: L := by
  have hk' : k < k0_t1_loop.trips := by rw [trips_eq]; omega
  obtain ⟨i1, i2⟩ := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W G H k (by omega)
  rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 p0 W.mv W.ga W.gc W.eall W.edp W.esp W.ba W.bc W.bb G H ⟨k, hk'⟩]
  rw [trip_state]
  rw [sT_eq arg19 arg20 W ⟨k, hk'⟩ _ _ _ _ i1 i2 8 le_rfl, pay120_eq]
  exact ⟨_, rfl⟩

theorem out0_B (hc0 : ¬cond0_0 i) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 s = outBlk x0 x1 x2 x3 x4 x5 x6 x7 x8 x9 x10 x11 x12 x13 x14 x15 s := by
  unfold out0_B_16 kernelRun0_B
  dsimp only
  refine (View.read_writes_full _ _ _ _ _).trans ?_
  unfold outBlk fin16 kernelRun0_B.sl.r kernelRun0_B.sl.r_2 kernelRun0_B.sl.r_3 kernelRun0_B.sl.r_4
  rw [rd arg2 harg2, rd arg16 harg16, rd arg15 harg15, rd arg17 harg17]
  have key : kernelRun0_B.sl.v64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 s
      = overlay (wts x0 x1 x2 x3 x4 x5 x6 x7 x8 x9 x10 x11 x12 x13 x14 x15) (stg x0 x2 x3 x9) s 64 := by
    unfold kernelRun0_B.sl.v64
    refine (View.readAt_full _ _ _).trans ?_
    rw [rd arg3 harg3, rd arg6 harg6, rd arg7 harg7, rd arg8 harg8, rd arg9 harg9, rd arg10 harg10, rd arg13 harg13, rd arg14 harg14, rd arg12 harg12, tr8]
    rw [View.writes_append]
    refine (loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) _ (wts x0 x1 x2 x3 x4 x5 x6 x7 x8 x9 x10 x11 x12 x13 x14 x15) _ _ 8 le_rfl).1.trans ?_
    unfold kernelRun0_B.sl.HS0_1 kernelRun0_B.sl.r_1
    rw [View.read_writes_full, pay108_eq, Memref.IsWhole.read_unread]
    rw [rd arg2 harg2, rd arg4 harg4, rd arg5 harg5, rd arg11 harg11]
    rfl
  rw [key]

theorem sout0_B (hc0 : ¬cond0_0 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 s = outSt x0 x1 x2 x3 x4 x5 x6 x7 x8 x9 x10 x11 x12 x13 x14 x15 s := by
  unfold sout0_B_1 kernelRun0_B
  dsimp only
  unfold outSt
  rw [rd arg3 harg3, rd arg6 harg6, rd arg7 harg7, rd arg8 harg8, rd arg9 harg9, rd arg10 harg10, rd arg13 harg13, rd arg14 harg14, rd arg12 harg12, tr8]
  refine (loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) _ (wts x0 x1 x2 x3 x4 x5 x6 x7 x8 x9 x10 x11 x12 x13 x14 x15) _ _ 8 le_rfl).2.trans ?_
  unfold kernelRun0_B.sl.HS0_1 kernelRun0_B.sl.r_1
  rw [View.read_writes_full, pay108_eq, Memref.IsWhole.read_unread]
  rw [rd arg2 harg2, rd arg4 harg4, rd arg5 harg5, rd arg11 harg11]
  rfl

theorem out0_A (hc0 : cond0_0 i) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = outBlk x0 x1 x2 x3 x4 x5 x6 x7 x8 x9 x10 x11 x12 x13 x14 x15 k0_pay109 := by
  unfold out0_A_16 kernelRun0_A
  dsimp only
  refine (View.read_writes_full _ _ _ _ _).trans ?_
  unfold outBlk fin16 kernelRun0_A.sl.r kernelRun0_A.sl.r_2 kernelRun0_A.sl.r_3 kernelRun0_A.sl.r_4
  rw [rd arg2 harg2, rd arg16 harg16, rd arg15 harg15, rd arg17 harg17]
  have key : kernelRun0_A.sl.v64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12
      = overlay (wts x0 x1 x2 x3 x4 x5 x6 x7 x8 x9 x10 x11 x12 x13 x14 x15) (stg x0 x2 x3 x9) k0_pay109 64 := by
    unfold kernelRun0_A.sl.v64
    refine (View.readAt_full _ _ _).trans ?_
    rw [rd arg3 harg3, rd arg6 harg6, rd arg7 harg7, rd arg8 harg8, rd arg9 harg9, rd arg10 harg10, rd arg13 harg13, rd arg14 harg14, rd arg12 harg12, tr8]
    rw [View.writes_append]
    refine (loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) _ (wts x0 x1 x2 x3 x4 x5 x6 x7 x8 x9 x10 x11 x12 x13 x14 x15) _ _ 8 le_rfl).1.trans ?_
    unfold kernelRun0_A.sl.HS0_1 kernelRun0_A.sl.r_1 kernelRun0_A.sl.HS1_1
    rw [View.read_writes_full, pay108_eq, View.read_writes_full]
    rw [rd arg2 harg2, rd arg4 harg4, rd arg5 harg5, rd arg11 harg11]
    rfl
  rw [key]

theorem sout0_A (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = outSt x0 x1 x2 x3 x4 x5 x6 x7 x8 x9 x10 x11 x12 x13 x14 x15 k0_pay109 := by
  unfold sout0_A_1 kernelRun0_A
  dsimp only
  unfold outSt
  rw [rd arg3 harg3, rd arg6 harg6, rd arg7 harg7, rd arg8 harg8, rd arg9 harg9, rd arg10 harg10, rd arg13 harg13, rd arg14 harg14, rd arg12 harg12, tr8]
  obtain ⟨L, hL⟩ := loop_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none none (BitVec.ofNat 32 (i 1).val)
    (kernelRun0_A.sl.r_1 c arg2 harg2 arg4 harg4 arg5 harg5 arg11 harg11 x0 x2 x3 x9) (wts x0 x1 x2 x3 x4 x5 x6 x7 x8 x9 x10 x11 x12 x13 x14 x15)
    (arg19.view.writes (Elt F) arg19.view.junk (kernelRun0_A.sl.HS0_1 c arg2 harg2 arg4 harg4 arg5 harg5 arg11 harg11 x0 x2 x3 x9))
    (arg20.view.writes (Elt F) arg20.view.junk kernelRun0_A.sl.HS1_1) 7 (by omega)
  have e : sAt (wts x0 x1 x2 x3 x4 x5 x6 x7 x8 x9 x10 x11 x12 x13 x14 x15) (arg19.view.read (Elt F) (arg19.view.writes (Elt F) arg19.view.junk (kernelRun0_A.sl.HS0_1 c arg2 harg2 arg4 harg4 arg5 harg5 arg11 harg11 x0 x2 x3 x9)))
      (arg20.view.read (Elt F) (arg20.view.writes (Elt F) arg20.view.junk kernelRun0_A.sl.HS1_1)) 64
      = sAt (wts x0 x1 x2 x3 x4 x5 x6 x7 x8 x9 x10 x11 x12 x13 x14 x15) (stg x0 x2 x3 x9) k0_pay109 64 := by
    unfold kernelRun0_A.sl.HS0_1 kernelRun0_A.sl.r_1 kernelRun0_A.sl.HS1_1
    rw [View.read_writes_full, pay108_eq, View.read_writes_full]
    rw [rd arg2 harg2, rd arg4 harg4, rd arg5 harg5, rd arg11 harg11]
    rfl
  replace hL := hL.trans (congrArg (fun z => (⟨Rect.unit (s := S152x1024) ![0, 0] S152x1024.size inb_S152x1024_S152x1024_0_0, z⟩ : View.Piece (Elt F) S152x1024 .f32) :: L) e)
  refine (congrArg (fun l => VS0_1.read (Elt F) (VS0_1.writes (Elt F) VS0_1.junk (l ++ kernelRun0_A.sl.HS1_1))) hL).trans ?_
  exact View.read_writes_full _ _ _ _ _

end

end Cert.Proof.Trip

end
-- ==== Proof.Step.lean ====
/- One step of the kernel's recurrence on extended reals, entry by entry. -/
module
public import proofs.«01_k».proof.Proof.Outs
public import Idealize.ShloMosaic.Lib.Pointwise
@[expose] public section
set_option maxRecDepth 8192
noncomputable section
namespace Cert.Proof.Trip
open Idealize.ShloMosaic Idealize.ShloMosaic.TcCoe
open Cert.KernelIdeal Cert.KernelIdeal.Gen

/-- A 128-wide slice of the state, times a weight. -/
abbrev linPart (s : FVec Ideal S152x1024 .f32) (w : FVec Ideal S128x128 .f32) (o : Fin S152x1024.rank → ℕ)
    (h : S152x1024.Slices o S152x128) : FVec Ideal S152x128 .f32 :=
  matmul dot_S152x128_S128x128_S152x128_1_0_0_1_n_n none (extractStridedSlice S152x128 o s h) w
    (constant S152x128 .f32 0x00000000#32)

/-- The eight 128-wide slices of the state, each times the same weight, side by side. -/
def lin (s : FVec Ideal S152x1024 .f32) (w : FVec Ideal S128x128 .f32) : FVec Ideal S152x1024 .f32 :=
  concatenate S152x1024 1 [⟨S152x128, linPart s w ![0, 0] slices_S152x1024_o0_0_S152x128⟩,
    ⟨S152x128, linPart s w ![0, 128] slices_S152x1024_o0_128_S152x128⟩, ⟨S152x128, linPart s w ![0, 256] slices_S152x1024_o0_256_S152x128⟩,
    ⟨S152x128, linPart s w ![0, 384] slices_S152x1024_o0_384_S152x128⟩, ⟨S152x128, linPart s w ![0, 512] slices_S152x1024_o0_512_S152x128⟩,
    ⟨S152x128, linPart s w ![0, 640] slices_S152x1024_o0_640_S152x128⟩, ⟨S152x128, linPart s w ![0, 768] slices_S152x1024_o0_768_S152x128⟩,
    ⟨S152x128, linPart s w ![0, 896] slices_S152x1024_o0_896_S152x128⟩]
    concatenates_S152x128_S152x128_S152x128_S152x128_S152x128_S152x128_S152x128_S152x128_S152x1024_d1

theorem lin_apply (s : FVec Ideal S152x1024 .f32) (w : FVec Ideal S128x128 .f32) (r : Fin 152) (k : Fin 1024) :
    lin s w (ix2 r k) = ∑ q : Fin 128, s (ix2 r ⟨k.val / 128 * 128 + q.val, by omega⟩) * w (ix2 q ⟨k.val % 128, by omega⟩) := by
  pointwise [lin]
  split_ifs <;>
  · refine Finset.sum_congr rfl fun q _ => congrArg₂ (· * ·) (congrArg (fun z => s (ix2 r z)) (Fin.ext ?_))
      (congrArg (fun z => w (ix2 q z)) (Fin.ext ?_)) <;> dsimp only <;> omega

/-- The lane of the state that holds feature `d` of state component `n`. -/
abbrev lane (n : Fin 16) (d : Fin 64) : Fin 1024 := ⟨n.val * 64 + d.val, by omega⟩

/-- A weight doubled along the diagonal acts on each 64-wide block of lanes alone. -/
theorem lin_lane (s : FVec Ideal S152x1024 .f32) (w : FVec Ideal S128x128 .f32) (g : Fin 64 → Fin 64 → EReal)
    (hw : ∀ q c : Fin 128, w (ix2 q c) = if q.val / 64 = c.val / 64 then g ⟨c.val % 64, by omega⟩ ⟨q.val % 64, by omega⟩ else (0 : EReal))
    (r : Fin 152) (n : Fin 16) (d : Fin 64) :
    lin s w (ix2 r (lane n d)) = ∑ e : Fin 64, s (ix2 r (lane n e)) * g d e := by
  rw [lin_apply]
  have h := Fin.sum_univ_add (a := 64) (b := 64) (fun q : Fin (64 + 64) =>
    s (ix2 r ⟨(lane n d).val / 128 * 128 + q.val, by omega⟩) * w (ix2 q ⟨(lane n d).val % 128, by omega⟩))
  refine h.trans ?_
  simp only [hw, Fin.val_castAdd, Fin.val_natAdd]
  rcases Nat.mod_two_eq_zero_or_one n.val with h0 | h0
  · rw [Finset.sum_eq_zero (s := Finset.univ) (f := fun i : Fin 64 => s (ix2 r ⟨(lane n d).val / 128 * 128 + (64 + i.val), _⟩) * _), add_zero]
    · refine Finset.sum_congr rfl fun e _ => ?_
      rw [if_pos (by omega)]
      congr 3 <;> first | omega | (apply Fin.ext; dsimp only; omega)
    · intro i _
      rw [if_neg (by omega), mul_zero]
  · rw [Finset.sum_eq_zero (s := Finset.univ) (f := fun i : Fin 64 => s (ix2 r ⟨(lane n d).val / 128 * 128 + i.val, _⟩) * _), zero_add]
    · refine Finset.sum_congr rfl fun e _ => ?_
      rw [if_pos (by omega)]
      congr 3 <;> first | omega | (apply Fin.ext; dsimp only; omega)
    · intro i _
      rw [if_neg (by omega), mul_zero]

/-- Eight 128-wide pieces side by side: lane `k` is lane `k % 128` of piece `k / 128`. -/
theorem cat8_apply (f : Fin 8 → FVec Ideal S152x128 .f32) (r : Fin 152) (k : Fin 1024) :
    (concatenate S152x1024 1 [⟨S152x128, f 0⟩, ⟨S152x128, f 1⟩, ⟨S152x128, f 2⟩, ⟨S152x128, f 3⟩, ⟨S152x128, f 4⟩, ⟨S152x128, f 5⟩,
      ⟨S152x128, f 6⟩, ⟨S152x128, f 7⟩]
      concatenates_S152x128_S152x128_S152x128_S152x128_S152x128_S152x128_S152x128_S152x128_S152x1024_d1 : FVec Ideal S152x1024 .f32) (ix2 r k)
      = f ⟨k.val / 128, by omega⟩ (ix2 r ⟨k.val % 128, by omega⟩) := by
  pointwise
  split_ifs <;>
  · refine congrArg₂ (fun c q => f c (ix2 r q)) (Fin.ext ?_) (Fin.ext ?_) <;> first | omega | (dsimp only; omega) | (simp; omega)

/-- The decay columns and their squares. -/
def powT0 (row : Vec Ideal S1x152x256 .f32) : FVec Ideal S152x128 .f32 :=
  concatenate S152x128 1 [⟨S152x64, (extractStridedSlice S152x64 ![0, 64] (k0_pay2 row) slices_S152x256_o0_64_S152x64 : FVec Ideal S152x64 .f32)⟩,
    ⟨S152x64, mulf (extractStridedSlice S152x64 ![0, 64] (k0_pay2 row) slices_S152x256_o0_64_S152x64 : FVec Ideal S152x64 .f32) (extractStridedSlice S152x64 ![0, 64] (k0_pay2 row) slices_S152x256_o0_64_S152x64)⟩]
    concatenates_S152x64_S152x64_S152x128_d1

/-- The squares of the decay columns, twice. -/
def powC2 (row : Vec Ideal S1x152x256 .f32) : FVec Ideal S152x128 .f32 :=
  concatenate S152x128 1 [⟨S152x64, mulf (extractStridedSlice S152x64 ![0, 64] (k0_pay2 row) slices_S152x256_o0_64_S152x64 : FVec Ideal S152x64 .f32) (extractStridedSlice S152x64 ![0, 64] (k0_pay2 row) slices_S152x256_o0_64_S152x64)⟩,
    ⟨S152x64, mulf (extractStridedSlice S152x64 ![0, 64] (k0_pay2 row) slices_S152x256_o0_64_S152x64 : FVec Ideal S152x64 .f32) (extractStridedSlice S152x64 ![0, 64] (k0_pay2 row) slices_S152x256_o0_64_S152x64)⟩]
    concatenates_S152x64_S152x64_S152x128_d1

theorem powT0_apply (row : Vec Ideal S1x152x256 .f32) (r : Fin 152) (q : Fin 128) :
    powT0 row (ix2 r q) = (row (ix3 0 r ⟨64 + q.val % 64, by omega⟩) : EReal) ^ (q.val / 64 + 1) := by
  pointwise [powT0, k0_pay2]
  split_ifs with h
  · rw [Nat.div_eq_of_lt h, zero_add, pow_one]
    exact congrArg (fun z => row (ix3 0 r z)) (Fin.ext (by dsimp only; omega))
  · have e : q.val / 64 = 1 := by omega
    have e2 : (⟨64 + (q.val - 64), by omega⟩ : Fin 256) = ⟨64 + q.val % 64, by omega⟩ := Fin.ext (by dsimp only; omega)
    rw [e, e2, pow_two]
  · exact absurd rfl ‹_›

theorem powC2_apply (row : Vec Ideal S1x152x256 .f32) (r : Fin 152) (q : Fin 128) :
    powC2 row (ix2 r q) = (row (ix3 0 r ⟨64 + q.val % 64, by omega⟩) : EReal) ^ 2 := by
  pointwise [powC2, k0_pay2]
  split_ifs with h
  · have e2 : (⟨64 + q.val, by omega⟩ : Fin 256) = ⟨64 + q.val % 64, by omega⟩ := Fin.ext (by dsimp only; omega)
    rw [e2, pow_two]
  · have e2 : (⟨64 + (q.val - 64), by omega⟩ : Fin 256) = ⟨64 + q.val % 64, by omega⟩ := Fin.ext (by dsimp only; omega)
    rw [e2, pow_two]
  · exact absurd rfl ‹_›

/-- The eight pieces of the powers, from the first one and the squares. -/
def powPiece (T0 C2 : FVec Ideal S152x128 .f32) : Fin 8 → FVec Ideal S152x128 .f32 :=
  ![T0, mulf T0 C2, mulf T0 (mulf C2 C2), mulf (mulf T0 C2) (mulf C2 C2), mulf T0 (mulf (mulf C2 C2) (mulf C2 C2)),
    mulf (mulf T0 C2) (mulf (mulf C2 C2) (mulf C2 C2)), mulf (mulf T0 (mulf C2 C2)) (mulf (mulf C2 C2) (mulf C2 C2)),
    mulf (mulf (mulf T0 C2) (mulf C2 C2)) (mulf (mulf C2 C2) (mulf C2 C2))]

theorem powPiece_apply (T0 C2 : FVec Ideal S152x128 .f32) (p : EReal) (x : S152x128.Idx) (a : ℕ) (h0 : T0 x = p ^ a) (h2 : C2 x = p ^ 2)
    (c : Fin 8) : powPiece T0 C2 c x = p ^ (2 * c.val + a) := by
  fin_cases c
  · show (T0 x : EReal) = p ^ (2 * 0 + a)
    simp only [h0, h2, ← pow_add]
    exact congrArg (HPow.hPow p) (by omega)
  · show (T0 x : EReal)*(C2 x : EReal) = p ^ (2 * 1 + a)
    simp only [h0, h2, ← pow_add]
    exact congrArg (HPow.hPow p) (by omega)
  · show (T0 x : EReal)*((C2 x : EReal)*(C2 x : EReal)) = p ^ (2 * 2 + a)
    simp only [h0, h2, ← pow_add]
    exact congrArg (HPow.hPow p) (by omega)
  · show ((T0 x : EReal)*(C2 x : EReal))*((C2 x : EReal)*(C2 x : EReal)) = p ^ (2 * 3 + a)
    simp only [h0, h2, ← pow_add]
    exact congrArg (HPow.hPow p) (by omega)
  · show (T0 x : EReal)*(((C2 x : EReal)*(C2 x : EReal))*((C2 x : EReal)*(C2 x : EReal))) = p ^ (2 * 4 + a)
    simp only [h0, h2, ← pow_add]
    exact congrArg (HPow.hPow p) (by omega)
  · show ((T0 x : EReal)*(C2 x : EReal))*(((C2 x : EReal)*(C2 x : EReal))*((C2 x : EReal)*(C2 x : EReal))) = p ^ (2 * 5 + a)
    simp only [h0, h2, ← pow_add]
    exact congrArg (HPow.hPow p) (by omega)
  · show ((T0 x : EReal)*((C2 x : EReal)*(C2 x : EReal)))*(((C2 x : EReal)*(C2 x : EReal))*((C2 x : EReal)*(C2 x : EReal))) = p ^ (2 * 6 + a)
    simp only [h0, h2, ← pow_add]
    exact congrArg (HPow.hPow p) (by omega)
  · show (((T0 x : EReal)*(C2 x : EReal))*((C2 x : EReal)*(C2 x : EReal)))*(((C2 x : EReal)*(C2 x : EReal))*((C2 x : EReal)*(C2 x : EReal))) = p ^ (2 * 7 + a)
    simp only [h0, h2, ← pow_add]
    exact congrArg (HPow.hPow p) (by omega)

/-- The powers of a row's decay: lane `(n, d)` holds the `(n + 1)`-st power of column `64 + d`. -/
theorem pay6_apply (row : Vec Ideal S1x152x256 .f32) (r : Fin 152) (n : Fin 16) (d : Fin 64) :
    k0_pay6 row (ix2 r (lane n d)) = (row (ix3 0 r ⟨64 + d.val, by omega⟩) : EReal) ^ (n.val + 1) := by
  refine (cat8_apply (powPiece (powT0 row) (powC2 row)) r (lane n d)).trans ?_
  refine (powPiece_apply _ _ _ _ _ (powT0_apply row r _) (powC2_apply row r _) _).trans ?_
  have e2 : (⟨64 + (lane n d).val % 128 % 64, by omega⟩ : Fin 256) = ⟨64 + d.val, by omega⟩ := Fin.ext (by dsimp only; omega)
  dsimp only at e2 ⊢
  rw [e2]
  congr 1
  omega

theorem pay4_apply (e : FVec Ideal S256x2176 .f32) (row : Vec Ideal S1x152x256 .f32) (r : Fin 152) (k : Fin 1024) :
    k0_pay4 e row (ix2 r k) = ∑ q : Fin 256, row (ix3 0 r q) * e (ix2 q ⟨k.val, by omega⟩) := by
  pointwise [k0_pay4, k0_pay3, k0_pay2]

theorem pay5_apply (e : FVec Ideal S256x2176 .f32) (row : Vec Ideal S1x152x256 .f32) (r : Fin 152) (k : Fin 1024) :
    k0_pay5 e row (ix2 r k) = ∑ q : Fin 256, row (ix3 0 r q) * e (ix2 q ⟨1024 + k.val, by omega⟩) := by
  pointwise [k0_pay5, k0_pay3, k0_pay2]

theorem agg_eq (W : Wts Ideal) (row : Vec Ideal S1x152x256 .f32) (s : FVec Ideal S152x1024 .f32) :
    agg W row s = matmul dot_S152x152_S152x1152_S152x1152_1_0_0_1_n_n none (k0_pay110 W.mv)
      (concatenate S152x1152 1 [⟨S152x1024, lin s (k0_pay111 W.ga)⟩,
        ⟨S152x128, (extractStridedSlice S152x128 ![0, 2048] (k0_pay3 (k0_pay113 W.eall) row) slices_S152x2176_o0_2048_S152x128 : FVec Ideal S152x128 .f32)⟩]
        concatenates_S152x1024_S152x128_S152x1152_d1) (constant S152x1152 .f32 0x00000000#32) := rfl

theorem agg_lo (W : Wts Ideal) (row : Vec Ideal S1x152x256 .f32) (s : FVec Ideal S152x1024 .f32) (r : Fin 152) (k : Fin 1024) :
    agg W row s (ix2 r ⟨k.val, by omega⟩) = ∑ x : Fin 152, W.mv (ix3 0 r x) * lin s W.ga (ix2 x k) := by
  rw [agg_eq]
  pointwise [k0_pay110, k0_pay111]

theorem agg_hi (W : Wts Ideal) (row : Vec Ideal S1x152x256 .f32) (s : FVec Ideal S152x1024 .f32) (r : Fin 152) (k : Fin 128) :
    agg W row s (ix2 r ⟨1024 + k.val, by omega⟩) =
      ∑ x : Fin 152, W.mv (ix3 0 r x) * ∑ q : Fin 256, row (ix3 0 x q) * W.eall (ix2 q ⟨2048 + k.val, by omega⟩) := by
  rw [agg_eq]
  pointwise [k0_pay110, k0_pay111, k0_pay113, k0_pay3, k0_pay2]

theorem stS_apply (W : Wts Ideal) (row : Vec Ideal S1x152x256 .f32) (s : FVec Ideal S152x1024 .f32) (r : Fin 152) (k : Fin 1024) :
    stS W row s (ix2 r k) = (agg W row s (ix2 r ⟨k.val, by omega⟩) + W.ba (ix1 k)) * k0_pay6 row (ix2 r k)
      + (∑ q : Fin 128, ((agg W row s (ix2 r ⟨1024 + q.val, by omega⟩) + W.bb (ix1 q)) * row (ix3 0 r ⟨q.val, by omega⟩)) * W.edp (ix2 q k))
        * k0_pay4 W.eall row (ix2 r k) := by
  have h4 : k0_pay113 W.eall = W.eall := shapeCast_self _ _
  rw [stS, h4]
  generalize agg W row s = G
  generalize hP : k0_pay6 row = P
  generalize hQ : k0_pay4 W.eall row = Q
  pointwise [k0_pay8, k0_pay114, k0_pay116, k0_pay118, k0_pay2]

theorem stY_eq (W : Wts Ideal) (row : Vec Ideal S1x152x256 .f32) (s : FVec Ideal S152x1024 .f32) :
    stY W row s = shapeCast S1x152x64 (matmul dot_S152x1024_S1024x64_S152x64_1_0_0_1_n_n none
      (mulf (addf (matmul dot_S152x152_S152x1024_S152x1024_1_0_0_1_n_n none (k0_pay110 W.mv) (lin (stS W row s) (k0_pay112 W.gc)) (constant S152x1024 .f32 0x00000000#32))
        (broadcastTo S152x1024 (shapeCast S1x1024 (k0_pay117 W.bc) shapeCasts_S1024_S1x1024) broadcasts_S1x1024_S152x1024))
        (k0_pay5 (k0_pay113 W.eall) row)) (k0_pay115 W.esp) (constant S152x64 .f32 0x00000000#32)) shapeCasts_S152x64_S1x152x64 := rfl

theorem stY_apply (W : Wts Ideal) (row : Vec Ideal S1x152x256 .f32) (s : FVec Ideal S152x1024 .f32) (r : Fin 152) (d : Fin 64) :
    stY W row s (ix3 0 r d) = ∑ k : Fin 1024, (((∑ x : Fin 152, W.mv (ix3 0 r x) * lin (stS W row s) W.gc (ix2 x k)) + W.bc (ix1 k))
      * k0_pay5 W.eall row (ix2 r k)) * W.esp (ix2 k d) := by
  have h4 : k0_pay113 W.eall = W.eall := shapeCast_self _ _
  have h5 : k0_pay112 W.gc = W.gc := shapeCast_self _ _
  rw [stY_eq, h4, h5]
  generalize lin (stS W row s) W.gc = G
  generalize hQ : k0_pay5 W.eall row = Q
  pointwise [k0_pay110, k0_pay117, k0_pay115]

/-- What the step weights hold: the doubled state weights, the selections, and the biases. -/
structure WOk (W : Wts Ideal) (gA gB gC : Fin 64 → Fin 64 → EReal) (bA bB bC : Fin 64 → EReal) : Prop where
  ga : ∀ q c : Fin 128, W.ga (ix2 q c) = if q.val / 64 = c.val / 64 then gA ⟨c.val % 64, by omega⟩ ⟨q.val % 64, by omega⟩ else (0 : EReal)
  gc : ∀ q c : Fin 128, W.gc (ix2 q c) = if q.val / 64 = c.val / 64 then gC ⟨c.val % 64, by omega⟩ ⟨q.val % 64, by omega⟩ else (0 : EReal)
  eb : ∀ (q : Fin 256) (k : Fin 1024), W.eall (ix2 q ⟨k.val, by omega⟩) = if q.val = 192 + k.val / 64 then (1 : EReal) else 0
  ec : ∀ (q : Fin 256) (k : Fin 1024), W.eall (ix2 q ⟨1024 + k.val, by omega⟩) = if q.val = 208 + k.val / 64 then (1 : EReal) else 0
  eu : ∀ (q : Fin 256) (d : Fin 64), W.eall (ix2 q ⟨2048 + d.val, by omega⟩) = if 128 ≤ q.val ∧ q.val < 192 then gB d (Fin.ofNat 64 (q.val - 128)) else (0 : EReal)
  ed : ∀ (q : Fin 128) (k : Fin 1024), W.edp (ix2 q k) = if q.val = k.val % 64 then (1 : EReal) else 0
  es : ∀ (k : Fin 1024) (d : Fin 64), W.esp (ix2 k d) = if k.val % 64 = d.val then (1 : EReal) else 0
  ba : ∀ k : Fin 1024, W.ba (ix1 k) = bA ⟨k.val % 64, by omega⟩
  bc : ∀ k : Fin 1024, W.bc (ix1 k) = bC ⟨k.val % 64, by omega⟩
  bb : ∀ d : Fin 64, W.bb (ix1 ⟨d.val, by omega⟩) = bB d

theorem sum_one_hot {m : ℕ} (f : Fin m → EReal) (c : Fin m) : (∑ q : Fin m, f q * (if q.val = c.val then (1 : EReal) else 0)) = f c := by
  rw [Finset.sum_eq_single c]
  · rw [if_pos rfl, mul_one]
  · intro b _ hb
    rw [if_neg (fun h => hb (Fin.ext h)), mul_zero]
  · intro h; exact absurd (Finset.mem_univ c) h

theorem sum_lanes (f : Fin 1024 → EReal) (d : Fin 64) :
    (∑ k : Fin 1024, f k * (if k.val % 64 = d.val then (1 : EReal) else 0)) = ∑ n : Fin 16, f (lane n d) := by
  rw [← Equiv.sum_comp (finProdFinEquiv (m := 16) (n := 64)) (fun k : Fin 1024 => f k * (if k.val % 64 = d.val then (1 : EReal) else 0)),
    Fintype.sum_prod_type]
  refine Finset.sum_congr rfl fun n _ => ?_
  rw [Finset.sum_eq_single d]
  · have e : (finProdFinEquiv (m := 16) (n := 64)) (n, d) = lane n d := Fin.ext (by simp [finProdFinEquiv]; omega)
    rw [e, if_pos (by dsimp only; omega), mul_one]
  · intro b _ hb
    have e : (finProdFinEquiv (m := 16) (n := 64)) (n, b) = lane n b := Fin.ext (by simp [finProdFinEquiv]; omega)
    rw [e, if_neg (fun h => hb (Fin.ext (by dsimp only at h; omega))), mul_zero]
  · intro h; exact absurd (Finset.mem_univ d) h

theorem sum_mid (f : Fin 256 → EReal) (g : Fin 64 → EReal) :
    (∑ q : Fin 256, f q * (if 128 ≤ q.val ∧ q.val < 192 then g (Fin.ofNat 64 (q.val - 128)) else (0 : EReal)))
      = ∑ e : Fin 64, f ⟨128 + e.val, by omega⟩ * g e := by
  have h := Fin.sum_univ_add (a := 128) (b := 128) (fun q : Fin (128 + 128) => f q * (if 128 ≤ q.val ∧ q.val < 192 then g (Fin.ofNat 64 (q.val - 128)) else (0 : EReal)))
  refine h.trans ?_
  have h2 := Fin.sum_univ_add (a := 64) (b := 64) (fun q : Fin (64 + 64) => f (Fin.natAdd 128 q) * (if 128 ≤ (Fin.natAdd 128 q).val ∧ (Fin.natAdd 128 q).val < 192 then g (Fin.ofNat 64 ((Fin.natAdd 128 q).val - 128)) else (0 : EReal)))
  rw [Finset.sum_eq_zero, zero_add]
  · refine h2.trans ?_
    rw [Finset.sum_eq_zero (s := Finset.univ) (f := fun i : Fin 64 => f (Fin.natAdd 128 (Fin.natAdd 64 i)) * _), add_zero]
    · refine Finset.sum_congr rfl fun e _ => ?_
      rw [if_pos (by simp only [Fin.val_natAdd, Fin.val_castAdd]; omega)]
      refine congrArg₂ (· * ·) rfl (congrArg g (Fin.ext ?_))
      simp only [Fin.val_natAdd, Fin.val_castAdd, Fin.val_ofNat]; omega
    · intro i _
      rw [if_neg (by simp only [Fin.val_natAdd]; omega), mul_zero]
  · intro i _
    rw [if_neg (by simp only [Fin.val_castAdd]; omega), mul_zero]

section
variable {W : Wts Ideal} {gA gB gC : Fin 64 → Fin 64 → EReal} {bA bB bC : Fin 64 → EReal} (hW : WOk W gA gB gC bA bB bC)
include hW

/-- The carried state after a step. -/
theorem stS_lane (row : Vec Ideal S1x152x256 .f32) (s : FVec Ideal S152x1024 .f32) (r : Fin 152) (n : Fin 16) (d : Fin 64) :
    stS W row s (ix2 r (lane n d)) =
      ((∑ x : Fin 152, W.mv (ix3 0 r x) * ∑ e : Fin 64, s (ix2 x (lane n e)) * gA d e) + bA d) * (row (ix3 0 r ⟨64 + d.val, by omega⟩) : EReal) ^ (n.val + 1)
      + (((∑ x : Fin 152, W.mv (ix3 0 r x) * ∑ e : Fin 64, row (ix3 0 x ⟨128 + e.val, by omega⟩) * gB d e) + bB d) * row (ix3 0 r ⟨d.val, by omega⟩))
        * row (ix3 0 r ⟨192 + n.val, by omega⟩) := by
  have hd : (⟨(lane n d).val % 64, by omega⟩ : Fin 64) = d := Fin.ext (by dsimp only; omega)
  have hn : (lane n d).val / 64 = n.val := by dsimp only; omega
  have hm : (lane n d).val % 64 = d.val := by dsimp only; omega
  rw [stS_apply, pay6_apply, pay4_apply, hW.ba, hd, agg_lo]
  have heb : ∀ (q : Fin 256) h, W.eall (ix2 q ⟨n.val * 64 + d.val, h⟩) = if q.val = 192 + n.val then (1 : EReal) else 0 :=
    fun q _ => (hW.eb q (lane n d)).trans (by rw [hn])
  simp only [hW.ed, heb, hm]
  rw [sum_one_hot (m := 256) _ ⟨192 + n.val, by omega⟩, sum_one_hot (m := 128) _ ⟨d.val, by omega⟩]
  rw [agg_hi W row s r ⟨d.val, by omega⟩, hW.bb d]
  simp only [hW.eu, sum_mid, lin_lane s W.ga gA hW.ga]

/-- The output of a step. -/
theorem stY_lane (row : Vec Ideal S1x152x256 .f32) (s : FVec Ideal S152x1024 .f32) (r : Fin 152) (d : Fin 64) :
    stY W row s (ix3 0 r d) = ∑ n : Fin 16,
      ((∑ x : Fin 152, W.mv (ix3 0 r x) * ∑ e : Fin 64, stS W row s (ix2 x (lane n e)) * gC d e) + bC d) * row (ix3 0 r ⟨208 + n.val, by omega⟩) := by
  rw [stY_apply]
  simp only [hW.es]
  rw [sum_lanes]
  refine Finset.sum_congr rfl fun n _ => ?_
  have hd : (⟨(lane n d).val % 64, by omega⟩ : Fin 64) = d := Fin.ext (by dsimp only; omega)
  have hn : (lane n d).val / 64 = n.val := by dsimp only; omega
  rw [hW.bc, hd, pay5_apply]
  have hec : ∀ (q : Fin 256) h, W.eall (ix2 q ⟨1024 + (n.val * 64 + d.val), h⟩) = if q.val = 208 + n.val then (1 : EReal) else 0 :=
    fun q _ => (hW.ec q (lane n d)).trans (by rw [hn])
  simp only [hec, lin_lane _ W.gc gC hW.gc]
  rw [sum_one_hot (m := 256) _ ⟨208 + n.val, by omega⟩]

end

end Cert.Proof.Trip
-- ==== Proof.HostK.lean ====
module

public import proofs.«01_k».proof.Proof.Step
public import Idealize.ShloMosaic.Lib.StableHlo.RunRead

@[expose] public section

set_option maxRecDepth 16384

/-! What each buffer of the host lines holds at the end of them, from what its operands hold there: no line
    writes a buffer twice, and none reads a buffer a later line writes. -/

noncomputable section

namespace Cert.KernelIdeal.Gen

open Idealize.ShloMosaic Idealize.ShloMosaic.StableHlo Idealize.ShloMosaic.TcCoe

variable {F : FTy → Type} [FloatOps F]

/-- The host lines before the loop, in order. -/
noncomputable def ops0 : List (HloOp τ sig (Elt F)) := List.flatten [hostOps0]

/-- What the lines write, in order. -/
noncomputable def wr0 : List (Ref sig .tc) :=
  [main_call0_c, main_call0_c_0, main_call0_c_1, main_call0_c_2, main_call0_cst, main_call0_v0, main_call0_v1, main_call0_c_3, main_call0_v2, main_call0_v3, main_call0_v4, main_call0_c_4, main_call0_v5, main_call0_v6, main_call0_v7, main_call0_v8, main_call0_v9, main_call0_v10, main_call0_v11, main_call0_v12, main_call0_v13, main_call0_c_5, main_call0_v14, main_call0_v15, main_call0_v16, main_call0_v17, main_call0_v18, main_call0_v19, main_call0_v20, main_call0_cst_6, main_call0_v21, main_call0_cst_7, main_call0_v22, main_call0_v23, main_call0_v24, main_call0_v25, main_call0_v26, main_call0_v27, main_call0_v28, main_call0_v29, main_call0_v30, main_call0_v31, main_call0_cst_8, main_call0_v32, main_call0_v33, main_call0_v34, main_call0_v35, main_call0_c_9, main_call0_v36, main_call0_c_10, main_call0_v37, main_call0_v38, main_call0_v39, main_call0_v40, main_call0_v41, main_call0_v42, main_call0_c_11, main_call0_v43, main_call0_c_12, main_call0_v44, main_call0_v45, main_call0_v46, main_call0_v47, main_call0_v48, main_call0_v49, main_call0_c_13, main_call0_v50, main_call0_c_14, main_call0_v51, main_call0_v52, main_call0_v53, main_call0_v54, main_call0_v55, main_call0_v56, main_call0_c_15, main_call0_v57, main_call0_c_16, main_call0_v58, main_call0_v59, main_call0_v60, main_call0_v61, main_call0_v62, main_call0_v63, main_call0_c_17, main_call0_v64, main_call0_c_18, main_call0_v65, main_call0_v66, main_call0_v67, main_call0_v68, main_call0_v69, main_call0_v70, main_call0_c_19, main_call0_v71, main_call0_c_20, main_call0_v72, main_call0_v73, main_call0_v74, main_call0_v75, main_call0_v76, main_call0_v77, main_call0_c_21, main_call0_v78, main_call0_c_22, main_call0_v79, main_call0_v80, main_call0_v81, main_call0_v82, main_call0_v83, main_call0_v84, main_call0_c_23, main_call0_v85, main_call0_c_24, main_call0_v86, main_call0_v87, main_call0_v88, main_call0_v89, main_call0_v90, main_call0_v91, main_call0_v92, main_call0_v93, main_call0_v94, main_call0_v95, main_call0_v96, main_call0_v97, main_call0_v98, main_call0_v99, main_call0_v100, main_call0_cst_25, main_call0_v101, main_call0_c_26, main_call0_v102, main_call0_v103, main_call0_c_27, main_call0_v104, main_call0_v105, main_call0_v106, main_call0_v107, main_call0_c_28, main_call0_v108, main_call0_v109, main_call0_v110, main_call0_v111, main_call0_c_29, main_call0_v112, main_call0_v113, main_call0_c_30, main_call0_v114, main_call0_v115, main_call0_c_31, main_call0_v116, main_call0_v117, main_call0_cst_32, main_call0_v118, main_call0_v119, main_call0_v120, main_call0_v121, main_call0_c_33, main_call0_v122, main_call0_v123, main_call0_cst_34, main_call0_v124, main_call0_v125, main_call0_v126, main_call0_call0_v0, main_call0_call0_v1, main_call0_v127, main_call0_v128, main_call0_v129, main_call0_call1_v0, main_call0_call1_v1, main_call0_v130, main_call0_v131, main_call0_v132, main_call0_c_35, main_call0_call2_v0, main_call0_call2_v1, main_call0_call2_v2, main_call0_call2_v3, main_call0_call2_v4, main_call0_call2_v5, main_call0_call2_v6, main_call0_call2_v7, main_call0_call2_v8, main_call0_call2_c, main_call0_call2_v9, main_call0_call2_v10, main_call0_call2_v11, main_call0_call2_c_0, main_call0_call2_v12, main_call0_call2_v13, main_call0_v133, main_call0_v134, main_call0_c_36, main_call0_call3_v0, main_call0_call3_c, main_call0_call3_v1, main_call0_call3_c_0, main_call0_call3_v2, main_call0_call3_v3, main_call0_call3_v4, main_call0_call3_c_1, main_call0_call3_v5, main_call0_call3_v6, main_call0_call3_c_2, main_call0_call3_v7, main_call0_call3_v8, main_call0_call3_c_3, main_call0_call3_v9, main_call0_call3_v10, main_call0_call3_v11, main_call0_call3_v12, main_call0_call3_v13, main_call0_call3_v14, main_call0_v135, main_call0_v136, main_call0_v137, main_call0_v138, main_call0_v139, main_call0_v140, main_call0_v141, main_call0_v142, main_call0_v143, main_call0_v144, main_call0_v145, main_call0_v146, main_call0_v147, main_call0_v148, main_call0_v149, main_call0_cst_37, main_call0_v150, main_call0_c_38, main_call0_v151, main_call0_c_39, main_call0_v152, main_call0_v153, main_call0_v154, main_call0_c_40, main_call0_v155, main_call0_c_41, main_call0_v156, main_call0_v157, main_call0_v158, main_call0_v159, main_call0_c_42, main_call0_v160, main_call0_c_43, main_call0_v161, main_call0_v162, main_call0_v163, main_call0_cst_44, main_call0_v164, main_call0_c_45, main_call0_v165, main_call0_v166, main_call0_v167, main_call0_c_46, main_call0_v168, main_call0_v169, main_call0_c_47, main_call0_v170, main_call0_v171, main_call0_v172, main_call0_v173, main_call0_v174, main_call0_c_48, main_call0_v175, main_call0_v176, main_call0_c_49, main_call0_v177, main_call0_v178, main_call0_v179, main_call0_v180, main_call0_v181, main_call0_cst_50, main_call0_v182, main_call0_c_51, main_call0_v183, main_call0_v184, main_call0_v185, main_call0_v186]

theorem wr0_eq : (ops0 (F := F)).map HloOp.writes = wr0.map fun w => {Proc.devRef (τ := τ) .tc w} := by
  unfold ops0 wr0; rfl

/-- A buffer's contents after the host lines. -/
noncomputable def K (V : Valuation τ sig (Elt F)) (r : Ref sig .tc) : r.ty.Contents (Elt F) := StableHlo.after ops0 V (Proc.devRef .tc r)

variable (V : Valuation τ sig (Elt F))

theorem K_arg (r : Ref sig .tc) (h : r ∉ wr0) : K V r = V (Proc.devRef .tc r) :=
  after_unwritten wr0 wr0_eq h V

theorem cast_reshape {s t : Shape} {e : EltTy} {Tx Ty : BufTy} (hx : Tx = ⟨s, e⟩) (hy : Ty = ⟨t, e⟩) (u : Tx.Contents (Elt F)) (he : Tx.elt = Ty.elt)
    (hn' : Tx.shape.ShapeCasts Ty.shape) (hn : s.ShapeCasts t) :
    cast (congrArg (fun U : BufTy => U.Contents (Elt F)) hy) (fun i => he ▸ shapeCast Ty.shape u hn' i)
      = shapeCast t (cast (congrArg (fun U : BufTy => U.Contents (Elt F)) hx) u) hn := by
  subst hx hy; rfl

theorem K_upto {i : ℕ} {r : Ref sig .tc} (h : r ∉ wr0.drop i) : K V r = upto ops0 V i (Proc.devRef .tc r) := by
  have h1 : after ops0 V = after (ops0.drop i) (upto ops0 V i) := by
    rw [upto, ← Idealize.ShloMosaic.StableHlo.after_append, List.take_append_drop]
  show after ops0 V _ = _
  rw [h1]
  exact after_unwritten (wr0.drop i) (by rw [List.map_drop, List.map_drop, wr0_eq]) h _

theorem drop_some {α : Type*} {l : List α} {i : ℕ} {x : α} (h : l[i]? = some x) : l.drop i = x :: l.drop (i + 1) := by
  obtain ⟨hi, rfl⟩ := List.getElem?_eq_some_iff.mp h
  exact List.drop_eq_getElem_cons hi

theorem K_write {i : ℕ} {op : HloOp τ sig (Elt F)} {r : Ref sig .tc} (hs : (ops0 (F := F))[i]? = some op) (h : r ∉ wr0.drop (i + 1)) :
    K V r = op.result (upto ops0 V i) (Proc.devRef .tc r) :=
  after_last_write (wr0.drop (i + 1)) (drop_some hs) (by rw [List.map_drop, List.map_drop, wr0_eq]) h V

theorem ssa_nullary {Ty : BufTy} (i : ℕ) (y : TRef sig Ty) (v : Ty.Contents (Elt F)) (hs : (ops0 (F := F))[i]? = some (TRef.nullary y v))
    (hy : y.ref ∉ wr0.drop (i + 1)) (V : Valuation τ sig (Elt F)) : y.ofBuf (K V y.ref) = v := by
  rw [K_write V hs hy, nullary_result, TRef.ofBuf_toBuf]

theorem ssa_unary {Tx Ty : BufTy} (i : ℕ) (x : TRef sig Tx) (y : TRef sig Ty) (f : Tx.Contents (Elt F) → Ty.Contents (Elt F))
    (hs : (ops0 (F := F))[i]? = some (TRef.unary x y f))
    (hy : y.ref ∉ wr0.drop (i + 1)) (hx : x.ref ∉ wr0.drop i) (V : Valuation τ sig (Elt F)) : y.ofBuf (K V y.ref) = f (x.ofBuf (K V x.ref)) := by
  rw [K_write V hs hy, unary_result, TRef.ofBuf_toBuf, K_upto V hx]

theorem ssa_binary {Ta Tb Ty : BufTy} (i : ℕ) (a : TRef sig Ta) (b : TRef sig Tb) (y : TRef sig Ty)
    (f : Ta.Contents (Elt F) → Tb.Contents (Elt F) → Ty.Contents (Elt F)) (hs : (ops0 (F := F))[i]? = some (TRef.binary a b y f))
    (hy : y.ref ∉ wr0.drop (i + 1)) (ha : a.ref ∉ wr0.drop i) (hb : b.ref ∉ wr0.drop i) (V : Valuation τ sig (Elt F)) :
    y.ofBuf (K V y.ref) = f (a.ofBuf (K V a.ref)) (b.ofBuf (K V b.ref)) := by
  rw [K_write V hs hy, binary_result, TRef.ofBuf_toBuf, K_upto V ha, K_upto V hb]

theorem ssa_ternary {Tc Ta Tb Ty : BufTy} (i : ℕ) (p : TRef sig Tc) (a : TRef sig Ta) (b : TRef sig Tb) (y : TRef sig Ty)
    (f : Tc.Contents (Elt F) → Ta.Contents (Elt F) → Tb.Contents (Elt F) → Ty.Contents (Elt F)) (hs : (ops0 (F := F))[i]? = some (TRef.ternary p a b y f))
    (hy : y.ref ∉ wr0.drop (i + 1)) (hp : p.ref ∉ wr0.drop i) (ha : a.ref ∉ wr0.drop i) (hb : b.ref ∉ wr0.drop i) (V : Valuation τ sig (Elt F)) :
    y.ofBuf (K V y.ref) = f (p.ofBuf (K V p.ref)) (a.ofBuf (K V a.ref)) (b.ofBuf (K V b.ref)) := by
  rw [K_write V hs hy, ternary_result, TRef.ofBuf_toBuf, K_upto V hp, K_upto V ha, K_upto V hb]

theorem ssa_reshape {s t : Shape} {e : EltTy} (i : ℕ) (x : TRef sig ⟨s, e⟩) (y : TRef sig ⟨t, e⟩) (hn : s.ShapeCasts t)
    (hs : (ops0 (F := F))[i]? = some (TRef.reshape x y rfl hn))
    (hy : y.ref ∉ wr0.drop (i + 1)) (hx : x.ref ∉ wr0.drop i) (V : Valuation τ sig (Elt F)) :
    y.ofBuf (K V y.ref) = shapeCast t (x.ofBuf (K V x.ref)) hn := by
  rw [K_write (F := F) V hs hy, reshape_result, K_upto (F := F) V hx]
  exact cast_reshape (F := F) x.ty_eq y.ty_eq _ _ _ hn

attribute [local irreducible] K

theorem e_c : (K V main_call0_c : (⟨S342, .i32⟩ : BufTy).Contents (Elt F)) = (fun i => lit0 (S342.rowMajor i)) := by
  have h := ssa_nullary 0 (.of main_call0_c : TRef sig ⟨S342, .i32⟩) (fun i => lit0 (S342.rowMajor i)) rfl (by decide +kernel) V
  exact h

theorem e_c_0 : (K V main_call0_c_0 : (⟨S342, .i1⟩ : BufTy).Contents (Elt F)) = (constantI S342 1 0#1) := by
  have h := ssa_nullary 1 (.of main_call0_c_0 : TRef sig ⟨S342, .i1⟩) (constantI S342 1 0#1) rfl (by decide +kernel) V
  exact h

theorem e_c_1 : (K V main_call0_c_1 : (⟨S342, .i32⟩ : BufTy).Contents (Elt F)) = (fun i => lit1 (S342.rowMajor i)) := by
  have h := ssa_nullary 2 (.of main_call0_c_1 : TRef sig ⟨S342, .i32⟩) (fun i => lit1 (S342.rowMajor i)) rfl (by decide +kernel) V
  exact h

theorem e_c_2 : (K V main_call0_c_2 : (⟨S342, .i1⟩ : BufTy).Contents (Elt F)) = (constantI S342 1 0#1) := by
  have h := ssa_nullary 3 (.of main_call0_c_2 : TRef sig ⟨S342, .i1⟩) (constantI S342 1 0#1) rfl (by decide +kernel) V
  exact h

theorem e_cst : (K V main_call0_cst : (⟨S_, .f32⟩ : BufTy).Contents (Elt F)) = (constant S_ .f32 0x00000000#32) := by
  have h := ssa_nullary 4 (.of main_call0_cst : TRef sig ⟨S_, .f32⟩) (constant S_ .f32 0x00000000#32) rfl (by decide +kernel) V
  exact h

theorem e_v0 : (K V main_call0_v0 : (⟨S32x19x19, .f32⟩ : BufTy).Contents (Elt F)) = (broadcastInDim S32x19x19 ![] bcast_S_S32x19x19) (K V main_call0_cst : (⟨S_, .f32⟩ : BufTy).Contents (Elt F)) := by
  have h := ssa_unary 5 (.of main_call0_cst : TRef sig ⟨S_, .f32⟩) (.of main_call0_v0 : TRef sig ⟨S32x19x19, .f32⟩) (broadcastInDim S32x19x19 ![] bcast_S_S32x19x19) rfl (by decide +kernel) (by decide +kernel) V
  exact h

theorem e_v1 : (K V main_call0_v1 : (⟨S32x342, .f32⟩ : BufTy).Contents (Elt F)) = shapeCast S32x342 (K V main_arg2 : (⟨S10944, .f32⟩ : BufTy).Contents (Elt F)) shapeCasts_S10944_S32x342 := by
  have h := ssa_reshape 6 (.of main_arg2 : TRef sig ⟨S10944, .f32⟩) (.of main_call0_v1 : TRef sig ⟨S32x342, .f32⟩) shapeCasts_S10944_S32x342 rfl (by decide +kernel) (by decide +kernel) V
  exact h

theorem e_c_3 : (K V main_call0_c_3 : (⟨S_, .i32⟩ : BufTy).Contents (Elt F)) = (constantI S_ 32 19#32) := by
  have h := ssa_nullary 7 (.of main_call0_c_3 : TRef sig ⟨S_, .i32⟩) (constantI S_ 32 19#32) rfl (by decide +kernel) V
  exact h

theorem e_v2 : (K V main_call0_v2 : (⟨S342, .i32⟩ : BufTy).Contents (Elt F)) = (broadcastInDim S342 ![] bcast_S_S342) (K V main_call0_c_3 : (⟨S_, .i32⟩ : BufTy).Contents (Elt F)) := by
  have h := ssa_unary 8 (.of main_call0_c_3 : TRef sig ⟨S_, .i32⟩) (.of main_call0_v2 : TRef sig ⟨S342, .i32⟩) (broadcastInDim S342 ![] bcast_S_S342) rfl (by decide +kernel) (by decide +kernel) V
  exact h

theorem e_v3 : (K V main_call0_v3 : (⟨S342, .i32⟩ : BufTy).Contents (Elt F)) = (addi) (K V main_call0_c : (⟨S342, .i32⟩ : BufTy).Contents (Elt F)) (K V main_call0_v2 : (⟨S342, .i32⟩ : BufTy).Contents (Elt F)) := by
  have h := ssa_binary 9 (.of main_call0_c : TRef sig ⟨S342, .i32⟩) (.of main_call0_v2 : TRef sig ⟨S342, .i32⟩) (.of main_call0_v3 : TRef sig ⟨S342, .i32⟩) addi rfl (by decide +kernel) (by decide +kernel) (by decide +kernel) V
  exact h

theorem e_v4 : (K V main_call0_v4 : (⟨S342, .i32⟩ : BufTy).Contents (Elt F)) = (select) (K V main_call0_c_0 : (⟨S342, .i1⟩ : BufTy).Contents (Elt F)) (K V main_call0_v3 : (⟨S342, .i32⟩ : BufTy).Contents (Elt F)) (K V main_call0_c : (⟨S342, .i32⟩ : BufTy).Contents (Elt F)) := by
  have h := ssa_ternary 10 (.of main_call0_c_0 : TRef sig ⟨S342, .i1⟩) (.of main_call0_v3 : TRef sig ⟨S342, .i32⟩) (.of main_call0_c : TRef sig ⟨S342, .i32⟩) (.of main_call0_v4 : TRef sig ⟨S342, .i32⟩) select rfl (by decide +kernel) (by decide +kernel) (by decide +kernel) (by decide +kernel) V
  exact h

theorem e_c_4 : (K V main_call0_c_4 : (⟨S_, .i32⟩ : BufTy).Contents (Elt F)) = (constantI S_ 32 19#32) := by
  have h := ssa_nullary 11 (.of main_call0_c_4 : TRef sig ⟨S_, .i32⟩) (constantI S_ 32 19#32) rfl (by decide +kernel) V
  exact h

theorem e_v5 : (K V main_call0_v5 : (⟨S342, .i32⟩ : BufTy).Contents (Elt F)) = (broadcastInDim S342 ![] bcast_S_S342) (K V main_call0_c_4 : (⟨S_, .i32⟩ : BufTy).Contents (Elt F)) := by
  have h := ssa_unary 12 (.of main_call0_c_4 : TRef sig ⟨S_, .i32⟩) (.of main_call0_v5 : TRef sig ⟨S342, .i32⟩) (broadcastInDim S342 ![] bcast_S_S342) rfl (by decide +kernel) (by decide +kernel) V
  exact h

theorem e_v6 : (K V main_call0_v6 : (⟨S342, .i32⟩ : BufTy).Contents (Elt F)) = (addi) (K V main_call0_c_1 : (⟨S342, .i32⟩ : BufTy).Contents (Elt F)) (K V main_call0_v5 : (⟨S342, .i32⟩ : BufTy).Contents (Elt F)) := by
  have h := ssa_binary 13 (.of main_call0_c_1 : TRef sig ⟨S342, .i32⟩) (.of main_call0_v5 : TRef sig ⟨S342, .i32⟩) (.of main_call0_v6 : TRef sig ⟨S342, .i32⟩) addi rfl (by decide +kernel) (by decide +kernel) (by decide +kernel) V
  exact h

theorem e_v7 : (K V main_call0_v7 : (⟨S342, .i32⟩ : BufTy).Contents (Elt F)) = (select) (K V main_call0_c_2 : (⟨S342, .i1⟩ : BufTy).Contents (Elt F)) (K V main_call0_v6 : (⟨S342, .i32⟩ : BufTy).Contents (Elt F)) (K V main_call0_c_1 : (⟨S342, .i32⟩ : BufTy).Contents (Elt F)) := by
  have h := ssa_ternary 14 (.of main_call0_c_2 : TRef sig ⟨S342, .i1⟩) (.of main_call0_v6 : TRef sig ⟨S342, .i32⟩) (.of main_call0_c_1 : TRef sig ⟨S342, .i32⟩) (.of main_call0_v7 : TRef sig ⟨S342, .i32⟩) select rfl (by decide +kernel) (by decide +kernel) (by decide +kernel) (by decide +kernel) V
  exact h

theorem e_v8 : (K V main_call0_v8 : (⟨S342x1, .i32⟩ : BufTy).Contents (Elt F)) = (broadcastInDim S342x1 ![0] bcast_S342_S342x1_0) (K V main_call0_v4 : (⟨S342, .i32⟩ : BufTy).Contents (Elt F)) := by
  have h := ssa_unary 15 (.of main_call0_v4 : TRef sig ⟨S342, .i32⟩) (.of main_call0_v8 : TRef sig ⟨S342x1, .i32⟩) (broadcastInDim S342x1 ![0] bcast_S342_S342x1_0) rfl (by decide +kernel) (by decide +kernel) V
  exact h

theorem e_v9 : (K V main_call0_v9 : (⟨S342x1, .i32⟩ : BufTy).Contents (Elt F)) = (broadcastInDim S342x1 ![0] bcast_S342_S342x1_0) (K V main_call0_v7 : (⟨S342, .i32⟩ : BufTy).Contents (Elt F)) := by
  have h := ssa_unary 16 (.of main_call0_v7 : TRef sig ⟨S342, .i32⟩) (.of main_call0_v9 : TRef sig ⟨S342x1, .i32⟩) (broadcastInDim S342x1 ![0] bcast_S342_S342x1_0) rfl (by decide +kernel) (by decide +kernel) V
  exact h

theorem e_v10 : (K V main_call0_v10 : (⟨S342x2, .i32⟩ : BufTy).Contents (Elt F)) = (fun a b => concatenate S342x2 1 [⟨S342x1, a⟩, ⟨S342x1, b⟩] concatenates_S342x1_S342x1_S342x2_d1) (K V main_call0_v8 : (⟨S342x1, .i32⟩ : BufTy).Contents (Elt F)) (K V main_call0_v9 : (⟨S342x1, .i32⟩ : BufTy).Contents (Elt F)) := by
  have h := ssa_binary 17 (.of main_call0_v8 : TRef sig ⟨S342x1, .i32⟩) (.of main_call0_v9 : TRef sig ⟨S342x1, .i32⟩) (.of main_call0_v10 : TRef sig ⟨S342x2, .i32⟩) (fun a b => concatenate S342x2 1 [⟨S342x1, a⟩, ⟨S342x1, b⟩] concatenates_S342x1_S342x1_S342x2_d1) rfl (by decide +kernel) (by decide +kernel) (by decide +kernel) V
  exact h

theorem e_v11 : (K V main_call0_v11 : (⟨S32x19x19, .f32⟩ : BufTy).Contents (Elt F)) = (fun x i u => Host.scatter scatter_S32x19x19_S342x2_S32x342_0_12_12_1 (fun _ b => b) x i u) (K V main_call0_v0 : (⟨S32x19x19, .f32⟩ : BufTy).Contents (Elt F)) (K V main_call0_v10 : (⟨S342x2, .i32⟩ : BufTy).Contents (Elt F)) (K V main_call0_v1 : (⟨S32x342, .f32⟩ : BufTy).Contents (Elt F)) := by
  have h := ssa_ternary 18 (.of main_call0_v0 : TRef sig ⟨S32x19x19, .f32⟩) (.of main_call0_v10 : TRef sig ⟨S342x2, .i32⟩) (.of main_call0_v1 : TRef sig ⟨S32x342, .f32⟩) (.of main_call0_v11 : TRef sig ⟨S32x19x19, .f32⟩) (fun x i u => Host.scatter scatter_S32x19x19_S342x2_S32x342_0_12_12_1 (fun _ b => b) x i u) rfl (by decide +kernel) (by decide +kernel) (by decide +kernel) (by decide +kernel) V
  exact h

theorem e_v12 : (K V main_call0_v12 : (⟨S19x19, .i32⟩ : BufTy).Contents (Elt F)) = (iotaInDim S19x19 32 0) := by
  have h := ssa_nullary 19 (.of main_call0_v12 : TRef sig ⟨S19x19, .i32⟩) (iotaInDim S19x19 32 0) rfl (by decide +kernel) V
  exact h

theorem e_v13 : (K V main_call0_v13 : (⟨S19x19, .i32⟩ : BufTy).Contents (Elt F)) = (iotaInDim S19x19 32 1) := by
  have h := ssa_nullary 20 (.of main_call0_v13 : TRef sig ⟨S19x19, .i32⟩) (iotaInDim S19x19 32 1) rfl (by decide +kernel) V
  exact h

theorem e_c_5 : (K V main_call0_c_5 : (⟨S_, .i32⟩ : BufTy).Contents (Elt F)) = (constantI S_ 32 0#32) := by
  have h := ssa_nullary 21 (.of main_call0_c_5 : TRef sig ⟨S_, .i32⟩) (constantI S_ 32 0#32) rfl (by decide +kernel) V
  exact h

theorem e_v14 : (K V main_call0_v14 : (⟨S19x19, .i32⟩ : BufTy).Contents (Elt F)) = (broadcastInDim S19x19 ![] bcast_S_S19x19) (K V main_call0_c_5 : (⟨S_, .i32⟩ : BufTy).Contents (Elt F)) := by
  have h := ssa_unary 22 (.of main_call0_c_5 : TRef sig ⟨S_, .i32⟩) (.of main_call0_v14 : TRef sig ⟨S19x19, .i32⟩) (broadcastInDim S19x19 ![] bcast_S_S19x19) rfl (by decide +kernel) (by decide +kernel) V
  exact h

theorem e_v15 : (K V main_call0_v15 : (⟨S19x19, .i32⟩ : BufTy).Contents (Elt F)) = (addi) (K V main_call0_v12 : (⟨S19x19, .i32⟩ : BufTy).Contents (Elt F)) (K V main_call0_v14 : (⟨S19x19, .i32⟩ : BufTy).Contents (Elt F)) := by
  have h := ssa_binary 23 (.of main_call0_v12 : TRef sig ⟨S19x19, .i32⟩) (.of main_call0_v14 : TRef sig ⟨S19x19, .i32⟩) (.of main_call0_v15 : TRef sig ⟨S19x19, .i32⟩) addi rfl (by decide +kernel) (by decide +kernel) (by decide +kernel) V
  exact h

theorem e_v16 : (K V main_call0_v16 : (⟨S19x19, .i1⟩ : BufTy).Contents (Elt F)) = (cmpi .eq) (K V main_call0_v15 : (⟨S19x19, .i32⟩ : BufTy).Contents (Elt F)) (K V main_call0_v13 : (⟨S19x19, .i32⟩ : BufTy).Contents (Elt F)) := by
  have h := ssa_binary 24 (.of main_call0_v15 : TRef sig ⟨S19x19, .i32⟩) (.of main_call0_v13 : TRef sig ⟨S19x19, .i32⟩) (.of main_call0_v16 : TRef sig ⟨S19x19, .i1⟩) (cmpi .eq) rfl (by decide +kernel) (by decide +kernel) (by decide +kernel) V
  exact h

theorem e_v17 : (K V main_call0_v17 : (⟨S19x19, .f32⟩ : BufTy).Contents (Elt F)) = (uitofp .f32) (K V main_call0_v16 : (⟨S19x19, .i1⟩ : BufTy).Contents (Elt F)) := by
  have h := ssa_unary 25 (.of main_call0_v16 : TRef sig ⟨S19x19, .i1⟩) (.of main_call0_v17 : TRef sig ⟨S19x19, .f32⟩) (uitofp .f32) rfl (by decide +kernel) (by decide +kernel) V
  exact h

theorem e_v18 : (K V main_call0_v18 : (⟨S1x19x19, .f32⟩ : BufTy).Contents (Elt F)) = (broadcastInDim S1x19x19 ![1, 2] bcast_S19x19_S1x19x19_1_2) (K V main_call0_v17 : (⟨S19x19, .f32⟩ : BufTy).Contents (Elt F)) := by
  have h := ssa_unary 26 (.of main_call0_v17 : TRef sig ⟨S19x19, .f32⟩) (.of main_call0_v18 : TRef sig ⟨S1x19x19, .f32⟩) (broadcastInDim S1x19x19 ![1, 2] bcast_S19x19_S1x19x19_1_2) rfl (by decide +kernel) (by decide +kernel) V
  exact h

theorem e_v19 : (K V main_call0_v19 : (⟨S32x19x19, .f32⟩ : BufTy).Contents (Elt F)) = (broadcastInDim S32x19x19 ![0, 1, 2] bcast_S1x19x19_S32x19x19_0_1_2) (K V main_call0_v18 : (⟨S1x19x19, .f32⟩ : BufTy).Contents (Elt F)) := by
  have h := ssa_unary 27 (.of main_call0_v18 : TRef sig ⟨S1x19x19, .f32⟩) (.of main_call0_v19 : TRef sig ⟨S32x19x19, .f32⟩) (broadcastInDim S32x19x19 ![0, 1, 2] bcast_S1x19x19_S32x19x19_0_1_2) rfl (by decide +kernel) (by decide +kernel) V
  exact h

theorem e_v20 : (K V main_call0_v20 : (⟨S32x19x19, .f32⟩ : BufTy).Contents (Elt F)) = (addf) (K V main_call0_v11 : (⟨S32x19x19, .f32⟩ : BufTy).Contents (Elt F)) (K V main_call0_v19 : (⟨S32x19x19, .f32⟩ : BufTy).Contents (Elt F)) := by
  have h := ssa_binary 28 (.of main_call0_v11 : TRef sig ⟨S32x19x19, .f32⟩) (.of main_call0_v19 : TRef sig ⟨S32x19x19, .f32⟩) (.of main_call0_v20 : TRef sig ⟨S32x19x19, .f32⟩) addf rfl (by decide +kernel) (by decide +kernel) (by decide +kernel) V
  exact h

theorem e_cst_6 : (K V main_call0_cst_6 : (⟨S_, .f32⟩ : BufTy).Contents (Elt F)) = (constant S_ .f32 0x00000000#32) := by
  have h := ssa_nullary 29 (.of main_call0_cst_6 : TRef sig ⟨S_, .f32⟩) (constant S_ .f32 0x00000000#32) rfl (by decide +kernel) V
  exact h

theorem e_v21 : (K V main_call0_v21 : (⟨S32x19, .f32⟩ : BufTy).Contents (Elt F)) = (fun x v => Host.reduceAdd x v reducesTo_S32x19x19_S32x19_d1 h_S_) (K V main_call0_v20 : (⟨S32x19x19, .f32⟩ : BufTy).Contents (Elt F)) (K V main_call0_cst_6 : (⟨S_, .f32⟩ : BufTy).Contents (Elt F)) := by
  have h := ssa_binary 30 (.of main_call0_v20 : TRef sig ⟨S32x19x19, .f32⟩) (.of main_call0_cst_6 : TRef sig ⟨S_, .f32⟩) (.of main_call0_v21 : TRef sig ⟨S32x19, .f32⟩) (fun x v => Host.reduceAdd x v reducesTo_S32x19x19_S32x19_d1 h_S_) rfl (by decide +kernel) (by decide +kernel) (by decide +kernel) V
  exact h

theorem e_cst_7 : (K V main_call0_cst_7 : (⟨S_, .f32⟩ : BufTy).Contents (Elt F)) = (constant S_ .f32 0x2B8CBCCC#32) := by
  have h := ssa_nullary 31 (.of main_call0_cst_7 : TRef sig ⟨S_, .f32⟩) (constant S_ .f32 0x2B8CBCCC#32) rfl (by decide +kernel) V
  exact h

theorem e_v22 : (K V main_call0_v22 : (⟨S32x19, .f32⟩ : BufTy).Contents (Elt F)) = (broadcastInDim S32x19 ![] bcast_S_S32x19) (K V main_call0_cst_7 : (⟨S_, .f32⟩ : BufTy).Contents (Elt F)) := by
  have h := ssa_unary 32 (.of main_call0_cst_7 : TRef sig ⟨S_, .f32⟩) (.of main_call0_v22 : TRef sig ⟨S32x19, .f32⟩) (broadcastInDim S32x19 ![] bcast_S_S32x19) rfl (by decide +kernel) (by decide +kernel) V
  exact h

theorem e_v23 : (K V main_call0_v23 : (⟨S32x19, .f32⟩ : BufTy).Contents (Elt F)) = (maximumf) (K V main_call0_v21 : (⟨S32x19, .f32⟩ : BufTy).Contents (Elt F)) (K V main_call0_v22 : (⟨S32x19, .f32⟩ : BufTy).Contents (Elt F)) := by
  have h := ssa_binary 33 (.of main_call0_v21 : TRef sig ⟨S32x19, .f32⟩) (.of main_call0_v22 : TRef sig ⟨S32x19, .f32⟩) (.of main_call0_v23 : TRef sig ⟨S32x19, .f32⟩) maximumf rfl (by decide +kernel) (by decide +kernel) (by decide +kernel) V
  exact h

theorem e_v24 : (K V main_call0_v24 : (⟨S32x19, .f32⟩ : BufTy).Contents (Elt F)) = (Host.rsqrt) (K V main_call0_v23 : (⟨S32x19, .f32⟩ : BufTy).Contents (Elt F)) := by
  have h := ssa_unary 34 (.of main_call0_v23 : TRef sig ⟨S32x19, .f32⟩) (.of main_call0_v24 : TRef sig ⟨S32x19, .f32⟩) Host.rsqrt rfl (by decide +kernel) (by decide +kernel) V
  exact h

theorem e_v25 : (K V main_call0_v25 : (⟨S32x19x19, .f32⟩ : BufTy).Contents (Elt F)) = (transpose S32x19x19 [0, 2, 1] · transposes_S32x19x19_S32x19x19_0_2_1) (K V main_call0_v20 : (⟨S32x19x19, .f32⟩ : BufTy).Contents (Elt F)) := by
  have h := ssa_unary 35 (.of main_call0_v20 : TRef sig ⟨S32x19x19, .f32⟩) (.of main_call0_v25 : TRef sig ⟨S32x19x19, .f32⟩) (transpose S32x19x19 [0, 2, 1] · transposes_S32x19x19_S32x19x19_0_2_1) rfl (by decide +kernel) (by decide +kernel) V
  exact h

theorem e_v26 : (K V main_call0_v26 : (⟨S32x1x19, .f32⟩ : BufTy).Contents (Elt F)) = (broadcastInDim S32x1x19 ![0, 2] bcast_S32x19_S32x1x19_0_2) (K V main_call0_v24 : (⟨S32x19, .f32⟩ : BufTy).Contents (Elt F)) := by
  have h := ssa_unary 36 (.of main_call0_v24 : TRef sig ⟨S32x19, .f32⟩) (.of main_call0_v26 : TRef sig ⟨S32x1x19, .f32⟩) (broadcastInDim S32x1x19 ![0, 2] bcast_S32x19_S32x1x19_0_2) rfl (by decide +kernel) (by decide +kernel) V
  exact h

theorem e_v27 : (K V main_call0_v27 : (⟨S32x19x19, .f32⟩ : BufTy).Contents (Elt F)) = (broadcastInDim S32x19x19 ![0, 1, 2] bcast_S32x1x19_S32x19x19_0_1_2) (K V main_call0_v26 : (⟨S32x1x19, .f32⟩ : BufTy).Contents (Elt F)) := by
  have h := ssa_unary 37 (.of main_call0_v26 : TRef sig ⟨S32x1x19, .f32⟩) (.of main_call0_v27 : TRef sig ⟨S32x19x19, .f32⟩) (broadcastInDim S32x19x19 ![0, 1, 2] bcast_S32x1x19_S32x19x19_0_1_2) rfl (by decide +kernel) (by decide +kernel) V
  exact h

theorem e_v28 : (K V main_call0_v28 : (⟨S32x19x19, .f32⟩ : BufTy).Contents (Elt F)) = (mulf) (K V main_call0_v25 : (⟨S32x19x19, .f32⟩ : BufTy).Contents (Elt F)) (K V main_call0_v27 : (⟨S32x19x19, .f32⟩ : BufTy).Contents (Elt F)) := by
  have h := ssa_binary 38 (.of main_call0_v25 : TRef sig ⟨S32x19x19, .f32⟩) (.of main_call0_v27 : TRef sig ⟨S32x19x19, .f32⟩) (.of main_call0_v28 : TRef sig ⟨S32x19x19, .f32⟩) mulf rfl (by decide +kernel) (by decide +kernel) (by decide +kernel) V
  exact h

theorem e_v29 : (K V main_call0_v29 : (⟨S32x19x1, .f32⟩ : BufTy).Contents (Elt F)) = (broadcastInDim S32x19x1 ![0, 1] bcast_S32x19_S32x19x1_0_1) (K V main_call0_v24 : (⟨S32x19, .f32⟩ : BufTy).Contents (Elt F)) := by
  have h := ssa_unary 39 (.of main_call0_v24 : TRef sig ⟨S32x19, .f32⟩) (.of main_call0_v29 : TRef sig ⟨S32x19x1, .f32⟩) (broadcastInDim S32x19x1 ![0, 1] bcast_S32x19_S32x19x1_0_1) rfl (by decide +kernel) (by decide +kernel) V
  exact h

theorem e_v30 : (K V main_call0_v30 : (⟨S32x19x19, .f32⟩ : BufTy).Contents (Elt F)) = (broadcastInDim S32x19x19 ![0, 1, 2] bcast_S32x19x1_S32x19x19_0_1_2) (K V main_call0_v29 : (⟨S32x19x1, .f32⟩ : BufTy).Contents (Elt F)) := by
  have h := ssa_unary 40 (.of main_call0_v29 : TRef sig ⟨S32x19x1, .f32⟩) (.of main_call0_v30 : TRef sig ⟨S32x19x19, .f32⟩) (broadcastInDim S32x19x19 ![0, 1, 2] bcast_S32x19x1_S32x19x19_0_1_2) rfl (by decide +kernel) (by decide +kernel) V
  exact h

theorem e_v31 : (K V main_call0_v31 : (⟨S32x19x19, .f32⟩ : BufTy).Contents (Elt F)) = (mulf) (K V main_call0_v28 : (⟨S32x19x19, .f32⟩ : BufTy).Contents (Elt F)) (K V main_call0_v30 : (⟨S32x19x19, .f32⟩ : BufTy).Contents (Elt F)) := by
  have h := ssa_binary 41 (.of main_call0_v28 : TRef sig ⟨S32x19x19, .f32⟩) (.of main_call0_v30 : TRef sig ⟨S32x19x19, .f32⟩) (.of main_call0_v31 : TRef sig ⟨S32x19x19, .f32⟩) mulf rfl (by decide +kernel) (by decide +kernel) (by decide +kernel) V
  exact h

theorem e_cst_8 : (K V main_call0_cst_8 : (⟨S_, .f32⟩ : BufTy).Contents (Elt F)) = (constant S_ .f32 0x00000000#32) := by
  have h := ssa_nullary 42 (.of main_call0_cst_8 : TRef sig ⟨S_, .f32⟩) (constant S_ .f32 0x00000000#32) rfl (by decide +kernel) V
  exact h

theorem e_v32 : (K V main_call0_v32 : (⟨S4x152x152, .f32⟩ : BufTy).Contents (Elt F)) = (broadcastInDim S4x152x152 ![] bcast_S_S4x152x152) (K V main_call0_cst_8 : (⟨S_, .f32⟩ : BufTy).Contents (Elt F)) := by
  have h := ssa_unary 43 (.of main_call0_cst_8 : TRef sig ⟨S_, .f32⟩) (.of main_call0_v32 : TRef sig ⟨S4x152x152, .f32⟩) (broadcastInDim S4x152x152 ![] bcast_S_S4x152x152) rfl (by decide +kernel) (by decide +kernel) V
  exact h

theorem e_v33 : (K V main_call0_v33 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 44 (.of main_call0_v31 : TRef sig ⟨S32x19x19, .f32⟩) (.of main_call0_v33 : TRef sig ⟨S4x8x19x19, .f32⟩) shapeCasts_S32x19x19_S4x8x19x19 rfl (by decide +kernel) (by decide +kernel) V
  exact h

theorem e_v34 : (K V main_call0_v34 : (⟨S4x1x19x19, .f32⟩ : BufTy).Contents (Elt F)) = (extractStridedSlice S4x1x19x19 ![0, 0, 0, 0] · slices_S4x8x19x19_S4x1x19x19_0_0_0_0) (K V main_call0_v33 : (⟨S4x8x19x19, .f32⟩ : BufTy).Contents (Elt F)) := by
  have h := ssa_unary 45 (.of main_call0_v33 : TRef sig ⟨S4x8x19x19, .f32⟩) (.of main_call0_v34 : TRef sig ⟨S4x1x19x19, .f32⟩) (extractStridedSlice S4x1x19x19 ![0, 0, 0, 0] · slices_S4x8x19x19_S4x1x19x19_0_0_0_0) rfl (by decide +kernel) (by decide +kernel) V
  exact h

theorem e_v35 : (K V main_call0_v35 : (⟨S4x19x19, .f32⟩ : BufTy).Contents (Elt F)) = shapeCast S4x19x19 (K V main_call0_v34 : (⟨S4x1x19x19, .f32⟩ : BufTy).Contents (Elt F)) shapeCasts_S4x1x19x19_S4x19x19 := by
  have h := ssa_reshape 46 (.of main_call0_v34 : TRef sig ⟨S4x1x19x19, .f32⟩) (.of main_call0_v35 : TRef sig ⟨S4x19x19, .f32⟩) shapeCasts_S4x1x19x19_S4x19x19 rfl (by decide +kernel) (by decide +kernel) V
  exact h

theorem e_c_9 : (K V main_call0_c_9 : (⟨S_, .i32⟩ : BufTy).Contents (Elt F)) = (constantI S_ 32 0#32) := by
  have h := ssa_nullary 47 (.of main_call0_c_9 : TRef sig ⟨S_, .i32⟩) (constantI S_ 32 0#32) rfl (by decide +kernel) V
  exact h

theorem e_v36 : (K V main_call0_v36 : (⟨S1, .i32⟩ : BufTy).Contents (Elt F)) = (broadcastInDim S1 ![] bcast_S_S1) (K V main_call0_c_9 : (⟨S_, .i32⟩ : BufTy).Contents (Elt F)) := by
  have h := ssa_unary 48 (.of main_call0_c_9 : TRef sig ⟨S_, .i32⟩) (.of main_call0_v36 : TRef sig ⟨S1, .i32⟩) (broadcastInDim S1 ![] bcast_S_S1) rfl (by decide +kernel) (by decide +kernel) V
  exact h

theorem e_c_10 : (K V main_call0_c_10 : (⟨S_, .i32⟩ : BufTy).Contents (Elt F)) = (constantI S_ 32 0#32) := by
  have h := ssa_nullary 49 (.of main_call0_c_10 : TRef sig ⟨S_, .i32⟩) (constantI S_ 32 0#32) rfl (by decide +kernel) V
  exact h

theorem e_v37 : (K V main_call0_v37 : (⟨S1, .i32⟩ : BufTy).Contents (Elt F)) = (broadcastInDim S1 ![] bcast_S_S1) (K V main_call0_c_10 : (⟨S_, .i32⟩ : BufTy).Contents (Elt F)) := by
  have h := ssa_unary 50 (.of main_call0_c_10 : TRef sig ⟨S_, .i32⟩) (.of main_call0_v37 : TRef sig ⟨S1, .i32⟩) (broadcastInDim S1 ![] bcast_S_S1) rfl (by decide +kernel) (by decide +kernel) V
  exact h

theorem e_v38 : (K V main_call0_v38 : (⟨S2, .i32⟩ : BufTy).Contents (Elt F)) = (fun a b => concatenate S2 0 [⟨S1, a⟩, ⟨S1, b⟩] concatenates_S1_S1_S2_d0) (K V main_call0_v36 : (⟨S1, .i32⟩ : BufTy).Contents (Elt F)) (K V main_call0_v37 : (⟨S1, .i32⟩ : BufTy).Contents (Elt F)) := by
  have h := ssa_binary 51 (.of main_call0_v36 : TRef sig ⟨S1, .i32⟩) (.of main_call0_v37 : TRef sig ⟨S1, .i32⟩) (.of main_call0_v38 : TRef sig ⟨S2, .i32⟩) (fun a b => concatenate S2 0 [⟨S1, a⟩, ⟨S1, b⟩] concatenates_S1_S1_S2_d0) rfl (by decide +kernel) (by decide +kernel) (by decide +kernel) V
  exact h

theorem e_v39 : (K V main_call0_v39 : (⟨S4x152x152, .f32⟩ : BufTy).Contents (Elt F)) = (fun x i u => Host.scatter scatter_S4x152x152_S2_S4x19x19_012_n_12_0 (fun _ b => b) x i u) (K V main_call0_v32 : (⟨S4x152x152, .f32⟩ : BufTy).Contents (Elt F)) (K V main_call0_v38 : (⟨S2, .i32⟩ : BufTy).Contents (Elt F)) (K V main_call0_v35 : (⟨S4x19x19, .f32⟩ : BufTy).Contents (Elt F)) := by
  have h := ssa_ternary 52 (.of main_call0_v32 : TRef sig ⟨S4x152x152, .f32⟩) (.of main_call0_v38 : TRef sig ⟨S2, .i32⟩) (.of main_call0_v35 : TRef sig ⟨S4x19x19, .f32⟩) (.of main_call0_v39 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v40 : (K V main_call0_v40 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 53 (.of main_call0_v31 : TRef sig ⟨S32x19x19, .f32⟩) (.of main_call0_v40 : TRef sig ⟨S4x8x19x19, .f32⟩) shapeCasts_S32x19x19_S4x8x19x19 rfl (by decide +kernel) (by decide +kernel) V
  exact h

theorem e_v41 : (K V main_call0_v41 : (⟨S4x1x19x19, .f32⟩ : BufTy).Contents (Elt F)) = (extractStridedSlice S4x1x19x19 ![0, 1, 0, 0] · slices_S4x8x19x19_S4x1x19x19_0_1_0_0) (K V main_call0_v40 : (⟨S4x8x19x19, .f32⟩ : BufTy).Contents (Elt F)) := by
  have h := ssa_unary 54 (.of main_call0_v40 : TRef sig ⟨S4x8x19x19, .f32⟩) (.of main_call0_v41 : TRef sig ⟨S4x1x19x19, .f32⟩) (extractStridedSlice S4x1x19x19 ![0, 1, 0, 0] · slices_S4x8x19x19_S4x1x19x19_0_1_0_0) rfl (by decide +kernel) (by decide +kernel) V
  exact h

theorem e_v42 : (K V main_call0_v42 : (⟨S4x19x19, .f32⟩ : BufTy).Contents (Elt F)) = shapeCast S4x19x19 (K V main_call0_v41 : (⟨S4x1x19x19, .f32⟩ : BufTy).Contents (Elt F)) shapeCasts_S4x1x19x19_S4x19x19 := by
  have h := ssa_reshape 55 (.of main_call0_v41 : TRef sig ⟨S4x1x19x19, .f32⟩) (.of main_call0_v42 : TRef sig ⟨S4x19x19, .f32⟩) shapeCasts_S4x1x19x19_S4x19x19 rfl (by decide +kernel) (by decide +kernel) V
  exact h

theorem e_c_11 : (K V main_call0_c_11 : (⟨S_, .i32⟩ : BufTy).Contents (Elt F)) = (constantI S_ 32 19#32) := by
  have h := ssa_nullary 56 (.of main_call0_c_11 : TRef sig ⟨S_, .i32⟩) (constantI S_ 32 19#32) rfl (by decide +kernel) V
  exact h

theorem e_v43 : (K V main_call0_v43 : (⟨S1, .i32⟩ : BufTy).Contents (Elt F)) = (broadcastInDim S1 ![] bcast_S_S1) (K V main_call0_c_11 : (⟨S_, .i32⟩ : BufTy).Contents (Elt F)) := by
  have h := ssa_unary 57 (.of main_call0_c_11 : TRef sig ⟨S_, .i32⟩) (.of main_call0_v43 : TRef sig ⟨S1, .i32⟩) (broadcastInDim S1 ![] bcast_S_S1) rfl (by decide +kernel) (by decide +kernel) V
  exact h

theorem e_c_12 : (K V main_call0_c_12 : (⟨S_, .i32⟩ : BufTy).Contents (Elt F)) = (constantI S_ 32 19#32) := by
  have h := ssa_nullary 58 (.of main_call0_c_12 : TRef sig ⟨S_, .i32⟩) (constantI S_ 32 19#32) rfl (by decide +kernel) V
  exact h

theorem e_v44 : (K V main_call0_v44 : (⟨S1, .i32⟩ : BufTy).Contents (Elt F)) = (broadcastInDim S1 ![] bcast_S_S1) (K V main_call0_c_12 : (⟨S_, .i32⟩ : BufTy).Contents (Elt F)) := by
  have h := ssa_unary 59 (.of main_call0_c_12 : TRef sig ⟨S_, .i32⟩) (.of main_call0_v44 : TRef sig ⟨S1, .i32⟩) (broadcastInDim S1 ![] bcast_S_S1) rfl (by decide +kernel) (by decide +kernel) V
  exact h

theorem e_v45 : (K V main_call0_v45 : (⟨S2, .i32⟩ : BufTy).Contents (Elt F)) = (fun a b => concatenate S2 0 [⟨S1, a⟩, ⟨S1, b⟩] concatenates_S1_S1_S2_d0) (K V main_call0_v43 : (⟨S1, .i32⟩ : BufTy).Contents (Elt F)) (K V main_call0_v44 : (⟨S1, .i32⟩ : BufTy).Contents (Elt F)) := by
  have h := ssa_binary 60 (.of main_call0_v43 : TRef sig ⟨S1, .i32⟩) (.of main_call0_v44 : TRef sig ⟨S1, .i32⟩) (.of main_call0_v45 : TRef sig ⟨S2, .i32⟩) (fun a b => concatenate S2 0 [⟨S1, a⟩, ⟨S1, b⟩] concatenates_S1_S1_S2_d0) rfl (by decide +kernel) (by decide +kernel) (by decide +kernel) V
  exact h

theorem e_v46 : (K V main_call0_v46 : (⟨S4x152x152, .f32⟩ : BufTy).Contents (Elt F)) = (fun x i u => Host.scatter scatter_S4x152x152_S2_S4x19x19_012_n_12_0 (fun _ b => b) x i u) (K V main_call0_v39 : (⟨S4x152x152, .f32⟩ : BufTy).Contents (Elt F)) (K V main_call0_v45 : (⟨S2, .i32⟩ : BufTy).Contents (Elt F)) (K V main_call0_v42 : (⟨S4x19x19, .f32⟩ : BufTy).Contents (Elt F)) := by
  have h := ssa_ternary 61 (.of main_call0_v39 : TRef sig ⟨S4x152x152, .f32⟩) (.of main_call0_v45 : TRef sig ⟨S2, .i32⟩) (.of main_call0_v42 : TRef sig ⟨S4x19x19, .f32⟩) (.of main_call0_v46 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v47 : (K V main_call0_v47 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 62 (.of main_call0_v31 : TRef sig ⟨S32x19x19, .f32⟩) (.of main_call0_v47 : TRef sig ⟨S4x8x19x19, .f32⟩) shapeCasts_S32x19x19_S4x8x19x19 rfl (by decide +kernel) (by decide +kernel) V
  exact h

theorem e_v48 : (K V main_call0_v48 : (⟨S4x1x19x19, .f32⟩ : BufTy).Contents (Elt F)) = (extractStridedSlice S4x1x19x19 ![0, 2, 0, 0] · slices_S4x8x19x19_S4x1x19x19_0_2_0_0) (K V main_call0_v47 : (⟨S4x8x19x19, .f32⟩ : BufTy).Contents (Elt F)) := by
  have h := ssa_unary 63 (.of main_call0_v47 : TRef sig ⟨S4x8x19x19, .f32⟩) (.of main_call0_v48 : TRef sig ⟨S4x1x19x19, .f32⟩) (extractStridedSlice S4x1x19x19 ![0, 2, 0, 0] · slices_S4x8x19x19_S4x1x19x19_0_2_0_0) rfl (by decide +kernel) (by decide +kernel) V
  exact h

theorem e_v49 : (K V main_call0_v49 : (⟨S4x19x19, .f32⟩ : BufTy).Contents (Elt F)) = shapeCast S4x19x19 (K V main_call0_v48 : (⟨S4x1x19x19, .f32⟩ : BufTy).Contents (Elt F)) shapeCasts_S4x1x19x19_S4x19x19 := by
  have h := ssa_reshape 64 (.of main_call0_v48 : TRef sig ⟨S4x1x19x19, .f32⟩) (.of main_call0_v49 : TRef sig ⟨S4x19x19, .f32⟩) shapeCasts_S4x1x19x19_S4x19x19 rfl (by decide +kernel) (by decide +kernel) V
  exact h

theorem e_c_13 : (K V main_call0_c_13 : (⟨S_, .i32⟩ : BufTy).Contents (Elt F)) = (constantI S_ 32 38#32) := by
  have h := ssa_nullary 65 (.of main_call0_c_13 : TRef sig ⟨S_, .i32⟩) (constantI S_ 32 38#32) rfl (by decide +kernel) V
  exact h

theorem e_v50 : (K V main_call0_v50 : (⟨S1, .i32⟩ : BufTy).Contents (Elt F)) = (broadcastInDim S1 ![] bcast_S_S1) (K V main_call0_c_13 : (⟨S_, .i32⟩ : BufTy).Contents (Elt F)) := by
  have h := ssa_unary 66 (.of main_call0_c_13 : TRef sig ⟨S_, .i32⟩) (.of main_call0_v50 : TRef sig ⟨S1, .i32⟩) (broadcastInDim S1 ![] bcast_S_S1) rfl (by decide +kernel) (by decide +kernel) V
  exact h

theorem e_c_14 : (K V main_call0_c_14 : (⟨S_, .i32⟩ : BufTy).Contents (Elt F)) = (constantI S_ 32 38#32) := by
  have h := ssa_nullary 67 (.of main_call0_c_14 : TRef sig ⟨S_, .i32⟩) (constantI S_ 32 38#32) rfl (by decide +kernel) V
  exact h

theorem e_v51 : (K V main_call0_v51 : (⟨S1, .i32⟩ : BufTy).Contents (Elt F)) = (broadcastInDim S1 ![] bcast_S_S1) (K V main_call0_c_14 : (⟨S_, .i32⟩ : BufTy).Contents (Elt F)) := by
  have h := ssa_unary 68 (.of main_call0_c_14 : TRef sig ⟨S_, .i32⟩) (.of main_call0_v51 : TRef sig ⟨S1, .i32⟩) (broadcastInDim S1 ![] bcast_S_S1) rfl (by decide +kernel) (by decide +kernel) V
  exact h

theorem e_v52 : (K V main_call0_v52 : (⟨S2, .i32⟩ : BufTy).Contents (Elt F)) = (fun a b => concatenate S2 0 [⟨S1, a⟩, ⟨S1, b⟩] concatenates_S1_S1_S2_d0) (K V main_call0_v50 : (⟨S1, .i32⟩ : BufTy).Contents (Elt F)) (K V main_call0_v51 : (⟨S1, .i32⟩ : BufTy).Contents (Elt F)) := by
  have h := ssa_binary 69 (.of main_call0_v50 : TRef sig ⟨S1, .i32⟩) (.of main_call0_v51 : TRef sig ⟨S1, .i32⟩) (.of main_call0_v52 : TRef sig ⟨S2, .i32⟩) (fun a b => concatenate S2 0 [⟨S1, a⟩, ⟨S1, b⟩] concatenates_S1_S1_S2_d0) rfl (by decide +kernel) (by decide +kernel) (by decide +kernel) V
  exact h

theorem e_v53 : (K V main_call0_v53 : (⟨S4x152x152, .f32⟩ : BufTy).Contents (Elt F)) = (fun x i u => Host.scatter scatter_S4x152x152_S2_S4x19x19_012_n_12_0 (fun _ b => b) x i u) (K V main_call0_v46 : (⟨S4x152x152, .f32⟩ : BufTy).Contents (Elt F)) (K V main_call0_v52 : (⟨S2, .i32⟩ : BufTy).Contents (Elt F)) (K V main_call0_v49 : (⟨S4x19x19, .f32⟩ : BufTy).Contents (Elt F)) := by
  have h := ssa_ternary 70 (.of main_call0_v46 : TRef sig ⟨S4x152x152, .f32⟩) (.of main_call0_v52 : TRef sig ⟨S2, .i32⟩) (.of main_call0_v49 : TRef sig ⟨S4x19x19, .f32⟩) (.of main_call0_v53 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v54 : (K V main_call0_v54 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 71 (.of main_call0_v31 : TRef sig ⟨S32x19x19, .f32⟩) (.of main_call0_v54 : TRef sig ⟨S4x8x19x19, .f32⟩) shapeCasts_S32x19x19_S4x8x19x19 rfl (by decide +kernel) (by decide +kernel) V
  exact h

theorem e_v55 : (K V main_call0_v55 : (⟨S4x1x19x19, .f32⟩ : BufTy).Contents (Elt F)) = (extractStridedSlice S4x1x19x19 ![0, 3, 0, 0] · slices_S4x8x19x19_S4x1x19x19_0_3_0_0) (K V main_call0_v54 : (⟨S4x8x19x19, .f32⟩ : BufTy).Contents (Elt F)) := by
  have h := ssa_unary 72 (.of main_call0_v54 : TRef sig ⟨S4x8x19x19, .f32⟩) (.of main_call0_v55 : TRef sig ⟨S4x1x19x19, .f32⟩) (extractStridedSlice S4x1x19x19 ![0, 3, 0, 0] · slices_S4x8x19x19_S4x1x19x19_0_3_0_0) rfl (by decide +kernel) (by decide +kernel) V
  exact h

theorem e_v56 : (K V main_call0_v56 : (⟨S4x19x19, .f32⟩ : BufTy).Contents (Elt F)) = shapeCast S4x19x19 (K V main_call0_v55 : (⟨S4x1x19x19, .f32⟩ : BufTy).Contents (Elt F)) shapeCasts_S4x1x19x19_S4x19x19 := by
  have h := ssa_reshape 73 (.of main_call0_v55 : TRef sig ⟨S4x1x19x19, .f32⟩) (.of main_call0_v56 : TRef sig ⟨S4x19x19, .f32⟩) shapeCasts_S4x1x19x19_S4x19x19 rfl (by decide +kernel) (by decide +kernel) V
  exact h

theorem e_c_15 : (K V main_call0_c_15 : (⟨S_, .i32⟩ : BufTy).Contents (Elt F)) = (constantI S_ 32 57#32) := by
  have h := ssa_nullary 74 (.of main_call0_c_15 : TRef sig ⟨S_, .i32⟩) (constantI S_ 32 57#32) rfl (by decide +kernel) V
  exact h

theorem e_v57 : (K V main_call0_v57 : (⟨S1, .i32⟩ : BufTy).Contents (Elt F)) = (broadcastInDim S1 ![] bcast_S_S1) (K V main_call0_c_15 : (⟨S_, .i32⟩ : BufTy).Contents (Elt F)) := by
  have h := ssa_unary 75 (.of main_call0_c_15 : TRef sig ⟨S_, .i32⟩) (.of main_call0_v57 : TRef sig ⟨S1, .i32⟩) (broadcastInDim S1 ![] bcast_S_S1) rfl (by decide +kernel) (by decide +kernel) V
  exact h

theorem e_c_16 : (K V main_call0_c_16 : (⟨S_, .i32⟩ : BufTy).Contents (Elt F)) = (constantI S_ 32 57#32) := by
  have h := ssa_nullary 76 (.of main_call0_c_16 : TRef sig ⟨S_, .i32⟩) (constantI S_ 32 57#32) rfl (by decide +kernel) V
  exact h

theorem e_v58 : (K V main_call0_v58 : (⟨S1, .i32⟩ : BufTy).Contents (Elt F)) = (broadcastInDim S1 ![] bcast_S_S1) (K V main_call0_c_16 : (⟨S_, .i32⟩ : BufTy).Contents (Elt F)) := by
  have h := ssa_unary 77 (.of main_call0_c_16 : TRef sig ⟨S_, .i32⟩) (.of main_call0_v58 : TRef sig ⟨S1, .i32⟩) (broadcastInDim S1 ![] bcast_S_S1) rfl (by decide +kernel) (by decide +kernel) V
  exact h

theorem e_v59 : (K V main_call0_v59 : (⟨S2, .i32⟩ : BufTy).Contents (Elt F)) = (fun a b => concatenate S2 0 [⟨S1, a⟩, ⟨S1, b⟩] concatenates_S1_S1_S2_d0) (K V main_call0_v57 : (⟨S1, .i32⟩ : BufTy).Contents (Elt F)) (K V main_call0_v58 : (⟨S1, .i32⟩ : BufTy).Contents (Elt F)) := by
  have h := ssa_binary 78 (.of main_call0_v57 : TRef sig ⟨S1, .i32⟩) (.of main_call0_v58 : TRef sig ⟨S1, .i32⟩) (.of main_call0_v59 : TRef sig ⟨S2, .i32⟩) (fun a b => concatenate S2 0 [⟨S1, a⟩, ⟨S1, b⟩] concatenates_S1_S1_S2_d0) rfl (by decide +kernel) (by decide +kernel) (by decide +kernel) V
  exact h

theorem e_v60 : (K V main_call0_v60 : (⟨S4x152x152, .f32⟩ : BufTy).Contents (Elt F)) = (fun x i u => Host.scatter scatter_S4x152x152_S2_S4x19x19_012_n_12_0 (fun _ b => b) x i u) (K V main_call0_v53 : (⟨S4x152x152, .f32⟩ : BufTy).Contents (Elt F)) (K V main_call0_v59 : (⟨S2, .i32⟩ : BufTy).Contents (Elt F)) (K V main_call0_v56 : (⟨S4x19x19, .f32⟩ : BufTy).Contents (Elt F)) := by
  have h := ssa_ternary 79 (.of main_call0_v53 : TRef sig ⟨S4x152x152, .f32⟩) (.of main_call0_v59 : TRef sig ⟨S2, .i32⟩) (.of main_call0_v56 : TRef sig ⟨S4x19x19, .f32⟩) (.of main_call0_v60 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v61 : (K V main_call0_v61 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 80 (.of main_call0_v31 : TRef sig ⟨S32x19x19, .f32⟩) (.of main_call0_v61 : TRef sig ⟨S4x8x19x19, .f32⟩) shapeCasts_S32x19x19_S4x8x19x19 rfl (by decide +kernel) (by decide +kernel) V
  exact h

theorem e_v62 : (K V main_call0_v62 : (⟨S4x1x19x19, .f32⟩ : BufTy).Contents (Elt F)) = (extractStridedSlice S4x1x19x19 ![0, 4, 0, 0] · slices_S4x8x19x19_S4x1x19x19_0_4_0_0) (K V main_call0_v61 : (⟨S4x8x19x19, .f32⟩ : BufTy).Contents (Elt F)) := by
  have h := ssa_unary 81 (.of main_call0_v61 : TRef sig ⟨S4x8x19x19, .f32⟩) (.of main_call0_v62 : TRef sig ⟨S4x1x19x19, .f32⟩) (extractStridedSlice S4x1x19x19 ![0, 4, 0, 0] · slices_S4x8x19x19_S4x1x19x19_0_4_0_0) rfl (by decide +kernel) (by decide +kernel) V
  exact h

theorem e_v63 : (K V main_call0_v63 : (⟨S4x19x19, .f32⟩ : BufTy).Contents (Elt F)) = shapeCast S4x19x19 (K V main_call0_v62 : (⟨S4x1x19x19, .f32⟩ : BufTy).Contents (Elt F)) shapeCasts_S4x1x19x19_S4x19x19 := by
  have h := ssa_reshape 82 (.of main_call0_v62 : TRef sig ⟨S4x1x19x19, .f32⟩) (.of main_call0_v63 : TRef sig ⟨S4x19x19, .f32⟩) shapeCasts_S4x1x19x19_S4x19x19 rfl (by decide +kernel) (by decide +kernel) V
  exact h

theorem e_c_17 : (K V main_call0_c_17 : (⟨S_, .i32⟩ : BufTy).Contents (Elt F)) = (constantI S_ 32 76#32) := by
  have h := ssa_nullary 83 (.of main_call0_c_17 : TRef sig ⟨S_, .i32⟩) (constantI S_ 32 76#32) rfl (by decide +kernel) V
  exact h

theorem e_v64 : (K V main_call0_v64 : (⟨S1, .i32⟩ : BufTy).Contents (Elt F)) = (broadcastInDim S1 ![] bcast_S_S1) (K V main_call0_c_17 : (⟨S_, .i32⟩ : BufTy).Contents (Elt F)) := by
  have h := ssa_unary 84 (.of main_call0_c_17 : TRef sig ⟨S_, .i32⟩) (.of main_call0_v64 : TRef sig ⟨S1, .i32⟩) (broadcastInDim S1 ![] bcast_S_S1) rfl (by decide +kernel) (by decide +kernel) V
  exact h

theorem e_c_18 : (K V main_call0_c_18 : (⟨S_, .i32⟩ : BufTy).Contents (Elt F)) = (constantI S_ 32 76#32) := by
  have h := ssa_nullary 85 (.of main_call0_c_18 : TRef sig ⟨S_, .i32⟩) (constantI S_ 32 76#32) rfl (by decide +kernel) V
  exact h

theorem e_v65 : (K V main_call0_v65 : (⟨S1, .i32⟩ : BufTy).Contents (Elt F)) = (broadcastInDim S1 ![] bcast_S_S1) (K V main_call0_c_18 : (⟨S_, .i32⟩ : BufTy).Contents (Elt F)) := by
  have h := ssa_unary 86 (.of main_call0_c_18 : TRef sig ⟨S_, .i32⟩) (.of main_call0_v65 : TRef sig ⟨S1, .i32⟩) (broadcastInDim S1 ![] bcast_S_S1) rfl (by decide +kernel) (by decide +kernel) V
  exact h

theorem e_v66 : (K V main_call0_v66 : (⟨S2, .i32⟩ : BufTy).Contents (Elt F)) = (fun a b => concatenate S2 0 [⟨S1, a⟩, ⟨S1, b⟩] concatenates_S1_S1_S2_d0) (K V main_call0_v64 : (⟨S1, .i32⟩ : BufTy).Contents (Elt F)) (K V main_call0_v65 : (⟨S1, .i32⟩ : BufTy).Contents (Elt F)) := by
  have h := ssa_binary 87 (.of main_call0_v64 : TRef sig ⟨S1, .i32⟩) (.of main_call0_v65 : TRef sig ⟨S1, .i32⟩) (.of main_call0_v66 : TRef sig ⟨S2, .i32⟩) (fun a b => concatenate S2 0 [⟨S1, a⟩, ⟨S1, b⟩] concatenates_S1_S1_S2_d0) rfl (by decide +kernel) (by decide +kernel) (by decide +kernel) V
  exact h

theorem e_v67 : (K V main_call0_v67 : (⟨S4x152x152, .f32⟩ : BufTy).Contents (Elt F)) = (fun x i u => Host.scatter scatter_S4x152x152_S2_S4x19x19_012_n_12_0 (fun _ b => b) x i u) (K V main_call0_v60 : (⟨S4x152x152, .f32⟩ : BufTy).Contents (Elt F)) (K V main_call0_v66 : (⟨S2, .i32⟩ : BufTy).Contents (Elt F)) (K V main_call0_v63 : (⟨S4x19x19, .f32⟩ : BufTy).Contents (Elt F)) := by
  have h := ssa_ternary 88 (.of main_call0_v60 : TRef sig ⟨S4x152x152, .f32⟩) (.of main_call0_v66 : TRef sig ⟨S2, .i32⟩) (.of main_call0_v63 : TRef sig ⟨S4x19x19, .f32⟩) (.of main_call0_v67 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v68 : (K V main_call0_v68 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 89 (.of main_call0_v31 : TRef sig ⟨S32x19x19, .f32⟩) (.of main_call0_v68 : TRef sig ⟨S4x8x19x19, .f32⟩) shapeCasts_S32x19x19_S4x8x19x19 rfl (by decide +kernel) (by decide +kernel) V
  exact h

theorem e_v69 : (K V main_call0_v69 : (⟨S4x1x19x19, .f32⟩ : BufTy).Contents (Elt F)) = (extractStridedSlice S4x1x19x19 ![0, 5, 0, 0] · slices_S4x8x19x19_S4x1x19x19_0_5_0_0) (K V main_call0_v68 : (⟨S4x8x19x19, .f32⟩ : BufTy).Contents (Elt F)) := by
  have h := ssa_unary 90 (.of main_call0_v68 : TRef sig ⟨S4x8x19x19, .f32⟩) (.of main_call0_v69 : TRef sig ⟨S4x1x19x19, .f32⟩) (extractStridedSlice S4x1x19x19 ![0, 5, 0, 0] · slices_S4x8x19x19_S4x1x19x19_0_5_0_0) rfl (by decide +kernel) (by decide +kernel) V
  exact h

theorem e_v70 : (K V main_call0_v70 : (⟨S4x19x19, .f32⟩ : BufTy).Contents (Elt F)) = shapeCast S4x19x19 (K V main_call0_v69 : (⟨S4x1x19x19, .f32⟩ : BufTy).Contents (Elt F)) shapeCasts_S4x1x19x19_S4x19x19 := by
  have h := ssa_reshape 91 (.of main_call0_v69 : TRef sig ⟨S4x1x19x19, .f32⟩) (.of main_call0_v70 : TRef sig ⟨S4x19x19, .f32⟩) shapeCasts_S4x1x19x19_S4x19x19 rfl (by decide +kernel) (by decide +kernel) V
  exact h

theorem e_c_19 : (K V main_call0_c_19 : (⟨S_, .i32⟩ : BufTy).Contents (Elt F)) = (constantI S_ 32 95#32) := by
  have h := ssa_nullary 92 (.of main_call0_c_19 : TRef sig ⟨S_, .i32⟩) (constantI S_ 32 95#32) rfl (by decide +kernel) V
  exact h

theorem e_v71 : (K V main_call0_v71 : (⟨S1, .i32⟩ : BufTy).Contents (Elt F)) = (broadcastInDim S1 ![] bcast_S_S1) (K V main_call0_c_19 : (⟨S_, .i32⟩ : BufTy).Contents (Elt F)) := by
  have h := ssa_unary 93 (.of main_call0_c_19 : TRef sig ⟨S_, .i32⟩) (.of main_call0_v71 : TRef sig ⟨S1, .i32⟩) (broadcastInDim S1 ![] bcast_S_S1) rfl (by decide +kernel) (by decide +kernel) V
  exact h

theorem e_c_20 : (K V main_call0_c_20 : (⟨S_, .i32⟩ : BufTy).Contents (Elt F)) = (constantI S_ 32 95#32) := by
  have h := ssa_nullary 94 (.of main_call0_c_20 : TRef sig ⟨S_, .i32⟩) (constantI S_ 32 95#32) rfl (by decide +kernel) V
  exact h

theorem e_v72 : (K V main_call0_v72 : (⟨S1, .i32⟩ : BufTy).Contents (Elt F)) = (broadcastInDim S1 ![] bcast_S_S1) (K V main_call0_c_20 : (⟨S_, .i32⟩ : BufTy).Contents (Elt F)) := by
  have h := ssa_unary 95 (.of main_call0_c_20 : TRef sig ⟨S_, .i32⟩) (.of main_call0_v72 : TRef sig ⟨S1, .i32⟩) (broadcastInDim S1 ![] bcast_S_S1) rfl (by decide +kernel) (by decide +kernel) V
  exact h

theorem e_v73 : (K V main_call0_v73 : (⟨S2, .i32⟩ : BufTy).Contents (Elt F)) = (fun a b => concatenate S2 0 [⟨S1, a⟩, ⟨S1, b⟩] concatenates_S1_S1_S2_d0) (K V main_call0_v71 : (⟨S1, .i32⟩ : BufTy).Contents (Elt F)) (K V main_call0_v72 : (⟨S1, .i32⟩ : BufTy).Contents (Elt F)) := by
  have h := ssa_binary 96 (.of main_call0_v71 : TRef sig ⟨S1, .i32⟩) (.of main_call0_v72 : TRef sig ⟨S1, .i32⟩) (.of main_call0_v73 : TRef sig ⟨S2, .i32⟩) (fun a b => concatenate S2 0 [⟨S1, a⟩, ⟨S1, b⟩] concatenates_S1_S1_S2_d0) rfl (by decide +kernel) (by decide +kernel) (by decide +kernel) V
  exact h

theorem e_v74 : (K V main_call0_v74 : (⟨S4x152x152, .f32⟩ : BufTy).Contents (Elt F)) = (fun x i u => Host.scatter scatter_S4x152x152_S2_S4x19x19_012_n_12_0 (fun _ b => b) x i u) (K V main_call0_v67 : (⟨S4x152x152, .f32⟩ : BufTy).Contents (Elt F)) (K V main_call0_v73 : (⟨S2, .i32⟩ : BufTy).Contents (Elt F)) (K V main_call0_v70 : (⟨S4x19x19, .f32⟩ : BufTy).Contents (Elt F)) := by
  have h := ssa_ternary 97 (.of main_call0_v67 : TRef sig ⟨S4x152x152, .f32⟩) (.of main_call0_v73 : TRef sig ⟨S2, .i32⟩) (.of main_call0_v70 : TRef sig ⟨S4x19x19, .f32⟩) (.of main_call0_v74 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v75 : (K V main_call0_v75 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 98 (.of main_call0_v31 : TRef sig ⟨S32x19x19, .f32⟩) (.of main_call0_v75 : TRef sig ⟨S4x8x19x19, .f32⟩) shapeCasts_S32x19x19_S4x8x19x19 rfl (by decide +kernel) (by decide +kernel) V
  exact h

theorem e_v76 : (K V main_call0_v76 : (⟨S4x1x19x19, .f32⟩ : BufTy).Contents (Elt F)) = (extractStridedSlice S4x1x19x19 ![0, 6, 0, 0] · slices_S4x8x19x19_S4x1x19x19_0_6_0_0) (K V main_call0_v75 : (⟨S4x8x19x19, .f32⟩ : BufTy).Contents (Elt F)) := by
  have h := ssa_unary 99 (.of main_call0_v75 : TRef sig ⟨S4x8x19x19, .f32⟩) (.of main_call0_v76 : TRef sig ⟨S4x1x19x19, .f32⟩) (extractStridedSlice S4x1x19x19 ![0, 6, 0, 0] · slices_S4x8x19x19_S4x1x19x19_0_6_0_0) rfl (by decide +kernel) (by decide +kernel) V
  exact h

theorem e_v77 : (K V main_call0_v77 : (⟨S4x19x19, .f32⟩ : BufTy).Contents (Elt F)) = shapeCast S4x19x19 (K V main_call0_v76 : (⟨S4x1x19x19, .f32⟩ : BufTy).Contents (Elt F)) shapeCasts_S4x1x19x19_S4x19x19 := by
  have h := ssa_reshape 100 (.of main_call0_v76 : TRef sig ⟨S4x1x19x19, .f32⟩) (.of main_call0_v77 : TRef sig ⟨S4x19x19, .f32⟩) shapeCasts_S4x1x19x19_S4x19x19 rfl (by decide +kernel) (by decide +kernel) V
  exact h

theorem e_c_21 : (K V main_call0_c_21 : (⟨S_, .i32⟩ : BufTy).Contents (Elt F)) = (constantI S_ 32 114#32) := by
  have h := ssa_nullary 101 (.of main_call0_c_21 : TRef sig ⟨S_, .i32⟩) (constantI S_ 32 114#32) rfl (by decide +kernel) V
  exact h

theorem e_v78 : (K V main_call0_v78 : (⟨S1, .i32⟩ : BufTy).Contents (Elt F)) = (broadcastInDim S1 ![] bcast_S_S1) (K V main_call0_c_21 : (⟨S_, .i32⟩ : BufTy).Contents (Elt F)) := by
  have h := ssa_unary 102 (.of main_call0_c_21 : TRef sig ⟨S_, .i32⟩) (.of main_call0_v78 : TRef sig ⟨S1, .i32⟩) (broadcastInDim S1 ![] bcast_S_S1) rfl (by decide +kernel) (by decide +kernel) V
  exact h

theorem e_c_22 : (K V main_call0_c_22 : (⟨S_, .i32⟩ : BufTy).Contents (Elt F)) = (constantI S_ 32 114#32) := by
  have h := ssa_nullary 103 (.of main_call0_c_22 : TRef sig ⟨S_, .i32⟩) (constantI S_ 32 114#32) rfl (by decide +kernel) V
  exact h

theorem e_v79 : (K V main_call0_v79 : (⟨S1, .i32⟩ : BufTy).Contents (Elt F)) = (broadcastInDim S1 ![] bcast_S_S1) (K V main_call0_c_22 : (⟨S_, .i32⟩ : BufTy).Contents (Elt F)) := by
  have h := ssa_unary 104 (.of main_call0_c_22 : TRef sig ⟨S_, .i32⟩) (.of main_call0_v79 : TRef sig ⟨S1, .i32⟩) (broadcastInDim S1 ![] bcast_S_S1) rfl (by decide +kernel) (by decide +kernel) V
  exact h

theorem e_v80 : (K V main_call0_v80 : (⟨S2, .i32⟩ : BufTy).Contents (Elt F)) = (fun a b => concatenate S2 0 [⟨S1, a⟩, ⟨S1, b⟩] concatenates_S1_S1_S2_d0) (K V main_call0_v78 : (⟨S1, .i32⟩ : BufTy).Contents (Elt F)) (K V main_call0_v79 : (⟨S1, .i32⟩ : BufTy).Contents (Elt F)) := by
  have h := ssa_binary 105 (.of main_call0_v78 : TRef sig ⟨S1, .i32⟩) (.of main_call0_v79 : TRef sig ⟨S1, .i32⟩) (.of main_call0_v80 : TRef sig ⟨S2, .i32⟩) (fun a b => concatenate S2 0 [⟨S1, a⟩, ⟨S1, b⟩] concatenates_S1_S1_S2_d0) rfl (by decide +kernel) (by decide +kernel) (by decide +kernel) V
  exact h

theorem e_v81 : (K V main_call0_v81 : (⟨S4x152x152, .f32⟩ : BufTy).Contents (Elt F)) = (fun x i u => Host.scatter scatter_S4x152x152_S2_S4x19x19_012_n_12_0 (fun _ b => b) x i u) (K V main_call0_v74 : (⟨S4x152x152, .f32⟩ : BufTy).Contents (Elt F)) (K V main_call0_v80 : (⟨S2, .i32⟩ : BufTy).Contents (Elt F)) (K V main_call0_v77 : (⟨S4x19x19, .f32⟩ : BufTy).Contents (Elt F)) := by
  have h := ssa_ternary 106 (.of main_call0_v74 : TRef sig ⟨S4x152x152, .f32⟩) (.of main_call0_v80 : TRef sig ⟨S2, .i32⟩) (.of main_call0_v77 : TRef sig ⟨S4x19x19, .f32⟩) (.of main_call0_v81 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v82 : (K V main_call0_v82 : (⟨S4x8x19x19, .f32⟩ : BufTy).Contents (Elt F)) = shapeCast S4x8x19x19 (K V main_call0_v31 : (⟨S32x19x19, .f32⟩ : BufTy).Contents (Elt F)) shapeCasts_S32x19x19_S4x8x19x19 := by
  have h := ssa_reshape 107 (.of main_call0_v31 : TRef sig ⟨S32x19x19, .f32⟩) (.of main_call0_v82 : TRef sig ⟨S4x8x19x19, .f32⟩) shapeCasts_S32x19x19_S4x8x19x19 rfl (by decide +kernel) (by decide +kernel) V
  exact h

theorem e_v83 : (K V main_call0_v83 : (⟨S4x1x19x19, .f32⟩ : BufTy).Contents (Elt F)) = (extractStridedSlice S4x1x19x19 ![0, 7, 0, 0] · slices_S4x8x19x19_S4x1x19x19_0_7_0_0) (K V main_call0_v82 : (⟨S4x8x19x19, .f32⟩ : BufTy).Contents (Elt F)) := by
  have h := ssa_unary 108 (.of main_call0_v82 : TRef sig ⟨S4x8x19x19, .f32⟩) (.of main_call0_v83 : TRef sig ⟨S4x1x19x19, .f32⟩) (extractStridedSlice S4x1x19x19 ![0, 7, 0, 0] · slices_S4x8x19x19_S4x1x19x19_0_7_0_0) rfl (by decide +kernel) (by decide +kernel) V
  exact h

theorem e_v84 : (K V main_call0_v84 : (⟨S4x19x19, .f32⟩ : BufTy).Contents (Elt F)) = shapeCast S4x19x19 (K V main_call0_v83 : (⟨S4x1x19x19, .f32⟩ : BufTy).Contents (Elt F)) shapeCasts_S4x1x19x19_S4x19x19 := by
  have h := ssa_reshape 109 (.of main_call0_v83 : TRef sig ⟨S4x1x19x19, .f32⟩) (.of main_call0_v84 : TRef sig ⟨S4x19x19, .f32⟩) shapeCasts_S4x1x19x19_S4x19x19 rfl (by decide +kernel) (by decide +kernel) V
  exact h

theorem e_c_23 : (K V main_call0_c_23 : (⟨S_, .i32⟩ : BufTy).Contents (Elt F)) = (constantI S_ 32 133#32) := by
  have h := ssa_nullary 110 (.of main_call0_c_23 : TRef sig ⟨S_, .i32⟩) (constantI S_ 32 133#32) rfl (by decide +kernel) V
  exact h

theorem e_v85 : (K V main_call0_v85 : (⟨S1, .i32⟩ : BufTy).Contents (Elt F)) = (broadcastInDim S1 ![] bcast_S_S1) (K V main_call0_c_23 : (⟨S_, .i32⟩ : BufTy).Contents (Elt F)) := by
  have h := ssa_unary 111 (.of main_call0_c_23 : TRef sig ⟨S_, .i32⟩) (.of main_call0_v85 : TRef sig ⟨S1, .i32⟩) (broadcastInDim S1 ![] bcast_S_S1) rfl (by decide +kernel) (by decide +kernel) V
  exact h

theorem e_c_24 : (K V main_call0_c_24 : (⟨S_, .i32⟩ : BufTy).Contents (Elt F)) = (constantI S_ 32 133#32) := by
  have h := ssa_nullary 112 (.of main_call0_c_24 : TRef sig ⟨S_, .i32⟩) (constantI S_ 32 133#32) rfl (by decide +kernel) V
  exact h

theorem e_v86 : (K V main_call0_v86 : (⟨S1, .i32⟩ : BufTy).Contents (Elt F)) = (broadcastInDim S1 ![] bcast_S_S1) (K V main_call0_c_24 : (⟨S_, .i32⟩ : BufTy).Contents (Elt F)) := by
  have h := ssa_unary 113 (.of main_call0_c_24 : TRef sig ⟨S_, .i32⟩) (.of main_call0_v86 : TRef sig ⟨S1, .i32⟩) (broadcastInDim S1 ![] bcast_S_S1) rfl (by decide +kernel) (by decide +kernel) V
  exact h

theorem e_v87 : (K V main_call0_v87 : (⟨S2, .i32⟩ : BufTy).Contents (Elt F)) = (fun a b => concatenate S2 0 [⟨S1, a⟩, ⟨S1, b⟩] concatenates_S1_S1_S2_d0) (K V main_call0_v85 : (⟨S1, .i32⟩ : BufTy).Contents (Elt F)) (K V main_call0_v86 : (⟨S1, .i32⟩ : BufTy).Contents (Elt F)) := by
  have h := ssa_binary 114 (.of main_call0_v85 : TRef sig ⟨S1, .i32⟩) (.of main_call0_v86 : TRef sig ⟨S1, .i32⟩) (.of main_call0_v87 : TRef sig ⟨S2, .i32⟩) (fun a b => concatenate S2 0 [⟨S1, a⟩, ⟨S1, b⟩] concatenates_S1_S1_S2_d0) rfl (by decide +kernel) (by decide +kernel) (by decide +kernel) V
  exact h

theorem e_v88 : (K V main_call0_v88 : (⟨S4x152x152, .f32⟩ : BufTy).Contents (Elt F)) = (fun x i u => Host.scatter scatter_S4x152x152_S2_S4x19x19_012_n_12_0 (fun _ b => b) x i u) (K V main_call0_v81 : (⟨S4x152x152, .f32⟩ : BufTy).Contents (Elt F)) (K V main_call0_v87 : (⟨S2, .i32⟩ : BufTy).Contents (Elt F)) (K V main_call0_v84 : (⟨S4x19x19, .f32⟩ : BufTy).Contents (Elt F)) := by
  have h := ssa_ternary 115 (.of main_call0_v81 : TRef sig ⟨S4x152x152, .f32⟩) (.of main_call0_v87 : TRef sig ⟨S2, .i32⟩) (.of main_call0_v84 : TRef sig ⟨S4x19x19, .f32⟩) (.of main_call0_v88 : TRef sig ⟨S4x152x152, .f32⟩) (fun x i u => Host.scatter scatter_S4x152x152_S2_S4x19x19_012_n_12_0 (fun _ b => b) x i u) rfl (by decide +kernel) (by decide +kernel) (by decide +kernel) (by decide +kernel) V
  exact h

theorem e_v89 : (K V main_call0_v89 : (⟨S64x32, .f32⟩ : BufTy).Contents (Elt F)) = (extractStridedSlice S64x32 ![0, 0] · slices_S128x32_S64x32_0_0) (K V main_arg3 : (⟨S128x32, .f32⟩ : BufTy).Contents (Elt F)) := by
  have h := ssa_unary 116 (.of main_arg3 : TRef sig ⟨S128x32, .f32⟩) (.of main_call0_v89 : TRef sig ⟨S64x32, .f32⟩) (extractStridedSlice S64x32 ![0, 0] · slices_S128x32_S64x32_0_0) rfl (by decide +kernel) (by decide +kernel) V
  exact h

theorem e_v90 : (K V main_call0_v90 : (⟨S32x64, .f32⟩ : BufTy).Contents (Elt F)) = (transpose S32x64 [1, 0] · transposes_S64x32_S32x64_1_0) (K V main_call0_v89 : (⟨S64x32, .f32⟩ : BufTy).Contents (Elt F)) := by
  have h := ssa_unary 117 (.of main_call0_v89 : TRef sig ⟨S64x32, .f32⟩) (.of main_call0_v90 : TRef sig ⟨S32x64, .f32⟩) (transpose S32x64 [1, 0] · transposes_S64x32_S32x64_1_0) rfl (by decide +kernel) (by decide +kernel) V
  exact h

theorem e_v91 : (K V main_call0_v91 : (⟨S64x32, .f32⟩ : BufTy).Contents (Elt F)) = (extractStridedSlice S64x32 ![64, 0] · slices_S128x32_S64x32_64_0) (K V main_arg3 : (⟨S128x32, .f32⟩ : BufTy).Contents (Elt F)) := by
  have h := ssa_unary 118 (.of main_arg3 : TRef sig ⟨S128x32, .f32⟩) (.of main_call0_v91 : TRef sig ⟨S64x32, .f32⟩) (extractStridedSlice S64x32 ![64, 0] · slices_S128x32_S64x32_64_0) rfl (by decide +kernel) (by decide +kernel) V
  exact h

theorem e_v92 : (K V main_call0_v92 : (⟨S32x64, .f32⟩ : BufTy).Contents (Elt F)) = (transpose S32x64 [1, 0] · transposes_S64x32_S32x64_1_0) (K V main_call0_v91 : (⟨S64x32, .f32⟩ : BufTy).Contents (Elt F)) := by
  have h := ssa_unary 119 (.of main_call0_v91 : TRef sig ⟨S64x32, .f32⟩) (.of main_call0_v92 : TRef sig ⟨S32x64, .f32⟩) (transpose S32x64 [1, 0] · transposes_S64x32_S32x64_1_0) rfl (by decide +kernel) (by decide +kernel) V
  exact h

theorem e_v93 : (K V main_call0_v93 : (⟨S2x64, .f32⟩ : BufTy).Contents (Elt F)) = (extractStridedSlice S2x64 ![0, 0] · slices_S34x64_S2x64_0_0) (K V main_arg4 : (⟨S34x64, .f32⟩ : BufTy).Contents (Elt F)) := by
  have h := ssa_unary 120 (.of main_arg4 : TRef sig ⟨S34x64, .f32⟩) (.of main_call0_v93 : TRef sig ⟨S2x64, .f32⟩) (extractStridedSlice S2x64 ![0, 0] · slices_S34x64_S2x64_0_0) rfl (by decide +kernel) (by decide +kernel) V
  exact h

theorem e_v94 : (K V main_call0_v94 : (⟨S64x2, .f32⟩ : BufTy).Contents (Elt F)) = (transpose S64x2 [1, 0] · transposes_S2x64_S64x2_1_0) (K V main_call0_v93 : (⟨S2x64, .f32⟩ : BufTy).Contents (Elt F)) := by
  have h := ssa_unary 121 (.of main_call0_v93 : TRef sig ⟨S2x64, .f32⟩) (.of main_call0_v94 : TRef sig ⟨S64x2, .f32⟩) (transpose S64x2 [1, 0] · transposes_S2x64_S64x2_1_0) rfl (by decide +kernel) (by decide +kernel) V
  exact h

theorem e_v95 : (K V main_call0_v95 : (⟨S2x64, .f32⟩ : BufTy).Contents (Elt F)) = (transpose S2x64 [1, 0] · transposes_S64x2_S2x64_1_0) (K V main_arg5 : (⟨S64x2, .f32⟩ : BufTy).Contents (Elt F)) := by
  have h := ssa_unary 122 (.of main_arg5 : TRef sig ⟨S64x2, .f32⟩) (.of main_call0_v95 : TRef sig ⟨S2x64, .f32⟩) (transpose S2x64 [1, 0] · transposes_S64x2_S2x64_1_0) rfl (by decide +kernel) (by decide +kernel) V
  exact h

theorem e_v96 : (K V main_call0_v96 : (⟨S64x64, .f32⟩ : BufTy).Contents (Elt F)) = (fun l r => Host.dotGeneral dot_S64x2_S2x64_S64x64_1_0_0_1_n_n none l r) (K V main_call0_v94 : (⟨S64x2, .f32⟩ : BufTy).Contents (Elt F)) (K V main_call0_v95 : (⟨S2x64, .f32⟩ : BufTy).Contents (Elt F)) := by
  have h := ssa_binary 123 (.of main_call0_v94 : TRef sig ⟨S64x2, .f32⟩) (.of main_call0_v95 : TRef sig ⟨S2x64, .f32⟩) (.of main_call0_v96 : TRef sig ⟨S64x64, .f32⟩) (fun l r => Host.dotGeneral dot_S64x2_S2x64_S64x64_1_0_0_1_n_n none l r) rfl (by decide +kernel) (by decide +kernel) (by decide +kernel) V
  exact h

theorem e_v97 : (K V main_call0_v97 : (⟨S16x64, .f32⟩ : BufTy).Contents (Elt F)) = (extractStridedSlice S16x64 ![2, 0] · slices_S34x64_S16x64_2_0) (K V main_arg4 : (⟨S34x64, .f32⟩ : BufTy).Contents (Elt F)) := by
  have h := ssa_unary 124 (.of main_arg4 : TRef sig ⟨S34x64, .f32⟩) (.of main_call0_v97 : TRef sig ⟨S16x64, .f32⟩) (extractStridedSlice S16x64 ![2, 0] · slices_S34x64_S16x64_2_0) rfl (by decide +kernel) (by decide +kernel) V
  exact h

theorem e_v98 : (K V main_call0_v98 : (⟨S64x16, .f32⟩ : BufTy).Contents (Elt F)) = (transpose S64x16 [1, 0] · transposes_S16x64_S64x16_1_0) (K V main_call0_v97 : (⟨S16x64, .f32⟩ : BufTy).Contents (Elt F)) := by
  have h := ssa_unary 125 (.of main_call0_v97 : TRef sig ⟨S16x64, .f32⟩) (.of main_call0_v98 : TRef sig ⟨S64x16, .f32⟩) (transpose S64x16 [1, 0] · transposes_S16x64_S64x16_1_0) rfl (by decide +kernel) (by decide +kernel) V
  exact h

theorem e_v99 : (K V main_call0_v99 : (⟨S16x64, .f32⟩ : BufTy).Contents (Elt F)) = (extractStridedSlice S16x64 ![18, 0] · slices_S34x64_S16x64_18_0) (K V main_arg4 : (⟨S34x64, .f32⟩ : BufTy).Contents (Elt F)) := by
  have h := ssa_unary 126 (.of main_arg4 : TRef sig ⟨S34x64, .f32⟩) (.of main_call0_v99 : TRef sig ⟨S16x64, .f32⟩) (extractStridedSlice S16x64 ![18, 0] · slices_S34x64_S16x64_18_0) rfl (by decide +kernel) (by decide +kernel) V
  exact h

theorem e_v100 : (K V main_call0_v100 : (⟨S64x16, .f32⟩ : BufTy).Contents (Elt F)) = (transpose S64x16 [1, 0] · transposes_S16x64_S64x16_1_0) (K V main_call0_v99 : (⟨S16x64, .f32⟩ : BufTy).Contents (Elt F)) := by
  have h := ssa_unary 127 (.of main_call0_v99 : TRef sig ⟨S16x64, .f32⟩) (.of main_call0_v100 : TRef sig ⟨S64x16, .f32⟩) (transpose S64x16 [1, 0] · transposes_S16x64_S64x16_1_0) rfl (by decide +kernel) (by decide +kernel) V
  exact h

theorem e_cst_25 : (K V main_call0_cst_25 : (⟨S_, .f32⟩ : BufTy).Contents (Elt F)) = (constant S_ .f32 0x00000000#32) := by
  have h := ssa_nullary 128 (.of main_call0_cst_25 : TRef sig ⟨S_, .f32⟩) (constant S_ .f32 0x00000000#32) rfl (by decide +kernel) V
  exact h

theorem e_v101 : (K V main_call0_v101 : (⟨S64x256, .f32⟩ : BufTy).Contents (Elt F)) = (broadcastInDim S64x256 ![] bcast_S_S64x256) (K V main_call0_cst_25 : (⟨S_, .f32⟩ : BufTy).Contents (Elt F)) := by
  have h := ssa_unary 129 (.of main_call0_cst_25 : TRef sig ⟨S_, .f32⟩) (.of main_call0_v101 : TRef sig ⟨S64x256, .f32⟩) (broadcastInDim S64x256 ![] bcast_S_S64x256) rfl (by decide +kernel) (by decide +kernel) V
  exact h

theorem e_c_26 : (K V main_call0_c_26 : (⟨S_, .i32⟩ : BufTy).Contents (Elt F)) = (constantI S_ 32 0#32) := by
  have h := ssa_nullary 130 (.of main_call0_c_26 : TRef sig ⟨S_, .i32⟩) (constantI S_ 32 0#32) rfl (by decide +kernel) V
  exact h

theorem e_v102 : (K V main_call0_v102 : (⟨S1, .i32⟩ : BufTy).Contents (Elt F)) = (broadcastInDim S1 ![] bcast_S_S1) (K V main_call0_c_26 : (⟨S_, .i32⟩ : BufTy).Contents (Elt F)) := by
  have h := ssa_unary 131 (.of main_call0_c_26 : TRef sig ⟨S_, .i32⟩) (.of main_call0_v102 : TRef sig ⟨S1, .i32⟩) (broadcastInDim S1 ![] bcast_S_S1) rfl (by decide +kernel) (by decide +kernel) V
  exact h

theorem e_v103 : (K V main_call0_v103 : (⟨S64x256, .f32⟩ : BufTy).Contents (Elt F)) = (fun x i u => Host.scatter scatter_S64x256_S1_S64x64_01_n_1_0 (fun _ b => b) x i u) (K V main_call0_v101 : (⟨S64x256, .f32⟩ : BufTy).Contents (Elt F)) (K V main_call0_v102 : (⟨S1, .i32⟩ : BufTy).Contents (Elt F)) (K V main_call0_v96 : (⟨S64x64, .f32⟩ : BufTy).Contents (Elt F)) := by
  have h := ssa_ternary 132 (.of main_call0_v101 : TRef sig ⟨S64x256, .f32⟩) (.of main_call0_v102 : TRef sig ⟨S1, .i32⟩) (.of main_call0_v96 : TRef sig ⟨S64x64, .f32⟩) (.of main_call0_v103 : TRef sig ⟨S64x256, .f32⟩) (fun x i u => Host.scatter scatter_S64x256_S1_S64x64_01_n_1_0 (fun _ b => b) x i u) rfl (by decide +kernel) (by decide +kernel) (by decide +kernel) (by decide +kernel) V
  exact h

theorem e_c_27 : (K V main_call0_c_27 : (⟨S_, .i32⟩ : BufTy).Contents (Elt F)) = (constantI S_ 32 64#32) := by
  have h := ssa_nullary 133 (.of main_call0_c_27 : TRef sig ⟨S_, .i32⟩) (constantI S_ 32 64#32) rfl (by decide +kernel) V
  exact h

theorem e_v104 : (K V main_call0_v104 : (⟨S1, .i32⟩ : BufTy).Contents (Elt F)) = (broadcastInDim S1 ![] bcast_S_S1) (K V main_call0_c_27 : (⟨S_, .i32⟩ : BufTy).Contents (Elt F)) := by
  have h := ssa_unary 134 (.of main_call0_c_27 : TRef sig ⟨S_, .i32⟩) (.of main_call0_v104 : TRef sig ⟨S1, .i32⟩) (broadcastInDim S1 ![] bcast_S_S1) rfl (by decide +kernel) (by decide +kernel) V
  exact h

theorem e_v105 : (K V main_call0_v105 : (⟨S64x256, .f32⟩ : BufTy).Contents (Elt F)) = (fun x i u => Host.scatter scatter_S64x256_S1_S64x64_01_n_1_0 (fun _ b => b) x i u) (K V main_call0_v103 : (⟨S64x256, .f32⟩ : BufTy).Contents (Elt F)) (K V main_call0_v104 : (⟨S1, .i32⟩ : BufTy).Contents (Elt F)) (K V main_call0_v96 : (⟨S64x64, .f32⟩ : BufTy).Contents (Elt F)) := by
  have h := ssa_ternary 135 (.of main_call0_v103 : TRef sig ⟨S64x256, .f32⟩) (.of main_call0_v104 : TRef sig ⟨S1, .i32⟩) (.of main_call0_v96 : TRef sig ⟨S64x64, .f32⟩) (.of main_call0_v105 : TRef sig ⟨S64x256, .f32⟩) (fun x i u => Host.scatter scatter_S64x256_S1_S64x64_01_n_1_0 (fun _ b => b) x i u) rfl (by decide +kernel) (by decide +kernel) (by decide +kernel) (by decide +kernel) V
  exact h

theorem e_v106 : (K V main_call0_v106 : (⟨S64x64, .i32⟩ : BufTy).Contents (Elt F)) = (iotaInDim S64x64 32 0) := by
  have h := ssa_nullary 136 (.of main_call0_v106 : TRef sig ⟨S64x64, .i32⟩) (iotaInDim S64x64 32 0) rfl (by decide +kernel) V
  exact h

theorem e_v107 : (K V main_call0_v107 : (⟨S64x64, .i32⟩ : BufTy).Contents (Elt F)) = (iotaInDim S64x64 32 1) := by
  have h := ssa_nullary 137 (.of main_call0_v107 : TRef sig ⟨S64x64, .i32⟩) (iotaInDim S64x64 32 1) rfl (by decide +kernel) V
  exact h

theorem e_c_28 : (K V main_call0_c_28 : (⟨S_, .i32⟩ : BufTy).Contents (Elt F)) = (constantI S_ 32 0#32) := by
  have h := ssa_nullary 138 (.of main_call0_c_28 : TRef sig ⟨S_, .i32⟩) (constantI S_ 32 0#32) rfl (by decide +kernel) V
  exact h

theorem e_v108 : (K V main_call0_v108 : (⟨S64x64, .i32⟩ : BufTy).Contents (Elt F)) = (broadcastInDim S64x64 ![] bcast_S_S64x64) (K V main_call0_c_28 : (⟨S_, .i32⟩ : BufTy).Contents (Elt F)) := by
  have h := ssa_unary 139 (.of main_call0_c_28 : TRef sig ⟨S_, .i32⟩) (.of main_call0_v108 : TRef sig ⟨S64x64, .i32⟩) (broadcastInDim S64x64 ![] bcast_S_S64x64) rfl (by decide +kernel) (by decide +kernel) V
  exact h

theorem e_v109 : (K V main_call0_v109 : (⟨S64x64, .i32⟩ : BufTy).Contents (Elt F)) = (addi) (K V main_call0_v106 : (⟨S64x64, .i32⟩ : BufTy).Contents (Elt F)) (K V main_call0_v108 : (⟨S64x64, .i32⟩ : BufTy).Contents (Elt F)) := by
  have h := ssa_binary 140 (.of main_call0_v106 : TRef sig ⟨S64x64, .i32⟩) (.of main_call0_v108 : TRef sig ⟨S64x64, .i32⟩) (.of main_call0_v109 : TRef sig ⟨S64x64, .i32⟩) addi rfl (by decide +kernel) (by decide +kernel) (by decide +kernel) V
  exact h

theorem e_v110 : (K V main_call0_v110 : (⟨S64x64, .i1⟩ : BufTy).Contents (Elt F)) = (cmpi .eq) (K V main_call0_v109 : (⟨S64x64, .i32⟩ : BufTy).Contents (Elt F)) (K V main_call0_v107 : (⟨S64x64, .i32⟩ : BufTy).Contents (Elt F)) := by
  have h := ssa_binary 141 (.of main_call0_v109 : TRef sig ⟨S64x64, .i32⟩) (.of main_call0_v107 : TRef sig ⟨S64x64, .i32⟩) (.of main_call0_v110 : TRef sig ⟨S64x64, .i1⟩) (cmpi .eq) rfl (by decide +kernel) (by decide +kernel) (by decide +kernel) V
  exact h

theorem e_v111 : (K V main_call0_v111 : (⟨S64x64, .f32⟩ : BufTy).Contents (Elt F)) = (uitofp .f32) (K V main_call0_v110 : (⟨S64x64, .i1⟩ : BufTy).Contents (Elt F)) := by
  have h := ssa_unary 142 (.of main_call0_v110 : TRef sig ⟨S64x64, .i1⟩) (.of main_call0_v111 : TRef sig ⟨S64x64, .f32⟩) (uitofp .f32) rfl (by decide +kernel) (by decide +kernel) V
  exact h

theorem e_c_29 : (K V main_call0_c_29 : (⟨S_, .i32⟩ : BufTy).Contents (Elt F)) = (constantI S_ 32 128#32) := by
  have h := ssa_nullary 143 (.of main_call0_c_29 : TRef sig ⟨S_, .i32⟩) (constantI S_ 32 128#32) rfl (by decide +kernel) V
  exact h

theorem e_v112 : (K V main_call0_v112 : (⟨S1, .i32⟩ : BufTy).Contents (Elt F)) = (broadcastInDim S1 ![] bcast_S_S1) (K V main_call0_c_29 : (⟨S_, .i32⟩ : BufTy).Contents (Elt F)) := by
  have h := ssa_unary 144 (.of main_call0_c_29 : TRef sig ⟨S_, .i32⟩) (.of main_call0_v112 : TRef sig ⟨S1, .i32⟩) (broadcastInDim S1 ![] bcast_S_S1) rfl (by decide +kernel) (by decide +kernel) V
  exact h

theorem e_v113 : (K V main_call0_v113 : (⟨S64x256, .f32⟩ : BufTy).Contents (Elt F)) = (fun x i u => Host.scatter scatter_S64x256_S1_S64x64_01_n_1_0 (fun _ b => b) x i u) (K V main_call0_v105 : (⟨S64x256, .f32⟩ : BufTy).Contents (Elt F)) (K V main_call0_v112 : (⟨S1, .i32⟩ : BufTy).Contents (Elt F)) (K V main_call0_v111 : (⟨S64x64, .f32⟩ : BufTy).Contents (Elt F)) := by
  have h := ssa_ternary 145 (.of main_call0_v105 : TRef sig ⟨S64x256, .f32⟩) (.of main_call0_v112 : TRef sig ⟨S1, .i32⟩) (.of main_call0_v111 : TRef sig ⟨S64x64, .f32⟩) (.of main_call0_v113 : TRef sig ⟨S64x256, .f32⟩) (fun x i u => Host.scatter scatter_S64x256_S1_S64x64_01_n_1_0 (fun _ b => b) x i u) rfl (by decide +kernel) (by decide +kernel) (by decide +kernel) (by decide +kernel) V
  exact h

theorem e_c_30 : (K V main_call0_c_30 : (⟨S_, .i32⟩ : BufTy).Contents (Elt F)) = (constantI S_ 32 192#32) := by
  have h := ssa_nullary 146 (.of main_call0_c_30 : TRef sig ⟨S_, .i32⟩) (constantI S_ 32 192#32) rfl (by decide +kernel) V
  exact h

theorem e_v114 : (K V main_call0_v114 : (⟨S1, .i32⟩ : BufTy).Contents (Elt F)) = (broadcastInDim S1 ![] bcast_S_S1) (K V main_call0_c_30 : (⟨S_, .i32⟩ : BufTy).Contents (Elt F)) := by
  have h := ssa_unary 147 (.of main_call0_c_30 : TRef sig ⟨S_, .i32⟩) (.of main_call0_v114 : TRef sig ⟨S1, .i32⟩) (broadcastInDim S1 ![] bcast_S_S1) rfl (by decide +kernel) (by decide +kernel) V
  exact h

theorem e_v115 : (K V main_call0_v115 : (⟨S64x256, .f32⟩ : BufTy).Contents (Elt F)) = (fun x i u => Host.scatter scatter_S64x256_S1_S64x16_01_n_1_0 (fun _ b => b) x i u) (K V main_call0_v113 : (⟨S64x256, .f32⟩ : BufTy).Contents (Elt F)) (K V main_call0_v114 : (⟨S1, .i32⟩ : BufTy).Contents (Elt F)) (K V main_call0_v98 : (⟨S64x16, .f32⟩ : BufTy).Contents (Elt F)) := by
  have h := ssa_ternary 148 (.of main_call0_v113 : TRef sig ⟨S64x256, .f32⟩) (.of main_call0_v114 : TRef sig ⟨S1, .i32⟩) (.of main_call0_v98 : TRef sig ⟨S64x16, .f32⟩) (.of main_call0_v115 : TRef sig ⟨S64x256, .f32⟩) (fun x i u => Host.scatter scatter_S64x256_S1_S64x16_01_n_1_0 (fun _ b => b) x i u) rfl (by decide +kernel) (by decide +kernel) (by decide +kernel) (by decide +kernel) V
  exact h

theorem e_c_31 : (K V main_call0_c_31 : (⟨S_, .i32⟩ : BufTy).Contents (Elt F)) = (constantI S_ 32 208#32) := by
  have h := ssa_nullary 149 (.of main_call0_c_31 : TRef sig ⟨S_, .i32⟩) (constantI S_ 32 208#32) rfl (by decide +kernel) V
  exact h

theorem e_v116 : (K V main_call0_v116 : (⟨S1, .i32⟩ : BufTy).Contents (Elt F)) = (broadcastInDim S1 ![] bcast_S_S1) (K V main_call0_c_31 : (⟨S_, .i32⟩ : BufTy).Contents (Elt F)) := by
  have h := ssa_unary 150 (.of main_call0_c_31 : TRef sig ⟨S_, .i32⟩) (.of main_call0_v116 : TRef sig ⟨S1, .i32⟩) (broadcastInDim S1 ![] bcast_S_S1) rfl (by decide +kernel) (by decide +kernel) V
  exact h

theorem e_v117 : (K V main_call0_v117 : (⟨S64x256, .f32⟩ : BufTy).Contents (Elt F)) = (fun x i u => Host.scatter scatter_S64x256_S1_S64x16_01_n_1_0 (fun _ b => b) x i u) (K V main_call0_v115 : (⟨S64x256, .f32⟩ : BufTy).Contents (Elt F)) (K V main_call0_v116 : (⟨S1, .i32⟩ : BufTy).Contents (Elt F)) (K V main_call0_v100 : (⟨S64x16, .f32⟩ : BufTy).Contents (Elt F)) := by
  have h := ssa_ternary 151 (.of main_call0_v115 : TRef sig ⟨S64x256, .f32⟩) (.of main_call0_v116 : TRef sig ⟨S1, .i32⟩) (.of main_call0_v100 : TRef sig ⟨S64x16, .f32⟩) (.of main_call0_v117 : TRef sig ⟨S64x256, .f32⟩) (fun x i u => Host.scatter scatter_S64x256_S1_S64x16_01_n_1_0 (fun _ b => b) x i u) rfl (by decide +kernel) (by decide +kernel) (by decide +kernel) (by decide +kernel) V
  exact h

theorem e_cst_32 : (K V main_call0_cst_32 : (⟨S_, .f32⟩ : BufTy).Contents (Elt F)) = (constant S_ .f32 0x00000000#32) := by
  have h := ssa_nullary 152 (.of main_call0_cst_32 : TRef sig ⟨S_, .f32⟩) (constant S_ .f32 0x00000000#32) rfl (by decide +kernel) V
  exact h

theorem e_v118 : (K V main_call0_v118 : (⟨S256, .f32⟩ : BufTy).Contents (Elt F)) = (broadcastInDim S256 ![] bcast_S_S256) (K V main_call0_cst_32 : (⟨S_, .f32⟩ : BufTy).Contents (Elt F)) := by
  have h := ssa_unary 153 (.of main_call0_cst_32 : TRef sig ⟨S_, .f32⟩) (.of main_call0_v118 : TRef sig ⟨S256, .f32⟩) (broadcastInDim S256 ![] bcast_S_S256) rfl (by decide +kernel) (by decide +kernel) V
  exact h

theorem e_v119 : (K V main_call0_v119 : (⟨S1x64, .f32⟩ : BufTy).Contents (Elt F)) = shapeCast S1x64 (K V main_arg6 : (⟨S64, .f32⟩ : BufTy).Contents (Elt F)) shapeCasts_S64_S1x64 := by
  have h := ssa_reshape 154 (.of main_arg6 : TRef sig ⟨S64, .f32⟩) (.of main_call0_v119 : TRef sig ⟨S1x64, .f32⟩) shapeCasts_S64_S1x64 rfl (by decide +kernel) (by decide +kernel) V
  exact h

theorem e_v120 : (K V main_call0_v120 : (⟨S2x64, .f32⟩ : BufTy).Contents (Elt F)) = (broadcastInDim S2x64 ![0, 1] bcast_S1x64_S2x64_0_1) (K V main_call0_v119 : (⟨S1x64, .f32⟩ : BufTy).Contents (Elt F)) := by
  have h := ssa_unary 155 (.of main_call0_v119 : TRef sig ⟨S1x64, .f32⟩) (.of main_call0_v120 : TRef sig ⟨S2x64, .f32⟩) (broadcastInDim S2x64 ![0, 1] bcast_S1x64_S2x64_0_1) rfl (by decide +kernel) (by decide +kernel) V
  exact h

theorem e_v121 : (K V main_call0_v121 : (⟨S128, .f32⟩ : BufTy).Contents (Elt F)) = shapeCast S128 (K V main_call0_v120 : (⟨S2x64, .f32⟩ : BufTy).Contents (Elt F)) shapeCasts_S2x64_S128 := by
  have h := ssa_reshape 156 (.of main_call0_v120 : TRef sig ⟨S2x64, .f32⟩) (.of main_call0_v121 : TRef sig ⟨S128, .f32⟩) shapeCasts_S2x64_S128 rfl (by decide +kernel) (by decide +kernel) V
  exact h

theorem e_c_33 : (K V main_call0_c_33 : (⟨S_, .i32⟩ : BufTy).Contents (Elt F)) = (constantI S_ 32 0#32) := by
  have h := ssa_nullary 157 (.of main_call0_c_33 : TRef sig ⟨S_, .i32⟩) (constantI S_ 32 0#32) rfl (by decide +kernel) V
  exact h

theorem e_v122 : (K V main_call0_v122 : (⟨S1, .i32⟩ : BufTy).Contents (Elt F)) = (broadcastInDim S1 ![] bcast_S_S1) (K V main_call0_c_33 : (⟨S_, .i32⟩ : BufTy).Contents (Elt F)) := by
  have h := ssa_unary 158 (.of main_call0_c_33 : TRef sig ⟨S_, .i32⟩) (.of main_call0_v122 : TRef sig ⟨S1, .i32⟩) (broadcastInDim S1 ![] bcast_S_S1) rfl (by decide +kernel) (by decide +kernel) V
  exact h

theorem e_v123 : (K V main_call0_v123 : (⟨S256, .f32⟩ : BufTy).Contents (Elt F)) = (fun x i u => Host.scatter scatter_S256_S1_S128_0_n_0_0 (fun _ b => b) x i u) (K V main_call0_v118 : (⟨S256, .f32⟩ : BufTy).Contents (Elt F)) (K V main_call0_v122 : (⟨S1, .i32⟩ : BufTy).Contents (Elt F)) (K V main_call0_v121 : (⟨S128, .f32⟩ : BufTy).Contents (Elt F)) := by
  have h := ssa_ternary 159 (.of main_call0_v118 : TRef sig ⟨S256, .f32⟩) (.of main_call0_v122 : TRef sig ⟨S1, .i32⟩) (.of main_call0_v121 : TRef sig ⟨S128, .f32⟩) (.of main_call0_v123 : TRef sig ⟨S256, .f32⟩) (fun x i u => Host.scatter scatter_S256_S1_S128_0_n_0_0 (fun _ b => b) x i u) rfl (by decide +kernel) (by decide +kernel) (by decide +kernel) (by decide +kernel) V
  exact h

theorem e_cst_34 : (K V main_call0_cst_34 : (⟨S_, .f32⟩ : BufTy).Contents (Elt F)) = (constant S_ .f32 0x00000000#32) := by
  have h := ssa_nullary 160 (.of main_call0_cst_34 : TRef sig ⟨S_, .f32⟩) (constant S_ .f32 0x00000000#32) rfl (by decide +kernel) V
  exact h

theorem e_v124 : (K V main_call0_v124 : (⟨S64x64, .f32⟩ : BufTy).Contents (Elt F)) = (broadcastInDim S64x64 ![] bcast_S_S64x64) (K V main_call0_cst_34 : (⟨S_, .f32⟩ : BufTy).Contents (Elt F)) := by
  have h := ssa_unary 161 (.of main_call0_cst_34 : TRef sig ⟨S_, .f32⟩) (.of main_call0_v124 : TRef sig ⟨S64x64, .f32⟩) (broadcastInDim S64x64 ![] bcast_S_S64x64) rfl (by decide +kernel) (by decide +kernel) V
  exact h

theorem e_v125 : (K V main_call0_v125 : (⟨S64x64, .f32⟩ : BufTy).Contents (Elt F)) = (transpose S64x64 [1, 0] · transposes_S64x64_S64x64_1_0) (K V main_arg10 : (⟨S64x64, .f32⟩ : BufTy).Contents (Elt F)) := by
  have h := ssa_unary 162 (.of main_arg10 : TRef sig ⟨S64x64, .f32⟩) (.of main_call0_v125 : TRef sig ⟨S64x64, .f32⟩) (transpose S64x64 [1, 0] · transposes_S64x64_S64x64_1_0) rfl (by decide +kernel) (by decide +kernel) V
  exact h

theorem e_v126 : (K V main_call0_v126 : (⟨S64x64, .f32⟩ : BufTy).Contents (Elt F)) = (transpose S64x64 [1, 0] · transposes_S64x64_S64x64_1_0) (K V main_arg10 : (⟨S64x64, .f32⟩ : BufTy).Contents (Elt F)) := by
  have h := ssa_unary 163 (.of main_arg10 : TRef sig ⟨S64x64, .f32⟩) (.of main_call0_v126 : TRef sig ⟨S64x64, .f32⟩) (transpose S64x64 [1, 0] · transposes_S64x64_S64x64_1_0) rfl (by decide +kernel) (by decide +kernel) V
  exact h

theorem e_call0_v0 : (K V main_call0_call0_v0 : (⟨S64x128, .f32⟩ : BufTy).Contents (Elt F)) = (fun a b => concatenate S64x128 1 [⟨S64x64, a⟩, ⟨S64x64, b⟩] concatenates_S64x64_S64x64_S64x128_d1) (K V main_call0_v125 : (⟨S64x64, .f32⟩ : BufTy).Contents (Elt F)) (K V main_call0_v124 : (⟨S64x64, .f32⟩ : BufTy).Contents (Elt F)) := by
  have h := ssa_binary 164 (.of main_call0_v125 : TRef sig ⟨S64x64, .f32⟩) (.of main_call0_v124 : TRef sig ⟨S64x64, .f32⟩) (.of main_call0_call0_v0 : TRef sig ⟨S64x128, .f32⟩) (fun a b => concatenate S64x128 1 [⟨S64x64, a⟩, ⟨S64x64, b⟩] concatenates_S64x64_S64x64_S64x128_d1) rfl (by decide +kernel) (by decide +kernel) (by decide +kernel) V
  exact h

theorem e_call0_v1 : (K V main_call0_call0_v1 : (⟨S64x128, .f32⟩ : BufTy).Contents (Elt F)) = (fun a b => concatenate S64x128 1 [⟨S64x64, a⟩, ⟨S64x64, b⟩] concatenates_S64x64_S64x64_S64x128_d1) (K V main_call0_v124 : (⟨S64x64, .f32⟩ : BufTy).Contents (Elt F)) (K V main_call0_v126 : (⟨S64x64, .f32⟩ : BufTy).Contents (Elt F)) := by
  have h := ssa_binary 165 (.of main_call0_v124 : TRef sig ⟨S64x64, .f32⟩) (.of main_call0_v126 : TRef sig ⟨S64x64, .f32⟩) (.of main_call0_call0_v1 : TRef sig ⟨S64x128, .f32⟩) (fun a b => concatenate S64x128 1 [⟨S64x64, a⟩, ⟨S64x64, b⟩] concatenates_S64x64_S64x64_S64x128_d1) rfl (by decide +kernel) (by decide +kernel) (by decide +kernel) V
  exact h

theorem e_v127 : (K V main_call0_v127 : (⟨S128x128, .f32⟩ : BufTy).Contents (Elt F)) = (fun a b => concatenate S128x128 0 [⟨S64x128, a⟩, ⟨S64x128, b⟩] concatenates_S64x128_S64x128_S128x128_d0) (K V main_call0_call0_v0 : (⟨S64x128, .f32⟩ : BufTy).Contents (Elt F)) (K V main_call0_call0_v1 : (⟨S64x128, .f32⟩ : BufTy).Contents (Elt F)) := by
  have h := ssa_binary 166 (.of main_call0_call0_v0 : TRef sig ⟨S64x128, .f32⟩) (.of main_call0_call0_v1 : TRef sig ⟨S64x128, .f32⟩) (.of main_call0_v127 : TRef sig ⟨S128x128, .f32⟩) (fun a b => concatenate S128x128 0 [⟨S64x128, a⟩, ⟨S64x128, b⟩] concatenates_S64x128_S64x128_S128x128_d0) rfl (by decide +kernel) (by decide +kernel) (by decide +kernel) V
  exact h

theorem e_v128 : (K V main_call0_v128 : (⟨S64x64, .f32⟩ : BufTy).Contents (Elt F)) = (transpose S64x64 [1, 0] · transposes_S64x64_S64x64_1_0) (K V main_arg14 : (⟨S64x64, .f32⟩ : BufTy).Contents (Elt F)) := by
  have h := ssa_unary 167 (.of main_arg14 : TRef sig ⟨S64x64, .f32⟩) (.of main_call0_v128 : TRef sig ⟨S64x64, .f32⟩) (transpose S64x64 [1, 0] · transposes_S64x64_S64x64_1_0) rfl (by decide +kernel) (by decide +kernel) V
  exact h

theorem e_v129 : (K V main_call0_v129 : (⟨S64x64, .f32⟩ : BufTy).Contents (Elt F)) = (transpose S64x64 [1, 0] · transposes_S64x64_S64x64_1_0) (K V main_arg14 : (⟨S64x64, .f32⟩ : BufTy).Contents (Elt F)) := by
  have h := ssa_unary 168 (.of main_arg14 : TRef sig ⟨S64x64, .f32⟩) (.of main_call0_v129 : TRef sig ⟨S64x64, .f32⟩) (transpose S64x64 [1, 0] · transposes_S64x64_S64x64_1_0) rfl (by decide +kernel) (by decide +kernel) V
  exact h

theorem e_call1_v0 : (K V main_call0_call1_v0 : (⟨S64x128, .f32⟩ : BufTy).Contents (Elt F)) = (fun a b => concatenate S64x128 1 [⟨S64x64, a⟩, ⟨S64x64, b⟩] concatenates_S64x64_S64x64_S64x128_d1) (K V main_call0_v128 : (⟨S64x64, .f32⟩ : BufTy).Contents (Elt F)) (K V main_call0_v124 : (⟨S64x64, .f32⟩ : BufTy).Contents (Elt F)) := by
  have h := ssa_binary 169 (.of main_call0_v128 : TRef sig ⟨S64x64, .f32⟩) (.of main_call0_v124 : TRef sig ⟨S64x64, .f32⟩) (.of main_call0_call1_v0 : TRef sig ⟨S64x128, .f32⟩) (fun a b => concatenate S64x128 1 [⟨S64x64, a⟩, ⟨S64x64, b⟩] concatenates_S64x64_S64x64_S64x128_d1) rfl (by decide +kernel) (by decide +kernel) (by decide +kernel) V
  exact h

theorem e_call1_v1 : (K V main_call0_call1_v1 : (⟨S64x128, .f32⟩ : BufTy).Contents (Elt F)) = (fun a b => concatenate S64x128 1 [⟨S64x64, a⟩, ⟨S64x64, b⟩] concatenates_S64x64_S64x64_S64x128_d1) (K V main_call0_v124 : (⟨S64x64, .f32⟩ : BufTy).Contents (Elt F)) (K V main_call0_v129 : (⟨S64x64, .f32⟩ : BufTy).Contents (Elt F)) := by
  have h := ssa_binary 170 (.of main_call0_v124 : TRef sig ⟨S64x64, .f32⟩) (.of main_call0_v129 : TRef sig ⟨S64x64, .f32⟩) (.of main_call0_call1_v1 : TRef sig ⟨S64x128, .f32⟩) (fun a b => concatenate S64x128 1 [⟨S64x64, a⟩, ⟨S64x64, b⟩] concatenates_S64x64_S64x64_S64x128_d1) rfl (by decide +kernel) (by decide +kernel) (by decide +kernel) V
  exact h

theorem e_v130 : (K V main_call0_v130 : (⟨S128x128, .f32⟩ : BufTy).Contents (Elt F)) = (fun a b => concatenate S128x128 0 [⟨S64x128, a⟩, ⟨S64x128, b⟩] concatenates_S64x128_S64x128_S128x128_d0) (K V main_call0_call1_v0 : (⟨S64x128, .f32⟩ : BufTy).Contents (Elt F)) (K V main_call0_call1_v1 : (⟨S64x128, .f32⟩ : BufTy).Contents (Elt F)) := by
  have h := ssa_binary 171 (.of main_call0_call1_v0 : TRef sig ⟨S64x128, .f32⟩) (.of main_call0_call1_v1 : TRef sig ⟨S64x128, .f32⟩) (.of main_call0_v130 : TRef sig ⟨S128x128, .f32⟩) (fun a b => concatenate S128x128 0 [⟨S64x128, a⟩, ⟨S64x128, b⟩] concatenates_S64x128_S64x128_S128x128_d0) rfl (by decide +kernel) (by decide +kernel) (by decide +kernel) V
  exact h

theorem e_v131 : (K V main_call0_v131 : (⟨S64x32, .f32⟩ : BufTy).Contents (Elt F)) = (transpose S64x32 [1, 0] · transposes_S32x64_S64x32_1_0) (K V main_arg9 : (⟨S32x64, .f32⟩ : BufTy).Contents (Elt F)) := by
  have h := ssa_unary 172 (.of main_arg9 : TRef sig ⟨S32x64, .f32⟩) (.of main_call0_v131 : TRef sig ⟨S64x32, .f32⟩) (transpose S64x32 [1, 0] · transposes_S32x64_S64x32_1_0) rfl (by decide +kernel) (by decide +kernel) V
  exact h

theorem e_v132 : (K V main_call0_v132 : (⟨S1024, .i32⟩ : BufTy).Contents (Elt F)) = (iotaInDim S1024 32 0) := by
  have h := ssa_nullary 173 (.of main_call0_v132 : TRef sig ⟨S1024, .i32⟩) (iotaInDim S1024 32 0) rfl (by decide +kernel) V
  exact h

theorem e_c_35 : (K V main_call0_c_35 : (⟨S_, .i32⟩ : BufTy).Contents (Elt F)) = (constantI S_ 32 64#32) := by
  have h := ssa_nullary 174 (.of main_call0_c_35 : TRef sig ⟨S_, .i32⟩) (constantI S_ 32 64#32) rfl (by decide +kernel) V
  exact h

theorem e_call2_v0 : (K V main_call0_call2_v0 : (⟨S_, .i32⟩ : BufTy).Contents (Elt F)) = (id) (K V main_call0_c_35 : (⟨S_, .i32⟩ : BufTy).Contents (Elt F)) := by
  have h := ssa_unary 175 (.of main_call0_c_35 : TRef sig ⟨S_, .i32⟩) (.of main_call0_call2_v0 : TRef sig ⟨S_, .i32⟩) id rfl (by decide +kernel) (by decide +kernel) V
  exact h

theorem e_call2_v1 : (K V main_call0_call2_v1 : (⟨S1024, .i32⟩ : BufTy).Contents (Elt F)) = (broadcastInDim S1024 ![] bcast_S_S1024) (K V main_call0_call2_v0 : (⟨S_, .i32⟩ : BufTy).Contents (Elt F)) := by
  have h := ssa_unary 176 (.of main_call0_call2_v0 : TRef sig ⟨S_, .i32⟩) (.of main_call0_call2_v1 : TRef sig ⟨S1024, .i32⟩) (broadcastInDim S1024 ![] bcast_S_S1024) rfl (by decide +kernel) (by decide +kernel) V
  exact h

theorem e_call2_v2 : (K V main_call0_call2_v2 : (⟨S1024, .i32⟩ : BufTy).Contents (Elt F)) = (Host.divsi) (K V main_call0_v132 : (⟨S1024, .i32⟩ : BufTy).Contents (Elt F)) (K V main_call0_call2_v1 : (⟨S1024, .i32⟩ : BufTy).Contents (Elt F)) := by
  have h := ssa_binary 177 (.of main_call0_v132 : TRef sig ⟨S1024, .i32⟩) (.of main_call0_call2_v1 : TRef sig ⟨S1024, .i32⟩) (.of main_call0_call2_v2 : TRef sig ⟨S1024, .i32⟩) Host.divsi rfl (by decide +kernel) (by decide +kernel) (by decide +kernel) V
  exact h

theorem e_call2_v3 : (K V main_call0_call2_v3 : (⟨S1024, .i32⟩ : BufTy).Contents (Elt F)) = (signi) (K V main_call0_v132 : (⟨S1024, .i32⟩ : BufTy).Contents (Elt F)) := by
  have h := ssa_unary 178 (.of main_call0_v132 : TRef sig ⟨S1024, .i32⟩) (.of main_call0_call2_v3 : TRef sig ⟨S1024, .i32⟩) signi rfl (by decide +kernel) (by decide +kernel) V
  exact h

theorem e_call2_v4 : (K V main_call0_call2_v4 : (⟨S_, .i32⟩ : BufTy).Contents (Elt F)) = (signi) (K V main_call0_call2_v0 : (⟨S_, .i32⟩ : BufTy).Contents (Elt F)) := by
  have h := ssa_unary 179 (.of main_call0_call2_v0 : TRef sig ⟨S_, .i32⟩) (.of main_call0_call2_v4 : TRef sig ⟨S_, .i32⟩) signi rfl (by decide +kernel) (by decide +kernel) V
  exact h

theorem e_call2_v5 : (K V main_call0_call2_v5 : (⟨S1024, .i32⟩ : BufTy).Contents (Elt F)) = (broadcastInDim S1024 ![] bcast_S_S1024) (K V main_call0_call2_v4 : (⟨S_, .i32⟩ : BufTy).Contents (Elt F)) := by
  have h := ssa_unary 180 (.of main_call0_call2_v4 : TRef sig ⟨S_, .i32⟩) (.of main_call0_call2_v5 : TRef sig ⟨S1024, .i32⟩) (broadcastInDim S1024 ![] bcast_S_S1024) rfl (by decide +kernel) (by decide +kernel) V
  exact h

theorem e_call2_v6 : (K V main_call0_call2_v6 : (⟨S1024, .i1⟩ : BufTy).Contents (Elt F)) = (cmpi .ne) (K V main_call0_call2_v3 : (⟨S1024, .i32⟩ : BufTy).Contents (Elt F)) (K V main_call0_call2_v5 : (⟨S1024, .i32⟩ : BufTy).Contents (Elt F)) := by
  have h := ssa_binary 181 (.of main_call0_call2_v3 : TRef sig ⟨S1024, .i32⟩) (.of main_call0_call2_v5 : TRef sig ⟨S1024, .i32⟩) (.of main_call0_call2_v6 : TRef sig ⟨S1024, .i1⟩) (cmpi .ne) rfl (by decide +kernel) (by decide +kernel) (by decide +kernel) V
  exact h

theorem e_call2_v7 : (K V main_call0_call2_v7 : (⟨S1024, .i32⟩ : BufTy).Contents (Elt F)) = (broadcastInDim S1024 ![] bcast_S_S1024) (K V main_call0_call2_v0 : (⟨S_, .i32⟩ : BufTy).Contents (Elt F)) := by
  have h := ssa_unary 182 (.of main_call0_call2_v0 : TRef sig ⟨S_, .i32⟩) (.of main_call0_call2_v7 : TRef sig ⟨S1024, .i32⟩) (broadcastInDim S1024 ![] bcast_S_S1024) rfl (by decide +kernel) (by decide +kernel) V
  exact h

theorem e_call2_v8 : (K V main_call0_call2_v8 : (⟨S1024, .i32⟩ : BufTy).Contents (Elt F)) = (Host.remsi) (K V main_call0_v132 : (⟨S1024, .i32⟩ : BufTy).Contents (Elt F)) (K V main_call0_call2_v7 : (⟨S1024, .i32⟩ : BufTy).Contents (Elt F)) := by
  have h := ssa_binary 183 (.of main_call0_v132 : TRef sig ⟨S1024, .i32⟩) (.of main_call0_call2_v7 : TRef sig ⟨S1024, .i32⟩) (.of main_call0_call2_v8 : TRef sig ⟨S1024, .i32⟩) Host.remsi rfl (by decide +kernel) (by decide +kernel) (by decide +kernel) V
  exact h

theorem e_call2_c : (K V main_call0_call2_c : (⟨S_, .i32⟩ : BufTy).Contents (Elt F)) = (constantI S_ 32 0#32) := by
  have h := ssa_nullary 184 (.of main_call0_call2_c : TRef sig ⟨S_, .i32⟩) (constantI S_ 32 0#32) rfl (by decide +kernel) V
  exact h

theorem e_call2_v9 : (K V main_call0_call2_v9 : (⟨S1024, .i32⟩ : BufTy).Contents (Elt F)) = (broadcastInDim S1024 ![] bcast_S_S1024) (K V main_call0_call2_c : (⟨S_, .i32⟩ : BufTy).Contents (Elt F)) := by
  have h := ssa_unary 185 (.of main_call0_call2_c : TRef sig ⟨S_, .i32⟩) (.of main_call0_call2_v9 : TRef sig ⟨S1024, .i32⟩) (broadcastInDim S1024 ![] bcast_S_S1024) rfl (by decide +kernel) (by decide +kernel) V
  exact h

theorem e_call2_v10 : (K V main_call0_call2_v10 : (⟨S1024, .i1⟩ : BufTy).Contents (Elt F)) = (cmpi .ne) (K V main_call0_call2_v8 : (⟨S1024, .i32⟩ : BufTy).Contents (Elt F)) (K V main_call0_call2_v9 : (⟨S1024, .i32⟩ : BufTy).Contents (Elt F)) := by
  have h := ssa_binary 186 (.of main_call0_call2_v8 : TRef sig ⟨S1024, .i32⟩) (.of main_call0_call2_v9 : TRef sig ⟨S1024, .i32⟩) (.of main_call0_call2_v10 : TRef sig ⟨S1024, .i1⟩) (cmpi .ne) rfl (by decide +kernel) (by decide +kernel) (by decide +kernel) V
  exact h

theorem e_call2_v11 : (K V main_call0_call2_v11 : (⟨S1024, .i1⟩ : BufTy).Contents (Elt F)) = (andi) (K V main_call0_call2_v6 : (⟨S1024, .i1⟩ : BufTy).Contents (Elt F)) (K V main_call0_call2_v10 : (⟨S1024, .i1⟩ : BufTy).Contents (Elt F)) := by
  have h := ssa_binary 187 (.of main_call0_call2_v6 : TRef sig ⟨S1024, .i1⟩) (.of main_call0_call2_v10 : TRef sig ⟨S1024, .i1⟩) (.of main_call0_call2_v11 : TRef sig ⟨S1024, .i1⟩) andi rfl (by decide +kernel) (by decide +kernel) (by decide +kernel) V
  exact h

theorem e_call2_c_0 : (K V main_call0_call2_c_0 : (⟨S_, .i32⟩ : BufTy).Contents (Elt F)) = (constantI S_ 32 1#32) := by
  have h := ssa_nullary 188 (.of main_call0_call2_c_0 : TRef sig ⟨S_, .i32⟩) (constantI S_ 32 1#32) rfl (by decide +kernel) V
  exact h

theorem e_call2_v12 : (K V main_call0_call2_v12 : (⟨S1024, .i32⟩ : BufTy).Contents (Elt F)) = (broadcastInDim S1024 ![] bcast_S_S1024) (K V main_call0_call2_c_0 : (⟨S_, .i32⟩ : BufTy).Contents (Elt F)) := by
  have h := ssa_unary 189 (.of main_call0_call2_c_0 : TRef sig ⟨S_, .i32⟩) (.of main_call0_call2_v12 : TRef sig ⟨S1024, .i32⟩) (broadcastInDim S1024 ![] bcast_S_S1024) rfl (by decide +kernel) (by decide +kernel) V
  exact h

theorem e_call2_v13 : (K V main_call0_call2_v13 : (⟨S1024, .i32⟩ : BufTy).Contents (Elt F)) = (subi) (K V main_call0_call2_v2 : (⟨S1024, .i32⟩ : BufTy).Contents (Elt F)) (K V main_call0_call2_v12 : (⟨S1024, .i32⟩ : BufTy).Contents (Elt F)) := by
  have h := ssa_binary 190 (.of main_call0_call2_v2 : TRef sig ⟨S1024, .i32⟩) (.of main_call0_call2_v12 : TRef sig ⟨S1024, .i32⟩) (.of main_call0_call2_v13 : TRef sig ⟨S1024, .i32⟩) subi rfl (by decide +kernel) (by decide +kernel) (by decide +kernel) V
  exact h

theorem e_v133 : (K V main_call0_v133 : (⟨S1024, .i32⟩ : BufTy).Contents (Elt F)) = (select) (K V main_call0_call2_v11 : (⟨S1024, .i1⟩ : BufTy).Contents (Elt F)) (K V main_call0_call2_v13 : (⟨S1024, .i32⟩ : BufTy).Contents (Elt F)) (K V main_call0_call2_v2 : (⟨S1024, .i32⟩ : BufTy).Contents (Elt F)) := by
  have h := ssa_ternary 191 (.of main_call0_call2_v11 : TRef sig ⟨S1024, .i1⟩) (.of main_call0_call2_v13 : TRef sig ⟨S1024, .i32⟩) (.of main_call0_call2_v2 : TRef sig ⟨S1024, .i32⟩) (.of main_call0_v133 : TRef sig ⟨S1024, .i32⟩) select rfl (by decide +kernel) (by decide +kernel) (by decide +kernel) (by decide +kernel) V
  exact h

theorem e_v134 : (K V main_call0_v134 : (⟨S1024, .i32⟩ : BufTy).Contents (Elt F)) = (iotaInDim S1024 32 0) := by
  have h := ssa_nullary 192 (.of main_call0_v134 : TRef sig ⟨S1024, .i32⟩) (iotaInDim S1024 32 0) rfl (by decide +kernel) V
  exact h

theorem e_c_36 : (K V main_call0_c_36 : (⟨S_, .i32⟩ : BufTy).Contents (Elt F)) = (constantI S_ 32 64#32) := by
  have h := ssa_nullary 193 (.of main_call0_c_36 : TRef sig ⟨S_, .i32⟩) (constantI S_ 32 64#32) rfl (by decide +kernel) V
  exact h

theorem e_call3_v0 : (K V main_call0_call3_v0 : (⟨S_, .i32⟩ : BufTy).Contents (Elt F)) = (id) (K V main_call0_c_36 : (⟨S_, .i32⟩ : BufTy).Contents (Elt F)) := by
  have h := ssa_unary 194 (.of main_call0_c_36 : TRef sig ⟨S_, .i32⟩) (.of main_call0_call3_v0 : TRef sig ⟨S_, .i32⟩) id rfl (by decide +kernel) (by decide +kernel) V
  exact h

theorem e_call3_c : (K V main_call0_call3_c : (⟨S_, .i32⟩ : BufTy).Contents (Elt F)) = (constantI S_ 32 0#32) := by
  have h := ssa_nullary 195 (.of main_call0_call3_c : TRef sig ⟨S_, .i32⟩) (constantI S_ 32 0#32) rfl (by decide +kernel) V
  exact h

theorem e_call3_v1 : (K V main_call0_call3_v1 : (⟨S_, .i1⟩ : BufTy).Contents (Elt F)) = (cmpi .eq) (K V main_call0_call3_v0 : (⟨S_, .i32⟩ : BufTy).Contents (Elt F)) (K V main_call0_call3_c : (⟨S_, .i32⟩ : BufTy).Contents (Elt F)) := by
  have h := ssa_binary 196 (.of main_call0_call3_v0 : TRef sig ⟨S_, .i32⟩) (.of main_call0_call3_c : TRef sig ⟨S_, .i32⟩) (.of main_call0_call3_v1 : TRef sig ⟨S_, .i1⟩) (cmpi .eq) rfl (by decide +kernel) (by decide +kernel) (by decide +kernel) V
  exact h

theorem e_call3_c_0 : (K V main_call0_call3_c_0 : (⟨S_, .i32⟩ : BufTy).Contents (Elt F)) = (constantI S_ 32 1#32) := by
  have h := ssa_nullary 197 (.of main_call0_call3_c_0 : TRef sig ⟨S_, .i32⟩) (constantI S_ 32 1#32) rfl (by decide +kernel) V
  exact h

theorem e_call3_v2 : (K V main_call0_call3_v2 : (⟨S_, .i32⟩ : BufTy).Contents (Elt F)) = (select) (K V main_call0_call3_v1 : (⟨S_, .i1⟩ : BufTy).Contents (Elt F)) (K V main_call0_call3_c_0 : (⟨S_, .i32⟩ : BufTy).Contents (Elt F)) (K V main_call0_call3_v0 : (⟨S_, .i32⟩ : BufTy).Contents (Elt F)) := by
  have h := ssa_ternary 198 (.of main_call0_call3_v1 : TRef sig ⟨S_, .i1⟩) (.of main_call0_call3_c_0 : TRef sig ⟨S_, .i32⟩) (.of main_call0_call3_v0 : TRef sig ⟨S_, .i32⟩) (.of main_call0_call3_v2 : TRef sig ⟨S_, .i32⟩) select rfl (by decide +kernel) (by decide +kernel) (by decide +kernel) (by decide +kernel) V
  exact h

theorem e_call3_v3 : (K V main_call0_call3_v3 : (⟨S1024, .i32⟩ : BufTy).Contents (Elt F)) = (broadcastInDim S1024 ![] bcast_S_S1024) (K V main_call0_call3_v2 : (⟨S_, .i32⟩ : BufTy).Contents (Elt F)) := by
  have h := ssa_unary 199 (.of main_call0_call3_v2 : TRef sig ⟨S_, .i32⟩) (.of main_call0_call3_v3 : TRef sig ⟨S1024, .i32⟩) (broadcastInDim S1024 ![] bcast_S_S1024) rfl (by decide +kernel) (by decide +kernel) V
  exact h

theorem e_call3_v4 : (K V main_call0_call3_v4 : (⟨S1024, .i32⟩ : BufTy).Contents (Elt F)) = (Host.remsi) (K V main_call0_v134 : (⟨S1024, .i32⟩ : BufTy).Contents (Elt F)) (K V main_call0_call3_v3 : (⟨S1024, .i32⟩ : BufTy).Contents (Elt F)) := by
  have h := ssa_binary 200 (.of main_call0_v134 : TRef sig ⟨S1024, .i32⟩) (.of main_call0_call3_v3 : TRef sig ⟨S1024, .i32⟩) (.of main_call0_call3_v4 : TRef sig ⟨S1024, .i32⟩) Host.remsi rfl (by decide +kernel) (by decide +kernel) (by decide +kernel) V
  exact h

theorem e_call3_c_1 : (K V main_call0_call3_c_1 : (⟨S_, .i32⟩ : BufTy).Contents (Elt F)) = (constantI S_ 32 0#32) := by
  have h := ssa_nullary 201 (.of main_call0_call3_c_1 : TRef sig ⟨S_, .i32⟩) (constantI S_ 32 0#32) rfl (by decide +kernel) V
  exact h

theorem e_call3_v5 : (K V main_call0_call3_v5 : (⟨S1024, .i32⟩ : BufTy).Contents (Elt F)) = (broadcastInDim S1024 ![] bcast_S_S1024) (K V main_call0_call3_c_1 : (⟨S_, .i32⟩ : BufTy).Contents (Elt F)) := by
  have h := ssa_unary 202 (.of main_call0_call3_c_1 : TRef sig ⟨S_, .i32⟩) (.of main_call0_call3_v5 : TRef sig ⟨S1024, .i32⟩) (broadcastInDim S1024 ![] bcast_S_S1024) rfl (by decide +kernel) (by decide +kernel) V
  exact h

theorem e_call3_v6 : (K V main_call0_call3_v6 : (⟨S1024, .i1⟩ : BufTy).Contents (Elt F)) = (cmpi .ne) (K V main_call0_call3_v4 : (⟨S1024, .i32⟩ : BufTy).Contents (Elt F)) (K V main_call0_call3_v5 : (⟨S1024, .i32⟩ : BufTy).Contents (Elt F)) := by
  have h := ssa_binary 203 (.of main_call0_call3_v4 : TRef sig ⟨S1024, .i32⟩) (.of main_call0_call3_v5 : TRef sig ⟨S1024, .i32⟩) (.of main_call0_call3_v6 : TRef sig ⟨S1024, .i1⟩) (cmpi .ne) rfl (by decide +kernel) (by decide +kernel) (by decide +kernel) V
  exact h

theorem e_call3_c_2 : (K V main_call0_call3_c_2 : (⟨S_, .i32⟩ : BufTy).Contents (Elt F)) = (constantI S_ 32 0#32) := by
  have h := ssa_nullary 204 (.of main_call0_call3_c_2 : TRef sig ⟨S_, .i32⟩) (constantI S_ 32 0#32) rfl (by decide +kernel) V
  exact h

theorem e_call3_v7 : (K V main_call0_call3_v7 : (⟨S1024, .i32⟩ : BufTy).Contents (Elt F)) = (broadcastInDim S1024 ![] bcast_S_S1024) (K V main_call0_call3_c_2 : (⟨S_, .i32⟩ : BufTy).Contents (Elt F)) := by
  have h := ssa_unary 205 (.of main_call0_call3_c_2 : TRef sig ⟨S_, .i32⟩) (.of main_call0_call3_v7 : TRef sig ⟨S1024, .i32⟩) (broadcastInDim S1024 ![] bcast_S_S1024) rfl (by decide +kernel) (by decide +kernel) V
  exact h

theorem e_call3_v8 : (K V main_call0_call3_v8 : (⟨S1024, .i1⟩ : BufTy).Contents (Elt F)) = (cmpi .slt) (K V main_call0_call3_v4 : (⟨S1024, .i32⟩ : BufTy).Contents (Elt F)) (K V main_call0_call3_v7 : (⟨S1024, .i32⟩ : BufTy).Contents (Elt F)) := by
  have h := ssa_binary 206 (.of main_call0_call3_v4 : TRef sig ⟨S1024, .i32⟩) (.of main_call0_call3_v7 : TRef sig ⟨S1024, .i32⟩) (.of main_call0_call3_v8 : TRef sig ⟨S1024, .i1⟩) (cmpi .slt) rfl (by decide +kernel) (by decide +kernel) (by decide +kernel) V
  exact h

theorem e_call3_c_3 : (K V main_call0_call3_c_3 : (⟨S_, .i32⟩ : BufTy).Contents (Elt F)) = (constantI S_ 32 0#32) := by
  have h := ssa_nullary 207 (.of main_call0_call3_c_3 : TRef sig ⟨S_, .i32⟩) (constantI S_ 32 0#32) rfl (by decide +kernel) V
  exact h

theorem e_call3_v9 : (K V main_call0_call3_v9 : (⟨S_, .i1⟩ : BufTy).Contents (Elt F)) = (cmpi .slt) (K V main_call0_call3_v2 : (⟨S_, .i32⟩ : BufTy).Contents (Elt F)) (K V main_call0_call3_c_3 : (⟨S_, .i32⟩ : BufTy).Contents (Elt F)) := by
  have h := ssa_binary 208 (.of main_call0_call3_v2 : TRef sig ⟨S_, .i32⟩) (.of main_call0_call3_c_3 : TRef sig ⟨S_, .i32⟩) (.of main_call0_call3_v9 : TRef sig ⟨S_, .i1⟩) (cmpi .slt) rfl (by decide +kernel) (by decide +kernel) (by decide +kernel) V
  exact h

theorem e_call3_v10 : (K V main_call0_call3_v10 : (⟨S1024, .i1⟩ : BufTy).Contents (Elt F)) = (broadcastInDim S1024 ![] bcast_S_S1024) (K V main_call0_call3_v9 : (⟨S_, .i1⟩ : BufTy).Contents (Elt F)) := by
  have h := ssa_unary 209 (.of main_call0_call3_v9 : TRef sig ⟨S_, .i1⟩) (.of main_call0_call3_v10 : TRef sig ⟨S1024, .i1⟩) (broadcastInDim S1024 ![] bcast_S_S1024) rfl (by decide +kernel) (by decide +kernel) V
  exact h

theorem e_call3_v11 : (K V main_call0_call3_v11 : (⟨S1024, .i1⟩ : BufTy).Contents (Elt F)) = (cmpi .ne) (K V main_call0_call3_v8 : (⟨S1024, .i1⟩ : BufTy).Contents (Elt F)) (K V main_call0_call3_v10 : (⟨S1024, .i1⟩ : BufTy).Contents (Elt F)) := by
  have h := ssa_binary 210 (.of main_call0_call3_v8 : TRef sig ⟨S1024, .i1⟩) (.of main_call0_call3_v10 : TRef sig ⟨S1024, .i1⟩) (.of main_call0_call3_v11 : TRef sig ⟨S1024, .i1⟩) (cmpi .ne) rfl (by decide +kernel) (by decide +kernel) (by decide +kernel) V
  exact h

theorem e_call3_v12 : (K V main_call0_call3_v12 : (⟨S1024, .i1⟩ : BufTy).Contents (Elt F)) = (andi) (K V main_call0_call3_v11 : (⟨S1024, .i1⟩ : BufTy).Contents (Elt F)) (K V main_call0_call3_v6 : (⟨S1024, .i1⟩ : BufTy).Contents (Elt F)) := by
  have h := ssa_binary 211 (.of main_call0_call3_v11 : TRef sig ⟨S1024, .i1⟩) (.of main_call0_call3_v6 : TRef sig ⟨S1024, .i1⟩) (.of main_call0_call3_v12 : TRef sig ⟨S1024, .i1⟩) andi rfl (by decide +kernel) (by decide +kernel) (by decide +kernel) V
  exact h

theorem e_call3_v13 : (K V main_call0_call3_v13 : (⟨S1024, .i32⟩ : BufTy).Contents (Elt F)) = (broadcastInDim S1024 ![] bcast_S_S1024) (K V main_call0_call3_v2 : (⟨S_, .i32⟩ : BufTy).Contents (Elt F)) := by
  have h := ssa_unary 212 (.of main_call0_call3_v2 : TRef sig ⟨S_, .i32⟩) (.of main_call0_call3_v13 : TRef sig ⟨S1024, .i32⟩) (broadcastInDim S1024 ![] bcast_S_S1024) rfl (by decide +kernel) (by decide +kernel) V
  exact h

theorem e_call3_v14 : (K V main_call0_call3_v14 : (⟨S1024, .i32⟩ : BufTy).Contents (Elt F)) = (addi) (K V main_call0_call3_v4 : (⟨S1024, .i32⟩ : BufTy).Contents (Elt F)) (K V main_call0_call3_v13 : (⟨S1024, .i32⟩ : BufTy).Contents (Elt F)) := by
  have h := ssa_binary 213 (.of main_call0_call3_v4 : TRef sig ⟨S1024, .i32⟩) (.of main_call0_call3_v13 : TRef sig ⟨S1024, .i32⟩) (.of main_call0_call3_v14 : TRef sig ⟨S1024, .i32⟩) addi rfl (by decide +kernel) (by decide +kernel) (by decide +kernel) V
  exact h

theorem e_v135 : (K V main_call0_v135 : (⟨S1024, .i32⟩ : BufTy).Contents (Elt F)) = (select) (K V main_call0_call3_v12 : (⟨S1024, .i1⟩ : BufTy).Contents (Elt F)) (K V main_call0_call3_v14 : (⟨S1024, .i32⟩ : BufTy).Contents (Elt F)) (K V main_call0_call3_v4 : (⟨S1024, .i32⟩ : BufTy).Contents (Elt F)) := by
  have h := ssa_ternary 214 (.of main_call0_call3_v12 : TRef sig ⟨S1024, .i1⟩) (.of main_call0_call3_v14 : TRef sig ⟨S1024, .i32⟩) (.of main_call0_call3_v4 : TRef sig ⟨S1024, .i32⟩) (.of main_call0_v135 : TRef sig ⟨S1024, .i32⟩) select rfl (by decide +kernel) (by decide +kernel) (by decide +kernel) (by decide +kernel) V
  exact h

theorem e_v136 : (K V main_call0_v136 : (⟨S64, .i32⟩ : BufTy).Contents (Elt F)) = (iotaInDim S64 32 0) := by
  have h := ssa_nullary 215 (.of main_call0_v136 : TRef sig ⟨S64, .i32⟩) (iotaInDim S64 32 0) rfl (by decide +kernel) V
  exact h

theorem e_v137 : (K V main_call0_v137 : (⟨S64x1, .i32⟩ : BufTy).Contents (Elt F)) = (broadcastInDim S64x1 ![0] bcast_S64_S64x1_0) (K V main_call0_v136 : (⟨S64, .i32⟩ : BufTy).Contents (Elt F)) := by
  have h := ssa_unary 216 (.of main_call0_v136 : TRef sig ⟨S64, .i32⟩) (.of main_call0_v137 : TRef sig ⟨S64x1, .i32⟩) (broadcastInDim S64x1 ![0] bcast_S64_S64x1_0) rfl (by decide +kernel) (by decide +kernel) V
  exact h

theorem e_v138 : (K V main_call0_v138 : (⟨S1x1024, .i32⟩ : BufTy).Contents (Elt F)) = (broadcastInDim S1x1024 ![1] bcast_S1024_S1x1024_1) (K V main_call0_v135 : (⟨S1024, .i32⟩ : BufTy).Contents (Elt F)) := by
  have h := ssa_unary 217 (.of main_call0_v135 : TRef sig ⟨S1024, .i32⟩) (.of main_call0_v138 : TRef sig ⟨S1x1024, .i32⟩) (broadcastInDim S1x1024 ![1] bcast_S1024_S1x1024_1) rfl (by decide +kernel) (by decide +kernel) V
  exact h

theorem e_v139 : (K V main_call0_v139 : (⟨S64x1024, .i32⟩ : BufTy).Contents (Elt F)) = (broadcastInDim S64x1024 ![0, 1] bcast_S64x1_S64x1024_0_1) (K V main_call0_v137 : (⟨S64x1, .i32⟩ : BufTy).Contents (Elt F)) := by
  have h := ssa_unary 218 (.of main_call0_v137 : TRef sig ⟨S64x1, .i32⟩) (.of main_call0_v139 : TRef sig ⟨S64x1024, .i32⟩) (broadcastInDim S64x1024 ![0, 1] bcast_S64x1_S64x1024_0_1) rfl (by decide +kernel) (by decide +kernel) V
  exact h

theorem e_v140 : (K V main_call0_v140 : (⟨S64x1024, .i32⟩ : BufTy).Contents (Elt F)) = (broadcastInDim S64x1024 ![0, 1] bcast_S1x1024_S64x1024_0_1) (K V main_call0_v138 : (⟨S1x1024, .i32⟩ : BufTy).Contents (Elt F)) := by
  have h := ssa_unary 219 (.of main_call0_v138 : TRef sig ⟨S1x1024, .i32⟩) (.of main_call0_v140 : TRef sig ⟨S64x1024, .i32⟩) (broadcastInDim S64x1024 ![0, 1] bcast_S1x1024_S64x1024_0_1) rfl (by decide +kernel) (by decide +kernel) V
  exact h

theorem e_v141 : (K V main_call0_v141 : (⟨S64x1024, .i1⟩ : BufTy).Contents (Elt F)) = (cmpi .eq) (K V main_call0_v139 : (⟨S64x1024, .i32⟩ : BufTy).Contents (Elt F)) (K V main_call0_v140 : (⟨S64x1024, .i32⟩ : BufTy).Contents (Elt F)) := by
  have h := ssa_binary 220 (.of main_call0_v139 : TRef sig ⟨S64x1024, .i32⟩) (.of main_call0_v140 : TRef sig ⟨S64x1024, .i32⟩) (.of main_call0_v141 : TRef sig ⟨S64x1024, .i1⟩) (cmpi .eq) rfl (by decide +kernel) (by decide +kernel) (by decide +kernel) V
  exact h

theorem e_v142 : (K V main_call0_v142 : (⟨S64x1024, .f32⟩ : BufTy).Contents (Elt F)) = (uitofp .f32) (K V main_call0_v141 : (⟨S64x1024, .i1⟩ : BufTy).Contents (Elt F)) := by
  have h := ssa_unary 221 (.of main_call0_v141 : TRef sig ⟨S64x1024, .i1⟩) (.of main_call0_v142 : TRef sig ⟨S64x1024, .f32⟩) (uitofp .f32) rfl (by decide +kernel) (by decide +kernel) V
  exact h

theorem e_v143 : (K V main_call0_v143 : (⟨S16, .i32⟩ : BufTy).Contents (Elt F)) = (iotaInDim S16 32 0) := by
  have h := ssa_nullary 222 (.of main_call0_v143 : TRef sig ⟨S16, .i32⟩) (iotaInDim S16 32 0) rfl (by decide +kernel) V
  exact h

theorem e_v144 : (K V main_call0_v144 : (⟨S16x1, .i32⟩ : BufTy).Contents (Elt F)) = (broadcastInDim S16x1 ![0] bcast_S16_S16x1_0) (K V main_call0_v143 : (⟨S16, .i32⟩ : BufTy).Contents (Elt F)) := by
  have h := ssa_unary 223 (.of main_call0_v143 : TRef sig ⟨S16, .i32⟩) (.of main_call0_v144 : TRef sig ⟨S16x1, .i32⟩) (broadcastInDim S16x1 ![0] bcast_S16_S16x1_0) rfl (by decide +kernel) (by decide +kernel) V
  exact h

theorem e_v145 : (K V main_call0_v145 : (⟨S1x1024, .i32⟩ : BufTy).Contents (Elt F)) = (broadcastInDim S1x1024 ![1] bcast_S1024_S1x1024_1) (K V main_call0_v133 : (⟨S1024, .i32⟩ : BufTy).Contents (Elt F)) := by
  have h := ssa_unary 224 (.of main_call0_v133 : TRef sig ⟨S1024, .i32⟩) (.of main_call0_v145 : TRef sig ⟨S1x1024, .i32⟩) (broadcastInDim S1x1024 ![1] bcast_S1024_S1x1024_1) rfl (by decide +kernel) (by decide +kernel) V
  exact h

theorem e_v146 : (K V main_call0_v146 : (⟨S16x1024, .i32⟩ : BufTy).Contents (Elt F)) = (broadcastInDim S16x1024 ![0, 1] bcast_S16x1_S16x1024_0_1) (K V main_call0_v144 : (⟨S16x1, .i32⟩ : BufTy).Contents (Elt F)) := by
  have h := ssa_unary 225 (.of main_call0_v144 : TRef sig ⟨S16x1, .i32⟩) (.of main_call0_v146 : TRef sig ⟨S16x1024, .i32⟩) (broadcastInDim S16x1024 ![0, 1] bcast_S16x1_S16x1024_0_1) rfl (by decide +kernel) (by decide +kernel) V
  exact h

theorem e_v147 : (K V main_call0_v147 : (⟨S16x1024, .i32⟩ : BufTy).Contents (Elt F)) = (broadcastInDim S16x1024 ![0, 1] bcast_S1x1024_S16x1024_0_1) (K V main_call0_v145 : (⟨S1x1024, .i32⟩ : BufTy).Contents (Elt F)) := by
  have h := ssa_unary 226 (.of main_call0_v145 : TRef sig ⟨S1x1024, .i32⟩) (.of main_call0_v147 : TRef sig ⟨S16x1024, .i32⟩) (broadcastInDim S16x1024 ![0, 1] bcast_S1x1024_S16x1024_0_1) rfl (by decide +kernel) (by decide +kernel) V
  exact h

theorem e_v148 : (K V main_call0_v148 : (⟨S16x1024, .i1⟩ : BufTy).Contents (Elt F)) = (cmpi .eq) (K V main_call0_v146 : (⟨S16x1024, .i32⟩ : BufTy).Contents (Elt F)) (K V main_call0_v147 : (⟨S16x1024, .i32⟩ : BufTy).Contents (Elt F)) := by
  have h := ssa_binary 227 (.of main_call0_v146 : TRef sig ⟨S16x1024, .i32⟩) (.of main_call0_v147 : TRef sig ⟨S16x1024, .i32⟩) (.of main_call0_v148 : TRef sig ⟨S16x1024, .i1⟩) (cmpi .eq) rfl (by decide +kernel) (by decide +kernel) (by decide +kernel) V
  exact h

theorem e_v149 : (K V main_call0_v149 : (⟨S16x1024, .f32⟩ : BufTy).Contents (Elt F)) = (uitofp .f32) (K V main_call0_v148 : (⟨S16x1024, .i1⟩ : BufTy).Contents (Elt F)) := by
  have h := ssa_unary 228 (.of main_call0_v148 : TRef sig ⟨S16x1024, .i1⟩) (.of main_call0_v149 : TRef sig ⟨S16x1024, .f32⟩) (uitofp .f32) rfl (by decide +kernel) (by decide +kernel) V
  exact h

theorem e_cst_37 : (K V main_call0_cst_37 : (⟨S_, .f32⟩ : BufTy).Contents (Elt F)) = (constant S_ .f32 0x00000000#32) := by
  have h := ssa_nullary 229 (.of main_call0_cst_37 : TRef sig ⟨S_, .f32⟩) (constant S_ .f32 0x00000000#32) rfl (by decide +kernel) V
  exact h

theorem e_v150 : (K V main_call0_v150 : (⟨S256x2176, .f32⟩ : BufTy).Contents (Elt F)) = (broadcastInDim S256x2176 ![] bcast_S_S256x2176) (K V main_call0_cst_37 : (⟨S_, .f32⟩ : BufTy).Contents (Elt F)) := by
  have h := ssa_unary 230 (.of main_call0_cst_37 : TRef sig ⟨S_, .f32⟩) (.of main_call0_v150 : TRef sig ⟨S256x2176, .f32⟩) (broadcastInDim S256x2176 ![] bcast_S_S256x2176) rfl (by decide +kernel) (by decide +kernel) V
  exact h

theorem e_c_38 : (K V main_call0_c_38 : (⟨S_, .i32⟩ : BufTy).Contents (Elt F)) = (constantI S_ 32 192#32) := by
  have h := ssa_nullary 231 (.of main_call0_c_38 : TRef sig ⟨S_, .i32⟩) (constantI S_ 32 192#32) rfl (by decide +kernel) V
  exact h

theorem e_v151 : (K V main_call0_v151 : (⟨S1, .i32⟩ : BufTy).Contents (Elt F)) = (broadcastInDim S1 ![] bcast_S_S1) (K V main_call0_c_38 : (⟨S_, .i32⟩ : BufTy).Contents (Elt F)) := by
  have h := ssa_unary 232 (.of main_call0_c_38 : TRef sig ⟨S_, .i32⟩) (.of main_call0_v151 : TRef sig ⟨S1, .i32⟩) (broadcastInDim S1 ![] bcast_S_S1) rfl (by decide +kernel) (by decide +kernel) V
  exact h

theorem e_c_39 : (K V main_call0_c_39 : (⟨S_, .i32⟩ : BufTy).Contents (Elt F)) = (constantI S_ 32 0#32) := by
  have h := ssa_nullary 233 (.of main_call0_c_39 : TRef sig ⟨S_, .i32⟩) (constantI S_ 32 0#32) rfl (by decide +kernel) V
  exact h

theorem e_v152 : (K V main_call0_v152 : (⟨S1, .i32⟩ : BufTy).Contents (Elt F)) = (broadcastInDim S1 ![] bcast_S_S1) (K V main_call0_c_39 : (⟨S_, .i32⟩ : BufTy).Contents (Elt F)) := by
  have h := ssa_unary 234 (.of main_call0_c_39 : TRef sig ⟨S_, .i32⟩) (.of main_call0_v152 : TRef sig ⟨S1, .i32⟩) (broadcastInDim S1 ![] bcast_S_S1) rfl (by decide +kernel) (by decide +kernel) V
  exact h

theorem e_v153 : (K V main_call0_v153 : (⟨S2, .i32⟩ : BufTy).Contents (Elt F)) = (fun a b => concatenate S2 0 [⟨S1, a⟩, ⟨S1, b⟩] concatenates_S1_S1_S2_d0) (K V main_call0_v151 : (⟨S1, .i32⟩ : BufTy).Contents (Elt F)) (K V main_call0_v152 : (⟨S1, .i32⟩ : BufTy).Contents (Elt F)) := by
  have h := ssa_binary 235 (.of main_call0_v151 : TRef sig ⟨S1, .i32⟩) (.of main_call0_v152 : TRef sig ⟨S1, .i32⟩) (.of main_call0_v153 : TRef sig ⟨S2, .i32⟩) (fun a b => concatenate S2 0 [⟨S1, a⟩, ⟨S1, b⟩] concatenates_S1_S1_S2_d0) rfl (by decide +kernel) (by decide +kernel) (by decide +kernel) V
  exact h

theorem e_v154 : (K V main_call0_v154 : (⟨S256x2176, .f32⟩ : BufTy).Contents (Elt F)) = (fun x i u => Host.scatter scatter_S256x2176_S2_S16x1024_01_n_01_0 (fun _ b => b) x i u) (K V main_call0_v150 : (⟨S256x2176, .f32⟩ : BufTy).Contents (Elt F)) (K V main_call0_v153 : (⟨S2, .i32⟩ : BufTy).Contents (Elt F)) (K V main_call0_v149 : (⟨S16x1024, .f32⟩ : BufTy).Contents (Elt F)) := by
  have h := ssa_ternary 236 (.of main_call0_v150 : TRef sig ⟨S256x2176, .f32⟩) (.of main_call0_v153 : TRef sig ⟨S2, .i32⟩) (.of main_call0_v149 : TRef sig ⟨S16x1024, .f32⟩) (.of main_call0_v154 : TRef sig ⟨S256x2176, .f32⟩) (fun x i u => Host.scatter scatter_S256x2176_S2_S16x1024_01_n_01_0 (fun _ b => b) x i u) rfl (by decide +kernel) (by decide +kernel) (by decide +kernel) (by decide +kernel) V
  exact h

theorem e_c_40 : (K V main_call0_c_40 : (⟨S_, .i32⟩ : BufTy).Contents (Elt F)) = (constantI S_ 32 208#32) := by
  have h := ssa_nullary 237 (.of main_call0_c_40 : TRef sig ⟨S_, .i32⟩) (constantI S_ 32 208#32) rfl (by decide +kernel) V
  exact h

theorem e_v155 : (K V main_call0_v155 : (⟨S1, .i32⟩ : BufTy).Contents (Elt F)) = (broadcastInDim S1 ![] bcast_S_S1) (K V main_call0_c_40 : (⟨S_, .i32⟩ : BufTy).Contents (Elt F)) := by
  have h := ssa_unary 238 (.of main_call0_c_40 : TRef sig ⟨S_, .i32⟩) (.of main_call0_v155 : TRef sig ⟨S1, .i32⟩) (broadcastInDim S1 ![] bcast_S_S1) rfl (by decide +kernel) (by decide +kernel) V
  exact h

theorem e_c_41 : (K V main_call0_c_41 : (⟨S_, .i32⟩ : BufTy).Contents (Elt F)) = (constantI S_ 32 1024#32) := by
  have h := ssa_nullary 239 (.of main_call0_c_41 : TRef sig ⟨S_, .i32⟩) (constantI S_ 32 1024#32) rfl (by decide +kernel) V
  exact h

theorem e_v156 : (K V main_call0_v156 : (⟨S1, .i32⟩ : BufTy).Contents (Elt F)) = (broadcastInDim S1 ![] bcast_S_S1) (K V main_call0_c_41 : (⟨S_, .i32⟩ : BufTy).Contents (Elt F)) := by
  have h := ssa_unary 240 (.of main_call0_c_41 : TRef sig ⟨S_, .i32⟩) (.of main_call0_v156 : TRef sig ⟨S1, .i32⟩) (broadcastInDim S1 ![] bcast_S_S1) rfl (by decide +kernel) (by decide +kernel) V
  exact h

theorem e_v157 : (K V main_call0_v157 : (⟨S2, .i32⟩ : BufTy).Contents (Elt F)) = (fun a b => concatenate S2 0 [⟨S1, a⟩, ⟨S1, b⟩] concatenates_S1_S1_S2_d0) (K V main_call0_v155 : (⟨S1, .i32⟩ : BufTy).Contents (Elt F)) (K V main_call0_v156 : (⟨S1, .i32⟩ : BufTy).Contents (Elt F)) := by
  have h := ssa_binary 241 (.of main_call0_v155 : TRef sig ⟨S1, .i32⟩) (.of main_call0_v156 : TRef sig ⟨S1, .i32⟩) (.of main_call0_v157 : TRef sig ⟨S2, .i32⟩) (fun a b => concatenate S2 0 [⟨S1, a⟩, ⟨S1, b⟩] concatenates_S1_S1_S2_d0) rfl (by decide +kernel) (by decide +kernel) (by decide +kernel) V
  exact h

theorem e_v158 : (K V main_call0_v158 : (⟨S256x2176, .f32⟩ : BufTy).Contents (Elt F)) = (fun x i u => Host.scatter scatter_S256x2176_S2_S16x1024_01_n_01_0 (fun _ b => b) x i u) (K V main_call0_v154 : (⟨S256x2176, .f32⟩ : BufTy).Contents (Elt F)) (K V main_call0_v157 : (⟨S2, .i32⟩ : BufTy).Contents (Elt F)) (K V main_call0_v149 : (⟨S16x1024, .f32⟩ : BufTy).Contents (Elt F)) := by
  have h := ssa_ternary 242 (.of main_call0_v154 : TRef sig ⟨S256x2176, .f32⟩) (.of main_call0_v157 : TRef sig ⟨S2, .i32⟩) (.of main_call0_v149 : TRef sig ⟨S16x1024, .f32⟩) (.of main_call0_v158 : TRef sig ⟨S256x2176, .f32⟩) (fun x i u => Host.scatter scatter_S256x2176_S2_S16x1024_01_n_01_0 (fun _ b => b) x i u) rfl (by decide +kernel) (by decide +kernel) (by decide +kernel) (by decide +kernel) V
  exact h

theorem e_v159 : (K V main_call0_v159 : (⟨S64x64, .f32⟩ : BufTy).Contents (Elt F)) = (transpose S64x64 [1, 0] · transposes_S64x64_S64x64_1_0) (K V main_arg12 : (⟨S64x64, .f32⟩ : BufTy).Contents (Elt F)) := by
  have h := ssa_unary 243 (.of main_arg12 : TRef sig ⟨S64x64, .f32⟩) (.of main_call0_v159 : TRef sig ⟨S64x64, .f32⟩) (transpose S64x64 [1, 0] · transposes_S64x64_S64x64_1_0) rfl (by decide +kernel) (by decide +kernel) V
  exact h

theorem e_c_42 : (K V main_call0_c_42 : (⟨S_, .i32⟩ : BufTy).Contents (Elt F)) = (constantI S_ 32 128#32) := by
  have h := ssa_nullary 244 (.of main_call0_c_42 : TRef sig ⟨S_, .i32⟩) (constantI S_ 32 128#32) rfl (by decide +kernel) V
  exact h

theorem e_v160 : (K V main_call0_v160 : (⟨S1, .i32⟩ : BufTy).Contents (Elt F)) = (broadcastInDim S1 ![] bcast_S_S1) (K V main_call0_c_42 : (⟨S_, .i32⟩ : BufTy).Contents (Elt F)) := by
  have h := ssa_unary 245 (.of main_call0_c_42 : TRef sig ⟨S_, .i32⟩) (.of main_call0_v160 : TRef sig ⟨S1, .i32⟩) (broadcastInDim S1 ![] bcast_S_S1) rfl (by decide +kernel) (by decide +kernel) V
  exact h

theorem e_c_43 : (K V main_call0_c_43 : (⟨S_, .i32⟩ : BufTy).Contents (Elt F)) = (constantI S_ 32 2048#32) := by
  have h := ssa_nullary 246 (.of main_call0_c_43 : TRef sig ⟨S_, .i32⟩) (constantI S_ 32 2048#32) rfl (by decide +kernel) V
  exact h

theorem e_v161 : (K V main_call0_v161 : (⟨S1, .i32⟩ : BufTy).Contents (Elt F)) = (broadcastInDim S1 ![] bcast_S_S1) (K V main_call0_c_43 : (⟨S_, .i32⟩ : BufTy).Contents (Elt F)) := by
  have h := ssa_unary 247 (.of main_call0_c_43 : TRef sig ⟨S_, .i32⟩) (.of main_call0_v161 : TRef sig ⟨S1, .i32⟩) (broadcastInDim S1 ![] bcast_S_S1) rfl (by decide +kernel) (by decide +kernel) V
  exact h

theorem e_v162 : (K V main_call0_v162 : (⟨S2, .i32⟩ : BufTy).Contents (Elt F)) = (fun a b => concatenate S2 0 [⟨S1, a⟩, ⟨S1, b⟩] concatenates_S1_S1_S2_d0) (K V main_call0_v160 : (⟨S1, .i32⟩ : BufTy).Contents (Elt F)) (K V main_call0_v161 : (⟨S1, .i32⟩ : BufTy).Contents (Elt F)) := by
  have h := ssa_binary 248 (.of main_call0_v160 : TRef sig ⟨S1, .i32⟩) (.of main_call0_v161 : TRef sig ⟨S1, .i32⟩) (.of main_call0_v162 : TRef sig ⟨S2, .i32⟩) (fun a b => concatenate S2 0 [⟨S1, a⟩, ⟨S1, b⟩] concatenates_S1_S1_S2_d0) rfl (by decide +kernel) (by decide +kernel) (by decide +kernel) V
  exact h

theorem e_v163 : (K V main_call0_v163 : (⟨S256x2176, .f32⟩ : BufTy).Contents (Elt F)) = (fun x i u => Host.scatter scatter_S256x2176_S2_S64x64_01_n_01_0 (fun _ b => b) x i u) (K V main_call0_v158 : (⟨S256x2176, .f32⟩ : BufTy).Contents (Elt F)) (K V main_call0_v162 : (⟨S2, .i32⟩ : BufTy).Contents (Elt F)) (K V main_call0_v159 : (⟨S64x64, .f32⟩ : BufTy).Contents (Elt F)) := by
  have h := ssa_ternary 249 (.of main_call0_v158 : TRef sig ⟨S256x2176, .f32⟩) (.of main_call0_v162 : TRef sig ⟨S2, .i32⟩) (.of main_call0_v159 : TRef sig ⟨S64x64, .f32⟩) (.of main_call0_v163 : TRef sig ⟨S256x2176, .f32⟩) (fun x i u => Host.scatter scatter_S256x2176_S2_S64x64_01_n_01_0 (fun _ b => b) x i u) rfl (by decide +kernel) (by decide +kernel) (by decide +kernel) (by decide +kernel) V
  exact h

theorem e_cst_44 : (K V main_call0_cst_44 : (⟨S_, .f32⟩ : BufTy).Contents (Elt F)) = (constant S_ .f32 0x00000000#32) := by
  have h := ssa_nullary 250 (.of main_call0_cst_44 : TRef sig ⟨S_, .f32⟩) (constant S_ .f32 0x00000000#32) rfl (by decide +kernel) V
  exact h

theorem e_v164 : (K V main_call0_v164 : (⟨S128x1024, .f32⟩ : BufTy).Contents (Elt F)) = (broadcastInDim S128x1024 ![] bcast_S_S128x1024) (K V main_call0_cst_44 : (⟨S_, .f32⟩ : BufTy).Contents (Elt F)) := by
  have h := ssa_unary 251 (.of main_call0_cst_44 : TRef sig ⟨S_, .f32⟩) (.of main_call0_v164 : TRef sig ⟨S128x1024, .f32⟩) (broadcastInDim S128x1024 ![] bcast_S_S128x1024) rfl (by decide +kernel) (by decide +kernel) V
  exact h

theorem e_c_45 : (K V main_call0_c_45 : (⟨S_, .i32⟩ : BufTy).Contents (Elt F)) = (constantI S_ 32 0#32) := by
  have h := ssa_nullary 252 (.of main_call0_c_45 : TRef sig ⟨S_, .i32⟩) (constantI S_ 32 0#32) rfl (by decide +kernel) V
  exact h

theorem e_v165 : (K V main_call0_v165 : (⟨S1, .i32⟩ : BufTy).Contents (Elt F)) = (broadcastInDim S1 ![] bcast_S_S1) (K V main_call0_c_45 : (⟨S_, .i32⟩ : BufTy).Contents (Elt F)) := by
  have h := ssa_unary 253 (.of main_call0_c_45 : TRef sig ⟨S_, .i32⟩) (.of main_call0_v165 : TRef sig ⟨S1, .i32⟩) (broadcastInDim S1 ![] bcast_S_S1) rfl (by decide +kernel) (by decide +kernel) V
  exact h

theorem e_v166 : (K V main_call0_v166 : (⟨S128x1024, .f32⟩ : BufTy).Contents (Elt F)) = (fun x i u => Host.scatter scatter_S128x1024_S1_S64x1024_01_n_0_0 (fun _ b => b) x i u) (K V main_call0_v164 : (⟨S128x1024, .f32⟩ : BufTy).Contents (Elt F)) (K V main_call0_v165 : (⟨S1, .i32⟩ : BufTy).Contents (Elt F)) (K V main_call0_v142 : (⟨S64x1024, .f32⟩ : BufTy).Contents (Elt F)) := by
  have h := ssa_ternary 254 (.of main_call0_v164 : TRef sig ⟨S128x1024, .f32⟩) (.of main_call0_v165 : TRef sig ⟨S1, .i32⟩) (.of main_call0_v142 : TRef sig ⟨S64x1024, .f32⟩) (.of main_call0_v166 : TRef sig ⟨S128x1024, .f32⟩) (fun x i u => Host.scatter scatter_S128x1024_S1_S64x1024_01_n_0_0 (fun _ b => b) x i u) rfl (by decide +kernel) (by decide +kernel) (by decide +kernel) (by decide +kernel) V
  exact h

theorem e_v167 : (K V main_call0_v167 : (⟨S1024x64, .f32⟩ : BufTy).Contents (Elt F)) = (transpose S1024x64 [1, 0] · transposes_S64x1024_S1024x64_1_0) (K V main_call0_v142 : (⟨S64x1024, .f32⟩ : BufTy).Contents (Elt F)) := by
  have h := ssa_unary 255 (.of main_call0_v142 : TRef sig ⟨S64x1024, .f32⟩) (.of main_call0_v167 : TRef sig ⟨S1024x64, .f32⟩) (transpose S1024x64 [1, 0] · transposes_S64x1024_S1024x64_1_0) rfl (by decide +kernel) (by decide +kernel) V
  exact h

theorem e_c_46 : (K V main_call0_c_46 : (⟨S_, .i32⟩ : BufTy).Contents (Elt F)) = (constantI S_ 32 0#32) := by
  have h := ssa_nullary 256 (.of main_call0_c_46 : TRef sig ⟨S_, .i32⟩) (constantI S_ 32 0#32) rfl (by decide +kernel) V
  exact h

theorem e_v168 : (K V main_call0_v168 : (⟨S1024, .i32⟩ : BufTy).Contents (Elt F)) = (broadcastInDim S1024 ![] bcast_S_S1024) (K V main_call0_c_46 : (⟨S_, .i32⟩ : BufTy).Contents (Elt F)) := by
  have h := ssa_unary 257 (.of main_call0_c_46 : TRef sig ⟨S_, .i32⟩) (.of main_call0_v168 : TRef sig ⟨S1024, .i32⟩) (broadcastInDim S1024 ![] bcast_S_S1024) rfl (by decide +kernel) (by decide +kernel) V
  exact h

theorem e_v169 : (K V main_call0_v169 : (⟨S1024, .i1⟩ : BufTy).Contents (Elt F)) = (cmpi .slt) (K V main_call0_v135 : (⟨S1024, .i32⟩ : BufTy).Contents (Elt F)) (K V main_call0_v168 : (⟨S1024, .i32⟩ : BufTy).Contents (Elt F)) := by
  have h := ssa_binary 258 (.of main_call0_v135 : TRef sig ⟨S1024, .i32⟩) (.of main_call0_v168 : TRef sig ⟨S1024, .i32⟩) (.of main_call0_v169 : TRef sig ⟨S1024, .i1⟩) (cmpi .slt) rfl (by decide +kernel) (by decide +kernel) (by decide +kernel) V
  exact h

theorem e_c_47 : (K V main_call0_c_47 : (⟨S_, .i32⟩ : BufTy).Contents (Elt F)) = (constantI S_ 32 64#32) := by
  have h := ssa_nullary 259 (.of main_call0_c_47 : TRef sig ⟨S_, .i32⟩) (constantI S_ 32 64#32) rfl (by decide +kernel) V
  exact h

theorem e_v170 : (K V main_call0_v170 : (⟨S1024, .i32⟩ : BufTy).Contents (Elt F)) = (broadcastInDim S1024 ![] bcast_S_S1024) (K V main_call0_c_47 : (⟨S_, .i32⟩ : BufTy).Contents (Elt F)) := by
  have h := ssa_unary 260 (.of main_call0_c_47 : TRef sig ⟨S_, .i32⟩) (.of main_call0_v170 : TRef sig ⟨S1024, .i32⟩) (broadcastInDim S1024 ![] bcast_S_S1024) rfl (by decide +kernel) (by decide +kernel) V
  exact h

theorem e_v171 : (K V main_call0_v171 : (⟨S1024, .i32⟩ : BufTy).Contents (Elt F)) = (addi) (K V main_call0_v135 : (⟨S1024, .i32⟩ : BufTy).Contents (Elt F)) (K V main_call0_v170 : (⟨S1024, .i32⟩ : BufTy).Contents (Elt F)) := by
  have h := ssa_binary 261 (.of main_call0_v135 : TRef sig ⟨S1024, .i32⟩) (.of main_call0_v170 : TRef sig ⟨S1024, .i32⟩) (.of main_call0_v171 : TRef sig ⟨S1024, .i32⟩) addi rfl (by decide +kernel) (by decide +kernel) (by decide +kernel) V
  exact h

theorem e_v172 : (K V main_call0_v172 : (⟨S1024, .i32⟩ : BufTy).Contents (Elt F)) = (select) (K V main_call0_v169 : (⟨S1024, .i1⟩ : BufTy).Contents (Elt F)) (K V main_call0_v171 : (⟨S1024, .i32⟩ : BufTy).Contents (Elt F)) (K V main_call0_v135 : (⟨S1024, .i32⟩ : BufTy).Contents (Elt F)) := by
  have h := ssa_ternary 262 (.of main_call0_v169 : TRef sig ⟨S1024, .i1⟩) (.of main_call0_v171 : TRef sig ⟨S1024, .i32⟩) (.of main_call0_v135 : TRef sig ⟨S1024, .i32⟩) (.of main_call0_v172 : TRef sig ⟨S1024, .i32⟩) select rfl (by decide +kernel) (by decide +kernel) (by decide +kernel) (by decide +kernel) V
  exact h

theorem e_v173 : (K V main_call0_v173 : (⟨S1024x1, .i32⟩ : BufTy).Contents (Elt F)) = (broadcastInDim S1024x1 ![0] bcast_S1024_S1024x1_0) (K V main_call0_v172 : (⟨S1024, .i32⟩ : BufTy).Contents (Elt F)) := by
  have h := ssa_unary 263 (.of main_call0_v172 : TRef sig ⟨S1024, .i32⟩) (.of main_call0_v173 : TRef sig ⟨S1024x1, .i32⟩) (broadcastInDim S1024x1 ![0] bcast_S1024_S1024x1_0) rfl (by decide +kernel) (by decide +kernel) V
  exact h

theorem e_v174 : (K V main_call0_v174 : (⟨S1024, .f32⟩ : BufTy).Contents (Elt F)) = (fun x i => Host.gather gather_S64_S1024x1_S1024_n_0_n_n_0_1_1 x i) (K V main_arg11 : (⟨S64, .f32⟩ : BufTy).Contents (Elt F)) (K V main_call0_v173 : (⟨S1024x1, .i32⟩ : BufTy).Contents (Elt F)) := by
  have h := ssa_binary 264 (.of main_arg11 : TRef sig ⟨S64, .f32⟩) (.of main_call0_v173 : TRef sig ⟨S1024x1, .i32⟩) (.of main_call0_v174 : TRef sig ⟨S1024, .f32⟩) (fun x i => Host.gather gather_S64_S1024x1_S1024_n_0_n_n_0_1_1 x i) rfl (by decide +kernel) (by decide +kernel) (by decide +kernel) V
  exact h

theorem e_c_48 : (K V main_call0_c_48 : (⟨S_, .i32⟩ : BufTy).Contents (Elt F)) = (constantI S_ 32 0#32) := by
  have h := ssa_nullary 265 (.of main_call0_c_48 : TRef sig ⟨S_, .i32⟩) (constantI S_ 32 0#32) rfl (by decide +kernel) V
  exact h

theorem e_v175 : (K V main_call0_v175 : (⟨S1024, .i32⟩ : BufTy).Contents (Elt F)) = (broadcastInDim S1024 ![] bcast_S_S1024) (K V main_call0_c_48 : (⟨S_, .i32⟩ : BufTy).Contents (Elt F)) := by
  have h := ssa_unary 266 (.of main_call0_c_48 : TRef sig ⟨S_, .i32⟩) (.of main_call0_v175 : TRef sig ⟨S1024, .i32⟩) (broadcastInDim S1024 ![] bcast_S_S1024) rfl (by decide +kernel) (by decide +kernel) V
  exact h

theorem e_v176 : (K V main_call0_v176 : (⟨S1024, .i1⟩ : BufTy).Contents (Elt F)) = (cmpi .slt) (K V main_call0_v135 : (⟨S1024, .i32⟩ : BufTy).Contents (Elt F)) (K V main_call0_v175 : (⟨S1024, .i32⟩ : BufTy).Contents (Elt F)) := by
  have h := ssa_binary 267 (.of main_call0_v135 : TRef sig ⟨S1024, .i32⟩) (.of main_call0_v175 : TRef sig ⟨S1024, .i32⟩) (.of main_call0_v176 : TRef sig ⟨S1024, .i1⟩) (cmpi .slt) rfl (by decide +kernel) (by decide +kernel) (by decide +kernel) V
  exact h

theorem e_c_49 : (K V main_call0_c_49 : (⟨S_, .i32⟩ : BufTy).Contents (Elt F)) = (constantI S_ 32 64#32) := by
  have h := ssa_nullary 268 (.of main_call0_c_49 : TRef sig ⟨S_, .i32⟩) (constantI S_ 32 64#32) rfl (by decide +kernel) V
  exact h

theorem e_v177 : (K V main_call0_v177 : (⟨S1024, .i32⟩ : BufTy).Contents (Elt F)) = (broadcastInDim S1024 ![] bcast_S_S1024) (K V main_call0_c_49 : (⟨S_, .i32⟩ : BufTy).Contents (Elt F)) := by
  have h := ssa_unary 269 (.of main_call0_c_49 : TRef sig ⟨S_, .i32⟩) (.of main_call0_v177 : TRef sig ⟨S1024, .i32⟩) (broadcastInDim S1024 ![] bcast_S_S1024) rfl (by decide +kernel) (by decide +kernel) V
  exact h

theorem e_v178 : (K V main_call0_v178 : (⟨S1024, .i32⟩ : BufTy).Contents (Elt F)) = (addi) (K V main_call0_v135 : (⟨S1024, .i32⟩ : BufTy).Contents (Elt F)) (K V main_call0_v177 : (⟨S1024, .i32⟩ : BufTy).Contents (Elt F)) := by
  have h := ssa_binary 270 (.of main_call0_v135 : TRef sig ⟨S1024, .i32⟩) (.of main_call0_v177 : TRef sig ⟨S1024, .i32⟩) (.of main_call0_v178 : TRef sig ⟨S1024, .i32⟩) addi rfl (by decide +kernel) (by decide +kernel) (by decide +kernel) V
  exact h

theorem e_v179 : (K V main_call0_v179 : (⟨S1024, .i32⟩ : BufTy).Contents (Elt F)) = (select) (K V main_call0_v176 : (⟨S1024, .i1⟩ : BufTy).Contents (Elt F)) (K V main_call0_v178 : (⟨S1024, .i32⟩ : BufTy).Contents (Elt F)) (K V main_call0_v135 : (⟨S1024, .i32⟩ : BufTy).Contents (Elt F)) := by
  have h := ssa_ternary 271 (.of main_call0_v176 : TRef sig ⟨S1024, .i1⟩) (.of main_call0_v178 : TRef sig ⟨S1024, .i32⟩) (.of main_call0_v135 : TRef sig ⟨S1024, .i32⟩) (.of main_call0_v179 : TRef sig ⟨S1024, .i32⟩) select rfl (by decide +kernel) (by decide +kernel) (by decide +kernel) (by decide +kernel) V
  exact h

theorem e_v180 : (K V main_call0_v180 : (⟨S1024x1, .i32⟩ : BufTy).Contents (Elt F)) = (broadcastInDim S1024x1 ![0] bcast_S1024_S1024x1_0) (K V main_call0_v179 : (⟨S1024, .i32⟩ : BufTy).Contents (Elt F)) := by
  have h := ssa_unary 272 (.of main_call0_v179 : TRef sig ⟨S1024, .i32⟩) (.of main_call0_v180 : TRef sig ⟨S1024x1, .i32⟩) (broadcastInDim S1024x1 ![0] bcast_S1024_S1024x1_0) rfl (by decide +kernel) (by decide +kernel) V
  exact h

theorem e_v181 : (K V main_call0_v181 : (⟨S1024, .f32⟩ : BufTy).Contents (Elt F)) = (fun x i => Host.gather gather_S64_S1024x1_S1024_n_0_n_n_0_1_1 x i) (K V main_arg15 : (⟨S64, .f32⟩ : BufTy).Contents (Elt F)) (K V main_call0_v180 : (⟨S1024x1, .i32⟩ : BufTy).Contents (Elt F)) := by
  have h := ssa_binary 273 (.of main_arg15 : TRef sig ⟨S64, .f32⟩) (.of main_call0_v180 : TRef sig ⟨S1024x1, .i32⟩) (.of main_call0_v181 : TRef sig ⟨S1024, .f32⟩) (fun x i => Host.gather gather_S64_S1024x1_S1024_n_0_n_n_0_1_1 x i) rfl (by decide +kernel) (by decide +kernel) (by decide +kernel) V
  exact h

theorem e_cst_50 : (K V main_call0_cst_50 : (⟨S_, .f32⟩ : BufTy).Contents (Elt F)) = (constant S_ .f32 0x00000000#32) := by
  have h := ssa_nullary 274 (.of main_call0_cst_50 : TRef sig ⟨S_, .f32⟩) (constant S_ .f32 0x00000000#32) rfl (by decide +kernel) V
  exact h

theorem e_v182 : (K V main_call0_v182 : (⟨S128, .f32⟩ : BufTy).Contents (Elt F)) = (broadcastInDim S128 ![] bcast_S_S128) (K V main_call0_cst_50 : (⟨S_, .f32⟩ : BufTy).Contents (Elt F)) := by
  have h := ssa_unary 275 (.of main_call0_cst_50 : TRef sig ⟨S_, .f32⟩) (.of main_call0_v182 : TRef sig ⟨S128, .f32⟩) (broadcastInDim S128 ![] bcast_S_S128) rfl (by decide +kernel) (by decide +kernel) V
  exact h

theorem e_c_51 : (K V main_call0_c_51 : (⟨S_, .i32⟩ : BufTy).Contents (Elt F)) = (constantI S_ 32 0#32) := by
  have h := ssa_nullary 276 (.of main_call0_c_51 : TRef sig ⟨S_, .i32⟩) (constantI S_ 32 0#32) rfl (by decide +kernel) V
  exact h

theorem e_v183 : (K V main_call0_v183 : (⟨S1, .i32⟩ : BufTy).Contents (Elt F)) = (broadcastInDim S1 ![] bcast_S_S1) (K V main_call0_c_51 : (⟨S_, .i32⟩ : BufTy).Contents (Elt F)) := by
  have h := ssa_unary 277 (.of main_call0_c_51 : TRef sig ⟨S_, .i32⟩) (.of main_call0_v183 : TRef sig ⟨S1, .i32⟩) (broadcastInDim S1 ![] bcast_S_S1) rfl (by decide +kernel) (by decide +kernel) V
  exact h

theorem e_v184 : (K V main_call0_v184 : (⟨S128, .f32⟩ : BufTy).Contents (Elt F)) = (fun x i u => Host.scatter scatter_S128_S1_S64_0_n_0_0 (fun _ b => b) x i u) (K V main_call0_v182 : (⟨S128, .f32⟩ : BufTy).Contents (Elt F)) (K V main_call0_v183 : (⟨S1, .i32⟩ : BufTy).Contents (Elt F)) (K V main_arg13 : (⟨S64, .f32⟩ : BufTy).Contents (Elt F)) := by
  have h := ssa_ternary 278 (.of main_call0_v182 : TRef sig ⟨S128, .f32⟩) (.of main_call0_v183 : TRef sig ⟨S1, .i32⟩) (.of main_arg13 : TRef sig ⟨S64, .f32⟩) (.of main_call0_v184 : TRef sig ⟨S128, .f32⟩) (fun x i u => Host.scatter scatter_S128_S1_S64_0_n_0_0 (fun _ b => b) x i u) rfl (by decide +kernel) (by decide +kernel) (by decide +kernel) (by decide +kernel) V
  exact h

theorem e_v185 : (K V main_call0_v185 : (⟨S256x608x32, .f32⟩ : BufTy).Contents (Elt F)) = (transpose S256x608x32 [1, 0, 2] · transposes_S608x256x32_S256x608x32_1_0_2) (K V main_arg0 : (⟨S608x256x32, .f32⟩ : BufTy).Contents (Elt F)) := by
  have h := ssa_unary 279 (.of main_arg0 : TRef sig ⟨S608x256x32, .f32⟩) (.of main_call0_v185 : TRef sig ⟨S256x608x32, .f32⟩) (transpose S256x608x32 [1, 0, 2] · transposes_S608x256x32_S256x608x32_1_0_2) rfl (by decide +kernel) (by decide +kernel) V
  exact h

theorem e_v186 : (K V main_call0_v186 : (⟨S4x64x4x152x32, .f32⟩ : BufTy).Contents (Elt F)) = shapeCast S4x64x4x152x32 (K V main_call0_v185 : (⟨S256x608x32, .f32⟩ : BufTy).Contents (Elt F)) shapeCasts_S256x608x32_S4x64x4x152x32 := by
  have h := ssa_reshape 280 (.of main_call0_v185 : TRef sig ⟨S256x608x32, .f32⟩) (.of main_call0_v186 : TRef sig ⟨S4x64x4x152x32, .f32⟩) shapeCasts_S256x608x32_S4x64x4x152x32 rfl (by decide +kernel) (by decide +kernel) V
  exact h

end Cert.KernelIdeal.Gen
-- ==== Proof.Scat.lean ====
module

public import proofs.«01_k».proof.Proof.HostK
public import Idealize.ShloMosaic.Lib.Pointwise
public import Idealize.ShloMosaic.Lib.Routing.OpsSet

@[expose] public section

set_option maxRecDepth 8192

/-! The kernel's host lines build their tables by setting windows of zero arrays: those scatters read at an entry. -/

noncomputable section

namespace Cert.Proof.KH

open Idealize.ShloMosaic Idealize.ShloMosaic.TcCoe
open Cert.KernelIdeal Cert.KernelIdeal.Gen

/-- A scatter that sets, whose updates land at distinct places `f`, read at a place: the update that lands there, or
    the operand. -/
theorem set_if {α : Type} {s si u : Shape} (d : ScatterDims s si u) (x : s.Idx → α) (idx : IVec si 32) (upd : u.Idx → α) (f : u.Idx → s.Idx)
    (hf : ∀ k a, d.start k idx a + (d.window k a : Int) = ((f k a).val : Int)) (hi : ∀ k k', f k = f k' → k = k')
    (y : s.Idx) (g : u.Idx) (P : Prop) [Decidable P] (hP : P → f g = y) (hn : ∀ k, f k = y → P) :
    Host.scatter d (fun _ b => b) x idx upd y = if P then upd g else x y := by
  have key : ∀ k z, d.resultIdx? k idx = some z ↔ f k = z := fun k z => by
    rw [Routing.resultIdx?_eq_some]
    constructor
    · intro h
      funext a
      have := (hf k a).symm.trans (h a)
      exact Fin.ext (by exact_mod_cast this)
    · rintro rfl a
      exact hf k a
  by_cases h : P
  · rw [if_pos h]
    refine Routing.scatter_set_hit d x idx upd y _ (fun k hk => congrArg upd (hi _ _ ?_)) g ((key _ _).2 (hP h))
    exact ((key _ _).1 hk).trans (hP h).symm
  · rw [if_neg h]
    exact Routing.scatter_set_miss d x idx upd y fun k hk => h (hn k ((key _ _).1 hk))

theorem set_blk {α : Type} (X : S4x152x152.Idx → α) (idx : IVec S2 32) (upd : S4x19x19.Idx → α) (o p : ℕ)
    (hz0 : (idx (ix1 (0 : Fin 2))).toInt = (o : Int)) (hz1 : (idx (ix1 (1 : Fin 2))).toInt = (p : Int)) (hb0 : o + 19 ≤ 152) (hb1 : p + 19 ≤ 152) (i : Fin 4) (r : Fin 152) (x : Fin 152) :
    Host.scatter scatter_S4x152x152_S2_S4x19x19_012_n_12_0 (fun _ b => b) X idx upd (ix3 i r x)
      = if (o ≤ r.val ∧ r.val < o + 19) ∧ (p ≤ x.val ∧ x.val < p + 19) then upd (ix3 i (Fin.ofNat 19 (r.val - o)) (Fin.ofNat 19 (x.val - p))) else X (ix3 i r x) := by
  refine set_if scatter_S4x152x152_S2_S4x19x19_012_n_12_0 X idx upd (fun k => ix3 (k 0) (⟨o + (k 1).val, by have := (k 1).isLt; change (k 1).val < 19 at this; omega⟩ : Fin 152) (⟨p + (k 2).val, by have := (k 2).isLt; change (k 2).val < 19 at this; omega⟩ : Fin 152)) ?_ ?_ _ _ _ ?_ ?_
  · intro k a
    have s0 : scatter_S4x152x152_S2_S4x19x19_012_n_12_0.start k idx 0 = 0 := rfl
    have w0 : scatter_S4x152x152_S2_S4x19x19_012_n_12_0.window k 0 = (k 0).val := rfl
    have s1 : scatter_S4x152x152_S2_S4x19x19_012_n_12_0.start k idx 1 = (o : Int) := by
      unfold ScatterDims.start
      rw [dif_pos (by decide)]
      refine Eq.trans ?_ hz0
      refine congrArg (fun z => (idx z).toInt) ?_
      funext b
      match b with
      | ⟨0, _⟩ => rfl
    have w1 : scatter_S4x152x152_S2_S4x19x19_012_n_12_0.window k 1 = (k 1).val := rfl
    have s2 : scatter_S4x152x152_S2_S4x19x19_012_n_12_0.start k idx 2 = (p : Int) := by
      unfold ScatterDims.start
      rw [dif_pos (by decide)]
      refine Eq.trans ?_ hz1
      refine congrArg (fun z => (idx z).toInt) ?_
      funext b
      match b with
      | ⟨0, _⟩ => rfl
    have w2 : scatter_S4x152x152_S2_S4x19x19_012_n_12_0.window k 2 = (k 2).val := rfl
    match a with
    | ⟨0, _⟩ => exact (congrArg₂ (· + ·) s0 (congrArg Nat.cast w0)).trans (zero_add _)
    | ⟨1, _⟩ => exact (congrArg₂ (· + ·) s1 (congrArg Nat.cast w1)).trans (Nat.cast_add _ _).symm
    | ⟨2, _⟩ => exact (congrArg₂ (· + ·) s2 (congrArg Nat.cast w2)).trans (Nat.cast_add _ _).symm
  · intro k k' h
    funext a
    match a with
    | ⟨0, _⟩ => exact Fin.ext (by have q := congrArg Fin.val (congrFun h 0); exact q)
    | ⟨1, _⟩ => exact Fin.ext (by have q := congrArg Fin.val (congrFun h 1); change o + (k 1).val = o + (k' 1).val at q; change (k 1).val = (k' 1).val; omega)
    | ⟨2, _⟩ => exact Fin.ext (by have q := congrArg Fin.val (congrFun h 2); change p + (k 2).val = p + (k' 2).val at q; change (k 2).val = (k' 2).val; omega)
  · intro h
    funext a
    match a with
    | ⟨0, _⟩ => rfl
    | ⟨1, _⟩ => exact Fin.ext (by show o + (r.val - o) % 19 = r.val; have := h; omega)
    | ⟨2, _⟩ => exact Fin.ext (by show p + (x.val - p) % 19 = x.val; have := h; omega)
  · intro k h
    have q1 := congrArg Fin.val (congrFun h 1)
    change o + (k 1).val = r.val at q1
    have b1 : (k 1).val < 19 := (k 1).isLt
    have q2 := congrArg Fin.val (congrFun h 2)
    change p + (k 2).val = x.val at q2
    have b2 : (k 2).val < 19 := (k 2).isLt
    omega

theorem set_col64 {α : Type} (X : S64x256.Idx → α) (idx : IVec S1 32) (upd : S64x64.Idx → α) (o : ℕ)
    (hz : ∀ y, (idx y).toInt = (o : Int)) (hb0 : o + 64 ≤ 256) (i : Fin 64) (r : Fin 256) :
    Host.scatter scatter_S64x256_S1_S64x64_01_n_1_0 (fun _ b => b) X idx upd (ix2 i r)
      = if o ≤ r.val ∧ r.val < o + 64 then upd (ix2 i (Fin.ofNat 64 (r.val - o))) else X (ix2 i r) := by
  refine set_if scatter_S64x256_S1_S64x64_01_n_1_0 X idx upd (fun k => ix2 (k 0) (⟨o + (k 1).val, by have := (k 1).isLt; change (k 1).val < 64 at this; omega⟩ : Fin 256)) ?_ ?_ _ _ _ ?_ ?_
  · intro k a
    have s0 : scatter_S64x256_S1_S64x64_01_n_1_0.start k idx 0 = 0 := rfl
    have w0 : scatter_S64x256_S1_S64x64_01_n_1_0.window k 0 = (k 0).val := rfl
    have s1 : scatter_S64x256_S1_S64x64_01_n_1_0.start k idx 1 = (o : Int) := by
      unfold ScatterDims.start
      rw [dif_pos (by decide)]
      exact hz _
    have w1 : scatter_S64x256_S1_S64x64_01_n_1_0.window k 1 = (k 1).val := rfl
    match a with
    | ⟨0, _⟩ => exact (congrArg₂ (· + ·) s0 (congrArg Nat.cast w0)).trans (zero_add _)
    | ⟨1, _⟩ => exact (congrArg₂ (· + ·) s1 (congrArg Nat.cast w1)).trans (Nat.cast_add _ _).symm
  · intro k k' h
    funext a
    match a with
    | ⟨0, _⟩ => exact Fin.ext (by have q := congrArg Fin.val (congrFun h 0); exact q)
    | ⟨1, _⟩ => exact Fin.ext (by have q := congrArg Fin.val (congrFun h 1); change o + (k 1).val = o + (k' 1).val at q; change (k 1).val = (k' 1).val; omega)
  · intro h
    funext a
    match a with
    | ⟨0, _⟩ => rfl
    | ⟨1, _⟩ => exact Fin.ext (by show o + (r.val - o) % 64 = r.val; have := h; omega)
  · intro k h
    have q1 := congrArg Fin.val (congrFun h 1)
    change o + (k 1).val = r.val at q1
    have b1 : (k 1).val < 64 := (k 1).isLt
    omega

theorem set_col16 {α : Type} (X : S64x256.Idx → α) (idx : IVec S1 32) (upd : S64x16.Idx → α) (o : ℕ)
    (hz : ∀ y, (idx y).toInt = (o : Int)) (hb0 : o + 16 ≤ 256) (i : Fin 64) (r : Fin 256) :
    Host.scatter scatter_S64x256_S1_S64x16_01_n_1_0 (fun _ b => b) X idx upd (ix2 i r)
      = if o ≤ r.val ∧ r.val < o + 16 then upd (ix2 i (Fin.ofNat 16 (r.val - o))) else X (ix2 i r) := by
  refine set_if scatter_S64x256_S1_S64x16_01_n_1_0 X idx upd (fun k => ix2 (k 0) (⟨o + (k 1).val, by have := (k 1).isLt; change (k 1).val < 16 at this; omega⟩ : Fin 256)) ?_ ?_ _ _ _ ?_ ?_
  · intro k a
    have s0 : scatter_S64x256_S1_S64x16_01_n_1_0.start k idx 0 = 0 := rfl
    have w0 : scatter_S64x256_S1_S64x16_01_n_1_0.window k 0 = (k 0).val := rfl
    have s1 : scatter_S64x256_S1_S64x16_01_n_1_0.start k idx 1 = (o : Int) := by
      unfold ScatterDims.start
      rw [dif_pos (by decide)]
      exact hz _
    have w1 : scatter_S64x256_S1_S64x16_01_n_1_0.window k 1 = (k 1).val := rfl
    match a with
    | ⟨0, _⟩ => exact (congrArg₂ (· + ·) s0 (congrArg Nat.cast w0)).trans (zero_add _)
    | ⟨1, _⟩ => exact (congrArg₂ (· + ·) s1 (congrArg Nat.cast w1)).trans (Nat.cast_add _ _).symm
  · intro k k' h
    funext a
    match a with
    | ⟨0, _⟩ => exact Fin.ext (by have q := congrArg Fin.val (congrFun h 0); exact q)
    | ⟨1, _⟩ => exact Fin.ext (by have q := congrArg Fin.val (congrFun h 1); change o + (k 1).val = o + (k' 1).val at q; change (k 1).val = (k' 1).val; omega)
  · intro h
    funext a
    match a with
    | ⟨0, _⟩ => rfl
    | ⟨1, _⟩ => exact Fin.ext (by show o + (r.val - o) % 16 = r.val; have := h; omega)
  · intro k h
    have q1 := congrArg Fin.val (congrFun h 1)
    change o + (k 1).val = r.val at q1
    have b1 : (k 1).val < 16 := (k 1).isLt
    omega

theorem set_v256 {α : Type} (X : S256.Idx → α) (idx : IVec S1 32) (upd : S128.Idx → α) (o : ℕ)
    (hz : ∀ y, (idx y).toInt = (o : Int)) (hb0 : o + 128 ≤ 256) (i : Fin 256) :
    Host.scatter scatter_S256_S1_S128_0_n_0_0 (fun _ b => b) X idx upd (ix1 i)
      = if o ≤ i.val ∧ i.val < o + 128 then upd (ix1 (Fin.ofNat 128 (i.val - o))) else X (ix1 i) := by
  refine set_if scatter_S256_S1_S128_0_n_0_0 X idx upd (fun k => ix1 (⟨o + (k 0).val, by have := (k 0).isLt; change (k 0).val < 128 at this; omega⟩ : Fin 256)) ?_ ?_ _ _ _ ?_ ?_
  · intro k a
    have s0 : scatter_S256_S1_S128_0_n_0_0.start k idx 0 = (o : Int) := by
      unfold ScatterDims.start
      rw [dif_pos (by decide)]
      exact hz _
    have w0 : scatter_S256_S1_S128_0_n_0_0.window k 0 = (k 0).val := rfl
    match a with
    | ⟨0, _⟩ => exact (congrArg₂ (· + ·) s0 (congrArg Nat.cast w0)).trans (Nat.cast_add _ _).symm
  · intro k k' h
    funext a
    match a with
    | ⟨0, _⟩ => exact Fin.ext (by have q := congrArg Fin.val (congrFun h 0); change o + (k 0).val = o + (k' 0).val at q; change (k 0).val = (k' 0).val; omega)
  · intro h
    funext a
    match a with
    | ⟨0, _⟩ => exact Fin.ext (by show o + (i.val - o) % 128 = i.val; have := h; omega)
  · intro k h
    have q0 := congrArg Fin.val (congrFun h 0)
    change o + (k 0).val = i.val at q0
    have b0 : (k 0).val < 128 := (k 0).isLt
    omega

theorem set_v128 {α : Type} (X : S128.Idx → α) (idx : IVec S1 32) (upd : S64.Idx → α) (o : ℕ)
    (hz : ∀ y, (idx y).toInt = (o : Int)) (hb0 : o + 64 ≤ 128) (i : Fin 128) :
    Host.scatter scatter_S128_S1_S64_0_n_0_0 (fun _ b => b) X idx upd (ix1 i)
      = if o ≤ i.val ∧ i.val < o + 64 then upd (ix1 (Fin.ofNat 64 (i.val - o))) else X (ix1 i) := by
  refine set_if scatter_S128_S1_S64_0_n_0_0 X idx upd (fun k => ix1 (⟨o + (k 0).val, by have := (k 0).isLt; change (k 0).val < 64 at this; omega⟩ : Fin 128)) ?_ ?_ _ _ _ ?_ ?_
  · intro k a
    have s0 : scatter_S128_S1_S64_0_n_0_0.start k idx 0 = (o : Int) := by
      unfold ScatterDims.start
      rw [dif_pos (by decide)]
      exact hz _
    have w0 : scatter_S128_S1_S64_0_n_0_0.window k 0 = (k 0).val := rfl
    match a with
    | ⟨0, _⟩ => exact (congrArg₂ (· + ·) s0 (congrArg Nat.cast w0)).trans (Nat.cast_add _ _).symm
  · intro k k' h
    funext a
    match a with
    | ⟨0, _⟩ => exact Fin.ext (by have q := congrArg Fin.val (congrFun h 0); change o + (k 0).val = o + (k' 0).val at q; change (k 0).val = (k' 0).val; omega)
  · intro h
    funext a
    match a with
    | ⟨0, _⟩ => exact Fin.ext (by show o + (i.val - o) % 64 = i.val; have := h; omega)
  · intro k h
    have q0 := congrArg Fin.val (congrFun h 0)
    change o + (k 0).val = i.val at q0
    have b0 : (k 0).val < 64 := (k 0).isLt
    omega

theorem set_e16 {α : Type} (X : S256x2176.Idx → α) (idx : IVec S2 32) (upd : S16x1024.Idx → α) (o p : ℕ)
    (hz0 : (idx (ix1 (0 : Fin 2))).toInt = (o : Int)) (hz1 : (idx (ix1 (1 : Fin 2))).toInt = (p : Int)) (hb0 : o + 16 ≤ 256) (hb1 : p + 1024 ≤ 2176) (i : Fin 256) (r : Fin 2176) :
    Host.scatter scatter_S256x2176_S2_S16x1024_01_n_01_0 (fun _ b => b) X idx upd (ix2 i r)
      = if (o ≤ i.val ∧ i.val < o + 16) ∧ (p ≤ r.val ∧ r.val < p + 1024) then upd (ix2 (Fin.ofNat 16 (i.val - o)) (Fin.ofNat 1024 (r.val - p))) else X (ix2 i r) := by
  refine set_if scatter_S256x2176_S2_S16x1024_01_n_01_0 X idx upd (fun k => ix2 (⟨o + (k 0).val, by have := (k 0).isLt; change (k 0).val < 16 at this; omega⟩ : Fin 256) (⟨p + (k 1).val, by have := (k 1).isLt; change (k 1).val < 1024 at this; omega⟩ : Fin 2176)) ?_ ?_ _ _ _ ?_ ?_
  · intro k a
    have s0 : scatter_S256x2176_S2_S16x1024_01_n_01_0.start k idx 0 = (o : Int) := by
      unfold ScatterDims.start
      rw [dif_pos (by decide)]
      refine Eq.trans ?_ hz0
      refine congrArg (fun z => (idx z).toInt) ?_
      funext b
      match b with
      | ⟨0, _⟩ => rfl
    have w0 : scatter_S256x2176_S2_S16x1024_01_n_01_0.window k 0 = (k 0).val := rfl
    have s1 : scatter_S256x2176_S2_S16x1024_01_n_01_0.start k idx 1 = (p : Int) := by
      unfold ScatterDims.start
      rw [dif_pos (by decide)]
      refine Eq.trans ?_ hz1
      refine congrArg (fun z => (idx z).toInt) ?_
      funext b
      match b with
      | ⟨0, _⟩ => rfl
    have w1 : scatter_S256x2176_S2_S16x1024_01_n_01_0.window k 1 = (k 1).val := rfl
    match a with
    | ⟨0, _⟩ => exact (congrArg₂ (· + ·) s0 (congrArg Nat.cast w0)).trans (Nat.cast_add _ _).symm
    | ⟨1, _⟩ => exact (congrArg₂ (· + ·) s1 (congrArg Nat.cast w1)).trans (Nat.cast_add _ _).symm
  · intro k k' h
    funext a
    match a with
    | ⟨0, _⟩ => exact Fin.ext (by have q := congrArg Fin.val (congrFun h 0); change o + (k 0).val = o + (k' 0).val at q; change (k 0).val = (k' 0).val; omega)
    | ⟨1, _⟩ => exact Fin.ext (by have q := congrArg Fin.val (congrFun h 1); change p + (k 1).val = p + (k' 1).val at q; change (k 1).val = (k' 1).val; omega)
  · intro h
    funext a
    match a with
    | ⟨0, _⟩ => exact Fin.ext (by show o + (i.val - o) % 16 = i.val; have := h; omega)
    | ⟨1, _⟩ => exact Fin.ext (by show p + (r.val - p) % 1024 = r.val; have := h; omega)
  · intro k h
    have q0 := congrArg Fin.val (congrFun h 0)
    change o + (k 0).val = i.val at q0
    have b0 : (k 0).val < 16 := (k 0).isLt
    have q1 := congrArg Fin.val (congrFun h 1)
    change p + (k 1).val = r.val at q1
    have b1 : (k 1).val < 1024 := (k 1).isLt
    omega

theorem set_e64 {α : Type} (X : S256x2176.Idx → α) (idx : IVec S2 32) (upd : S64x64.Idx → α) (o p : ℕ)
    (hz0 : (idx (ix1 (0 : Fin 2))).toInt = (o : Int)) (hz1 : (idx (ix1 (1 : Fin 2))).toInt = (p : Int)) (hb0 : o + 64 ≤ 256) (hb1 : p + 64 ≤ 2176) (i : Fin 256) (r : Fin 2176) :
    Host.scatter scatter_S256x2176_S2_S64x64_01_n_01_0 (fun _ b => b) X idx upd (ix2 i r)
      = if (o ≤ i.val ∧ i.val < o + 64) ∧ (p ≤ r.val ∧ r.val < p + 64) then upd (ix2 (Fin.ofNat 64 (i.val - o)) (Fin.ofNat 64 (r.val - p))) else X (ix2 i r) := by
  refine set_if scatter_S256x2176_S2_S64x64_01_n_01_0 X idx upd (fun k => ix2 (⟨o + (k 0).val, by have := (k 0).isLt; change (k 0).val < 64 at this; omega⟩ : Fin 256) (⟨p + (k 1).val, by have := (k 1).isLt; change (k 1).val < 64 at this; omega⟩ : Fin 2176)) ?_ ?_ _ _ _ ?_ ?_
  · intro k a
    have s0 : scatter_S256x2176_S2_S64x64_01_n_01_0.start k idx 0 = (o : Int) := by
      unfold ScatterDims.start
      rw [dif_pos (by decide)]
      refine Eq.trans ?_ hz0
      refine congrArg (fun z => (idx z).toInt) ?_
      funext b
      match b with
      | ⟨0, _⟩ => rfl
    have w0 : scatter_S256x2176_S2_S64x64_01_n_01_0.window k 0 = (k 0).val := rfl
    have s1 : scatter_S256x2176_S2_S64x64_01_n_01_0.start k idx 1 = (p : Int) := by
      unfold ScatterDims.start
      rw [dif_pos (by decide)]
      refine Eq.trans ?_ hz1
      refine congrArg (fun z => (idx z).toInt) ?_
      funext b
      match b with
      | ⟨0, _⟩ => rfl
    have w1 : scatter_S256x2176_S2_S64x64_01_n_01_0.window k 1 = (k 1).val := rfl
    match a with
    | ⟨0, _⟩ => exact (congrArg₂ (· + ·) s0 (congrArg Nat.cast w0)).trans (Nat.cast_add _ _).symm
    | ⟨1, _⟩ => exact (congrArg₂ (· + ·) s1 (congrArg Nat.cast w1)).trans (Nat.cast_add _ _).symm
  · intro k k' h
    funext a
    match a with
    | ⟨0, _⟩ => exact Fin.ext (by have q := congrArg Fin.val (congrFun h 0); change o + (k 0).val = o + (k' 0).val at q; change (k 0).val = (k' 0).val; omega)
    | ⟨1, _⟩ => exact Fin.ext (by have q := congrArg Fin.val (congrFun h 1); change p + (k 1).val = p + (k' 1).val at q; change (k 1).val = (k' 1).val; omega)
  · intro h
    funext a
    match a with
    | ⟨0, _⟩ => exact Fin.ext (by show o + (i.val - o) % 64 = i.val; have := h; omega)
    | ⟨1, _⟩ => exact Fin.ext (by show p + (r.val - p) % 64 = r.val; have := h; omega)
  · intro k h
    have q0 := congrArg Fin.val (congrFun h 0)
    change o + (k 0).val = i.val at q0
    have b0 : (k 0).val < 64 := (k 0).isLt
    have q1 := congrArg Fin.val (congrFun h 1)
    change p + (k 1).val = r.val at q1
    have b1 : (k 1).val < 64 := (k 1).isLt
    omega

theorem set_row {α : Type} (X : S128x1024.Idx → α) (idx : IVec S1 32) (upd : S64x1024.Idx → α) (o : ℕ)
    (hz : ∀ y, (idx y).toInt = (o : Int)) (hb0 : o + 64 ≤ 128) (i : Fin 128) (r : Fin 1024) :
    Host.scatter scatter_S128x1024_S1_S64x1024_01_n_0_0 (fun _ b => b) X idx upd (ix2 i r)
      = if o ≤ i.val ∧ i.val < o + 64 then upd (ix2 (Fin.ofNat 64 (i.val - o)) r) else X (ix2 i r) := by
  refine set_if scatter_S128x1024_S1_S64x1024_01_n_0_0 X idx upd (fun k => ix2 (⟨o + (k 0).val, by have := (k 0).isLt; change (k 0).val < 64 at this; omega⟩ : Fin 128) (k 1)) ?_ ?_ _ _ _ ?_ ?_
  · intro k a
    have s0 : scatter_S128x1024_S1_S64x1024_01_n_0_0.start k idx 0 = (o : Int) := by
      unfold ScatterDims.start
      rw [dif_pos (by decide)]
      exact hz _
    have w0 : scatter_S128x1024_S1_S64x1024_01_n_0_0.window k 0 = (k 0).val := rfl
    have s1 : scatter_S128x1024_S1_S64x1024_01_n_0_0.start k idx 1 = 0 := rfl
    have w1 : scatter_S128x1024_S1_S64x1024_01_n_0_0.window k 1 = (k 1).val := rfl
    match a with
    | ⟨0, _⟩ => exact (congrArg₂ (· + ·) s0 (congrArg Nat.cast w0)).trans (Nat.cast_add _ _).symm
    | ⟨1, _⟩ => exact (congrArg₂ (· + ·) s1 (congrArg Nat.cast w1)).trans (zero_add _)
  · intro k k' h
    funext a
    match a with
    | ⟨0, _⟩ => exact Fin.ext (by have q := congrArg Fin.val (congrFun h 0); change o + (k 0).val = o + (k' 0).val at q; change (k 0).val = (k' 0).val; omega)
    | ⟨1, _⟩ => exact Fin.ext (by have q := congrArg Fin.val (congrFun h 1); exact q)
  · intro h
    funext a
    match a with
    | ⟨0, _⟩ => exact Fin.ext (by show o + (i.val - o) % 64 = i.val; have := h; omega)
    | ⟨1, _⟩ => rfl
  · intro k h
    have q0 := congrArg Fin.val (congrFun h 0)
    change o + (k 0).val = i.val at q0
    have b0 : (k 0).val < 64 := (k 0).isLt
    omega

theorem set_pair {α : Type} (X : S32x19x19.Idx → α) (idx : IVec S342x2 32) (upd : S32x342.Idx → α) (rw cl : Fin 342 → Fin 19)
    (h0 : ∀ t, (idx (ix2 t (0 : Fin 2))).toInt = ((rw t).val : Int)) (h1 : ∀ t, (idx (ix2 t (1 : Fin 2))).toInt = ((cl t).val : Int))
    (hi : ∀ t t', rw t = rw t' → cl t = cl t' → t = t') (g : Fin 32) (a b : Fin 19) (t : Fin 342) (P : Prop) [Decidable P]
    (hP : P → rw t = a ∧ cl t = b) (hn : ∀ t', rw t' = a → cl t' = b → P) :
    Host.scatter scatter_S32x19x19_S342x2_S32x342_0_12_12_1 (fun _ b => b) X idx upd (ix3 g a b)
      = if P then upd (ix2 g t) else X (ix3 g a b) := by
  refine set_if scatter_S32x19x19_S342x2_S32x342_0_12_12_1 X idx upd (fun k => ix3 (k 0) (rw (k 1)) (cl (k 1))) ?_ ?_ _ _ _ ?_ ?_
  · intro k a
    have s0 : scatter_S32x19x19_S342x2_S32x342_0_12_12_1.start k idx 0 = 0 := rfl
    have w0 : scatter_S32x19x19_S342x2_S32x342_0_12_12_1.window k 0 = (k 0).val := rfl
    have s1 : scatter_S32x19x19_S342x2_S32x342_0_12_12_1.start k idx 1 = ((rw (k 1)).val : Int) := by
      unfold ScatterDims.start
      rw [dif_pos (by decide)]
      refine Eq.trans ?_ (h0 (k 1))
      refine congrArg (fun z => (idx z).toInt) ?_
      funext b
      match b with
      | ⟨0, _⟩ => rfl
      | ⟨1, _⟩ => rfl
    have w1 : scatter_S32x19x19_S342x2_S32x342_0_12_12_1.window k 1 = 0 := rfl
    have s2 : scatter_S32x19x19_S342x2_S32x342_0_12_12_1.start k idx 2 = ((cl (k 1)).val : Int) := by
      unfold ScatterDims.start
      rw [dif_pos (by decide)]
      refine Eq.trans ?_ (h1 (k 1))
      refine congrArg (fun z => (idx z).toInt) ?_
      funext b
      match b with
      | ⟨0, _⟩ => rfl
      | ⟨1, _⟩ => rfl
    have w2 : scatter_S32x19x19_S342x2_S32x342_0_12_12_1.window k 2 = 0 := rfl
    match a with
    | ⟨0, _⟩ => exact (congrArg₂ (· + ·) s0 (congrArg Nat.cast w0)).trans (zero_add _)
    | ⟨1, _⟩ => exact (congrArg₂ (· + ·) s1 (congrArg Nat.cast w1)).trans (add_zero _)
    | ⟨2, _⟩ => exact (congrArg₂ (· + ·) s2 (congrArg Nat.cast w2)).trans (add_zero _)
  · intro k k' h
    have e := hi (k 1) (k' 1) (congrFun h 1) (congrFun h 2)
    funext a
    match a with
    | ⟨0, _⟩ => exact congrFun h 0
    | ⟨1, _⟩ => exact e
  · intro h
    funext a
    match a with
    | ⟨0, _⟩ => rfl
    | ⟨1, _⟩ => exact (hP h).1
    | ⟨2, _⟩ => exact (hP h).2
  · intro k h
    exact hn (k 1) (congrFun h 1) (congrFun h 2)

end Cert.Proof.KH
-- ==== Proof.Stage.lean ====
module

public import proofs.«01_k».proof.Proof.Step

@[expose] public section

set_option maxRecDepth 8192

/-! The staged projections and the output block, entry by entry. -/

noncomputable section

namespace Cert.Proof.Trip

open Idealize.ShloMosaic Idealize.ShloMosaic.TcCoe
open Cert.KernelIdeal Cert.KernelIdeal.Gen

section defs
variable {F : FTy → Type} [FloatOps F]

/-- The projected rows of a tile, bias added, before the softplus. -/
def pre (x0 : Vec F S1x64x1x152x32 .f32) (x2 : Vec F S32x64 .f32) (x3 : Vec F S64x256 .f32) (x9 : Vec F S256 .f32) : FVec F S9728x256 .f32 :=
  addf (matmul dot_S9728x64_S64x256_S9728x256_1_0_0_1_n_n none
      (matmul dot_S9728x32_S32x64_S9728x64_1_0_0_1_n_n none (shapeCast S9728x32 x0 shapeCasts_S1x64x1x152x32_S9728x32) x2 (constant S9728x64 .f32 0x00000000#32))
      x3 (constant S9728x256 .f32 0x00000000#32))
    (broadcastTo S9728x256 (shapeCast S1x256 x9 shapeCasts_S256_S1x256) broadcasts_S1x256_S9728x256)

/-- The softplus of the first half of the columns. -/
def spv (p : FVec F S9728x256 .f32) : FVec F S9728x128 .f32 :=
  let z : F .f32 := Scalar.ofBits .f32 0x00000000#32
  let a := extractStridedSlice S9728x128 ![0, 0] p slices_S9728x256_o0_0_S9728x128
  let d := subf a (broadcast S9728x128 z)
  select (cmpf .one d d) (addf a (broadcast S9728x128 z))
    (addf (maximumf a (broadcast S9728x128 z)) (log1p (exp (subf (broadcast S9728x128 z) (absf d)))))

/-- The staged columns from the projected ones and their softplus. -/
def post (p : FVec F S9728x256 .f32) (s : FVec F S9728x128 .f32) : FVec F S64x152x256 .f32 :=
  shapeCast S64x152x256 (concatenate S9728x256 1
    [⟨S9728x128, select (cmpi .slt (iota .tc S9728x128 32 [1] iota_S9728x128_d1_w32) (broadcast S9728x128 64#32)) s
        (exp (subf (broadcast S9728x128 (Scalar.ofBits .f32 0x00000000#32)) s))⟩,
     ⟨S9728x128, extractStridedSlice S9728x128 ![0, 128] p slices_S9728x256_o0_128_S9728x128⟩]
    concatenates_S9728x128_S9728x128_S9728x256_d1) shapeCasts_S9728x256_S64x152x256

theorem stg_eq (x0 : Vec F S1x64x1x152x32 .f32) (x2 : Vec F S32x64 .f32) (x3 : Vec F S64x256 .f32) (x9 : Vec F S256 .f32) :
    stg x0 x2 x3 x9 = post (pre x0 x2 x3 x9) (spv (pre x0 x2 x3 x9)) := by
  have e2 : shapeCast S32x64 x2 shapeCasts_S32x64_S32x64 = x2 := shapeCast_self _ _
  have e3 : shapeCast S64x256 x3 shapeCasts_S64x256_S64x256 = x3 := shapeCast_self _ _
  have e9 : shapeCast S256 x9 shapeCasts_S256_S256 = x9 := shapeCast_self _ _
  have e0 : shapeCast S1x64x1x152x32 x0 shapeCasts_S1x64x1x152x32_S1x64x1x152x32 = x0 := shapeCast_self _ _
  unfold stg k0_pay107 k0_pay106
  dsimp only
  rw [e2, e3, e9, e0]
  rfl

/-- The gated, projected rows of the output, from the two column blocks of the staging buffer. -/
def gate (x : FVec F S9728x32 .f32) (y u : FVec F S9728x64 .f32) (x14 : Vec F S32x64 .f32) (x13 : Vec F S64 .f32) : FVec F S9728x64 .f32 :=
  let z := matmul dot_S9728x32_S32x64_S9728x64_1_0_0_1_n_n none x x14 (constant S9728x64 .f32 0x00000000#32)
  mulf (addf y (mulf (broadcastTo S9728x64 (shapeCast S1x64 x13 shapeCasts_S64_S1x64) broadcasts_S1x64_S9728x64) u)) (mulf z (logistic z))

theorem fin16_eq (x0 : Vec F S1x64x1x152x32 .f32) (x13 : Vec F S64 .f32) (x14 : Vec F S32x64 .f32) (x15 : Vec F S64x32 .f32)
    (V : Vec F S64x152x256 .f32) :
    fin16 x0 x13 x14 x15 V = shapeCast S1x64x1x152x32 (matmul dot_S9728x64_S64x32_S9728x32_1_0_0_1_n_n none
      (gate (shapeCast S9728x32 x0 shapeCasts_S1x64x1x152x32_S9728x32) (extractStridedSlice S9728x64 ![0, 192] (shapeCast S9728x256 V shapeCasts_S64x152x256_S9728x256) slices_S9728x256_o0_192_S9728x64)
        (extractStridedSlice S9728x64 ![0, 128] (shapeCast S9728x256 V shapeCasts_S64x152x256_S9728x256) slices_S9728x256_o0_128_S9728x64) x14 x13)
      x15 (constant S9728x32 .f32 0x00000000#32)) shapeCasts_S9728x32_S1x64x1x152x32 := by
  have e14 : shapeCast S32x64 x14 shapeCasts_S32x64_S32x64 = x14 := shapeCast_self _ _
  have e15 : shapeCast S64x32 x15 shapeCasts_S64x32_S64x32 = x15 := shapeCast_self _ _
  have e0 : shapeCast S1x64x1x152x32 x0 shapeCasts_S1x64x1x152x32_S1x64x1x152x32 = x0 := shapeCast_self _ _
  unfold fin16 k0_pay1 k0_pay106 k0_pay122 k0_pay123 k0_pay121
  dsimp only
  rw [e14, e15, e0]
  rfl

end defs

/-- Softplus of an extended real, as both programs compute it. -/
def spl (x : EReal) : EReal := max x 0 + Ideal.log1p (Ideal.exp (-(FloatOps.absf (F := Ideal) (φ := .f32) x)))

variable (x0 : Vec Ideal S1x64x1x152x32 .f32) (x2 : Vec Ideal S32x64 .f32) (x3 : Vec Ideal S64x256 .f32) (x9 : Vec Ideal S256 .f32)
variable (x13 : Vec Ideal S64 .f32) (x14 : Vec Ideal S32x64 .f32) (x15 : Vec Ideal S64x32 .f32)

/-- Entry `k` of the projected row of node `r` at time `t` of the tile. -/
def pcE (t : Fin 64) (r : Fin 152) (k : Fin 256) : EReal :=
  (∑ e : Fin 64, (∑ a : Fin 32, x0 (ix5 0 t 0 r a) * x2 (ix2 a e)) * x3 (ix2 e k)) + x9 (ix1 k)

theorem pre_apply (t : Fin 64) (r : Fin 152) (k : Fin 256) (h : t.val * 152 + r.val < 9728) :
    pre x0 x2 x3 x9 (ix2 ⟨t.val * 152 + r.val, h⟩ k) = pcE x0 x2 x3 x9 t r k := by
  pointwise [pre]
  rfl

theorem spv_apply (p : FVec Ideal S9728x256 .f32) (q : Fin 9728) (k : Fin 128) :
    spv p (ix2 q k) = spl (p (ix2 q ⟨k.val, by omega⟩)) := by
  pointwise [spv]
  rw [if_neg (fun h => h rfl), zero_sub]
  rfl

theorem post_apply (p : FVec Ideal S9728x256 .f32) (s : FVec Ideal S9728x128 .f32) (t : Fin 64) (r : Fin 152) (k : Fin 256) :
    post p s (ix3 t r k) = if h : k.val < 128 then
      (if k.val < 64 then s (ix2 ⟨t.val * 152 + r.val, by omega⟩ ⟨k.val, h⟩) else Ideal.exp (-(s (ix2 ⟨t.val * 152 + r.val, by omega⟩ ⟨k.val, h⟩))))
      else p (ix2 ⟨t.val * 152 + r.val, by omega⟩ k) := by
  pointwise [post]
  by_cases h : k.val < 128
  · rw [dif_pos h, dif_pos h]
    have hc : IntOp.cmpi CmpIPredicate.slt (BitVec.ofNat 32 k.val) 64#32 = if k.val < 64 then 1#1 else 0#1 := by
      have := (by decide +kernel : ∀ k : Fin 128, IntOp.cmpi CmpIPredicate.slt (BitVec.ofNat 32 k.val) 64#32 = if k.val < 64 then 1#1 else 0#1)
      exact this ⟨k.val, h⟩
    rw [hc, zero_sub]
    by_cases h' : k.val < 64
    · rw [if_pos h', if_pos h']; rfl
    · rw [if_neg h', if_neg h']; rfl
  · rw [dif_neg h, dif_neg h]
    congr 2
    exact Fin.ext (by show 128 + (k.val - 128) = k.val; omega)

theorem stg_apply (t : Fin 64) (r : Fin 152) (k : Fin 256) :
    stg x0 x2 x3 x9 (ix3 t r k) = if k.val < 64 then spl (pcE x0 x2 x3 x9 t r k)
      else if k.val < 128 then Ideal.exp (-(spl (pcE x0 x2 x3 x9 t r k))) else pcE x0 x2 x3 x9 t r k := by
  rw [stg_eq, post_apply]
  by_cases h : k.val < 128
  · rw [dif_pos h, spv_apply, pre_apply]
    by_cases h' : k.val < 64
    · rw [if_pos h', if_pos h']
    · rw [if_neg h', if_neg h', if_pos h]
  · rw [dif_neg h, if_neg (by omega), if_neg h, pre_apply]

theorem gate_apply (x : FVec Ideal S9728x32 .f32) (y u : FVec Ideal S9728x64 .f32) (q : Fin 9728) (d : Fin 64) :
    gate x y u x14 x13 (ix2 q d) = (y (ix2 q d) + x13 (ix1 d) * u (ix2 q d)) *
      ((∑ a : Fin 32, x (ix2 q a) * x14 (ix2 a d)) * Ideal.logistic (∑ a : Fin 32, x (ix2 q a) * x14 (ix2 a d))) := by
  pointwise [gate]

theorem fin16_apply (V : Vec Ideal S64x152x256 .f32) (t : Fin 64) (r : Fin 152) (o : Fin 32) :
    fin16 x0 x13 x14 x15 V (ix5 0 t 0 r o) = ∑ d : Fin 64,
      ((V (ix3 t r ⟨192 + d.val, by omega⟩) + x13 (ix1 d) * V (ix3 t r ⟨128 + d.val, by omega⟩)) *
        ((∑ a : Fin 32, x0 (ix5 0 t 0 r a) * x14 (ix2 a d)) * Ideal.logistic (∑ a : Fin 32, x0 (ix5 0 t 0 r a) * x14 (ix2 a d))))
        * x15 (ix2 d o) := by
  rw [fin16_eq]
  pointwise []
  refine Finset.sum_congr rfl fun d _ => ?_
  rw [gate_apply]
  pointwise []

end Cert.Proof.Trip
-- ==== Proof.Glue.lean ====
module

public import proofs.«01_k».proof.Proof.Stage
public import Idealize.ShloMosaic.Lib.Pipeline.Value
public import Idealize.ShloMosaic.Lib.StableHlo.RunRead

@[expose] public section

set_option maxRecDepth 8192

/-! What the state buffer and the output array hold over the grid: one run of 256 steps per cluster. -/

noncomputable section

namespace Cert.Proof.Trip

open Idealize.ShloMosaic Idealize.ShloMosaic.StableHlo Idealize.ShloMosaic.TcCoe
open Cert.KernelIdeal Cert.KernelIdeal.Gen

variable {F : FTy → Type} [FloatOps F]
variable (m : (ℓ : Loc nD τ sig) → Buf (Elt F) ℓ) (c : Dev nD)

theorem at_A (t : Fin cfg0.N) (h0 : t.val % 4 = 0) : outsAt0 m c t.val t.isLt =
    (outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k0_pay109,
     outSt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k0_pay109) := by
  rw [outsAt0_A m c t h0, out0_A, sout0_A]

theorem at_B (t : Fin cfg0.N) (h0 : ¬t.val % 4 = 0) : outsAt0 m c t.val t.isLt =
    (outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2,
     outSt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2) := by
  rw [outsAt0_B m c t h0, out0_B, sout0_B]

theorem idx2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec F S32x64 .f32) = V m c main_call0_v90 :=
  funext fun y => congrArg (V m c main_call0_v90) (funext fun a => Fin.ext (by
    show win0_2.index t a * _ + 1 * (y a).val = (y a).val
    rw [idx2]; omega))

theorem idx3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec F S64x256 .f32) = V m c main_call0_v117 :=
  funext fun y => congrArg (V m c main_call0_v117) (funext fun a => Fin.ext (by
    show win0_3.index t a * _ + 1 * (y a).val = (y a).val
    rw [idx3]; omega))

theorem idx4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec F S128x128 .f32) = V m c main_call0_v127 :=
  funext fun y => congrArg (V m c main_call0_v127) (funext fun a => Fin.ext (by
    show win0_4.index t a * _ + 1 * (y a).val = (y a).val
    rw [idx4]; omega))

theorem idx5 : ∀ (t : Fin cfg0.N) (a : Fin 2), win0_5.index t a = 0 :=
  (by decide +kernel : ∀ (t : Fin grid0.N) (a : Fin 2), win0_5.index t a = 0)

theorem blk5 (t : Fin cfg0.N) : (iblk m c 5 t : Vec F S128x128 .f32) = V m c main_call0_v130 :=
  funext fun y => congrArg (V m c main_call0_v130) (funext fun a => Fin.ext (by
    show win0_5.index t a * _ + 1 * (y a).val = (y a).val
    rw [idx5]; omega))

theorem idx6 : ∀ (t : Fin cfg0.N) (a : Fin 2), win0_6.index t a = 0 :=
  (by decide +kernel : ∀ (t : Fin grid0.N) (a : Fin 2), win0_6.index t a = 0)

theorem blk6 (t : Fin cfg0.N) : (iblk m c 6 t : Vec F S256x2176 .f32) = V m c main_call0_v163 :=
  funext fun y => congrArg (V m c main_call0_v163) (funext fun a => Fin.ext (by
    show win0_6.index t a * _ + 1 * (y a).val = (y a).val
    rw [idx6]; omega))

theorem idx7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec F S128x1024 .f32) = V m c main_call0_v166 :=
  funext fun y => congrArg (V m c main_call0_v166) (funext fun a => Fin.ext (by
    show win0_7.index t a * _ + 1 * (y a).val = (y a).val
    rw [idx7]; omega))

theorem idx8 : ∀ (t : Fin cfg0.N) (a : Fin 2), win0_8.index t a = 0 :=
  (by decide +kernel : ∀ (t : Fin grid0.N) (a : Fin 2), win0_8.index t a = 0)

theorem blk8 (t : Fin cfg0.N) : (iblk m c 8 t : Vec F S1024x64 .f32) = V m c main_call0_v167 :=
  funext fun y => congrArg (V m c main_call0_v167) (funext fun a => Fin.ext (by
    show win0_8.index t a * _ + 1 * (y a).val = (y a).val
    rw [idx8]; omega))

theorem idx9 : ∀ (t : Fin cfg0.N) (a : Fin 1), win0_9.index t a = 0 :=
  (by decide +kernel : ∀ (t : Fin grid0.N) (a : Fin 1), win0_9.index t a = 0)

theorem blk9 (t : Fin cfg0.N) : (iblk m c 9 t : Vec F S256 .f32) = V m c main_call0_v123 :=
  funext fun y => congrArg (V m c main_call0_v123) (funext fun a => Fin.ext (by
    show win0_9.index t a * _ + 1 * (y a).val = (y a).val
    rw [idx9]; omega))

theorem idx10 : ∀ (t : Fin cfg0.N) (a : Fin 1), win0_10.index t a = 0 :=
  (by decide +kernel : ∀ (t : Fin grid0.N) (a : Fin 1), win0_10.index t a = 0)

theorem blk10 (t : Fin cfg0.N) : (iblk m c 10 t : Vec F S128 .f32) = V m c main_call0_v184 :=
  funext fun y => congrArg (V m c main_call0_v184) (funext fun a => Fin.ext (by
    show win0_10.index t a * _ + 1 * (y a).val = (y a).val
    rw [idx10]; omega))

theorem idx11 : ∀ (t : Fin cfg0.N) (a : Fin 1), win0_11.index t a = 0 :=
  (by decide +kernel : ∀ (t : Fin grid0.N) (a : Fin 1), win0_11.index t a = 0)

theorem blk11 (t : Fin cfg0.N) : (iblk m c 11 t : Vec F S1024 .f32) = V m c main_call0_v174 :=
  funext fun y => congrArg (V m c main_call0_v174) (funext fun a => Fin.ext (by
    show win0_11.index t a * _ + 1 * (y a).val = (y a).val
    rw [idx11]; omega))

theorem idx12 : ∀ (t : Fin cfg0.N) (a : Fin 1), win0_12.index t a = 0 :=
  (by decide +kernel : ∀ (t : Fin grid0.N) (a : Fin 1), win0_12.index t a = 0)

theorem blk12 (t : Fin cfg0.N) : (iblk m c 12 t : Vec F S1024 .f32) = V m c main_call0_v181 :=
  funext fun y => congrArg (V m c main_call0_v181) (funext fun a => Fin.ext (by
    show win0_12.index t a * _ + 1 * (y a).val = (y a).val
    rw [idx12]; omega))

theorem idx14 : ∀ (t : Fin cfg0.N) (a : Fin 2), win0_14.index t a = 0 :=
  (by decide +kernel : ∀ (t : Fin grid0.N) (a : Fin 2), win0_14.index t a = 0)

theorem blk14 (t : Fin cfg0.N) : (iblk m c 14 t : Vec F S32x64 .f32) = V m c main_call0_v92 :=
  funext fun y => congrArg (V m c main_call0_v92) (funext fun a => Fin.ext (by
    show win0_14.index t a * _ + 1 * (y a).val = (y a).val
    rw [idx14]; omega))

theorem idx15 : ∀ (t : Fin cfg0.N) (a : Fin 2), win0_15.index t a = 0 :=
  (by decide +kernel : ∀ (t : Fin grid0.N) (a : Fin 2), win0_15.index t a = 0)

theorem blk15 (t : Fin cfg0.N) : (iblk m c 15 t : Vec F S64x32 .f32) = V m c main_call0_v131 :=
  funext fun y => congrArg (V m c main_call0_v131) (funext fun a => Fin.ext (by
    show win0_15.index t a * _ + 1 * (y a).val = (y a).val
    rw [idx15]; omega))

theorem idx13 : ∀ (t : Fin cfg0.N) (a : Fin 1), win0_13.index t a = 0 :=
  (by decide +kernel : ∀ (t : Fin grid0.N) (a : Fin 1), win0_13.index t a = 0)

theorem blk13 (t : Fin cfg0.N) : (iblk m c 13 t : Vec F S64 .f32) = V m c main_arg8 :=
  funext fun y => congrArg (V m c main_arg8) (funext fun a => Fin.ext (by
    show win0_13.index t a * _ + 1 * (y a).val = (y a).val
    rw [idx13]; omega))

theorem idx0 : ∀ t : Fin cfg0.N, win0_0.index t 0 = t.val % 4 ∧ win0_0.index t 1 = 0 ∧ win0_0.index t 2 = t.val / 4 ∧ win0_0.index t 3 = 0 ∧ win0_0.index t 4 = 0 :=
  (by decide +kernel : ∀ t : Fin grid0.N, win0_0.index t 0 = t.val % 4 ∧ win0_0.index t 1 = 0 ∧ win0_0.index t 2 = t.val / 4 ∧ win0_0.index t 3 = 0 ∧ win0_0.index t 4 = 0)

theorem idx1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

theorem idx16 : ∀ t : Fin cfg0.N, win0_16.index t 0 = t.val % 4 ∧ win0_16.index t 1 = 0 ∧ win0_16.index t 2 = t.val / 4 ∧ win0_16.index t 3 = 0 ∧ win0_16.index t 4 = 0 :=
  (by decide +kernel : ∀ t : Fin grid0.N, win0_16.index t 0 = t.val % 4 ∧ win0_16.index t 1 = 0 ∧ win0_16.index t 2 = t.val / 4 ∧ win0_16.index t 3 = 0 ∧ win0_16.index t 4 = 0)

theorem lt16 (t : Fin cfg0.N) : t.val < 16 := N_0 ▸ t.isLt

/-- The grid point of cluster `i` and time tile `j`. -/
def pt (i j : Fin 4) : Fin cfg0.N := ⟨4 * i.val + j.val, by show _ < grid0.N; rw [N_0]; omega⟩

theorem blk0 (i j : Fin 4) (l : Fin 64) (r : Fin 152) (a : Fin 32) :
    (iblk m c 0 (pt i j) : Vec F S1x64x1x152x32 .f32) (ix5 0 l 0 r a) = (V m c main_call0_v186 : Vec F S4x64x4x152x32 .f32) (ix5 j l i r a) := by
  refine congrArg (V m c main_call0_v186 : Vec F S4x64x4x152x32 .f32) (funext fun q => Fin.ext ?_)
  obtain ⟨h0, h1, h2, h3, h4⟩ := idx0 (pt i j)
  have hp : (pt i j).val = 4 * i.val + j.val := rfl
  fin_cases q
  · show win0_0.index (pt i j) 0 * 1 + 1 * 0 = j.val; omega
  · show win0_0.index (pt i j) 1 * 64 + 1 * l.val = l.val; omega
  · show win0_0.index (pt i j) 2 * 1 + 1 * 0 = i.val; omega
  · show win0_0.index (pt i j) 3 * 152 + 1 * r.val = r.val; omega
  · show win0_0.index (pt i j) 4 * 32 + 1 * a.val = a.val; omega

theorem blk1 (i j : Fin 4) (a b : Fin 152) :
    (iblk m c 1 (pt i j) : Vec F S1x152x152 .f32) (ix3 0 a b) = (V m c main_call0_v88 : Vec F S4x152x152 .f32) (ix3 i a b) := by
  refine congrArg (V m c main_call0_v88 : Vec F S4x152x152 .f32) (funext fun q => Fin.ext ?_)
  obtain ⟨h0, h1, h2⟩ := idx1 (pt i j)
  have hp : (pt i j).val = 4 * i.val + j.val := rfl
  fin_cases q
  · show win0_1.index (pt i j) 0 * 1 + 1 * 0 = i.val; omega
  · show win0_1.index (pt i j) 1 * 152 + 1 * a.val = a.val; omega
  · show win0_1.index (pt i j) 2 * 152 + 1 * b.val = b.val; omega

/-! The output array. -/

theorem flushed_eq (t : Fin cfg0.N) : (dats m 0 c).flushed 16 t = (cfg0.win 16).cut (grid0.coords t) ((outsAt0 m c t.val t.isLt).1) := by
  show (cfg0.win 16).cut (grid0.coords t) ((dats m 0 c).after 16 t) = _
  rw [after0_16]

theorem inj_idx : ∀ t t' : Fin cfg0.N, win0_16.index t = win0_16.index t' → t = t' := by
  intro t t' h
  have h0 := idx16 t
  have h1 := idx16 t'
  rw [h] at h0
  exact Fin.ext (by omega)

theorem out_entry (i j : Fin 4) (l : Fin 64) (r : Fin 152) (a : Fin 32) :
    ((dats m 0 c).arrAt 16 cfg0.N : Vec F S4x64x4x152x32 .f32) (ix5 j l i r a)
      = ((outsAt0 m c (pt i j).val (pt i j).isLt).1 : Vec F S1x64x1x152x32 .f32) (ix5 0 l 0 r a) := by
  have hb := (dats m 0 c).read_blk_arrAt_eq_flushed 16
    (fun t t' _ _ hne => (cfg0.win 16).disjoint_blk fun h => hne (inj_idx t t' h)) cfg0.N (pt i j) (pt i j).isLt (flush0_16 (pt i j))
  rw [flushed_eq] at hb
  have h := congrFun hb (ix5 0 l 0 r a)
  have e : (((cfg0.win 16).blk (pt i j)).view.emb (ix5 0 l 0 r a) : S4x64x4x152x32.Idx) = ix5 j l i r a := by
    refine funext fun q => Fin.ext ?_
    obtain ⟨h0, h1, h2, h3, h4⟩ := idx16 (pt i j)
    have hp : (pt i j).val = 4 * i.val + j.val := rfl
    fin_cases q
    · show win0_16.index (pt i j) 0 * 1 + 1 * 0 = j.val; omega
    · show win0_16.index (pt i j) 1 * 64 + 1 * l.val = l.val; omega
    · show win0_16.index (pt i j) 2 * 1 + 1 * 0 = i.val; omega
    · show win0_16.index (pt i j) 3 * 152 + 1 * r.val = r.val; omega
    · show win0_16.index (pt i j) 4 * 32 + 1 * a.val = a.val; omega
  have h' : ((dats m 0 c).arrAt 16 cfg0.N : Vec F S4x64x4x152x32 .f32) (((cfg0.win 16).blk (pt i j)).view.emb (ix5 0 l 0 r a)) = _ := h
  rw [e] at h'
  exact h'

theorem tail_eq (W : Valuation τ sig (Elt F)) :
    (StableHlo.after (List.flatten [hostOps1]) W (Proc.devRef .tc main_v0) : (⟨S608x256x32, .f32⟩ : BufTy).Contents (Elt F))
      = transpose S608x256x32 [1, 0, 2] (shapeCast S256x608x32 (W (Proc.devRef .tc main_call0_v187) : (⟨S4x64x4x152x32, .f32⟩ : BufTy).Contents (Elt F)) shapeCasts_S4x64x4x152x32_S256x608x32)
        transposes_S256x608x32_S608x256x32_1_0_2 := by
  after_reads_simp
  rfl

theorem unpack (Z : Vec F S4x64x4x152x32 .f32) (i j : Fin 4) (l : Fin 64) (q : Fin 152) (a : Fin 32) :
    (transpose S608x256x32 [1, 0, 2] (shapeCast S256x608x32 Z shapeCasts_S4x64x4x152x32_S256x608x32)
      transposes_S256x608x32_S608x256x32_1_0_2 : Vec F S608x256x32 .f32) (ix3 ⟨152 * i.val + q.val, by omega⟩ ⟨64 * j.val + l.val, by omega⟩ a)
      = Z (ix5 j l i q a) := by
  pointwise []

/-- The result after the run, entry by entry. -/
theorem result_entry (r : PUnit × MemSt nD τ sig (Elt F))
    (h : Pipeline.FramePost cfgs (dats m) 0 (Pipeline.afterTail₀ cfgs (dats m) 0 (V0 m) [hostOps1]) r)
    (i j : Fin 4) (l : Fin 64) (q : Fin 152) (a : Fin 32) :
    (r.2.mem ((c.tc : Thread nD τ).loc main_v0) : Vec F S608x256x32 .f32) (ix3 ⟨152 * i.val + q.val, by omega⟩ ⟨64 * j.val + l.val, by omega⟩ a)
      = ((outsAt0 m c (pt i j).val (pt i j).isLt).1 : Vec F S1x64x1x152x32 .f32) (ix5 0 l 0 q a) := by
  have h1 := (h c).2 main_v0 (Pipeline.mem_restRefs_of main_v0 (by decide) (by decide))
  rw [← out_entry, h1]
  have hw : Pipeline.withArrays spec0 c (V0 m c) (fun w => (dats m 0 c).arrAt w cfg0.N) (Proc.devRef .tc main_call0_v187) = (dats m 0 c).arrAt 16 cfg0.N :=
    Pipeline.withArrays_arr spec0 (by decide) c (V0 m c) (fun w => (dats m 0 c).arrAt w cfg0.N) 16
  have ht := tail_eq (Pipeline.withArrays spec0 c (V0 m c) (fun w => (dats m 0 c).arrAt w cfg0.N))
  rw [hw] at ht
  exact (congrFun ht _).trans (unpack _ i j l q a)

end Cert.Proof.Trip
-- ==== Proof.KRun.lean ====
module

public import proofs.«01_k».proof.Proof.Glue

@[expose] public section

set_option maxRecDepth 8192

/-! The state over global time, one run per cluster, and the output entries in terms of it. -/

noncomputable section

namespace Cert.Proof.Trip

open Idealize.ShloMosaic Idealize.ShloMosaic.TcCoe
open Cert.KernelIdeal Cert.KernelIdeal.Gen

section gen
variable {F : FTy → Type} [FloatOps F]
variable (m : (ℓ : Loc nD τ sig) → Buf (Elt F) ℓ) (c : Dev nD)

/-- A host value at its type. -/
def hv186 : FVec F S4x64x4x152x32 .f32 := V m c main_call0_v186
/-- A host value at its type. -/
def hv88 : FVec F S4x152x152 .f32 := V m c main_call0_v88
/-- A host value at its type. -/
def hv127 : FVec F S128x128 .f32 := V m c main_call0_v127
/-- A host value at its type. -/
def hv130 : FVec F S128x128 .f32 := V m c main_call0_v130
/-- A host value at its type. -/
def hv163 : FVec F S256x2176 .f32 := V m c main_call0_v163
/-- A host value at its type. -/
def hv166 : FVec F S128x1024 .f32 := V m c main_call0_v166
/-- A host value at its type. -/
def hv167 : FVec F S1024x64 .f32 := V m c main_call0_v167
/-- A host value at its type. -/
def hv174 : FVec F S1024 .f32 := V m c main_call0_v174
/-- A host value at its type. -/
def hv181 : FVec F S1024 .f32 := V m c main_call0_v181
/-- A host value at its type. -/
def hv184 : FVec F S128 .f32 := V m c main_call0_v184
/-- A host value at its type. -/
def hv90 : FVec F S32x64 .f32 := V m c main_call0_v90
/-- A host value at its type. -/
def hv92 : FVec F S32x64 .f32 := V m c main_call0_v92
/-- A host value at its type. -/
def hv117 : FVec F S64x256 .f32 := V m c main_call0_v117
/-- A host value at its type. -/
def hv123 : FVec F S256 .f32 := V m c main_call0_v123
/-- A host value at its type. -/
def hv131 : FVec F S64x32 .f32 := V m c main_call0_v131
/-- The per-channel output scale. -/
def hD : FVec F S64 .f32 := V m c main_arg8

theorem bx2 (t : Fin cfg0.N) : (iblk m c 2 t : Vec F S32x64 .f32) = hv90 m c := by
  unfold hv90
  exact blk2 m c t
theorem bx3 (t : Fin cfg0.N) : (iblk m c 3 t : Vec F S64x256 .f32) = hv117 m c := by
  unfold hv117
  exact blk3 m c t
theorem bx4 (t : Fin cfg0.N) : (iblk m c 4 t : Vec F S128x128 .f32) = hv127 m c := by
  unfold hv127
  exact blk4 m c t
theorem bx5 (t : Fin cfg0.N) : (iblk m c 5 t : Vec F S128x128 .f32) = hv130 m c := by
  unfold hv130
  exact blk5 m c t
theorem bx6 (t : Fin cfg0.N) : (iblk m c 6 t : Vec F S256x2176 .f32) = hv163 m c := by
  unfold hv163
  exact blk6 m c t
theorem bx7 (t : Fin cfg0.N) : (iblk m c 7 t : Vec F S128x1024 .f32) = hv166 m c := by
  unfold hv166
  exact blk7 m c t
theorem bx8 (t : Fin cfg0.N) : (iblk m c 8 t : Vec F S1024x64 .f32) = hv167 m c := by
  unfold hv167
  exact blk8 m c t
theorem bx9 (t : Fin cfg0.N) : (iblk m c 9 t : Vec F S256 .f32) = hv123 m c := by
  unfold hv123
  exact blk9 m c t
theorem bx10 (t : Fin cfg0.N) : (iblk m c 10 t : Vec F S128 .f32) = hv184 m c := by
  unfold hv184
  exact blk10 m c t
theorem bx11 (t : Fin cfg0.N) : (iblk m c 11 t : Vec F S1024 .f32) = hv174 m c := by
  unfold hv174
  exact blk11 m c t
theorem bx12 (t : Fin cfg0.N) : (iblk m c 12 t : Vec F S1024 .f32) = hv181 m c := by
  unfold hv181
  exact blk12 m c t
theorem bx14 (t : Fin cfg0.N) : (iblk m c 14 t : Vec F S32x64 .f32) = hv92 m c := by
  unfold hv92
  exact blk14 m c t
theorem bx15 (t : Fin cfg0.N) : (iblk m c 15 t : Vec F S64x32 .f32) = hv131 m c := by
  unfold hv131
  exact blk15 m c t
theorem bx13 (t : Fin cfg0.N) : (iblk m c 13 t : Vec F S64 .f32) = hD m c := by
  unfold hD
  exact blk13 m c t
/-- The input block of a grid point at its type. -/
def xb (i j : Fin 4) : FVec F S1x64x1x152x32 .f32 := iblk m c 0 (pt i j)
theorem xb_eq (i j : Fin 4) : (iblk m c 0 (pt i j) : Vec F S1x64x1x152x32 .f32) = xb m c i j := rfl
theorem xb_ap (i j : Fin 4) (l : Fin 64) (r : Fin 152) (a : Fin 32) : xb m c i j (ix5 0 l 0 r a) = hv186 m c (ix5 j l i r a) := by
  unfold xb hv186
  exact blk0 m c i j l r a

/-- The weights the steps of cluster `i` read. -/
def Wc (i : Fin 4) : Wts F :=
  ⟨fun y => (hv88 m c) (ix3 i (y 1) (y 2)), hv127 m c, hv130 m c, hv163 m c,
    hv166 m c, hv167 m c, hv174 m c, hv181 m c, hv184 m c⟩

/-- The staged projections of cluster `i`, tile `j`. -/
def Xc (i j : Fin 4) : Vec F S64x152x256 .f32 :=
  stg (xb m c i j) (hv90 m c) (hv117 m c) (hv123 m c)

/-- The staged row of cluster `i` at global time `T`. -/
def rowT (i : Fin 4) (T : ℕ) : Vec F S1x152x256 .f32 := rowAt (Xc m c i (Fin.ofNat 4 (T / 64))) (T % 64)

/-- The state of cluster `i` after `T` steps. -/
def S (i : Fin 4) (T : ℕ) : Vec F S152x1024 .f32 := stAfter (Wc m c i) (rowT m c i) k0_pay109 T

theorem wts_eq (i j : Fin 4) : wts (iblk m c 0 (pt i j)) (iblk m c 1 (pt i j)) (iblk m c 2 (pt i j)) (iblk m c 3 (pt i j)) (iblk m c 4 (pt i j)) (iblk m c 5 (pt i j)) (iblk m c 6 (pt i j)) (iblk m c 7 (pt i j)) (iblk m c 8 (pt i j)) (iblk m c 9 (pt i j)) (iblk m c 10 (pt i j)) (iblk m c 11 (pt i j)) (iblk m c 12 (pt i j)) (iblk m c 13 (pt i j)) (iblk m c 14 (pt i j)) (iblk m c 15 (pt i j)) = Wc m c i := by
  unfold wts Wc
  rw [Wts.mk.injEq]
  refine ⟨?_, bx4 m c (pt i j), bx5 m c (pt i j), bx6 m c (pt i j), bx7 m c (pt i j), bx8 m c (pt i j), bx11 m c (pt i j), bx12 m c (pt i j), bx10 m c (pt i j)⟩
  refine funext fun (y : S1x152x152.Idx) => ?_
  have hy : y = ix3 0 (y 1) (y 2) := by
    funext q
    fin_cases q
    · exact Subsingleton.elim (α := Fin 1) _ _
    · rfl
    · rfl
  exact (congrArg (iblk m c 1 (pt i j) : Vec F S1x152x152 .f32) hy).trans (blk1 m c i j (y 1) (y 2))

theorem stg_blk (i j : Fin 4) : stg (iblk m c 0 (pt i j)) (iblk m c 2 (pt i j)) (iblk m c 3 (pt i j)) (iblk m c 9 (pt i j)) = Xc m c i j := by
  have e2 : (iblk m c 2 (pt i j) : Vec F S32x64 .f32) = hv90 m c := bx2 m c (pt i j)
  have e3 : (iblk m c 3 (pt i j) : Vec F S64x256 .f32) = hv117 m c := bx3 m c (pt i j)
  have e9 : (iblk m c 9 (pt i j) : Vec F S256 .f32) = hv123 m c := bx9 m c (pt i j)
  unfold Xc
  rw [← e2, ← e3, ← e9]
  rfl

theorem rowT_tile (i j : Fin 4) (l : ℕ) (h : l < 64) : rowT m c i (64 * j.val + l) = rowAt (Xc m c i j) l := by
  unfold rowT
  rw [show (64 * j.val + l) / 64 = j.val from by omega, show (64 * j.val + l) % 64 = l from by omega,
    show Fin.ofNat 4 j.val = j from Fin.ext (Nat.mod_eq_of_lt j.isLt)]

theorem S_tile (i j : Fin 4) (l : ℕ) (h : l ≤ 64) : sAt (Wc m c i) (Xc m c i j) (S m c i (64 * j.val)) l = S m c i (64 * j.val + l) := by
  unfold S sAt
  rw [stAfter_add]
  exact stAfter_congr _ _ _ _ _ fun r hr => (rowT_tile m c i j r (by omega)).symm

theorem outs_pt (i j : Fin 4) : outsAt0 m c (pt i j).val (pt i j).isLt =
    (fin16 (xb m c i j) (hD m c) (hv92 m c) (hv131 m c) (overlay (Wc m c i) (Xc m c i j) (S m c i (64 * j.val)) 64),
     S m c i (64 * j.val + 64)) := by
  have e13 : ∀ j : Fin 4, (iblk m c 13 (pt i j) : Vec F S64 .f32) = hD m c := fun j => bx13 m c (pt i j)
  have e14 : ∀ j : Fin 4, (iblk m c 14 (pt i j) : Vec F S32x64 .f32) = hv92 m c := fun j => bx14 m c (pt i j)
  have e15 : ∀ j : Fin 4, (iblk m c 15 (pt i j) : Vec F S64x32 .f32) = hv131 m c := fun j => bx15 m c (pt i j)
  have key : ∀ n : ℕ, ∀ j : Fin 4, j.val = n → outsAt0 m c (pt i j).val (pt i j).isLt =
    (fin16 (xb m c i j) (hD m c) (hv92 m c) (hv131 m c) (overlay (Wc m c i) (Xc m c i j) (S m c i (64 * j.val)) 64),
     S m c i (64 * j.val + 64)) := by
    intro n
    induction n with
    | zero =>
      intro j hj
      have hp : (pt i j).val = 4 * i.val + j.val := rfl
      rw [at_A m c (pt i j) (by omega)]
      unfold outBlk outSt
      rw [wts_eq, stg_blk]
      have h0 : (k0_pay109 : Vec F S152x1024 .f32) = S m c i (64 * j.val) := by rw [hj]; rfl
      rw [h0, S_tile m c i j 64 le_rfl, ← e13 j, ← e14 j, ← e15 j]
      rfl
    | succ n ih =>
      intro j hj
      have hp : (pt i j).val = 4 * i.val + j.val := rfl
      have hpn : (pt i ⟨n, by omega⟩).val = 4 * i.val + n := rfl
      have hprev := ih ⟨n, by omega⟩ rfl
      have hcong : ∀ (a b : ℕ) (ha : a < cfg0.N) (hb : b < cfg0.N), a = b → outsAt0 m c a ha = outsAt0 m c b hb := by
        intro a b ha hb h; subst h; rfl
      rw [at_B m c (pt i j) (by omega), hcong _ (pt i ⟨n, by omega⟩).val _ (pt i ⟨n, by omega⟩).isLt (by omega), hprev]
      unfold outBlk outSt
      rw [wts_eq, stg_blk]
      have h0 : S m c i (64 * (⟨n, by omega⟩ : Fin 4).val + 64) = S m c i (64 * j.val) := by
        rw [hj]; rfl
      dsimp only at h0 ⊢
      rw [h0, S_tile m c i j 64 le_rfl, ← e13 j, ← e14 j, ← e15 j]
      rfl
  exact key j.val j rfl

end gen

variable (m : (ℓ : Loc nD τ sig) → Buf (Elt Ideal) ℓ) (c : Dev nD)

/-- The gate argument of cluster `i`, tile `j`. -/
def zE (i j : Fin 4) (l : Fin 64) (r : Fin 152) (d : Fin 64) : EReal :=
  ∑ a : Fin 32, (hv186 m c (ix5 j l i r a) : EReal) * (hv92 m c) (ix2 a d)

theorem out_pt (i j : Fin 4) (l : Fin 64) (r : Fin 152) (o : Fin 32) :
    ((outsAt0 m c (pt i j).val (pt i j).isLt).1 : Vec Ideal S1x64x1x152x32 .f32) (ix5 0 l 0 r o) = ∑ d : Fin 64,
      ((stY (Wc m c i) (rowT m c i (64 * j.val + l.val)) (S m c i (64 * j.val + l.val)) (ix3 0 r d)
          + (hD m c) (ix1 d) * rowT m c i (64 * j.val + l.val) (ix3 0 r ⟨128 + d.val, by omega⟩))
        * (zE m c i j l r d * Ideal.logistic (zE m c i j l r d)))
      * (hv131 m c) (ix2 d o) := by
  rw [outs_pt]
  dsimp only
  rw [fin16_apply]
  refine Finset.sum_congr rfl fun d _ => ?_
  have hl : Fin.ofNat 64 l.val = l := Fin.ext (Nat.mod_eq_of_lt l.isLt)
  have hz : (∑ a : Fin 32, (xb m c i j (ix5 0 l 0 r a) : EReal) * (hv92 m c) (ix2 a d)) = zE m c i j l r d :=
    Finset.sum_congr rfl fun a _ => by rw [xb_ap]
  have hu : overlay (Wc m c i) (Xc m c i j) (S m c i (64 * j.val)) 64 (ix3 l r ⟨128 + d.val, by omega⟩)
      = rowT m c i (64 * j.val + l.val) (ix3 0 r ⟨128 + d.val, by omega⟩) := by
    rw [rowT_tile m c i j l.val l.isLt]
    unfold overlay rowAt
    rw [if_neg (by rintro ⟨_, h⟩; have : 192 ≤ 128 + d.val := h; omega)]
    show Xc m c i j _ = Xc m c i j (ix3 (Fin.ofNat 64 l.val) r ⟨128 + d.val, _⟩)
    rw [hl]
  have hy : overlay (Wc m c i) (Xc m c i j) (S m c i (64 * j.val)) 64 (ix3 l r ⟨192 + d.val, by omega⟩)
      = stY (Wc m c i) (rowT m c i (64 * j.val + l.val)) (S m c i (64 * j.val + l.val)) (ix3 0 r d) := by
    rw [rowT_tile m c i j l.val l.isLt, ← S_tile m c i j l.val (by omega)]
    unfold overlay
    rw [if_pos ⟨l.isLt, (by show 192 ≤ 192 + d.val; omega)⟩]
    unfold yAt
    have : (Fin.ofNat 64 ((192 + d.val) - 192) : Fin 64) = d := Fin.ext (by show _ % 64 = _; omega)
    show stY _ _ _ (ix3 0 r (Fin.ofNat 64 ((192 + d.val) - 192))) = _
    rw [this]
    rfl
  rw [hu, hy, hz]

/-- Entry `k` of the projected row of node `r` at global time `T`, before the softplus. -/
def pE (i : Fin 4) (T : ℕ) (r : Fin 152) (k : Fin 256) : EReal :=
  (∑ e : Fin 64, (∑ a : Fin 32, (hv186 m c (ix5 (Fin.ofNat 4 (T / 64)) (Fin.ofNat 64 (T % 64)) i r a) : EReal)
      * (hv90 m c) (ix2 a e)) * (hv117 m c) (ix2 e k))
    + (hv123 m c) (ix1 k)

theorem rowT_apply (i : Fin 4) (T : ℕ) (r : Fin 152) (k : Fin 256) :
    rowT m c i T (ix3 0 r k) = if k.val < 64 then spl (pE m c i T r k)
      else if k.val < 128 then Ideal.exp (-(spl (pE m c i T r k))) else pE m c i T r k := by
  have h : rowT m c i T (ix3 0 r k) = Xc m c i (Fin.ofNat 4 (T / 64)) (ix3 (Fin.ofNat 64 (T % 64)) r k) := rfl
  have hp : pcE (xb m c i (Fin.ofNat 4 (T / 64))) (hv90 m c) (hv117 m c) (hv123 m c) (Fin.ofNat 64 (T % 64)) r k
      = pE m c i T r k := by
    unfold pcE pE
    simp only [xb_ap]
  rw [h]
  unfold Xc
  rw [stg_apply, hp]

end Cert.Proof.Trip
-- ==== Proof.Model.lean ====
module

public import proofs.«01_k».proof.Proof.KRun

@[expose] public section

set_option maxRecDepth 8192

/-! The recurrence both programs compute, over any aggregation of node values, and the kernel's result as an
    instance of it. -/

noncomputable section

namespace Cert.Proof

open Idealize.ShloMosaic Idealize.ShloMosaic.TcCoe

/-- The data of the recurrence: an aggregation over the graph, the weights, and the projected inputs by time and node. -/
structure Mdl where
  agg : (Fin 608 → EReal) → Fin 608 → EReal
  gA : Fin 64 → Fin 64 → EReal
  gB : Fin 64 → Fin 64 → EReal
  gC : Fin 64 → Fin 64 → EReal
  bA : Fin 64 → EReal
  bB : Fin 64 → EReal
  bC : Fin 64 → EReal
  D : Fin 64 → EReal
  dt : ℕ → Fin 608 → Fin 64 → EReal
  dec : ℕ → Fin 608 → Fin 64 → Fin 16 → EReal
  u : ℕ → Fin 608 → Fin 64 → EReal
  z : ℕ → Fin 608 → Fin 64 → EReal
  B : ℕ → Fin 608 → Fin 16 → EReal
  C : ℕ → Fin 608 → Fin 16 → EReal
  ow : Fin 64 → Fin 32 → EReal

namespace Mdl
variable (M : Mdl)

/-- One step of the state. -/
def step (T : ℕ) (s : Fin 608 → Fin 64 → Fin 16 → EReal) : Fin 608 → Fin 64 → Fin 16 → EReal := fun p d n =>
  (M.agg (fun q => ∑ e : Fin 64, s q e n * M.gA d e) p + M.bA d) * M.dec T p d n
    + (M.agg (fun q => ∑ e : Fin 64, M.u T q e * M.gB d e) p + M.bB d) * (M.dt T p d * M.B T p n)

/-- The state after `T` steps. -/
def st : ℕ → Fin 608 → Fin 64 → Fin 16 → EReal
  | 0 => fun _ _ _ => 0
  | T + 1 => M.step T (st T)

/-- The readout of the state `s` at time `T`. -/
def rd (T : ℕ) (s : Fin 608 → Fin 64 → Fin 16 → EReal) (p : Fin 608) (d : Fin 64) : EReal :=
  ∑ n : Fin 16, (M.agg (fun q => ∑ e : Fin 64, s q e n * M.gC d e) p + M.bC d) * M.C T p n

/-- The gated row at time `T` from the state `s`. -/
def gated (T : ℕ) (s : Fin 608 → Fin 64 → Fin 16 → EReal) (p : Fin 608) (d : Fin 64) : EReal :=
  (M.rd T s p d + M.D d * M.u T p d) * (M.z T p d * Ideal.logistic (M.z T p d))

/-- The result. -/
def out (T : ℕ) (p : Fin 608) (o : Fin 32) : EReal := ∑ d : Fin 64, M.gated T (M.st (T + 1)) p d * M.ow d o

end Mdl

namespace Trip
open Cert.KernelIdeal Cert.KernelIdeal.Gen

/-- Node `r` of cluster `i`. -/
def nd (i : Fin 4) (r : Fin 152) : Fin 608 := ⟨152 * i.val + r.val, by omega⟩
/-- The cluster of a node. -/
def ci (p : Fin 608) : Fin 4 := ⟨p.val / 152, by omega⟩
/-- A node's place in its cluster. -/
def ro (p : Fin 608) : Fin 152 := ⟨p.val % 152, by omega⟩
theorem ci_nd (i : Fin 4) (r : Fin 152) : ci (nd i r) = i := Fin.ext (by show (152 * i.val + r.val) / 152 = i.val; omega)
theorem ro_nd (i : Fin 4) (r : Fin 152) : ro (nd i r) = r := Fin.ext (by show (152 * i.val + r.val) % 152 = r.val; omega)
theorem nd_ci_ro (p : Fin 608) : nd (ci p) (ro p) = p := Fin.ext (by show 152 * (p.val / 152) + p.val % 152 = p.val; omega)

variable (m : (ℓ : Loc nD τ sig) → Buf (Elt Ideal) ℓ) (c : Dev nD)

/-- The kernel's data. -/
def MK (gA gB gC : Fin 64 → Fin 64 → EReal) (bA bB bC : Fin 64 → EReal) : Mdl where
  agg h p := ∑ x : Fin 152, (hv88 m c (ix3 (ci p) (ro p) x) : EReal) * h (nd (ci p) x)
  gA := gA
  gB := gB
  gC := gC
  bA := bA
  bB := bB
  bC := bC
  D d := hD m c (ix1 d)
  dt T p d := spl (pE m c (ci p) T (ro p) ⟨d.val, by omega⟩)
  dec T p d n := (Ideal.exp (-(spl (pE m c (ci p) T (ro p) ⟨64 + d.val, by omega⟩)))) ^ (n.val + 1)
  u T p d := pE m c (ci p) T (ro p) ⟨128 + d.val, by omega⟩
  z T p d := zE m c (ci p) (Fin.ofNat 4 (T / 64)) (Fin.ofNat 64 (T % 64)) (ro p) d
  B T p n := pE m c (ci p) T (ro p) ⟨192 + n.val, by omega⟩
  C T p n := pE m c (ci p) T (ro p) ⟨208 + n.val, by omega⟩
  ow d o := hv131 m c (ix2 d o)

variable {gA gB gC : Fin 64 → Fin 64 → EReal} {bA bB bC : Fin 64 → EReal}

theorem row_dt (i : Fin 4) (T : ℕ) (r : Fin 152) (d : Fin 64) : rowT m c i T (ix3 0 r ⟨d.val, by omega⟩) = (MK m c gA gB gC bA bB bC).dt T (nd i r) d := by
  rw [rowT_apply, if_pos d.isLt]; unfold MK; dsimp only; rw [ci_nd, ro_nd]
theorem row_dec (i : Fin 4) (T : ℕ) (r : Fin 152) (d : Fin 64) (n : Fin 16) : (rowT m c i T (ix3 0 r ⟨64 + d.val, by omega⟩) : EReal) ^ (n.val + 1) = (MK m c gA gB gC bA bB bC).dec T (nd i r) d n := by
  rw [rowT_apply, if_neg (by show ¬ 64 + d.val < 64; omega), if_pos (by show 64 + d.val < 128; omega)]; unfold MK; dsimp only; rw [ci_nd, ro_nd]
theorem row_u (i : Fin 4) (T : ℕ) (r : Fin 152) (d : Fin 64) : rowT m c i T (ix3 0 r ⟨128 + d.val, by omega⟩) = (MK m c gA gB gC bA bB bC).u T (nd i r) d := by
  rw [rowT_apply, if_neg (by show ¬ 128 + d.val < 64; omega), if_neg (by show ¬ 128 + d.val < 128; omega)]; unfold MK; dsimp only; rw [ci_nd, ro_nd]
theorem row_B (i : Fin 4) (T : ℕ) (r : Fin 152) (n : Fin 16) : rowT m c i T (ix3 0 r ⟨192 + n.val, by omega⟩) = (MK m c gA gB gC bA bB bC).B T (nd i r) n := by
  rw [rowT_apply, if_neg (by show ¬ 192 + n.val < 64; omega), if_neg (by show ¬ 192 + n.val < 128; omega)]; unfold MK; dsimp only; rw [ci_nd, ro_nd]
theorem row_C (i : Fin 4) (T : ℕ) (r : Fin 152) (n : Fin 16) : rowT m c i T (ix3 0 r ⟨208 + n.val, by omega⟩) = (MK m c gA gB gC bA bB bC).C T (nd i r) n := by
  rw [rowT_apply, if_neg (by show ¬ 208 + n.val < 64; omega), if_neg (by show ¬ 208 + n.val < 128; omega)]; unfold MK; dsimp only; rw [ci_nd, ro_nd]

theorem agg_nd (i : Fin 4) (r : Fin 152) (h : Fin 608 → EReal) : (MK m c gA gB gC bA bB bC).agg h (nd i r) = ∑ x : Fin 152, ((Wc m c i).mv (ix3 0 r x) : EReal) * h (nd i x) := by
  have e : ∀ x : Fin 152, (Wc m c i).mv (ix3 0 r x) = hv88 m c (ix3 i r x) := fun x => by
    unfold Wc
    generalize hv88 m c = Z
    rfl
  simp only [e]
  unfold MK; dsimp only; rw [ci_nd, ro_nd]

theorem pay109_apply (r : Fin 152) (k : Fin 1024) : (k0_pay109 : FVec Ideal S152x1024 .f32) (ix2 r k) = (0 : EReal) := by
  pointwise [k0_pay109]

theorem S_lane (hW : ∀ i, WOk (Wc m c i) gA gB gC bA bB bC) (i : Fin 4) (T : ℕ) : ∀ (r : Fin 152) (d : Fin 64) (n : Fin 16),
    S m c i T (ix2 r (lane n d)) = (MK m c gA gB gC bA bB bC).st T (nd i r) d n := by
  induction T with
  | zero =>
    intro r d n
    show (k0_pay109 : FVec Ideal S152x1024 .f32) (ix2 r (lane n d)) = 0
    exact pay109_apply _ _
  | succ T ih =>
    intro r d n
    show stS (Wc m c i) (rowT m c i T) (S m c i T) (ix2 r (lane n d)) = Mdl.step _ T _ (nd i r) d n
    rw [stS_lane (hW i)]
    unfold Mdl.step
    rw [agg_nd, agg_nd, row_dec m c (gA := gA) (gB := gB) (gC := gC) (bA := bA) (bB := bB) (bC := bC)]
    simp only [ih, row_u m c (gA := gA) (gB := gB) (gC := gC) (bA := bA) (bB := bB) (bC := bC)]
    rw [row_dt m c (gA := gA) (gB := gB) (gC := gC) (bA := bA) (bB := bB) (bC := bC), row_B m c (gA := gA) (gB := gB) (gC := gC) (bA := bA) (bB := bB) (bC := bC), mul_assoc]
    rfl

theorem Y_lane (hW : ∀ i, WOk (Wc m c i) gA gB gC bA bB bC) (i : Fin 4) (T : ℕ) (r : Fin 152) (d : Fin 64) :
    stY (Wc m c i) (rowT m c i T) (S m c i T) (ix3 0 r d) = (MK m c gA gB gC bA bB bC).rd T ((MK m c gA gB gC bA bB bC).st (T + 1)) (nd i r) d := by
  have hs : ∀ (r : Fin 152) (d : Fin 64) (n : Fin 16), stS (Wc m c i) (rowT m c i T) (S m c i T) (ix2 r (lane n d)) = (MK m c gA gB gC bA bB bC).st (T + 1) (nd i r) d n :=
    S_lane m c hW i (T + 1)
  rw [stY_lane (hW i)]
  unfold Mdl.rd
  refine Finset.sum_congr rfl fun n _ => ?_
  rw [agg_nd, row_C m c (gA := gA) (gB := gB) (gC := gC) (bA := bA) (bB := bB) (bC := bC)]
  simp only [hs]
  rfl

/-- The kernel's result, entry by entry. -/
theorem kernel_entry (hW : ∀ i, WOk (Wc m c i) gA gB gC bA bB bC) (r : PUnit × MemSt nD τ sig (Elt Ideal))
    (h : Pipeline.FramePost cfgs (dats m) 0 (Pipeline.afterTail₀ cfgs (dats m) 0 (V0 m) [hostOps1]) r)
    (p : Fin 608) (T : Fin 256) (o : Fin 32) :
    (r.2.mem ((c.tc : Thread nD τ).loc main_v0) : Vec Ideal S608x256x32 .f32) (ix3 p T o) = (MK m c gA gB gC bA bB bC).out T.val p o := by
  obtain ⟨i, q, rfl⟩ : ∃ i q, p = nd i q := ⟨ci p, ro p, (nd_ci_ro p).symm⟩
  obtain ⟨j, l, rfl⟩ : ∃ (j : Fin 4) (l : Fin 64), T = ⟨64 * j.val + l.val, by omega⟩ :=
    ⟨⟨T.val / 64, by omega⟩, ⟨T.val % 64, by omega⟩, Fin.ext (by show T.val = 64 * (T.val / 64) + T.val % 64; omega)⟩
  refine ((result_entry m c r h i j l q o).trans (out_pt m c i j l q o)).trans ?_
  show (_ : EReal) = _
  unfold Mdl.out
  refine Finset.sum_congr rfl fun d _ => ?_
  have hz : zE m c i j l q d = (MK m c gA gB gC bA bB bC).z (64 * j.val + l.val) (nd i q) d := by
    unfold MK; dsimp only
    rw [ci_nd, ro_nd, show (64 * j.val + l.val) / 64 = j.val from by omega, show (64 * j.val + l.val) % 64 = l.val from by omega,
      show Fin.ofNat 4 j.val = j from Fin.ext (Nat.mod_eq_of_lt j.isLt), show Fin.ofNat 64 l.val = l from Fin.ext (Nat.mod_eq_of_lt l.isLt)]
  rw [Y_lane m c hW, hz, row_u m c (gA := gA) (gB := gB) (gC := gC) (bA := bA) (bB := bB) (bC := bC)]
  rfl

end Trip
end Cert.Proof
-- ==== Proof.KHost.lean ====
module

public import proofs.«01_k».proof.Proof.Scat
public import proofs.«01_k».proof.Proof.Model

@[expose] public section

set_option maxRecDepth 8192

/-! The kernel's projection and selection tables, entry by entry, from the arguments. -/

noncomputable section

namespace Cert.Proof.KH

open Idealize.ShloMosaic Idealize.ShloMosaic.TcCoe
open Cert.KernelIdeal Cert.KernelIdeal.Gen

abbrev Val := Valuation τ sig (Elt Ideal)

/-! ### The arguments, at their types -/

def xin (V : Val) : FVec Ideal S608x256x32 .f32 := V (Proc.devRef .tc main_arg0)
def wgt (V : Val) : FVec Ideal S10944 .f32 := V (Proc.devRef .tc main_arg2)
def win (V : Val) : FVec Ideal S128x32 .f32 := V (Proc.devRef .tc main_arg3)
def xpj (V : Val) : FVec Ideal S34x64 .f32 := V (Proc.devRef .tc main_arg4)
def dtw (V : Val) : FVec Ideal S64x2 .f32 := V (Proc.devRef .tc main_arg5)
def dtb (V : Val) : FVec Ideal S64 .f32 := V (Proc.devRef .tc main_arg6)
def dsk (V : Val) : FVec Ideal S64 .f32 := V (Proc.devRef .tc main_arg8)
def ow (V : Val) : FVec Ideal S32x64 .f32 := V (Proc.devRef .tc main_arg9)
def gAw (V : Val) : FVec Ideal S64x64 .f32 := V (Proc.devRef .tc main_arg10)
def gAb (V : Val) : FVec Ideal S64 .f32 := V (Proc.devRef .tc main_arg11)
def gBw (V : Val) : FVec Ideal S64x64 .f32 := V (Proc.devRef .tc main_arg12)
def gBb (V : Val) : FVec Ideal S64 .f32 := V (Proc.devRef .tc main_arg13)
def gCw (V : Val) : FVec Ideal S64x64 .f32 := V (Proc.devRef .tc main_arg14)
def gCb (V : Val) : FVec Ideal S64 .f32 := V (Proc.devRef .tc main_arg15)

theorem k0 (V : Val) : K V main_arg0 = xin V := K_arg V _ (by decide +kernel)
theorem k2 (V : Val) : K V main_arg2 = wgt V := K_arg V _ (by decide +kernel)
theorem k3 (V : Val) : K V main_arg3 = win V := K_arg V _ (by decide +kernel)
theorem k4 (V : Val) : K V main_arg4 = xpj V := K_arg V _ (by decide +kernel)
theorem k5 (V : Val) : K V main_arg5 = dtw V := K_arg V _ (by decide +kernel)
theorem k6 (V : Val) : K V main_arg6 = dtb V := K_arg V _ (by decide +kernel)
theorem k8 (V : Val) : K V main_arg8 = dsk V := K_arg V _ (by decide +kernel)
theorem k9 (V : Val) : K V main_arg9 = ow V := K_arg V _ (by decide +kernel)
theorem k10 (V : Val) : K V main_arg10 = gAw V := K_arg V _ (by decide +kernel)
theorem k11 (V : Val) : K V main_arg11 = gAb V := K_arg V _ (by decide +kernel)
theorem k12 (V : Val) : K V main_arg12 = gBw V := K_arg V _ (by decide +kernel)
theorem k13 (V : Val) : K V main_arg13 = gBb V := K_arg V _ (by decide +kernel)
theorem k14 (V : Val) : K V main_arg14 = gCw V := K_arg V _ (by decide +kernel)
theorem k15 (V : Val) : K V main_arg15 = gCb V := K_arg V _ (by decide +kernel)

/-! ### The host values, at their types -/

def b186 (V : Val) : FVec Ideal S4x64x4x152x32 .f32 := K V main_call0_v186
def b90 (V : Val) : FVec Ideal S32x64 .f32 := K V main_call0_v90
def b92 (V : Val) : FVec Ideal S32x64 .f32 := K V main_call0_v92
def b131 (V : Val) : FVec Ideal S64x32 .f32 := K V main_call0_v131
def b117 (V : Val) : FVec Ideal S64x256 .f32 := K V main_call0_v117
def b123 (V : Val) : FVec Ideal S256 .f32 := K V main_call0_v123
def b127 (V : Val) : FVec Ideal S128x128 .f32 := K V main_call0_v127
def b130 (V : Val) : FVec Ideal S128x128 .f32 := K V main_call0_v130
def b163 (V : Val) : FVec Ideal S256x2176 .f32 := K V main_call0_v163
def b166 (V : Val) : FVec Ideal S128x1024 .f32 := K V main_call0_v166
def b167 (V : Val) : FVec Ideal S1024x64 .f32 := K V main_call0_v167
def b174 (V : Val) : FVec Ideal S1024 .f32 := K V main_call0_v174
def b181 (V : Val) : FVec Ideal S1024 .f32 := K V main_call0_v181
def b184 (V : Val) : FVec Ideal S128 .f32 := K V main_call0_v184

theorem b186_apply (V : Val) (j : Fin 4) (l : Fin 64) (i : Fin 4) (r : Fin 152) (a : Fin 32) :
    b186 V (ix5 j l i r a) = xin V (ix3 (Trip.nd i r) ⟨64 * j.val + l.val, by omega⟩ a) := by
  have e : b186 V = shapeCast S4x64x4x152x32 (transpose S256x608x32 [1, 0, 2] (xin V) transposes_S608x256x32_S256x608x32_1_0_2) shapeCasts_S256x608x32_S4x64x4x152x32 := by
    unfold b186
    rw [e_v186, e_v185, k0]
  rw [e]
  pointwise
  refine congrArg (xin V) ?_
  refine congrArg₂ (fun p q => ix3 p q a) (Fin.ext ?_) (Fin.ext ?_)
  · show i.val * 152 + r.val = 152 * i.val + r.val
    omega
  · show j.val * 64 + l.val = 64 * j.val + l.val
    omega

theorem b90_apply (V : Val) (a : Fin 32) (d : Fin 64) : b90 V (ix2 a d) = win V (ix2 ⟨d.val, by omega⟩ a) := by
  have e : b90 V = transpose S32x64 [1, 0] (extractStridedSlice S64x32 ![0, 0] (win V) slices_S128x32_S64x32_0_0) transposes_S64x32_S32x64_1_0 := by
    unfold b90
    rw [e_v90, e_v89, k3]
  rw [e]
  pointwise

theorem b92_apply (V : Val) (a : Fin 32) (d : Fin 64) : b92 V (ix2 a d) = win V (ix2 ⟨64 + d.val, by omega⟩ a) := by
  have e : b92 V = transpose S32x64 [1, 0] (extractStridedSlice S64x32 ![64, 0] (win V) slices_S128x32_S64x32_64_0) transposes_S64x32_S32x64_1_0 := by
    unfold b92
    rw [e_v92, e_v91, k3]
  rw [e]
  pointwise

theorem b131_apply (V : Val) (d : Fin 64) (o : Fin 32) : b131 V (ix2 d o) = ow V (ix2 o d) := by
  have e : b131 V = transpose S64x32 [1, 0] (ow V) transposes_S32x64_S64x32_1_0 := by
    unfold b131
    rw [e_v131, k9]
  rw [e]
  pointwise

/-! ### The projection of the x branch -/

/-- The time step's combined weight. -/
def wdt (V : Val) (e d : Fin 64) : EReal := ∑ ρ : Fin 2, (xpj V (ix2 ⟨ρ.val, by omega⟩ e) : EReal) * dtw V (ix2 d ρ)

def c96 (V : Val) : FVec Ideal S64x64 .f32 := K V main_call0_v96
def c98 (V : Val) : FVec Ideal S64x16 .f32 := K V main_call0_v98
def c100 (V : Val) : FVec Ideal S64x16 .f32 := K V main_call0_v100
def c111 (V : Val) : FVec Ideal S64x64 .f32 := K V main_call0_v111

theorem c96_apply (V : Val) (e d : Fin 64) : (c96 V (ix2 e d) : EReal) = wdt V e d := by
  have q : c96 V = Host.dotGeneral dot_S64x2_S2x64_S64x64_1_0_0_1_n_n none (transpose S64x2 [1, 0] (extractStridedSlice S2x64 ![0, 0] (xpj V) slices_S34x64_S2x64_0_0) transposes_S2x64_S64x2_1_0) (transpose S2x64 [1, 0] (dtw V) transposes_S64x2_S2x64_1_0) := by
    unfold c96
    rw [e_v96, e_v94, e_v93, e_v95, k4, k5]
  rw [q]
  unfold wdt
  pointwise

theorem c98_apply (V : Val) (e : Fin 64) (n : Fin 16) : c98 V (ix2 e n) = xpj V (ix2 ⟨2 + n.val, by omega⟩ e) := by
  have q : c98 V = transpose S64x16 [1, 0] (extractStridedSlice S16x64 ![2, 0] (xpj V) slices_S34x64_S16x64_2_0) transposes_S16x64_S64x16_1_0 := by
    unfold c98
    rw [e_v98, e_v97, k4]
  rw [q]
  pointwise

theorem c100_apply (V : Val) (e : Fin 64) (n : Fin 16) : c100 V (ix2 e n) = xpj V (ix2 ⟨18 + n.val, by omega⟩ e) := by
  have q : c100 V = transpose S64x16 [1, 0] (extractStridedSlice S16x64 ![18, 0] (xpj V) slices_S34x64_S16x64_18_0) transposes_S16x64_S64x16_1_0 := by
    unfold c100
    rw [e_v100, e_v99, k4]
  rw [q]
  pointwise

theorem word_eq (a b : ℕ) (ha : a < 4096) (hb : b < 4096) :
    (FloatOps.uitofp (F := Ideal) .f32 (IntOp.cmpi .eq (BitVec.ofNat 32 a) (BitVec.ofNat 32 b)) : EReal) = if a = b then 1 else 0 := by
  by_cases h : a = b
  · subst h
    have e : IntOp.cmpi .eq (BitVec.ofNat 32 a) (BitVec.ofNat 32 a) = 1#1 := by
      show BitVec.ofBool (BitVec.ofNat 32 a == BitVec.ofNat 32 a) = 1#1
      rw [beq_self_eq_true]; rfl
    rw [if_pos rfl, e]
    show (((1#1 : BitVec 1).toNat : ℝ) : EReal) = 1
    simp
  · have e : IntOp.cmpi .eq (BitVec.ofNat 32 a) (BitVec.ofNat 32 b) = 0#1 := by
      have n : BitVec.ofNat 32 a ≠ BitVec.ofNat 32 b := fun q => h (by
        have := congrArg BitVec.toNat q
        rw [BitVec.toNat_ofNat, BitVec.toNat_ofNat] at this
        omega)
      show BitVec.ofBool (BitVec.ofNat 32 a == BitVec.ofNat 32 b) = 0#1
      rw [beq_eq_false_iff_ne.2 n]; rfl
    rw [if_neg h, e]
    show (((0#1 : BitVec 1).toNat : ℝ) : EReal) = 0
    simp

theorem c111_apply (V : Val) (e d : Fin 64) : (c111 V (ix2 e d) : EReal) = if e.val = d.val then 1 else 0 := by
  have q : c111 V = uitofp .f32 (cmpi .eq (addi (iotaInDim S64x64 32 0) (broadcastInDim S64x64 ![] bcast_S_S64x64 (constantI S_ 32 0#32))) (iotaInDim S64x64 32 1)) := by
    unfold c111
    rw [e_v111, e_v110, e_v109, e_v106, e_v108, e_c_28, e_v107]
  rw [q]
  refine Eq.trans ?_ (word_eq e.val d.val (by omega) (by omega))
  pointwise
  rw [show IntOp.addi (BitVec.ofNat 32 e.val) 0#32 = BitVec.ofNat 32 e.val from BitVec.add_zero _]

theorem b117_if (V : Val) (e : Fin 64) (k : Fin 256) :
    b117 V (ix2 e k) = if 208 ≤ k.val ∧ k.val < 208 + 16 then c100 V (ix2 e (Fin.ofNat 16 (k.val - 208))) else
      if 192 ≤ k.val ∧ k.val < 192 + 16 then c98 V (ix2 e (Fin.ofNat 16 (k.val - 192))) else
      if 128 ≤ k.val ∧ k.val < 128 + 64 then c111 V (ix2 e (Fin.ofNat 64 (k.val - 128))) else
      if 64 ≤ k.val ∧ k.val < 64 + 64 then c96 V (ix2 e (Fin.ofNat 64 (k.val - 64))) else
      if 0 ≤ k.val ∧ k.val < 0 + 64 then c96 V (ix2 e (Fin.ofNat 64 (k.val - 0))) else (0 : EReal) := by
  unfold b117
  rw [e_v117]
  refine (set_col16 (K V main_call0_v115) (K V main_call0_v116) (c100 V) 208 (fun y => by rw [e_v116, e_c_31]; rfl) (by omega) e k).trans ?_
  refine if_congr Iff.rfl rfl ?_
  rw [e_v115]
  refine (set_col16 (K V main_call0_v113) (K V main_call0_v114) (c98 V) 192 (fun y => by rw [e_v114, e_c_30]; rfl) (by omega) e k).trans ?_
  refine if_congr Iff.rfl rfl ?_
  rw [e_v113]
  refine (set_col64 (K V main_call0_v105) (K V main_call0_v112) (c111 V) 128 (fun y => by rw [e_v112, e_c_29]; rfl) (by omega) e k).trans ?_
  refine if_congr Iff.rfl rfl ?_
  rw [e_v105]
  refine (set_col64 (K V main_call0_v103) (K V main_call0_v104) (c96 V) 64 (fun y => by rw [e_v104, e_c_27]; rfl) (by omega) e k).trans ?_
  refine if_congr Iff.rfl rfl ?_
  rw [e_v103]
  refine (set_col64 (K V main_call0_v101) (K V main_call0_v102) (c96 V) 0 (fun y => by rw [e_v102, e_c_26]; rfl) (by omega) e k).trans ?_
  refine if_congr Iff.rfl rfl ?_
  rw [e_v101, e_cst_25]
  exact Ideal.ofBits_zero .f32

theorem b117_dt (V : Val) (e d : Fin 64) : (b117 V (ix2 e ⟨d.val, by omega⟩) : EReal) = wdt V e d := by
  rw [b117_if, if_neg (by dsimp only; omega), if_neg (by dsimp only; omega), if_neg (by dsimp only; omega), if_neg (by dsimp only; omega), if_pos (by dsimp only; omega), ← c96_apply]
  exact congrArg (fun z => c96 V (ix2 e z)) (Fin.ext (by show (d.val - 0) % 64 = d.val; omega))

theorem b117_de (V : Val) (e d : Fin 64) : (b117 V (ix2 e ⟨64 + d.val, by omega⟩) : EReal) = wdt V e d := by
  rw [b117_if, if_neg (by dsimp only; omega), if_neg (by dsimp only; omega), if_neg (by dsimp only; omega), if_pos (by dsimp only; omega), ← c96_apply]
  exact congrArg (fun z => c96 V (ix2 e z)) (Fin.ext (by show (64 + d.val - 64) % 64 = d.val; omega))

theorem b117_u (V : Val) (e d : Fin 64) : (b117 V (ix2 e ⟨128 + d.val, by omega⟩) : EReal) = if e.val = d.val then 1 else 0 := by
  rw [b117_if, if_neg (by dsimp only; omega), if_neg (by dsimp only; omega), if_pos (by dsimp only; omega), ← c111_apply]
  exact congrArg (fun z => c111 V (ix2 e z)) (Fin.ext (by show (128 + d.val - 128) % 64 = d.val; omega))

theorem b117_b (V : Val) (e : Fin 64) (n : Fin 16) : b117 V (ix2 e ⟨192 + n.val, by omega⟩) = xpj V (ix2 ⟨2 + n.val, by omega⟩ e) := by
  rw [b117_if, if_neg (by dsimp only; omega), if_pos (by dsimp only; omega), ← c98_apply]
  exact congrArg (fun z => c98 V (ix2 e z)) (Fin.ext (by show (192 + n.val - 192) % 16 = n.val; omega))

theorem b117_c (V : Val) (e : Fin 64) (n : Fin 16) : b117 V (ix2 e ⟨208 + n.val, by omega⟩) = xpj V (ix2 ⟨18 + n.val, by omega⟩ e) := by
  rw [b117_if, if_pos (by dsimp only; omega), ← c100_apply]
  exact congrArg (fun z => c100 V (ix2 e z)) (Fin.ext (by show (208 + n.val - 208) % 16 = n.val; omega))

theorem b123_if (V : Val) (k : Fin 256) : (b123 V (ix1 k) : EReal) = if k.val < 128 then (dtb V (ix1 ⟨k.val % 64, by omega⟩) : EReal) else 0 := by
  have q : (K V main_call0_v121 : FVec Ideal S128 .f32) = shapeCast S128 (broadcastInDim S2x64 ![0, 1] bcast_S1x64_S2x64_0_1 (shapeCast S1x64 (dtb V) shapeCasts_S64_S1x64)) shapeCasts_S2x64_S128 := by
    rw [e_v121, e_v120, e_v119, k6]
  unfold b123
  rw [e_v123]
  refine (set_v256 (K V main_call0_v118) (K V main_call0_v122) (K V main_call0_v121 : FVec Ideal S128 .f32) 0 (fun y => by rw [e_v122, e_c_33]; rfl) (by omega) k).trans ?_
  refine if_congr (by omega) ?_ ?_
  · rw [q]
    pointwise
    exact congrArg (fun z => dtb V (ix1 z)) (Fin.ext (by show k.val % 128 % 64 = k.val % 64; omega))
  · rw [e_v118, e_cst_32]
    exact Ideal.ofBits_zero .f32

/-! ### The selection tables -/

def nix (V : Val) : IVec S1024 32 := K V main_call0_v133
def dix (V : Val) : IVec S1024 32 := K V main_call0_v135

theorem nix_apply (V : Val) (k : Fin 1024) : nix V (ix1 k) = BitVec.ofNat 32 (k.val / 64) := by
  unfold nix
  rw [e_v133, e_call2_v11, e_call2_v6, e_call2_v3, e_call2_v5, e_call2_v4, e_call2_v10, e_call2_v8, e_call2_v7, e_call2_v9, e_call2_c, e_call2_v13, e_call2_v12, e_call2_c_0,
    e_call2_v2, e_v132, e_call2_v1, e_call2_v0, e_c_35]
  simp only [id_eq]
  pointwise
  revert k

  decide +kernel

theorem dix_apply (V : Val) (k : Fin 1024) : dix V (ix1 k) = BitVec.ofNat 32 (k.val % 64) := by
  unfold dix
  rw [e_v135, e_call3_v12, e_call3_v11, e_call3_v8, e_call3_v10, e_call3_v9, e_call3_v6, e_call3_v14, e_call3_v13, e_call3_v4, e_call3_v3, e_call3_v2, e_call3_v1, e_call3_v0, e_call3_v5, e_call3_v7,
    e_call3_c, e_call3_c_0, e_call3_c_1, e_call3_c_2, e_call3_c_3, e_v134, e_c_36]
  simp only [id_eq]
  pointwise
  revert k
  decide +kernel

end Cert.Proof.KH
-- ==== Proof.KTab.lean ====
module

public import proofs.«01_k».proof.Proof.KHost

@[expose] public section

set_option maxRecDepth 8192

/-! The kernel's selection tables, weights and biases, entry by entry: what the step asks of them. -/

noncomputable section

namespace Cert.Proof.KH

open Idealize.ShloMosaic Idealize.ShloMosaic.TcCoe
open Cert.KernelIdeal Cert.KernelIdeal.Gen

def c142 (V : Val) : FVec Ideal S64x1024 .f32 := K V main_call0_v142
def c149 (V : Val) : FVec Ideal S16x1024 .f32 := K V main_call0_v149

theorem c142_apply (V : Val) (d : Fin 64) (k : Fin 1024) : (c142 V (ix2 d k) : EReal) = if d.val = k.val % 64 then 1 else 0 := by
  have q : c142 V = uitofp .f32 (cmpi .eq (broadcastInDim S64x1024 ![0, 1] bcast_S64x1_S64x1024_0_1 (broadcastInDim S64x1 ![0] bcast_S64_S64x1_0 (iotaInDim S64 32 0))) (broadcastInDim S64x1024 ![0, 1] bcast_S1x1024_S64x1024_0_1 (broadcastInDim S1x1024 ![1] bcast_S1024_S1x1024_1 (dix V)))) := by
    unfold c142 dix
    rw [e_v142, e_v141, e_v139, e_v137, e_v136, e_v140, e_v138]
  have h := dix_apply V k
  rw [q]
  refine Eq.trans ?_ (word_eq d.val (k.val % 64) (by omega) (by omega))
  rw [← h]
  generalize dix V = g
  pointwise

theorem c149_apply (V : Val) (d : Fin 16) (k : Fin 1024) : (c149 V (ix2 d k) : EReal) = if d.val = k.val / 64 then 1 else 0 := by
  have q : c149 V = uitofp .f32 (cmpi .eq (broadcastInDim S16x1024 ![0, 1] bcast_S16x1_S16x1024_0_1 (broadcastInDim S16x1 ![0] bcast_S16_S16x1_0 (iotaInDim S16 32 0))) (broadcastInDim S16x1024 ![0, 1] bcast_S1x1024_S16x1024_0_1 (broadcastInDim S1x1024 ![1] bcast_S1024_S1x1024_1 (nix V)))) := by
    unfold c149 nix
    rw [e_v149, e_v148, e_v146, e_v144, e_v143, e_v147, e_v145]
  have h := nix_apply V k
  rw [q]
  refine Eq.trans ?_ (word_eq d.val (k.val / 64) (by omega) (by omega))
  rw [← h]
  generalize nix V = g
  pointwise

/-- A weight and zeros, laid out twice along the diagonal. -/
def twice (w : FVec Ideal S64x64 .f32) : FVec Ideal S128x128 .f32 :=
  concatenate S128x128 0 [⟨S64x128, concatenate S64x128 1 [⟨S64x64, transpose S64x64 [1, 0] w transposes_S64x64_S64x64_1_0⟩, ⟨S64x64, broadcastInDim S64x64 ![] bcast_S_S64x64 (constant S_ .f32 0x00000000#32)⟩] concatenates_S64x64_S64x64_S64x128_d1⟩,
    ⟨S64x128, concatenate S64x128 1 [⟨S64x64, broadcastInDim S64x64 ![] bcast_S_S64x64 (constant S_ .f32 0x00000000#32)⟩, ⟨S64x64, transpose S64x64 [1, 0] w transposes_S64x64_S64x64_1_0⟩] concatenates_S64x64_S64x64_S64x128_d1⟩] concatenates_S64x128_S64x128_S128x128_d0

theorem twice_apply (w : FVec Ideal S64x64 .f32) (q c : Fin 128) :
    (twice w (ix2 q c) : EReal) = if q.val / 64 = c.val / 64 then (w (ix2 ⟨c.val % 64, by omega⟩ ⟨q.val % 64, by omega⟩) : EReal) else 0 := by
  refine Eq.trans (b := (if h : q.val < 64 then (if h' : c.val < 64 then (w (ix2 ⟨c.val, h'⟩ ⟨q.val, h⟩) : EReal) else 0)
    else (if h' : c.val < 64 then 0 else w (ix2 ⟨c.val - 64, by omega⟩ ⟨q.val - 64, by omega⟩)))) ?_ ?_
  · unfold twice
    pointwise
  · by_cases h : q.val < 64 <;> by_cases h' : c.val < 64
    · rw [dif_pos h, dif_pos h', if_pos (by omega)]
      exact congrArg₂ (fun x y => (w (ix2 x y) : EReal)) (Fin.ext (by show c.val = c.val % 64; omega)) (Fin.ext (by show q.val = q.val % 64; omega))
    · rw [dif_pos h, dif_neg h', if_neg (by omega)]
    · rw [dif_neg h, dif_pos h', if_neg (by omega)]
    · rw [dif_neg h, dif_neg h', if_pos (by omega)]
      exact congrArg₂ (fun x y => (w (ix2 x y) : EReal)) (Fin.ext (by show c.val - 64 = c.val % 64; omega)) (Fin.ext (by show q.val - 64 = q.val % 64; omega))

theorem b127_eq (V : Val) : b127 V = twice (gAw V) := by
  unfold b127 twice
  rw [e_v127, e_call0_v0, e_call0_v1, e_v125, e_v126, e_v124, e_cst_34, k10]

theorem b130_eq (V : Val) : b130 V = twice (gCw V) := by
  unfold b130 twice
  rw [e_v130, e_call1_v0, e_call1_v1, e_v128, e_v129, e_v124, e_cst_34, k14]

theorem c159_apply (V : Val) (e d : Fin 64) : ((K V main_call0_v159 : FVec Ideal S64x64 .f32) (ix2 e d)) = gBw V (ix2 d e) := by
  have q : (K V main_call0_v159 : FVec Ideal S64x64 .f32) = transpose S64x64 [1, 0] (gBw V) transposes_S64x64_S64x64_1_0 := by
    rw [e_v159, k12]
  rw [q]
  pointwise

theorem b163_if (V : Val) (q : Fin 256) (x : Fin 2176) :
    (b163 V (ix2 q x) : EReal) = if (128 ≤ q.val ∧ q.val < 128 + 64) ∧ (2048 ≤ x.val ∧ x.val < 2048 + 64) then (gBw V (ix2 (Fin.ofNat 64 (x.val - 2048)) (Fin.ofNat 64 (q.val - 128))) : EReal) else
      if (208 ≤ q.val ∧ q.val < 208 + 16) ∧ (1024 ≤ x.val ∧ x.val < 1024 + 1024) then c149 V (ix2 (Fin.ofNat 16 (q.val - 208)) (Fin.ofNat 1024 (x.val - 1024))) else
      if (192 ≤ q.val ∧ q.val < 192 + 16) ∧ (0 ≤ x.val ∧ x.val < 0 + 1024) then c149 V (ix2 (Fin.ofNat 16 (q.val - 192)) (Fin.ofNat 1024 (x.val - 0))) else 0 := by
  unfold b163
  rw [e_v163]
  refine (set_e64 (K V main_call0_v158) (K V main_call0_v162) (K V main_call0_v159 : FVec Ideal S64x64 .f32) 128 2048 ?_ ?_ (by omega) (by omega) q x).trans ?_
  · rw [e_v162, e_v160, e_c_42, e_v161, e_c_43]; rfl
  · rw [e_v162, e_v160, e_c_42, e_v161, e_c_43]; rfl
  refine if_congr Iff.rfl (c159_apply V _ _) ?_
  rw [e_v158]
  refine (set_e16 (K V main_call0_v154) (K V main_call0_v157) (c149 V) 208 1024 ?_ ?_ (by omega) (by omega) q x).trans ?_
  · rw [e_v157, e_v155, e_c_40, e_v156, e_c_41]; rfl
  · rw [e_v157, e_v155, e_c_40, e_v156, e_c_41]; rfl
  refine if_congr Iff.rfl rfl ?_
  rw [e_v154]
  refine (set_e16 (K V main_call0_v150) (K V main_call0_v153) (c149 V) 192 0 ?_ ?_ (by omega) (by omega) q x).trans ?_
  · rw [e_v153, e_v151, e_c_38, e_v152, e_c_39]; rfl
  · rw [e_v153, e_v151, e_c_38, e_v152, e_c_39]; rfl
  refine if_congr Iff.rfl rfl ?_
  rw [e_v150, e_cst_37]
  exact Ideal.ofBits_zero .f32

theorem b163_b (V : Val) (q : Fin 256) (k : Fin 1024) : (b163 V (ix2 q ⟨k.val, by omega⟩) : EReal) = if q.val = 192 + k.val / 64 then 1 else 0 := by
  rw [b163_if, if_neg (by dsimp only; omega), if_neg (by dsimp only; omega)]
  by_cases h : 192 ≤ q.val ∧ q.val < 192 + 16
  · rw [if_pos (by dsimp only; omega), c149_apply]
    refine if_congr ?_ rfl rfl
    show (q.val - 192) % 16 = (k.val - 0) % 1024 / 64 ↔ _
    omega
  · rw [if_neg (by dsimp only; omega), if_neg (by omega)]

theorem b163_c (V : Val) (q : Fin 256) (k : Fin 1024) : (b163 V (ix2 q ⟨1024 + k.val, by omega⟩) : EReal) = if q.val = 208 + k.val / 64 then 1 else 0 := by
  rw [b163_if, if_neg (by dsimp only; omega)]
  by_cases h : 208 ≤ q.val ∧ q.val < 208 + 16
  · rw [if_pos (by dsimp only; omega), c149_apply]
    refine if_congr ?_ rfl rfl
    show (q.val - 208) % 16 = (1024 + k.val - 1024) % 1024 / 64 ↔ _
    omega
  · rw [if_neg (by dsimp only; omega), if_neg (by dsimp only; omega), if_neg (by omega)]

theorem b163_u (V : Val) (q : Fin 256) (d : Fin 64) :
    (b163 V (ix2 q ⟨2048 + d.val, by omega⟩) : EReal) = if 128 ≤ q.val ∧ q.val < 192 then (gBw V (ix2 d (Fin.ofNat 64 (q.val - 128))) : EReal) else 0 := by
  rw [b163_if]
  by_cases h : 128 ≤ q.val ∧ q.val < 192
  · rw [if_pos (by dsimp only; omega), if_pos h]
    exact congrArg (fun z => (gBw V (ix2 z _) : EReal)) (Fin.ext (by show (2048 + d.val - 2048) % 64 = d.val; omega))
  · rw [if_neg (by dsimp only; omega), if_neg (by dsimp only; omega), if_neg (by dsimp only; omega), if_neg h]

theorem b166_apply (V : Val) (q : Fin 128) (k : Fin 1024) : (b166 V (ix2 q k) : EReal) = if q.val = k.val % 64 then 1 else 0 := by
  unfold b166
  rw [e_v166]
  refine (set_row (K V main_call0_v164) (K V main_call0_v165) (c142 V) 0 (fun y => by rw [e_v165, e_c_45]; rfl) (by omega) q k).trans ?_
  by_cases h : q.val < 64
  · rw [if_pos (by omega), c142_apply]
    refine if_congr ?_ rfl rfl
    show (q.val - 0) % 64 = k.val % 64 ↔ _
    omega
  · rw [if_neg (by omega), if_neg (by omega), e_v164, e_cst_44]
    exact Ideal.ofBits_zero .f32

theorem b167_apply (V : Val) (k : Fin 1024) (d : Fin 64) : (b167 V (ix2 k d) : EReal) = if k.val % 64 = d.val then 1 else 0 := by
  have q : b167 V = transpose S1024x64 [1, 0] (c142 V) transposes_S64x1024_S1024x64_1_0 := by
    unfold b167 c142
    rw [e_v167]
  rw [q]
  refine Eq.trans ?_ (Eq.trans (c142_apply V d k) (if_congr eq_comm rfl rfl))
  generalize c142 V = g
  pointwise

theorem take64 {α : Type} (x : S64.Idx → α) (idx : IVec S1024x1 32) (e : Fin 1024) :
    Host.gather gather_S64_S1024x1_S1024_n_0_n_n_0_1_1 x idx (ix1 e) = x (ix1 ⟨min (idx (ix2 e (0 : Fin 1))).toInt.toNat 63, by omega⟩) := by
  have hs : ∀ k, gather_S64_S1024x1_S1024_n_0_n_n_0_1_1.siIdx (ix1 e) k = ix2 e (0 : Fin 1) := by
    intro k
    funext b; refine Fin.ext ?_
    match b with
    | ⟨0, _⟩ => rfl
    | ⟨1, _⟩ => exact Nat.lt_one_iff.1 (Fin.isLt _)
  have h0 : gather_S64_S1024x1_S1024_n_0_n_n_0_1_1.start (ix1 e) idx 0 = min (idx (ix2 e (0 : Fin 1))).toInt.toNat 63 := by
    unfold GatherDims.start
    rw [dif_pos (by decide), hs]
    rfl
  unfold Host.gather
  congr 1
  funext a
  refine Fin.ext ?_
  match a with
  | ⟨0, _⟩ =>
    exact congrArg (fun z => z + 0 + 0) h0

/-- The lane's feature with a negative one wrapped, as a column. -/
def wrp (g : IVec S1024 32) : IVec S1024x1 32 :=
  broadcastInDim S1024x1 ![0] bcast_S1024_S1024x1_0 (select (cmpi .slt g (broadcastInDim S1024 ![] bcast_S_S1024 (constantI S_ 32 0#32))) (addi g (broadcastInDim S1024 ![] bcast_S_S1024 (constantI S_ 32 64#32))) g)

theorem wrp_word : ∀ k : Fin 1024, Scalar.select (IntOp.cmpi .slt (BitVec.ofNat 32 (k.val % 64)) 0#32) (IntOp.addi (BitVec.ofNat 32 (k.val % 64)) 64#32) (BitVec.ofNat 32 (k.val % 64)) = BitVec.ofNat 32 (k.val % 64) := by
  decide +kernel

theorem wrp_apply (V : Val) (k : Fin 1024) : wrp (dix V) (ix2 k (0 : Fin 1)) = BitVec.ofNat 32 (k.val % 64) := by
  refine Eq.trans ?_ (wrp_word k)
  rw [← dix_apply V k]
  generalize dix V = g
  unfold wrp
  pointwise

theorem take_dix (V : Val) (x : S64.Idx → EReal) (k : Fin 1024) :
    Host.gather gather_S64_S1024x1_S1024_n_0_n_n_0_1_1 x (wrp (dix V)) (ix1 k) = x (ix1 ⟨k.val % 64, by omega⟩) := by
  rw [take64]
  refine congrArg (fun z => x (ix1 z)) (Fin.ext ?_)
  show min (wrp (dix V) (ix2 k (0 : Fin 1))).toInt.toNat 63 = k.val % 64
  rw [wrp_apply, BitVec.toInt_eq_toNat_of_lt (by rw [BitVec.toNat_ofNat]; omega), BitVec.toNat_ofNat]
  omega

theorem b174_apply (V : Val) (k : Fin 1024) : (b174 V (ix1 k) : EReal) = gAb V (ix1 ⟨k.val % 64, by omega⟩) := by
  have q : b174 V = Host.gather gather_S64_S1024x1_S1024_n_0_n_n_0_1_1 (gAb V) (wrp (dix V)) := by
    unfold b174 wrp dix
    rw [e_v174, e_v173, e_v172, e_v169, e_v168, e_c_46, e_v171, e_v170, e_c_47, k11]
  rw [q]
  exact take_dix V _ k

theorem b181_apply (V : Val) (k : Fin 1024) : (b181 V (ix1 k) : EReal) = gCb V (ix1 ⟨k.val % 64, by omega⟩) := by
  have q : b181 V = Host.gather gather_S64_S1024x1_S1024_n_0_n_n_0_1_1 (gCb V) (wrp (dix V)) := by
    unfold b181 wrp dix
    rw [e_v181, e_v180, e_v179, e_v176, e_v175, e_c_48, e_v178, e_v177, e_c_49, k15]
  rw [q]
  exact take_dix V _ k

theorem b184_apply (V : Val) (d : Fin 64) : (b184 V (ix1 ⟨d.val, by omega⟩) : EReal) = gBb V (ix1 d) := by
  unfold b184
  rw [e_v184]
  refine (set_v128 (K V main_call0_v182) (K V main_call0_v183) (K V main_arg13) 0 (fun y => by rw [e_v183, e_c_51]; rfl) (by omega) ⟨d.val, by omega⟩).trans ?_
  rw [if_pos (by dsimp only; omega), k13]
  exact congrArg (fun z => (gBb V (ix1 z) : EReal)) (Fin.ext (by show (d.val - 0) % 64 = d.val; omega))

/-- The values the launch starts from are the host stage's. -/
theorem kv (m : (ℓ : Loc nD τ sig) → Buf (Elt Ideal) ℓ) (c : Dev nD) (r : Ref sig .tc) : V m c r = K (F := Ideal) (fun b => m (c, b)) r := by
  unfold V V0 K ops0
  rfl

attribute [local irreducible] K in
/-- What the step asks of the tables holds. -/
theorem wok (m : (ℓ : Loc nD τ sig) → Buf (Elt Ideal) ℓ) (c : Dev nD) (i : Fin 4) (U : Val) (hU : U = fun b => m (c, b)) :
    Trip.WOk (Trip.Wc m c i) (fun d e => gAw U (ix2 d e)) (fun d e => gBw U (ix2 d e)) (fun d e => gCw U (ix2 d e))
      (fun d => gAb U (ix1 d)) (fun d => gBb U (ix1 d)) (fun d => gCb U (ix1 d)) := by
  have h127 : Trip.hv127 m c = b127 U := by subst hU; unfold Trip.hv127 b127; exact kv m c main_call0_v127
  have h130 : Trip.hv130 m c = b130 U := by subst hU; unfold Trip.hv130 b130; exact kv m c main_call0_v130
  have h163 : Trip.hv163 m c = b163 U := by subst hU; unfold Trip.hv163 b163; exact kv m c main_call0_v163
  have h166 : Trip.hv166 m c = b166 U := by subst hU; unfold Trip.hv166 b166; exact kv m c main_call0_v166
  have h167 : Trip.hv167 m c = b167 U := by subst hU; unfold Trip.hv167 b167; exact kv m c main_call0_v167
  have h174 : Trip.hv174 m c = b174 U := by subst hU; unfold Trip.hv174 b174; exact kv m c main_call0_v174
  have h181 : Trip.hv181 m c = b181 U := by subst hU; unfold Trip.hv181 b181; exact kv m c main_call0_v181
  have h184 : Trip.hv184 m c = b184 U := by subst hU; unfold Trip.hv184 b184; exact kv m c main_call0_v184
  unfold Trip.Wc
  rw [h127, h130, h163, h166, h167, h174, h181, h184, b127_eq, b130_eq]
  exact ⟨twice_apply _, twice_apply _, b163_b U, b163_c U, b163_u U, b166_apply U, b167_apply U, b174_apply U, b181_apply U, b184_apply U⟩

end Cert.Proof.KH
-- ==== Proof.HostR.lean ====
module

public import proofs.«01_k».proof.Proof.Gen.ReferenceIdeal.Run
public import Idealize.ShloMosaic.Lib.StableHlo.RunRead

@[expose] public section

set_option maxRecDepth 16384

/-! What each buffer of the host lines holds at the end of them, from what its operands hold there: no line
    writes a buffer twice, and none reads a buffer a later line writes. -/

noncomputable section

namespace Cert.ReferenceIdeal.Gen

open Idealize.ShloMosaic Idealize.ShloMosaic.StableHlo Idealize.ShloMosaic.TcCoe

variable {F : FTy → Type} [FloatOps F]

/-- The host lines before the loop, in order. -/
noncomputable def ops0 : List (HloOp τ sig (Elt F)) := List.flatten [hostOps0, hostOps0_1, hostOps0_2]

/-- What the lines write, in order. -/
noncomputable def wr0 : List (Ref sig .tc) :=
  [main_v0, main_v1, main_v2, main_v3, main_v4, main_v5, main_v6, main_cst, main_v7, main_v8, main_cst_0, main_v9, main_v10, main_v11, main_cst_1, main_v12, main_v13, main_v14, main_c, main_v15, main_v16, main_c_2, main_v17, main_v18, main_v19, main_v20, main_v21, main_v22, main_c_3, main_v23, main_v24, main_c_4, main_v25, main_v26, main_v27, main_v28, main_v29, main_v30, main_v31, main_v32, main_v33, main_v34, main_v35, main_v36, main_v37, main_v38, main_v39, main_v40, main_v41, main_call0_cst, main_call0_v0, main_call0_v1, main_call0_v2, main_call0_v3, main_call0_v4, main_call0_v5, main_call0_v6, main_call0_v7, main_call0_v8, main_call0_v9, main_call0_v10, main_call0_v11, main_v42, main_v43, main_v44, main_v45, main_v46, main_v47, main_v48, main_v49, main_cst_5, main_v50, main_cst_6, main_v51, main_c_7, main_v52_0, main_v52_1, main_v52_2, main_v52_3, main_v52_4, main_v52_5, main_v52_6, main_v52_7, main_v52_8, main_v52_9, main_v52_10, main_v52_11, main_v52_12, main_v52_13, main_v52_14, main_v52_15, main_v52_16, main_v52_17, main_v52_18]

theorem wr0_eq : (ops0 (F := F)).map HloOp.writes = wr0.map fun w => {Proc.devRef (τ := τ) .tc w} := by
  unfold ops0 wr0; rfl

/-- A buffer's contents after the host lines. -/
noncomputable def K (V : Valuation τ sig (Elt F)) (r : Ref sig .tc) : r.ty.Contents (Elt F) := StableHlo.after ops0 V (Proc.devRef .tc r)

variable (V : Valuation τ sig (Elt F))

theorem K_arg (r : Ref sig .tc) (h : r ∉ wr0) : K V r = V (Proc.devRef .tc r) :=
  after_unwritten wr0 wr0_eq h V

theorem cast_reshape {s t : Shape} {e : EltTy} {Tx Ty : BufTy} (hx : Tx = ⟨s, e⟩) (hy : Ty = ⟨t, e⟩) (u : Tx.Contents (Elt F)) (he : Tx.elt = Ty.elt)
    (hn' : Tx.shape.ShapeCasts Ty.shape) (hn : s.ShapeCasts t) :
    cast (congrArg (fun U : BufTy => U.Contents (Elt F)) hy) (fun i => he ▸ shapeCast Ty.shape u hn' i)
      = shapeCast t (cast (congrArg (fun U : BufTy => U.Contents (Elt F)) hx) u) hn := by
  subst hx hy; rfl

theorem K_upto {i : ℕ} {r : Ref sig .tc} (h : r ∉ wr0.drop i) : K V r = upto ops0 V i (Proc.devRef .tc r) := by
  have h1 : after ops0 V = after (ops0.drop i) (upto ops0 V i) := by
    rw [upto, ← Idealize.ShloMosaic.StableHlo.after_append, List.take_append_drop]
  show after ops0 V _ = _
  rw [h1]
  exact after_unwritten (wr0.drop i) (by rw [List.map_drop, List.map_drop, wr0_eq]) h _

theorem drop_some {α : Type*} {l : List α} {i : ℕ} {x : α} (h : l[i]? = some x) : l.drop i = x :: l.drop (i + 1) := by
  obtain ⟨hi, rfl⟩ := List.getElem?_eq_some_iff.mp h
  exact List.drop_eq_getElem_cons hi

theorem K_write {i : ℕ} {op : HloOp τ sig (Elt F)} {r : Ref sig .tc} (hs : (ops0 (F := F))[i]? = some op) (h : r ∉ wr0.drop (i + 1)) :
    K V r = op.result (upto ops0 V i) (Proc.devRef .tc r) :=
  after_last_write (wr0.drop (i + 1)) (drop_some hs) (by rw [List.map_drop, List.map_drop, wr0_eq]) h V

theorem ssa_nullary {Ty : BufTy} (i : ℕ) (y : TRef sig Ty) (v : Ty.Contents (Elt F)) (hs : (ops0 (F := F))[i]? = some (TRef.nullary y v))
    (hy : y.ref ∉ wr0.drop (i + 1)) (V : Valuation τ sig (Elt F)) : y.ofBuf (K V y.ref) = v := by
  rw [K_write V hs hy, nullary_result, TRef.ofBuf_toBuf]

theorem ssa_unary {Tx Ty : BufTy} (i : ℕ) (x : TRef sig Tx) (y : TRef sig Ty) (f : Tx.Contents (Elt F) → Ty.Contents (Elt F))
    (hs : (ops0 (F := F))[i]? = some (TRef.unary x y f))
    (hy : y.ref ∉ wr0.drop (i + 1)) (hx : x.ref ∉ wr0.drop i) (V : Valuation τ sig (Elt F)) : y.ofBuf (K V y.ref) = f (x.ofBuf (K V x.ref)) := by
  rw [K_write V hs hy, unary_result, TRef.ofBuf_toBuf, K_upto V hx]

theorem ssa_binary {Ta Tb Ty : BufTy} (i : ℕ) (a : TRef sig Ta) (b : TRef sig Tb) (y : TRef sig Ty)
    (f : Ta.Contents (Elt F) → Tb.Contents (Elt F) → Ty.Contents (Elt F)) (hs : (ops0 (F := F))[i]? = some (TRef.binary a b y f))
    (hy : y.ref ∉ wr0.drop (i + 1)) (ha : a.ref ∉ wr0.drop i) (hb : b.ref ∉ wr0.drop i) (V : Valuation τ sig (Elt F)) :
    y.ofBuf (K V y.ref) = f (a.ofBuf (K V a.ref)) (b.ofBuf (K V b.ref)) := by
  rw [K_write V hs hy, binary_result, TRef.ofBuf_toBuf, K_upto V ha, K_upto V hb]

theorem ssa_ternary {Tc Ta Tb Ty : BufTy} (i : ℕ) (p : TRef sig Tc) (a : TRef sig Ta) (b : TRef sig Tb) (y : TRef sig Ty)
    (f : Tc.Contents (Elt F) → Ta.Contents (Elt F) → Tb.Contents (Elt F) → Ty.Contents (Elt F)) (hs : (ops0 (F := F))[i]? = some (TRef.ternary p a b y f))
    (hy : y.ref ∉ wr0.drop (i + 1)) (hp : p.ref ∉ wr0.drop i) (ha : a.ref ∉ wr0.drop i) (hb : b.ref ∉ wr0.drop i) (V : Valuation τ sig (Elt F)) :
    y.ofBuf (K V y.ref) = f (p.ofBuf (K V p.ref)) (a.ofBuf (K V a.ref)) (b.ofBuf (K V b.ref)) := by
  rw [K_write V hs hy, ternary_result, TRef.ofBuf_toBuf, K_upto V hp, K_upto V ha, K_upto V hb]

theorem ssa_reshape {s t : Shape} {e : EltTy} (i : ℕ) (x : TRef sig ⟨s, e⟩) (y : TRef sig ⟨t, e⟩) (hn : s.ShapeCasts t)
    (hs : (ops0 (F := F))[i]? = some (TRef.reshape x y rfl hn))
    (hy : y.ref ∉ wr0.drop (i + 1)) (hx : x.ref ∉ wr0.drop i) (V : Valuation τ sig (Elt F)) :
    y.ofBuf (K V y.ref) = shapeCast t (x.ofBuf (K V x.ref)) hn := by
  rw [K_write (F := F) V hs hy, reshape_result, K_upto (F := F) V hx]
  exact cast_reshape (F := F) x.ty_eq y.ty_eq _ _ _ hn

attribute [local irreducible] K

theorem e_v0 : (K V main_v0 : (⟨S608, .i32⟩ : BufTy).Contents (Elt F)) = (iotaInDim S608 32 0) := by
  have h := ssa_nullary 0 (.of main_v0 : TRef sig ⟨S608, .i32⟩) (iotaInDim S608 32 0) rfl (by decide +kernel) V
  exact h

theorem e_v1 : (K V main_v1 : (⟨S1x10944, .i32⟩ : BufTy).Contents (Elt F)) = ((extractStridedSlice S1x10944 ![0, 0] · slices_S2x10944_S1x10944_0_0) : (⟨S2x10944, .i32⟩ : BufTy).Contents (Elt F) → (⟨S1x10944, .i32⟩ : BufTy).Contents (Elt F)) (K V main_arg1 : (⟨S2x10944, .i32⟩ : BufTy).Contents (Elt F)) := by
  have h := ssa_unary 1 (.of main_arg1 : TRef sig ⟨S2x10944, .i32⟩) (.of main_v1 : TRef sig ⟨S1x10944, .i32⟩) ((extractStridedSlice S1x10944 ![0, 0] · slices_S2x10944_S1x10944_0_0) : (⟨S2x10944, .i32⟩ : BufTy).Contents (Elt F) → (⟨S1x10944, .i32⟩ : BufTy).Contents (Elt F)) rfl (by decide +kernel) (by decide +kernel) V
  exact h

theorem e_v2 : (K V main_v2 : (⟨S10944, .i32⟩ : BufTy).Contents (Elt F)) = shapeCast S10944 (K V main_v1 : (⟨S1x10944, .i32⟩ : BufTy).Contents (Elt F)) shapeCasts_S1x10944_S10944 := by
  have h := ssa_reshape 2 (.of main_v1 : TRef sig ⟨S1x10944, .i32⟩) (.of main_v2 : TRef sig ⟨S10944, .i32⟩) shapeCasts_S1x10944_S10944 rfl (by decide +kernel) (by decide +kernel) V
  exact h

theorem e_v3 : (K V main_v3 : (⟨S11552, .i32⟩ : BufTy).Contents (Elt F)) = ((fun a b => concatenate S11552 0 [⟨S10944, a⟩, ⟨S608, b⟩] concatenates_S10944_S608_S11552_d0) : (⟨S10944, .i32⟩ : BufTy).Contents (Elt F) → (⟨S608, .i32⟩ : BufTy).Contents (Elt F) → (⟨S11552, .i32⟩ : BufTy).Contents (Elt F)) (K V main_v2 : (⟨S10944, .i32⟩ : BufTy).Contents (Elt F)) (K V main_v0 : (⟨S608, .i32⟩ : BufTy).Contents (Elt F)) := by
  have h := ssa_binary 3 (.of main_v2 : TRef sig ⟨S10944, .i32⟩) (.of main_v0 : TRef sig ⟨S608, .i32⟩) (.of main_v3 : TRef sig ⟨S11552, .i32⟩) ((fun a b => concatenate S11552 0 [⟨S10944, a⟩, ⟨S608, b⟩] concatenates_S10944_S608_S11552_d0) : (⟨S10944, .i32⟩ : BufTy).Contents (Elt F) → (⟨S608, .i32⟩ : BufTy).Contents (Elt F) → (⟨S11552, .i32⟩ : BufTy).Contents (Elt F)) rfl (by decide +kernel) (by decide +kernel) (by decide +kernel) V
  exact h

theorem e_v4 : (K V main_v4 : (⟨S1x10944, .i32⟩ : BufTy).Contents (Elt F)) = ((extractStridedSlice S1x10944 ![1, 0] · slices_S2x10944_S1x10944_1_0) : (⟨S2x10944, .i32⟩ : BufTy).Contents (Elt F) → (⟨S1x10944, .i32⟩ : BufTy).Contents (Elt F)) (K V main_arg1 : (⟨S2x10944, .i32⟩ : BufTy).Contents (Elt F)) := by
  have h := ssa_unary 4 (.of main_arg1 : TRef sig ⟨S2x10944, .i32⟩) (.of main_v4 : TRef sig ⟨S1x10944, .i32⟩) ((extractStridedSlice S1x10944 ![1, 0] · slices_S2x10944_S1x10944_1_0) : (⟨S2x10944, .i32⟩ : BufTy).Contents (Elt F) → (⟨S1x10944, .i32⟩ : BufTy).Contents (Elt F)) rfl (by decide +kernel) (by decide +kernel) V
  exact h

theorem e_v5 : (K V main_v5 : (⟨S10944, .i32⟩ : BufTy).Contents (Elt F)) = shapeCast S10944 (K V main_v4 : (⟨S1x10944, .i32⟩ : BufTy).Contents (Elt F)) shapeCasts_S1x10944_S10944 := by
  have h := ssa_reshape 5 (.of main_v4 : TRef sig ⟨S1x10944, .i32⟩) (.of main_v5 : TRef sig ⟨S10944, .i32⟩) shapeCasts_S1x10944_S10944 rfl (by decide +kernel) (by decide +kernel) V
  exact h

theorem e_v6 : (K V main_v6 : (⟨S11552, .i32⟩ : BufTy).Contents (Elt F)) = ((fun a b => concatenate S11552 0 [⟨S10944, a⟩, ⟨S608, b⟩] concatenates_S10944_S608_S11552_d0) : (⟨S10944, .i32⟩ : BufTy).Contents (Elt F) → (⟨S608, .i32⟩ : BufTy).Contents (Elt F) → (⟨S11552, .i32⟩ : BufTy).Contents (Elt F)) (K V main_v5 : (⟨S10944, .i32⟩ : BufTy).Contents (Elt F)) (K V main_v0 : (⟨S608, .i32⟩ : BufTy).Contents (Elt F)) := by
  have h := ssa_binary 6 (.of main_v5 : TRef sig ⟨S10944, .i32⟩) (.of main_v0 : TRef sig ⟨S608, .i32⟩) (.of main_v6 : TRef sig ⟨S11552, .i32⟩) ((fun a b => concatenate S11552 0 [⟨S10944, a⟩, ⟨S608, b⟩] concatenates_S10944_S608_S11552_d0) : (⟨S10944, .i32⟩ : BufTy).Contents (Elt F) → (⟨S608, .i32⟩ : BufTy).Contents (Elt F) → (⟨S11552, .i32⟩ : BufTy).Contents (Elt F)) rfl (by decide +kernel) (by decide +kernel) (by decide +kernel) V
  exact h

theorem e_cst : (K V main_cst : (⟨S_, .f32⟩ : BufTy).Contents (Elt F)) = (constant S_ .f32 0x3F800000#32) := by
  have h := ssa_nullary 7 (.of main_cst : TRef sig ⟨S_, .f32⟩) (constant S_ .f32 0x3F800000#32) rfl (by decide +kernel) V
  exact h

theorem e_v7 : (K V main_v7 : (⟨S608, .f32⟩ : BufTy).Contents (Elt F)) = (broadcastInDim S608 ![] bcast_S_S608 : (⟨S_, .f32⟩ : BufTy).Contents (Elt F) → (⟨S608, .f32⟩ : BufTy).Contents (Elt F)) (K V main_cst : (⟨S_, .f32⟩ : BufTy).Contents (Elt F)) := by
  have h := ssa_unary 8 (.of main_cst : TRef sig ⟨S_, .f32⟩) (.of main_v7 : TRef sig ⟨S608, .f32⟩) (broadcastInDim S608 ![] bcast_S_S608 : (⟨S_, .f32⟩ : BufTy).Contents (Elt F) → (⟨S608, .f32⟩ : BufTy).Contents (Elt F)) rfl (by decide +kernel) (by decide +kernel) V
  exact h

theorem e_v8 : (K V main_v8 : (⟨S11552, .f32⟩ : BufTy).Contents (Elt F)) = ((fun a b => concatenate S11552 0 [⟨S10944, a⟩, ⟨S608, b⟩] concatenates_S10944_S608_S11552_d0) : (⟨S10944, .f32⟩ : BufTy).Contents (Elt F) → (⟨S608, .f32⟩ : BufTy).Contents (Elt F) → (⟨S11552, .f32⟩ : BufTy).Contents (Elt F)) (K V main_arg2 : (⟨S10944, .f32⟩ : BufTy).Contents (Elt F)) (K V main_v7 : (⟨S608, .f32⟩ : BufTy).Contents (Elt F)) := by
  have h := ssa_binary 9 (.of main_arg2 : TRef sig ⟨S10944, .f32⟩) (.of main_v7 : TRef sig ⟨S608, .f32⟩) (.of main_v8 : TRef sig ⟨S11552, .f32⟩) ((fun a b => concatenate S11552 0 [⟨S10944, a⟩, ⟨S608, b⟩] concatenates_S10944_S608_S11552_d0) : (⟨S10944, .f32⟩ : BufTy).Contents (Elt F) → (⟨S608, .f32⟩ : BufTy).Contents (Elt F) → (⟨S11552, .f32⟩ : BufTy).Contents (Elt F)) rfl (by decide +kernel) (by decide +kernel) (by decide +kernel) V
  exact h

theorem e_cst_0 : (K V main_cst_0 : (⟨S_, .f32⟩ : BufTy).Contents (Elt F)) = (constant S_ .f32 0x00000000#32) := by
  have h := ssa_nullary 10 (.of main_cst_0 : TRef sig ⟨S_, .f32⟩) (constant S_ .f32 0x00000000#32) rfl (by decide +kernel) V
  exact h

theorem e_v9 : (K V main_v9 : (⟨S608, .f32⟩ : BufTy).Contents (Elt F)) = (broadcastInDim S608 ![] bcast_S_S608 : (⟨S_, .f32⟩ : BufTy).Contents (Elt F) → (⟨S608, .f32⟩ : BufTy).Contents (Elt F)) (K V main_cst_0 : (⟨S_, .f32⟩ : BufTy).Contents (Elt F)) := by
  have h := ssa_unary 11 (.of main_cst_0 : TRef sig ⟨S_, .f32⟩) (.of main_v9 : TRef sig ⟨S608, .f32⟩) (broadcastInDim S608 ![] bcast_S_S608 : (⟨S_, .f32⟩ : BufTy).Contents (Elt F) → (⟨S608, .f32⟩ : BufTy).Contents (Elt F)) rfl (by decide +kernel) (by decide +kernel) V
  exact h

theorem e_v10 : (K V main_v10 : (⟨S11552x1, .i32⟩ : BufTy).Contents (Elt F)) = (broadcastInDim S11552x1 ![0] bcast_S11552_S11552x1_0 : (⟨S11552, .i32⟩ : BufTy).Contents (Elt F) → (⟨S11552x1, .i32⟩ : BufTy).Contents (Elt F)) (K V main_v6 : (⟨S11552, .i32⟩ : BufTy).Contents (Elt F)) := by
  have h := ssa_unary 12 (.of main_v6 : TRef sig ⟨S11552, .i32⟩) (.of main_v10 : TRef sig ⟨S11552x1, .i32⟩) (broadcastInDim S11552x1 ![0] bcast_S11552_S11552x1_0 : (⟨S11552, .i32⟩ : BufTy).Contents (Elt F) → (⟨S11552x1, .i32⟩ : BufTy).Contents (Elt F)) rfl (by decide +kernel) (by decide +kernel) V
  exact h

theorem e_v11 : (K V main_v11 : (⟨S608, .f32⟩ : BufTy).Contents (Elt F)) = ((fun x i u => Host.scatterAdd scatter_S608_S11552x1_S11552_n_0_0_1 x i u) : (⟨S608, .f32⟩ : BufTy).Contents (Elt F) → (⟨S11552x1, .i32⟩ : BufTy).Contents (Elt F) → (⟨S11552, .f32⟩ : BufTy).Contents (Elt F) → (⟨S608, .f32⟩ : BufTy).Contents (Elt F)) (K V main_v9 : (⟨S608, .f32⟩ : BufTy).Contents (Elt F)) (K V main_v10 : (⟨S11552x1, .i32⟩ : BufTy).Contents (Elt F)) (K V main_v8 : (⟨S11552, .f32⟩ : BufTy).Contents (Elt F)) := by
  have h := ssa_ternary 13 (.of main_v9 : TRef sig ⟨S608, .f32⟩) (.of main_v10 : TRef sig ⟨S11552x1, .i32⟩) (.of main_v8 : TRef sig ⟨S11552, .f32⟩) (.of main_v11 : TRef sig ⟨S608, .f32⟩) ((fun x i u => Host.scatterAdd scatter_S608_S11552x1_S11552_n_0_0_1 x i u) : (⟨S608, .f32⟩ : BufTy).Contents (Elt F) → (⟨S11552x1, .i32⟩ : BufTy).Contents (Elt F) → (⟨S11552, .f32⟩ : BufTy).Contents (Elt F) → (⟨S608, .f32⟩ : BufTy).Contents (Elt F)) rfl (by decide +kernel) (by decide +kernel) (by decide +kernel) (by decide +kernel) V
  exact h

theorem e_cst_1 : (K V main_cst_1 : (⟨S_, .f32⟩ : BufTy).Contents (Elt F)) = (constant S_ .f32 0x2B8CBCCC#32) := by
  have h := ssa_nullary 14 (.of main_cst_1 : TRef sig ⟨S_, .f32⟩) (constant S_ .f32 0x2B8CBCCC#32) rfl (by decide +kernel) V
  exact h

theorem e_v12 : (K V main_v12 : (⟨S608, .f32⟩ : BufTy).Contents (Elt F)) = (broadcastInDim S608 ![] bcast_S_S608 : (⟨S_, .f32⟩ : BufTy).Contents (Elt F) → (⟨S608, .f32⟩ : BufTy).Contents (Elt F)) (K V main_cst_1 : (⟨S_, .f32⟩ : BufTy).Contents (Elt F)) := by
  have h := ssa_unary 15 (.of main_cst_1 : TRef sig ⟨S_, .f32⟩) (.of main_v12 : TRef sig ⟨S608, .f32⟩) (broadcastInDim S608 ![] bcast_S_S608 : (⟨S_, .f32⟩ : BufTy).Contents (Elt F) → (⟨S608, .f32⟩ : BufTy).Contents (Elt F)) rfl (by decide +kernel) (by decide +kernel) V
  exact h

theorem e_v13 : (K V main_v13 : (⟨S608, .f32⟩ : BufTy).Contents (Elt F)) = (maximumf : (⟨S608, .f32⟩ : BufTy).Contents (Elt F) → (⟨S608, .f32⟩ : BufTy).Contents (Elt F) → (⟨S608, .f32⟩ : BufTy).Contents (Elt F)) (K V main_v11 : (⟨S608, .f32⟩ : BufTy).Contents (Elt F)) (K V main_v12 : (⟨S608, .f32⟩ : BufTy).Contents (Elt F)) := by
  have h := ssa_binary 16 (.of main_v11 : TRef sig ⟨S608, .f32⟩) (.of main_v12 : TRef sig ⟨S608, .f32⟩) (.of main_v13 : TRef sig ⟨S608, .f32⟩) (maximumf : (⟨S608, .f32⟩ : BufTy).Contents (Elt F) → (⟨S608, .f32⟩ : BufTy).Contents (Elt F) → (⟨S608, .f32⟩ : BufTy).Contents (Elt F)) rfl (by decide +kernel) (by decide +kernel) (by decide +kernel) V
  exact h

theorem e_v14 : (K V main_v14 : (⟨S608, .f32⟩ : BufTy).Contents (Elt F)) = (Host.rsqrt : (⟨S608, .f32⟩ : BufTy).Contents (Elt F) → (⟨S608, .f32⟩ : BufTy).Contents (Elt F)) (K V main_v13 : (⟨S608, .f32⟩ : BufTy).Contents (Elt F)) := by
  have h := ssa_unary 17 (.of main_v13 : TRef sig ⟨S608, .f32⟩) (.of main_v14 : TRef sig ⟨S608, .f32⟩) (Host.rsqrt : (⟨S608, .f32⟩ : BufTy).Contents (Elt F) → (⟨S608, .f32⟩ : BufTy).Contents (Elt F)) rfl (by decide +kernel) (by decide +kernel) V
  exact h

theorem e_c : (K V main_c : (⟨S_, .i32⟩ : BufTy).Contents (Elt F)) = (constantI S_ 32 0#32) := by
  have h := ssa_nullary 18 (.of main_c : TRef sig ⟨S_, .i32⟩) (constantI S_ 32 0#32) rfl (by decide +kernel) V
  exact h

theorem e_v15 : (K V main_v15 : (⟨S11552, .i32⟩ : BufTy).Contents (Elt F)) = (broadcastInDim S11552 ![] bcast_S_S11552 : (⟨S_, .i32⟩ : BufTy).Contents (Elt F) → (⟨S11552, .i32⟩ : BufTy).Contents (Elt F)) (K V main_c : (⟨S_, .i32⟩ : BufTy).Contents (Elt F)) := by
  have h := ssa_unary 19 (.of main_c : TRef sig ⟨S_, .i32⟩) (.of main_v15 : TRef sig ⟨S11552, .i32⟩) (broadcastInDim S11552 ![] bcast_S_S11552 : (⟨S_, .i32⟩ : BufTy).Contents (Elt F) → (⟨S11552, .i32⟩ : BufTy).Contents (Elt F)) rfl (by decide +kernel) (by decide +kernel) V
  exact h

theorem e_v16 : (K V main_v16 : (⟨S11552, .i1⟩ : BufTy).Contents (Elt F)) = (cmpi .slt : (⟨S11552, .i32⟩ : BufTy).Contents (Elt F) → (⟨S11552, .i32⟩ : BufTy).Contents (Elt F) → (⟨S11552, .i1⟩ : BufTy).Contents (Elt F)) (K V main_v3 : (⟨S11552, .i32⟩ : BufTy).Contents (Elt F)) (K V main_v15 : (⟨S11552, .i32⟩ : BufTy).Contents (Elt F)) := by
  have h := ssa_binary 20 (.of main_v3 : TRef sig ⟨S11552, .i32⟩) (.of main_v15 : TRef sig ⟨S11552, .i32⟩) (.of main_v16 : TRef sig ⟨S11552, .i1⟩) (cmpi .slt : (⟨S11552, .i32⟩ : BufTy).Contents (Elt F) → (⟨S11552, .i32⟩ : BufTy).Contents (Elt F) → (⟨S11552, .i1⟩ : BufTy).Contents (Elt F)) rfl (by decide +kernel) (by decide +kernel) (by decide +kernel) V
  exact h

theorem e_c_2 : (K V main_c_2 : (⟨S_, .i32⟩ : BufTy).Contents (Elt F)) = (constantI S_ 32 608#32) := by
  have h := ssa_nullary 21 (.of main_c_2 : TRef sig ⟨S_, .i32⟩) (constantI S_ 32 608#32) rfl (by decide +kernel) V
  exact h

theorem e_v17 : (K V main_v17 : (⟨S11552, .i32⟩ : BufTy).Contents (Elt F)) = (broadcastInDim S11552 ![] bcast_S_S11552 : (⟨S_, .i32⟩ : BufTy).Contents (Elt F) → (⟨S11552, .i32⟩ : BufTy).Contents (Elt F)) (K V main_c_2 : (⟨S_, .i32⟩ : BufTy).Contents (Elt F)) := by
  have h := ssa_unary 22 (.of main_c_2 : TRef sig ⟨S_, .i32⟩) (.of main_v17 : TRef sig ⟨S11552, .i32⟩) (broadcastInDim S11552 ![] bcast_S_S11552 : (⟨S_, .i32⟩ : BufTy).Contents (Elt F) → (⟨S11552, .i32⟩ : BufTy).Contents (Elt F)) rfl (by decide +kernel) (by decide +kernel) V
  exact h

theorem e_v18 : (K V main_v18 : (⟨S11552, .i32⟩ : BufTy).Contents (Elt F)) = (addi : (⟨S11552, .i32⟩ : BufTy).Contents (Elt F) → (⟨S11552, .i32⟩ : BufTy).Contents (Elt F) → (⟨S11552, .i32⟩ : BufTy).Contents (Elt F)) (K V main_v3 : (⟨S11552, .i32⟩ : BufTy).Contents (Elt F)) (K V main_v17 : (⟨S11552, .i32⟩ : BufTy).Contents (Elt F)) := by
  have h := ssa_binary 23 (.of main_v3 : TRef sig ⟨S11552, .i32⟩) (.of main_v17 : TRef sig ⟨S11552, .i32⟩) (.of main_v18 : TRef sig ⟨S11552, .i32⟩) (addi : (⟨S11552, .i32⟩ : BufTy).Contents (Elt F) → (⟨S11552, .i32⟩ : BufTy).Contents (Elt F) → (⟨S11552, .i32⟩ : BufTy).Contents (Elt F)) rfl (by decide +kernel) (by decide +kernel) (by decide +kernel) V
  exact h

theorem e_v19 : (K V main_v19 : (⟨S11552, .i32⟩ : BufTy).Contents (Elt F)) = (select : (⟨S11552, .i1⟩ : BufTy).Contents (Elt F) → (⟨S11552, .i32⟩ : BufTy).Contents (Elt F) → (⟨S11552, .i32⟩ : BufTy).Contents (Elt F) → (⟨S11552, .i32⟩ : BufTy).Contents (Elt F)) (K V main_v16 : (⟨S11552, .i1⟩ : BufTy).Contents (Elt F)) (K V main_v18 : (⟨S11552, .i32⟩ : BufTy).Contents (Elt F)) (K V main_v3 : (⟨S11552, .i32⟩ : BufTy).Contents (Elt F)) := by
  have h := ssa_ternary 24 (.of main_v16 : TRef sig ⟨S11552, .i1⟩) (.of main_v18 : TRef sig ⟨S11552, .i32⟩) (.of main_v3 : TRef sig ⟨S11552, .i32⟩) (.of main_v19 : TRef sig ⟨S11552, .i32⟩) (select : (⟨S11552, .i1⟩ : BufTy).Contents (Elt F) → (⟨S11552, .i32⟩ : BufTy).Contents (Elt F) → (⟨S11552, .i32⟩ : BufTy).Contents (Elt F) → (⟨S11552, .i32⟩ : BufTy).Contents (Elt F)) rfl (by decide +kernel) (by decide +kernel) (by decide +kernel) (by decide +kernel) V
  exact h

theorem e_v20 : (K V main_v20 : (⟨S11552x1, .i32⟩ : BufTy).Contents (Elt F)) = (broadcastInDim S11552x1 ![0] bcast_S11552_S11552x1_0 : (⟨S11552, .i32⟩ : BufTy).Contents (Elt F) → (⟨S11552x1, .i32⟩ : BufTy).Contents (Elt F)) (K V main_v19 : (⟨S11552, .i32⟩ : BufTy).Contents (Elt F)) := by
  have h := ssa_unary 25 (.of main_v19 : TRef sig ⟨S11552, .i32⟩) (.of main_v20 : TRef sig ⟨S11552x1, .i32⟩) (broadcastInDim S11552x1 ![0] bcast_S11552_S11552x1_0 : (⟨S11552, .i32⟩ : BufTy).Contents (Elt F) → (⟨S11552x1, .i32⟩ : BufTy).Contents (Elt F)) rfl (by decide +kernel) (by decide +kernel) V
  exact h

theorem e_v21 : (K V main_v21 : (⟨S11552, .f32⟩ : BufTy).Contents (Elt F)) = ((fun x i => Host.gather gather_S608_S11552x1_S11552_n_0_n_n_0_1_1 x i) : (⟨S608, .f32⟩ : BufTy).Contents (Elt F) → (⟨S11552x1, .i32⟩ : BufTy).Contents (Elt F) → (⟨S11552, .f32⟩ : BufTy).Contents (Elt F)) (K V main_v14 : (⟨S608, .f32⟩ : BufTy).Contents (Elt F)) (K V main_v20 : (⟨S11552x1, .i32⟩ : BufTy).Contents (Elt F)) := by
  have h := ssa_binary 26 (.of main_v14 : TRef sig ⟨S608, .f32⟩) (.of main_v20 : TRef sig ⟨S11552x1, .i32⟩) (.of main_v21 : TRef sig ⟨S11552, .f32⟩) ((fun x i => Host.gather gather_S608_S11552x1_S11552_n_0_n_n_0_1_1 x i) : (⟨S608, .f32⟩ : BufTy).Contents (Elt F) → (⟨S11552x1, .i32⟩ : BufTy).Contents (Elt F) → (⟨S11552, .f32⟩ : BufTy).Contents (Elt F)) rfl (by decide +kernel) (by decide +kernel) (by decide +kernel) V
  exact h

theorem e_v22 : (K V main_v22 : (⟨S11552, .f32⟩ : BufTy).Contents (Elt F)) = (mulf : (⟨S11552, .f32⟩ : BufTy).Contents (Elt F) → (⟨S11552, .f32⟩ : BufTy).Contents (Elt F) → (⟨S11552, .f32⟩ : BufTy).Contents (Elt F)) (K V main_v8 : (⟨S11552, .f32⟩ : BufTy).Contents (Elt F)) (K V main_v21 : (⟨S11552, .f32⟩ : BufTy).Contents (Elt F)) := by
  have h := ssa_binary 27 (.of main_v8 : TRef sig ⟨S11552, .f32⟩) (.of main_v21 : TRef sig ⟨S11552, .f32⟩) (.of main_v22 : TRef sig ⟨S11552, .f32⟩) (mulf : (⟨S11552, .f32⟩ : BufTy).Contents (Elt F) → (⟨S11552, .f32⟩ : BufTy).Contents (Elt F) → (⟨S11552, .f32⟩ : BufTy).Contents (Elt F)) rfl (by decide +kernel) (by decide +kernel) (by decide +kernel) V
  exact h

theorem e_c_3 : (K V main_c_3 : (⟨S_, .i32⟩ : BufTy).Contents (Elt F)) = (constantI S_ 32 0#32) := by
  have h := ssa_nullary 28 (.of main_c_3 : TRef sig ⟨S_, .i32⟩) (constantI S_ 32 0#32) rfl (by decide +kernel) V
  exact h

theorem e_v23 : (K V main_v23 : (⟨S11552, .i32⟩ : BufTy).Contents (Elt F)) = (broadcastInDim S11552 ![] bcast_S_S11552 : (⟨S_, .i32⟩ : BufTy).Contents (Elt F) → (⟨S11552, .i32⟩ : BufTy).Contents (Elt F)) (K V main_c_3 : (⟨S_, .i32⟩ : BufTy).Contents (Elt F)) := by
  have h := ssa_unary 29 (.of main_c_3 : TRef sig ⟨S_, .i32⟩) (.of main_v23 : TRef sig ⟨S11552, .i32⟩) (broadcastInDim S11552 ![] bcast_S_S11552 : (⟨S_, .i32⟩ : BufTy).Contents (Elt F) → (⟨S11552, .i32⟩ : BufTy).Contents (Elt F)) rfl (by decide +kernel) (by decide +kernel) V
  exact h

theorem e_v24 : (K V main_v24 : (⟨S11552, .i1⟩ : BufTy).Contents (Elt F)) = (cmpi .slt : (⟨S11552, .i32⟩ : BufTy).Contents (Elt F) → (⟨S11552, .i32⟩ : BufTy).Contents (Elt F) → (⟨S11552, .i1⟩ : BufTy).Contents (Elt F)) (K V main_v6 : (⟨S11552, .i32⟩ : BufTy).Contents (Elt F)) (K V main_v23 : (⟨S11552, .i32⟩ : BufTy).Contents (Elt F)) := by
  have h := ssa_binary 30 (.of main_v6 : TRef sig ⟨S11552, .i32⟩) (.of main_v23 : TRef sig ⟨S11552, .i32⟩) (.of main_v24 : TRef sig ⟨S11552, .i1⟩) (cmpi .slt : (⟨S11552, .i32⟩ : BufTy).Contents (Elt F) → (⟨S11552, .i32⟩ : BufTy).Contents (Elt F) → (⟨S11552, .i1⟩ : BufTy).Contents (Elt F)) rfl (by decide +kernel) (by decide +kernel) (by decide +kernel) V
  exact h

theorem e_c_4 : (K V main_c_4 : (⟨S_, .i32⟩ : BufTy).Contents (Elt F)) = (constantI S_ 32 608#32) := by
  have h := ssa_nullary 31 (.of main_c_4 : TRef sig ⟨S_, .i32⟩) (constantI S_ 32 608#32) rfl (by decide +kernel) V
  exact h

theorem e_v25 : (K V main_v25 : (⟨S11552, .i32⟩ : BufTy).Contents (Elt F)) = (broadcastInDim S11552 ![] bcast_S_S11552 : (⟨S_, .i32⟩ : BufTy).Contents (Elt F) → (⟨S11552, .i32⟩ : BufTy).Contents (Elt F)) (K V main_c_4 : (⟨S_, .i32⟩ : BufTy).Contents (Elt F)) := by
  have h := ssa_unary 32 (.of main_c_4 : TRef sig ⟨S_, .i32⟩) (.of main_v25 : TRef sig ⟨S11552, .i32⟩) (broadcastInDim S11552 ![] bcast_S_S11552 : (⟨S_, .i32⟩ : BufTy).Contents (Elt F) → (⟨S11552, .i32⟩ : BufTy).Contents (Elt F)) rfl (by decide +kernel) (by decide +kernel) V
  exact h

theorem e_v26 : (K V main_v26 : (⟨S11552, .i32⟩ : BufTy).Contents (Elt F)) = (addi : (⟨S11552, .i32⟩ : BufTy).Contents (Elt F) → (⟨S11552, .i32⟩ : BufTy).Contents (Elt F) → (⟨S11552, .i32⟩ : BufTy).Contents (Elt F)) (K V main_v6 : (⟨S11552, .i32⟩ : BufTy).Contents (Elt F)) (K V main_v25 : (⟨S11552, .i32⟩ : BufTy).Contents (Elt F)) := by
  have h := ssa_binary 33 (.of main_v6 : TRef sig ⟨S11552, .i32⟩) (.of main_v25 : TRef sig ⟨S11552, .i32⟩) (.of main_v26 : TRef sig ⟨S11552, .i32⟩) (addi : (⟨S11552, .i32⟩ : BufTy).Contents (Elt F) → (⟨S11552, .i32⟩ : BufTy).Contents (Elt F) → (⟨S11552, .i32⟩ : BufTy).Contents (Elt F)) rfl (by decide +kernel) (by decide +kernel) (by decide +kernel) V
  exact h

theorem e_v27 : (K V main_v27 : (⟨S11552, .i32⟩ : BufTy).Contents (Elt F)) = (select : (⟨S11552, .i1⟩ : BufTy).Contents (Elt F) → (⟨S11552, .i32⟩ : BufTy).Contents (Elt F) → (⟨S11552, .i32⟩ : BufTy).Contents (Elt F) → (⟨S11552, .i32⟩ : BufTy).Contents (Elt F)) (K V main_v24 : (⟨S11552, .i1⟩ : BufTy).Contents (Elt F)) (K V main_v26 : (⟨S11552, .i32⟩ : BufTy).Contents (Elt F)) (K V main_v6 : (⟨S11552, .i32⟩ : BufTy).Contents (Elt F)) := by
  have h := ssa_ternary 34 (.of main_v24 : TRef sig ⟨S11552, .i1⟩) (.of main_v26 : TRef sig ⟨S11552, .i32⟩) (.of main_v6 : TRef sig ⟨S11552, .i32⟩) (.of main_v27 : TRef sig ⟨S11552, .i32⟩) (select : (⟨S11552, .i1⟩ : BufTy).Contents (Elt F) → (⟨S11552, .i32⟩ : BufTy).Contents (Elt F) → (⟨S11552, .i32⟩ : BufTy).Contents (Elt F) → (⟨S11552, .i32⟩ : BufTy).Contents (Elt F)) rfl (by decide +kernel) (by decide +kernel) (by decide +kernel) (by decide +kernel) V
  exact h

theorem e_v28 : (K V main_v28 : (⟨S11552x1, .i32⟩ : BufTy).Contents (Elt F)) = (broadcastInDim S11552x1 ![0] bcast_S11552_S11552x1_0 : (⟨S11552, .i32⟩ : BufTy).Contents (Elt F) → (⟨S11552x1, .i32⟩ : BufTy).Contents (Elt F)) (K V main_v27 : (⟨S11552, .i32⟩ : BufTy).Contents (Elt F)) := by
  have h := ssa_unary 35 (.of main_v27 : TRef sig ⟨S11552, .i32⟩) (.of main_v28 : TRef sig ⟨S11552x1, .i32⟩) (broadcastInDim S11552x1 ![0] bcast_S11552_S11552x1_0 : (⟨S11552, .i32⟩ : BufTy).Contents (Elt F) → (⟨S11552x1, .i32⟩ : BufTy).Contents (Elt F)) rfl (by decide +kernel) (by decide +kernel) V
  exact h

theorem e_v29 : (K V main_v29 : (⟨S11552, .f32⟩ : BufTy).Contents (Elt F)) = ((fun x i => Host.gather gather_S608_S11552x1_S11552_n_0_n_n_0_1_1 x i) : (⟨S608, .f32⟩ : BufTy).Contents (Elt F) → (⟨S11552x1, .i32⟩ : BufTy).Contents (Elt F) → (⟨S11552, .f32⟩ : BufTy).Contents (Elt F)) (K V main_v14 : (⟨S608, .f32⟩ : BufTy).Contents (Elt F)) (K V main_v28 : (⟨S11552x1, .i32⟩ : BufTy).Contents (Elt F)) := by
  have h := ssa_binary 36 (.of main_v14 : TRef sig ⟨S608, .f32⟩) (.of main_v28 : TRef sig ⟨S11552x1, .i32⟩) (.of main_v29 : TRef sig ⟨S11552, .f32⟩) ((fun x i => Host.gather gather_S608_S11552x1_S11552_n_0_n_n_0_1_1 x i) : (⟨S608, .f32⟩ : BufTy).Contents (Elt F) → (⟨S11552x1, .i32⟩ : BufTy).Contents (Elt F) → (⟨S11552, .f32⟩ : BufTy).Contents (Elt F)) rfl (by decide +kernel) (by decide +kernel) (by decide +kernel) V
  exact h

theorem e_v30 : (K V main_v30 : (⟨S11552, .f32⟩ : BufTy).Contents (Elt F)) = (mulf : (⟨S11552, .f32⟩ : BufTy).Contents (Elt F) → (⟨S11552, .f32⟩ : BufTy).Contents (Elt F) → (⟨S11552, .f32⟩ : BufTy).Contents (Elt F)) (K V main_v22 : (⟨S11552, .f32⟩ : BufTy).Contents (Elt F)) (K V main_v29 : (⟨S11552, .f32⟩ : BufTy).Contents (Elt F)) := by
  have h := ssa_binary 37 (.of main_v22 : TRef sig ⟨S11552, .f32⟩) (.of main_v29 : TRef sig ⟨S11552, .f32⟩) (.of main_v30 : TRef sig ⟨S11552, .f32⟩) (mulf : (⟨S11552, .f32⟩ : BufTy).Contents (Elt F) → (⟨S11552, .f32⟩ : BufTy).Contents (Elt F) → (⟨S11552, .f32⟩ : BufTy).Contents (Elt F)) rfl (by decide +kernel) (by decide +kernel) (by decide +kernel) V
  exact h

theorem e_v31 : (K V main_v31 : (⟨S608x256x128, .f32⟩ : BufTy).Contents (Elt F)) = ((fun l r => Host.dotGeneral dot_S608x256x32_S128x32_S608x256x128_2_1_01_0_n_n none l r) : (⟨S608x256x32, .f32⟩ : BufTy).Contents (Elt F) → (⟨S128x32, .f32⟩ : BufTy).Contents (Elt F) → (⟨S608x256x128, .f32⟩ : BufTy).Contents (Elt F)) (K V main_arg0 : (⟨S608x256x32, .f32⟩ : BufTy).Contents (Elt F)) (K V main_arg3 : (⟨S128x32, .f32⟩ : BufTy).Contents (Elt F)) := by
  have h := ssa_binary 38 (.of main_arg0 : TRef sig ⟨S608x256x32, .f32⟩) (.of main_arg3 : TRef sig ⟨S128x32, .f32⟩) (.of main_v31 : TRef sig ⟨S608x256x128, .f32⟩) ((fun l r => Host.dotGeneral dot_S608x256x32_S128x32_S608x256x128_2_1_01_0_n_n none l r) : (⟨S608x256x32, .f32⟩ : BufTy).Contents (Elt F) → (⟨S128x32, .f32⟩ : BufTy).Contents (Elt F) → (⟨S608x256x128, .f32⟩ : BufTy).Contents (Elt F)) rfl (by decide +kernel) (by decide +kernel) (by decide +kernel) V
  exact h

theorem e_v32 : (K V main_v32 : (⟨S608x256x64, .f32⟩ : BufTy).Contents (Elt F)) = ((extractStridedSlice S608x256x64 ![0, 0, 0] · slices_S608x256x128_S608x256x64_0_0_0) : (⟨S608x256x128, .f32⟩ : BufTy).Contents (Elt F) → (⟨S608x256x64, .f32⟩ : BufTy).Contents (Elt F)) (K V main_v31 : (⟨S608x256x128, .f32⟩ : BufTy).Contents (Elt F)) := by
  have h := ssa_unary 39 (.of main_v31 : TRef sig ⟨S608x256x128, .f32⟩) (.of main_v32 : TRef sig ⟨S608x256x64, .f32⟩) ((extractStridedSlice S608x256x64 ![0, 0, 0] · slices_S608x256x128_S608x256x64_0_0_0) : (⟨S608x256x128, .f32⟩ : BufTy).Contents (Elt F) → (⟨S608x256x64, .f32⟩ : BufTy).Contents (Elt F)) rfl (by decide +kernel) (by decide +kernel) V
  exact h

theorem e_v33 : (K V main_v33 : (⟨S608x256x64, .f32⟩ : BufTy).Contents (Elt F)) = ((extractStridedSlice S608x256x64 ![0, 0, 64] · slices_S608x256x128_S608x256x64_0_0_64) : (⟨S608x256x128, .f32⟩ : BufTy).Contents (Elt F) → (⟨S608x256x64, .f32⟩ : BufTy).Contents (Elt F)) (K V main_v31 : (⟨S608x256x128, .f32⟩ : BufTy).Contents (Elt F)) := by
  have h := ssa_unary 40 (.of main_v31 : TRef sig ⟨S608x256x128, .f32⟩) (.of main_v33 : TRef sig ⟨S608x256x64, .f32⟩) ((extractStridedSlice S608x256x64 ![0, 0, 64] · slices_S608x256x128_S608x256x64_0_0_64) : (⟨S608x256x128, .f32⟩ : BufTy).Contents (Elt F) → (⟨S608x256x64, .f32⟩ : BufTy).Contents (Elt F)) rfl (by decide +kernel) (by decide +kernel) V
  exact h

theorem e_v34 : (K V main_v34 : (⟨S608x256x34, .f32⟩ : BufTy).Contents (Elt F)) = ((fun l r => Host.dotGeneral dot_S608x256x64_S34x64_S608x256x34_2_1_01_0_n_n none l r) : (⟨S608x256x64, .f32⟩ : BufTy).Contents (Elt F) → (⟨S34x64, .f32⟩ : BufTy).Contents (Elt F) → (⟨S608x256x34, .f32⟩ : BufTy).Contents (Elt F)) (K V main_v32 : (⟨S608x256x64, .f32⟩ : BufTy).Contents (Elt F)) (K V main_arg4 : (⟨S34x64, .f32⟩ : BufTy).Contents (Elt F)) := by
  have h := ssa_binary 41 (.of main_v32 : TRef sig ⟨S608x256x64, .f32⟩) (.of main_arg4 : TRef sig ⟨S34x64, .f32⟩) (.of main_v34 : TRef sig ⟨S608x256x34, .f32⟩) ((fun l r => Host.dotGeneral dot_S608x256x64_S34x64_S608x256x34_2_1_01_0_n_n none l r) : (⟨S608x256x64, .f32⟩ : BufTy).Contents (Elt F) → (⟨S34x64, .f32⟩ : BufTy).Contents (Elt F) → (⟨S608x256x34, .f32⟩ : BufTy).Contents (Elt F)) rfl (by decide +kernel) (by decide +kernel) (by decide +kernel) V
  exact h

theorem e_v35 : (K V main_v35 : (⟨S608x256x2, .f32⟩ : BufTy).Contents (Elt F)) = ((extractStridedSlice S608x256x2 ![0, 0, 0] · slices_S608x256x34_S608x256x2_0_0_0) : (⟨S608x256x34, .f32⟩ : BufTy).Contents (Elt F) → (⟨S608x256x2, .f32⟩ : BufTy).Contents (Elt F)) (K V main_v34 : (⟨S608x256x34, .f32⟩ : BufTy).Contents (Elt F)) := by
  have h := ssa_unary 42 (.of main_v34 : TRef sig ⟨S608x256x34, .f32⟩) (.of main_v35 : TRef sig ⟨S608x256x2, .f32⟩) ((extractStridedSlice S608x256x2 ![0, 0, 0] · slices_S608x256x34_S608x256x2_0_0_0) : (⟨S608x256x34, .f32⟩ : BufTy).Contents (Elt F) → (⟨S608x256x2, .f32⟩ : BufTy).Contents (Elt F)) rfl (by decide +kernel) (by decide +kernel) V
  exact h

theorem e_v36 : (K V main_v36 : (⟨S608x256x16, .f32⟩ : BufTy).Contents (Elt F)) = ((extractStridedSlice S608x256x16 ![0, 0, 2] · slices_S608x256x34_S608x256x16_0_0_2) : (⟨S608x256x34, .f32⟩ : BufTy).Contents (Elt F) → (⟨S608x256x16, .f32⟩ : BufTy).Contents (Elt F)) (K V main_v34 : (⟨S608x256x34, .f32⟩ : BufTy).Contents (Elt F)) := by
  have h := ssa_unary 43 (.of main_v34 : TRef sig ⟨S608x256x34, .f32⟩) (.of main_v36 : TRef sig ⟨S608x256x16, .f32⟩) ((extractStridedSlice S608x256x16 ![0, 0, 2] · slices_S608x256x34_S608x256x16_0_0_2) : (⟨S608x256x34, .f32⟩ : BufTy).Contents (Elt F) → (⟨S608x256x16, .f32⟩ : BufTy).Contents (Elt F)) rfl (by decide +kernel) (by decide +kernel) V
  exact h

theorem e_v37 : (K V main_v37 : (⟨S608x256x16, .f32⟩ : BufTy).Contents (Elt F)) = ((extractStridedSlice S608x256x16 ![0, 0, 18] · slices_S608x256x34_S608x256x16_0_0_18) : (⟨S608x256x34, .f32⟩ : BufTy).Contents (Elt F) → (⟨S608x256x16, .f32⟩ : BufTy).Contents (Elt F)) (K V main_v34 : (⟨S608x256x34, .f32⟩ : BufTy).Contents (Elt F)) := by
  have h := ssa_unary 44 (.of main_v34 : TRef sig ⟨S608x256x34, .f32⟩) (.of main_v37 : TRef sig ⟨S608x256x16, .f32⟩) ((extractStridedSlice S608x256x16 ![0, 0, 18] · slices_S608x256x34_S608x256x16_0_0_18) : (⟨S608x256x34, .f32⟩ : BufTy).Contents (Elt F) → (⟨S608x256x16, .f32⟩ : BufTy).Contents (Elt F)) rfl (by decide +kernel) (by decide +kernel) V
  exact h

theorem e_v38 : (K V main_v38 : (⟨S608x256x64, .f32⟩ : BufTy).Contents (Elt F)) = ((fun l r => Host.dotGeneral dot_S608x256x2_S64x2_S608x256x64_2_1_01_0_n_n none l r) : (⟨S608x256x2, .f32⟩ : BufTy).Contents (Elt F) → (⟨S64x2, .f32⟩ : BufTy).Contents (Elt F) → (⟨S608x256x64, .f32⟩ : BufTy).Contents (Elt F)) (K V main_v35 : (⟨S608x256x2, .f32⟩ : BufTy).Contents (Elt F)) (K V main_arg5 : (⟨S64x2, .f32⟩ : BufTy).Contents (Elt F)) := by
  have h := ssa_binary 45 (.of main_v35 : TRef sig ⟨S608x256x2, .f32⟩) (.of main_arg5 : TRef sig ⟨S64x2, .f32⟩) (.of main_v38 : TRef sig ⟨S608x256x64, .f32⟩) ((fun l r => Host.dotGeneral dot_S608x256x2_S64x2_S608x256x64_2_1_01_0_n_n none l r) : (⟨S608x256x2, .f32⟩ : BufTy).Contents (Elt F) → (⟨S64x2, .f32⟩ : BufTy).Contents (Elt F) → (⟨S608x256x64, .f32⟩ : BufTy).Contents (Elt F)) rfl (by decide +kernel) (by decide +kernel) (by decide +kernel) V
  exact h

theorem e_v39 : (K V main_v39 : (⟨S1x1x64, .f32⟩ : BufTy).Contents (Elt F)) = (broadcastInDim S1x1x64 ![2] bcast_S64_S1x1x64_2 : (⟨S64, .f32⟩ : BufTy).Contents (Elt F) → (⟨S1x1x64, .f32⟩ : BufTy).Contents (Elt F)) (K V main_arg6 : (⟨S64, .f32⟩ : BufTy).Contents (Elt F)) := by
  have h := ssa_unary 46 (.of main_arg6 : TRef sig ⟨S64, .f32⟩) (.of main_v39 : TRef sig ⟨S1x1x64, .f32⟩) (broadcastInDim S1x1x64 ![2] bcast_S64_S1x1x64_2 : (⟨S64, .f32⟩ : BufTy).Contents (Elt F) → (⟨S1x1x64, .f32⟩ : BufTy).Contents (Elt F)) rfl (by decide +kernel) (by decide +kernel) V
  exact h

theorem e_v40 : (K V main_v40 : (⟨S608x256x64, .f32⟩ : BufTy).Contents (Elt F)) = (broadcastInDim S608x256x64 ![0, 1, 2] bcast_S1x1x64_S608x256x64_0_1_2 : (⟨S1x1x64, .f32⟩ : BufTy).Contents (Elt F) → (⟨S608x256x64, .f32⟩ : BufTy).Contents (Elt F)) (K V main_v39 : (⟨S1x1x64, .f32⟩ : BufTy).Contents (Elt F)) := by
  have h := ssa_unary 47 (.of main_v39 : TRef sig ⟨S1x1x64, .f32⟩) (.of main_v40 : TRef sig ⟨S608x256x64, .f32⟩) (broadcastInDim S608x256x64 ![0, 1, 2] bcast_S1x1x64_S608x256x64_0_1_2 : (⟨S1x1x64, .f32⟩ : BufTy).Contents (Elt F) → (⟨S608x256x64, .f32⟩ : BufTy).Contents (Elt F)) rfl (by decide +kernel) (by decide +kernel) V
  exact h

theorem e_v41 : (K V main_v41 : (⟨S608x256x64, .f32⟩ : BufTy).Contents (Elt F)) = (addf : (⟨S608x256x64, .f32⟩ : BufTy).Contents (Elt F) → (⟨S608x256x64, .f32⟩ : BufTy).Contents (Elt F) → (⟨S608x256x64, .f32⟩ : BufTy).Contents (Elt F)) (K V main_v38 : (⟨S608x256x64, .f32⟩ : BufTy).Contents (Elt F)) (K V main_v40 : (⟨S608x256x64, .f32⟩ : BufTy).Contents (Elt F)) := by
  have h := ssa_binary 48 (.of main_v38 : TRef sig ⟨S608x256x64, .f32⟩) (.of main_v40 : TRef sig ⟨S608x256x64, .f32⟩) (.of main_v41 : TRef sig ⟨S608x256x64, .f32⟩) (addf : (⟨S608x256x64, .f32⟩ : BufTy).Contents (Elt F) → (⟨S608x256x64, .f32⟩ : BufTy).Contents (Elt F) → (⟨S608x256x64, .f32⟩ : BufTy).Contents (Elt F)) rfl (by decide +kernel) (by decide +kernel) (by decide +kernel) V
  exact h

theorem e_call0_cst : (K V main_call0_cst : (⟨S_, .f32⟩ : BufTy).Contents (Elt F)) = (constant S_ .f32 0x00000000#32) := by
  have h := ssa_nullary 49 (.of main_call0_cst : TRef sig ⟨S_, .f32⟩) (constant S_ .f32 0x00000000#32) rfl (by decide +kernel) V
  exact h

theorem e_call0_v0 : (K V main_call0_v0 : (⟨S608x256x64, .f32⟩ : BufTy).Contents (Elt F)) = (broadcastInDim S608x256x64 ![] bcast_S_S608x256x64) (K V main_call0_cst : (⟨S_, .f32⟩ : BufTy).Contents (Elt F)) := by
  have h := ssa_unary 50 (.of main_call0_cst : TRef sig ⟨S_, .f32⟩) (.of main_call0_v0 : TRef sig ⟨S608x256x64, .f32⟩) (broadcastInDim S608x256x64 ![] bcast_S_S608x256x64) rfl (by decide +kernel) (by decide +kernel) V
  exact h

theorem e_call0_v1 : (K V main_call0_v1 : (⟨S608x256x64, .f32⟩ : BufTy).Contents (Elt F)) = (maximumf) (K V main_v41 : (⟨S608x256x64, .f32⟩ : BufTy).Contents (Elt F)) (K V main_call0_v0 : (⟨S608x256x64, .f32⟩ : BufTy).Contents (Elt F)) := by
  have h := ssa_binary 51 (.of main_v41 : TRef sig ⟨S608x256x64, .f32⟩) (.of main_call0_v0 : TRef sig ⟨S608x256x64, .f32⟩) (.of main_call0_v1 : TRef sig ⟨S608x256x64, .f32⟩) maximumf rfl (by decide +kernel) (by decide +kernel) (by decide +kernel) V
  exact h

theorem e_call0_v2 : (K V main_call0_v2 : (⟨S608x256x64, .f32⟩ : BufTy).Contents (Elt F)) = (broadcastInDim S608x256x64 ![] bcast_S_S608x256x64) (K V main_call0_cst : (⟨S_, .f32⟩ : BufTy).Contents (Elt F)) := by
  have h := ssa_unary 52 (.of main_call0_cst : TRef sig ⟨S_, .f32⟩) (.of main_call0_v2 : TRef sig ⟨S608x256x64, .f32⟩) (broadcastInDim S608x256x64 ![] bcast_S_S608x256x64) rfl (by decide +kernel) (by decide +kernel) V
  exact h

theorem e_call0_v3 : (K V main_call0_v3 : (⟨S608x256x64, .f32⟩ : BufTy).Contents (Elt F)) = (subf) (K V main_v41 : (⟨S608x256x64, .f32⟩ : BufTy).Contents (Elt F)) (K V main_call0_v2 : (⟨S608x256x64, .f32⟩ : BufTy).Contents (Elt F)) := by
  have h := ssa_binary 53 (.of main_v41 : TRef sig ⟨S608x256x64, .f32⟩) (.of main_call0_v2 : TRef sig ⟨S608x256x64, .f32⟩) (.of main_call0_v3 : TRef sig ⟨S608x256x64, .f32⟩) subf rfl (by decide +kernel) (by decide +kernel) (by decide +kernel) V
  exact h

theorem e_call0_v4 : (K V main_call0_v4 : (⟨S608x256x64, .i1⟩ : BufTy).Contents (Elt F)) = (cmpf .une) (K V main_call0_v3 : (⟨S608x256x64, .f32⟩ : BufTy).Contents (Elt F)) (K V main_call0_v3 : (⟨S608x256x64, .f32⟩ : BufTy).Contents (Elt F)) := by
  have h := ssa_binary 54 (.of main_call0_v3 : TRef sig ⟨S608x256x64, .f32⟩) (.of main_call0_v3 : TRef sig ⟨S608x256x64, .f32⟩) (.of main_call0_v4 : TRef sig ⟨S608x256x64, .i1⟩) (cmpf .une) rfl (by decide +kernel) (by decide +kernel) (by decide +kernel) V
  exact h

theorem e_call0_v5 : (K V main_call0_v5 : (⟨S608x256x64, .f32⟩ : BufTy).Contents (Elt F)) = (broadcastInDim S608x256x64 ![] bcast_S_S608x256x64) (K V main_call0_cst : (⟨S_, .f32⟩ : BufTy).Contents (Elt F)) := by
  have h := ssa_unary 55 (.of main_call0_cst : TRef sig ⟨S_, .f32⟩) (.of main_call0_v5 : TRef sig ⟨S608x256x64, .f32⟩) (broadcastInDim S608x256x64 ![] bcast_S_S608x256x64) rfl (by decide +kernel) (by decide +kernel) V
  exact h

theorem e_call0_v6 : (K V main_call0_v6 : (⟨S608x256x64, .f32⟩ : BufTy).Contents (Elt F)) = (addf) (K V main_v41 : (⟨S608x256x64, .f32⟩ : BufTy).Contents (Elt F)) (K V main_call0_v5 : (⟨S608x256x64, .f32⟩ : BufTy).Contents (Elt F)) := by
  have h := ssa_binary 56 (.of main_v41 : TRef sig ⟨S608x256x64, .f32⟩) (.of main_call0_v5 : TRef sig ⟨S608x256x64, .f32⟩) (.of main_call0_v6 : TRef sig ⟨S608x256x64, .f32⟩) addf rfl (by decide +kernel) (by decide +kernel) (by decide +kernel) V
  exact h

theorem e_call0_v7 : (K V main_call0_v7 : (⟨S608x256x64, .f32⟩ : BufTy).Contents (Elt F)) = (Host.absf) (K V main_call0_v3 : (⟨S608x256x64, .f32⟩ : BufTy).Contents (Elt F)) := by
  have h := ssa_unary 57 (.of main_call0_v3 : TRef sig ⟨S608x256x64, .f32⟩) (.of main_call0_v7 : TRef sig ⟨S608x256x64, .f32⟩) Host.absf rfl (by decide +kernel) (by decide +kernel) V
  exact h

theorem e_call0_v8 : (K V main_call0_v8 : (⟨S608x256x64, .f32⟩ : BufTy).Contents (Elt F)) = (Host.negf) (K V main_call0_v7 : (⟨S608x256x64, .f32⟩ : BufTy).Contents (Elt F)) := by
  have h := ssa_unary 58 (.of main_call0_v7 : TRef sig ⟨S608x256x64, .f32⟩) (.of main_call0_v8 : TRef sig ⟨S608x256x64, .f32⟩) Host.negf rfl (by decide +kernel) (by decide +kernel) V
  exact h

theorem e_call0_v9 : (K V main_call0_v9 : (⟨S608x256x64, .f32⟩ : BufTy).Contents (Elt F)) = (Host.exp) (K V main_call0_v8 : (⟨S608x256x64, .f32⟩ : BufTy).Contents (Elt F)) := by
  have h := ssa_unary 59 (.of main_call0_v8 : TRef sig ⟨S608x256x64, .f32⟩) (.of main_call0_v9 : TRef sig ⟨S608x256x64, .f32⟩) Host.exp rfl (by decide +kernel) (by decide +kernel) V
  exact h

theorem e_call0_v10 : (K V main_call0_v10 : (⟨S608x256x64, .f32⟩ : BufTy).Contents (Elt F)) = (Host.log1p) (K V main_call0_v9 : (⟨S608x256x64, .f32⟩ : BufTy).Contents (Elt F)) := by
  have h := ssa_unary 60 (.of main_call0_v9 : TRef sig ⟨S608x256x64, .f32⟩) (.of main_call0_v10 : TRef sig ⟨S608x256x64, .f32⟩) Host.log1p rfl (by decide +kernel) (by decide +kernel) V
  exact h

theorem e_call0_v11 : (K V main_call0_v11 : (⟨S608x256x64, .f32⟩ : BufTy).Contents (Elt F)) = (addf) (K V main_call0_v1 : (⟨S608x256x64, .f32⟩ : BufTy).Contents (Elt F)) (K V main_call0_v10 : (⟨S608x256x64, .f32⟩ : BufTy).Contents (Elt F)) := by
  have h := ssa_binary 61 (.of main_call0_v1 : TRef sig ⟨S608x256x64, .f32⟩) (.of main_call0_v10 : TRef sig ⟨S608x256x64, .f32⟩) (.of main_call0_v11 : TRef sig ⟨S608x256x64, .f32⟩) addf rfl (by decide +kernel) (by decide +kernel) (by decide +kernel) V
  exact h

theorem e_v42 : (K V main_v42 : (⟨S608x256x64, .f32⟩ : BufTy).Contents (Elt F)) = (select) (K V main_call0_v4 : (⟨S608x256x64, .i1⟩ : BufTy).Contents (Elt F)) (K V main_call0_v6 : (⟨S608x256x64, .f32⟩ : BufTy).Contents (Elt F)) (K V main_call0_v11 : (⟨S608x256x64, .f32⟩ : BufTy).Contents (Elt F)) := by
  have h := ssa_ternary 62 (.of main_call0_v4 : TRef sig ⟨S608x256x64, .i1⟩) (.of main_call0_v6 : TRef sig ⟨S608x256x64, .f32⟩) (.of main_call0_v11 : TRef sig ⟨S608x256x64, .f32⟩) (.of main_v42 : TRef sig ⟨S608x256x64, .f32⟩) select rfl (by decide +kernel) (by decide +kernel) (by decide +kernel) (by decide +kernel) V
  exact h

theorem e_v43 : (K V main_v43 : (⟨S64x16, .f32⟩ : BufTy).Contents (Elt F)) = (Host.exp : (⟨S64x16, .f32⟩ : BufTy).Contents (Elt F) → (⟨S64x16, .f32⟩ : BufTy).Contents (Elt F)) (K V main_arg7 : (⟨S64x16, .f32⟩ : BufTy).Contents (Elt F)) := by
  have h := ssa_unary 63 (.of main_arg7 : TRef sig ⟨S64x16, .f32⟩) (.of main_v43 : TRef sig ⟨S64x16, .f32⟩) (Host.exp : (⟨S64x16, .f32⟩ : BufTy).Contents (Elt F) → (⟨S64x16, .f32⟩ : BufTy).Contents (Elt F)) rfl (by decide +kernel) (by decide +kernel) V
  exact h

theorem e_v44 : (K V main_v44 : (⟨S64x16, .f32⟩ : BufTy).Contents (Elt F)) = (Host.negf : (⟨S64x16, .f32⟩ : BufTy).Contents (Elt F) → (⟨S64x16, .f32⟩ : BufTy).Contents (Elt F)) (K V main_v43 : (⟨S64x16, .f32⟩ : BufTy).Contents (Elt F)) := by
  have h := ssa_unary 64 (.of main_v43 : TRef sig ⟨S64x16, .f32⟩) (.of main_v44 : TRef sig ⟨S64x16, .f32⟩) (Host.negf : (⟨S64x16, .f32⟩ : BufTy).Contents (Elt F) → (⟨S64x16, .f32⟩ : BufTy).Contents (Elt F)) rfl (by decide +kernel) (by decide +kernel) V
  exact h

theorem e_v45 : (K V main_v45 : (⟨S256x608x64, .f32⟩ : BufTy).Contents (Elt F)) = ((transpose S256x608x64 [1, 0, 2] · transposes_S608x256x64_S256x608x64_1_0_2) : (⟨S608x256x64, .f32⟩ : BufTy).Contents (Elt F) → (⟨S256x608x64, .f32⟩ : BufTy).Contents (Elt F)) (K V main_v42 : (⟨S608x256x64, .f32⟩ : BufTy).Contents (Elt F)) := by
  have h := ssa_unary 65 (.of main_v42 : TRef sig ⟨S608x256x64, .f32⟩) (.of main_v45 : TRef sig ⟨S256x608x64, .f32⟩) ((transpose S256x608x64 [1, 0, 2] · transposes_S608x256x64_S256x608x64_1_0_2) : (⟨S608x256x64, .f32⟩ : BufTy).Contents (Elt F) → (⟨S256x608x64, .f32⟩ : BufTy).Contents (Elt F)) rfl (by decide +kernel) (by decide +kernel) V
  exact h

theorem e_v46 : (K V main_v46 : (⟨S256x608x16, .f32⟩ : BufTy).Contents (Elt F)) = ((transpose S256x608x16 [1, 0, 2] · transposes_S608x256x16_S256x608x16_1_0_2) : (⟨S608x256x16, .f32⟩ : BufTy).Contents (Elt F) → (⟨S256x608x16, .f32⟩ : BufTy).Contents (Elt F)) (K V main_v36 : (⟨S608x256x16, .f32⟩ : BufTy).Contents (Elt F)) := by
  have h := ssa_unary 66 (.of main_v36 : TRef sig ⟨S608x256x16, .f32⟩) (.of main_v46 : TRef sig ⟨S256x608x16, .f32⟩) ((transpose S256x608x16 [1, 0, 2] · transposes_S608x256x16_S256x608x16_1_0_2) : (⟨S608x256x16, .f32⟩ : BufTy).Contents (Elt F) → (⟨S256x608x16, .f32⟩ : BufTy).Contents (Elt F)) rfl (by decide +kernel) (by decide +kernel) V
  exact h

theorem e_v47 : (K V main_v47 : (⟨S256x608x16, .f32⟩ : BufTy).Contents (Elt F)) = ((transpose S256x608x16 [1, 0, 2] · transposes_S608x256x16_S256x608x16_1_0_2) : (⟨S608x256x16, .f32⟩ : BufTy).Contents (Elt F) → (⟨S256x608x16, .f32⟩ : BufTy).Contents (Elt F)) (K V main_v37 : (⟨S608x256x16, .f32⟩ : BufTy).Contents (Elt F)) := by
  have h := ssa_unary 67 (.of main_v37 : TRef sig ⟨S608x256x16, .f32⟩) (.of main_v47 : TRef sig ⟨S256x608x16, .f32⟩) ((transpose S256x608x16 [1, 0, 2] · transposes_S608x256x16_S256x608x16_1_0_2) : (⟨S608x256x16, .f32⟩ : BufTy).Contents (Elt F) → (⟨S256x608x16, .f32⟩ : BufTy).Contents (Elt F)) rfl (by decide +kernel) (by decide +kernel) V
  exact h

theorem e_v48 : (K V main_v48 : (⟨S256x608x64, .f32⟩ : BufTy).Contents (Elt F)) = ((transpose S256x608x64 [1, 0, 2] · transposes_S608x256x64_S256x608x64_1_0_2) : (⟨S608x256x64, .f32⟩ : BufTy).Contents (Elt F) → (⟨S256x608x64, .f32⟩ : BufTy).Contents (Elt F)) (K V main_v32 : (⟨S608x256x64, .f32⟩ : BufTy).Contents (Elt F)) := by
  have h := ssa_unary 68 (.of main_v32 : TRef sig ⟨S608x256x64, .f32⟩) (.of main_v48 : TRef sig ⟨S256x608x64, .f32⟩) ((transpose S256x608x64 [1, 0, 2] · transposes_S608x256x64_S256x608x64_1_0_2) : (⟨S608x256x64, .f32⟩ : BufTy).Contents (Elt F) → (⟨S256x608x64, .f32⟩ : BufTy).Contents (Elt F)) rfl (by decide +kernel) (by decide +kernel) V
  exact h

theorem e_v49 : (K V main_v49 : (⟨S256x608x64, .f32⟩ : BufTy).Contents (Elt F)) = ((transpose S256x608x64 [1, 0, 2] · transposes_S608x256x64_S256x608x64_1_0_2) : (⟨S608x256x64, .f32⟩ : BufTy).Contents (Elt F) → (⟨S256x608x64, .f32⟩ : BufTy).Contents (Elt F)) (K V main_v33 : (⟨S608x256x64, .f32⟩ : BufTy).Contents (Elt F)) := by
  have h := ssa_unary 69 (.of main_v33 : TRef sig ⟨S608x256x64, .f32⟩) (.of main_v49 : TRef sig ⟨S256x608x64, .f32⟩) ((transpose S256x608x64 [1, 0, 2] · transposes_S608x256x64_S256x608x64_1_0_2) : (⟨S608x256x64, .f32⟩ : BufTy).Contents (Elt F) → (⟨S256x608x64, .f32⟩ : BufTy).Contents (Elt F)) rfl (by decide +kernel) (by decide +kernel) V
  exact h

theorem e_cst_5 : (K V main_cst_5 : (⟨S_, .f32⟩ : BufTy).Contents (Elt F)) = (constant S_ .f32 0x00000000#32) := by
  have h := ssa_nullary 70 (.of main_cst_5 : TRef sig ⟨S_, .f32⟩) (constant S_ .f32 0x00000000#32) rfl (by decide +kernel) V
  exact h

theorem e_v50 : (K V main_v50 : (⟨S608x64x16, .f32⟩ : BufTy).Contents (Elt F)) = (broadcastInDim S608x64x16 ![] bcast_S_S608x64x16 : (⟨S_, .f32⟩ : BufTy).Contents (Elt F) → (⟨S608x64x16, .f32⟩ : BufTy).Contents (Elt F)) (K V main_cst_5 : (⟨S_, .f32⟩ : BufTy).Contents (Elt F)) := by
  have h := ssa_unary 71 (.of main_cst_5 : TRef sig ⟨S_, .f32⟩) (.of main_v50 : TRef sig ⟨S608x64x16, .f32⟩) (broadcastInDim S608x64x16 ![] bcast_S_S608x64x16 : (⟨S_, .f32⟩ : BufTy).Contents (Elt F) → (⟨S608x64x16, .f32⟩ : BufTy).Contents (Elt F)) rfl (by decide +kernel) (by decide +kernel) V
  exact h

theorem e_cst_6 : (K V main_cst_6 : (⟨S_, .f32⟩ : BufTy).Contents (Elt F)) = (constant S_ .f32 0x00000000#32) := by
  have h := ssa_nullary 72 (.of main_cst_6 : TRef sig ⟨S_, .f32⟩) (constant S_ .f32 0x00000000#32) rfl (by decide +kernel) V
  exact h

theorem e_v51 : (K V main_v51 : (⟨S256x608x64, .f32⟩ : BufTy).Contents (Elt F)) = (broadcastInDim S256x608x64 ![] bcast_S_S256x608x64 : (⟨S_, .f32⟩ : BufTy).Contents (Elt F) → (⟨S256x608x64, .f32⟩ : BufTy).Contents (Elt F)) (K V main_cst_6 : (⟨S_, .f32⟩ : BufTy).Contents (Elt F)) := by
  have h := ssa_unary 73 (.of main_cst_6 : TRef sig ⟨S_, .f32⟩) (.of main_v51 : TRef sig ⟨S256x608x64, .f32⟩) (broadcastInDim S256x608x64 ![] bcast_S_S256x608x64 : (⟨S_, .f32⟩ : BufTy).Contents (Elt F) → (⟨S256x608x64, .f32⟩ : BufTy).Contents (Elt F)) rfl (by decide +kernel) (by decide +kernel) V
  exact h

theorem e_c_7 : (K V main_c_7 : (⟨S_, .i32⟩ : BufTy).Contents (Elt F)) = (constantI S_ 32 0#32) := by
  have h := ssa_nullary 74 (.of main_c_7 : TRef sig ⟨S_, .i32⟩) (constantI S_ 32 0#32) rfl (by decide +kernel) V
  exact h

theorem e_v52_0 : (K V main_v52_0 : (⟨S256x608x64, .f32⟩ : BufTy).Contents (Elt F)) = (id) (K V main_v45 : (⟨S256x608x64, .f32⟩ : BufTy).Contents (Elt F)) := by
  have h := ssa_unary 75 (.of main_v45 : TRef sig ⟨S256x608x64, .f32⟩) (.of main_v52_0 : TRef sig ⟨S256x608x64, .f32⟩) id rfl (by decide +kernel) (by decide +kernel) V
  exact h

theorem e_v52_1 : (K V main_v52_1 : (⟨S256x608x16, .f32⟩ : BufTy).Contents (Elt F)) = (id) (K V main_v46 : (⟨S256x608x16, .f32⟩ : BufTy).Contents (Elt F)) := by
  have h := ssa_unary 76 (.of main_v46 : TRef sig ⟨S256x608x16, .f32⟩) (.of main_v52_1 : TRef sig ⟨S256x608x16, .f32⟩) id rfl (by decide +kernel) (by decide +kernel) V
  exact h

theorem e_v52_2 : (K V main_v52_2 : (⟨S256x608x16, .f32⟩ : BufTy).Contents (Elt F)) = (id) (K V main_v47 : (⟨S256x608x16, .f32⟩ : BufTy).Contents (Elt F)) := by
  have h := ssa_unary 77 (.of main_v47 : TRef sig ⟨S256x608x16, .f32⟩) (.of main_v52_2 : TRef sig ⟨S256x608x16, .f32⟩) id rfl (by decide +kernel) (by decide +kernel) V
  exact h

theorem e_v52_3 : (K V main_v52_3 : (⟨S256x608x64, .f32⟩ : BufTy).Contents (Elt F)) = (id) (K V main_v48 : (⟨S256x608x64, .f32⟩ : BufTy).Contents (Elt F)) := by
  have h := ssa_unary 78 (.of main_v48 : TRef sig ⟨S256x608x64, .f32⟩) (.of main_v52_3 : TRef sig ⟨S256x608x64, .f32⟩) id rfl (by decide +kernel) (by decide +kernel) V
  exact h

theorem e_v52_4 : (K V main_v52_4 : (⟨S256x608x64, .f32⟩ : BufTy).Contents (Elt F)) = (id) (K V main_v49 : (⟨S256x608x64, .f32⟩ : BufTy).Contents (Elt F)) := by
  have h := ssa_unary 79 (.of main_v49 : TRef sig ⟨S256x608x64, .f32⟩) (.of main_v52_4 : TRef sig ⟨S256x608x64, .f32⟩) id rfl (by decide +kernel) (by decide +kernel) V
  exact h

theorem e_v52_5 : (K V main_v52_5 : (⟨S64x16, .f32⟩ : BufTy).Contents (Elt F)) = (id) (K V main_v44 : (⟨S64x16, .f32⟩ : BufTy).Contents (Elt F)) := by
  have h := ssa_unary 80 (.of main_v44 : TRef sig ⟨S64x16, .f32⟩) (.of main_v52_5 : TRef sig ⟨S64x16, .f32⟩) id rfl (by decide +kernel) (by decide +kernel) V
  exact h

theorem e_v52_6 : (K V main_v52_6 : (⟨S64x64, .f32⟩ : BufTy).Contents (Elt F)) = (id) (K V main_arg10 : (⟨S64x64, .f32⟩ : BufTy).Contents (Elt F)) := by
  have h := ssa_unary 81 (.of main_arg10 : TRef sig ⟨S64x64, .f32⟩) (.of main_v52_6 : TRef sig ⟨S64x64, .f32⟩) id rfl (by decide +kernel) (by decide +kernel) V
  exact h

theorem e_v52_7 : (K V main_v52_7 : (⟨S11552, .f32⟩ : BufTy).Contents (Elt F)) = (id) (K V main_v30 : (⟨S11552, .f32⟩ : BufTy).Contents (Elt F)) := by
  have h := ssa_unary 82 (.of main_v30 : TRef sig ⟨S11552, .f32⟩) (.of main_v52_7 : TRef sig ⟨S11552, .f32⟩) id rfl (by decide +kernel) (by decide +kernel) V
  exact h

theorem e_v52_8 : (K V main_v52_8 : (⟨S11552, .i32⟩ : BufTy).Contents (Elt F)) = (id) (K V main_v3 : (⟨S11552, .i32⟩ : BufTy).Contents (Elt F)) := by
  have h := ssa_unary 83 (.of main_v3 : TRef sig ⟨S11552, .i32⟩) (.of main_v52_8 : TRef sig ⟨S11552, .i32⟩) id rfl (by decide +kernel) (by decide +kernel) V
  exact h

theorem e_v52_9 : (K V main_v52_9 : (⟨S11552, .i32⟩ : BufTy).Contents (Elt F)) = (id) (K V main_v6 : (⟨S11552, .i32⟩ : BufTy).Contents (Elt F)) := by
  have h := ssa_unary 84 (.of main_v6 : TRef sig ⟨S11552, .i32⟩) (.of main_v52_9 : TRef sig ⟨S11552, .i32⟩) id rfl (by decide +kernel) (by decide +kernel) V
  exact h

theorem e_v52_10 : (K V main_v52_10 : (⟨S64, .f32⟩ : BufTy).Contents (Elt F)) = (id) (K V main_arg11 : (⟨S64, .f32⟩ : BufTy).Contents (Elt F)) := by
  have h := ssa_unary 85 (.of main_arg11 : TRef sig ⟨S64, .f32⟩) (.of main_v52_10 : TRef sig ⟨S64, .f32⟩) id rfl (by decide +kernel) (by decide +kernel) V
  exact h

theorem e_v52_11 : (K V main_v52_11 : (⟨S64x64, .f32⟩ : BufTy).Contents (Elt F)) = (id) (K V main_arg12 : (⟨S64x64, .f32⟩ : BufTy).Contents (Elt F)) := by
  have h := ssa_unary 86 (.of main_arg12 : TRef sig ⟨S64x64, .f32⟩) (.of main_v52_11 : TRef sig ⟨S64x64, .f32⟩) id rfl (by decide +kernel) (by decide +kernel) V
  exact h

theorem e_v52_12 : (K V main_v52_12 : (⟨S64, .f32⟩ : BufTy).Contents (Elt F)) = (id) (K V main_arg13 : (⟨S64, .f32⟩ : BufTy).Contents (Elt F)) := by
  have h := ssa_unary 87 (.of main_arg13 : TRef sig ⟨S64, .f32⟩) (.of main_v52_12 : TRef sig ⟨S64, .f32⟩) id rfl (by decide +kernel) (by decide +kernel) V
  exact h

theorem e_v52_13 : (K V main_v52_13 : (⟨S64x64, .f32⟩ : BufTy).Contents (Elt F)) = (id) (K V main_arg14 : (⟨S64x64, .f32⟩ : BufTy).Contents (Elt F)) := by
  have h := ssa_unary 88 (.of main_arg14 : TRef sig ⟨S64x64, .f32⟩) (.of main_v52_13 : TRef sig ⟨S64x64, .f32⟩) id rfl (by decide +kernel) (by decide +kernel) V
  exact h

theorem e_v52_14 : (K V main_v52_14 : (⟨S64, .f32⟩ : BufTy).Contents (Elt F)) = (id) (K V main_arg15 : (⟨S64, .f32⟩ : BufTy).Contents (Elt F)) := by
  have h := ssa_unary 89 (.of main_arg15 : TRef sig ⟨S64, .f32⟩) (.of main_v52_14 : TRef sig ⟨S64, .f32⟩) id rfl (by decide +kernel) (by decide +kernel) V
  exact h

theorem e_v52_15 : (K V main_v52_15 : (⟨S64, .f32⟩ : BufTy).Contents (Elt F)) = (id) (K V main_arg8 : (⟨S64, .f32⟩ : BufTy).Contents (Elt F)) := by
  have h := ssa_unary 90 (.of main_arg8 : TRef sig ⟨S64, .f32⟩) (.of main_v52_15 : TRef sig ⟨S64, .f32⟩) id rfl (by decide +kernel) (by decide +kernel) V
  exact h

theorem e_v52_16 : (K V main_v52_16 : (⟨S_, .i32⟩ : BufTy).Contents (Elt F)) = (id) (K V main_c_7 : (⟨S_, .i32⟩ : BufTy).Contents (Elt F)) := by
  have h := ssa_unary 91 (.of main_c_7 : TRef sig ⟨S_, .i32⟩) (.of main_v52_16 : TRef sig ⟨S_, .i32⟩) id rfl (by decide +kernel) (by decide +kernel) V
  exact h

theorem e_v52_17 : (K V main_v52_17 : (⟨S608x64x16, .f32⟩ : BufTy).Contents (Elt F)) = (id) (K V main_v50 : (⟨S608x64x16, .f32⟩ : BufTy).Contents (Elt F)) := by
  have h := ssa_unary 92 (.of main_v50 : TRef sig ⟨S608x64x16, .f32⟩) (.of main_v52_17 : TRef sig ⟨S608x64x16, .f32⟩) id rfl (by decide +kernel) (by decide +kernel) V
  exact h

theorem e_v52_18 : (K V main_v52_18 : (⟨S256x608x64, .f32⟩ : BufTy).Contents (Elt F)) = (id) (K V main_v51 : (⟨S256x608x64, .f32⟩ : BufTy).Contents (Elt F)) := by
  have h := ssa_unary 93 (.of main_v51 : TRef sig ⟨S256x608x64, .f32⟩) (.of main_v52_18 : TRef sig ⟨S256x608x64, .f32⟩) id rfl (by decide +kernel) (by decide +kernel) V
  exact h

end Cert.ReferenceIdeal.Gen
-- ==== Proof.Gcn.lean ====
module

public import proofs.«01_k».proof.Proof.HostR
public import Idealize.ShloMosaic.Lib.Pointwise
public import Idealize.ShloMosaic.Lib.Routing.OpsPair

@[expose] public section

set_option maxRecDepth 8192

/-! The reference's gathers and accumulating scatters along the edge list, read at an entry. -/

noncomputable section

namespace Cert.Proof.Rf

open Idealize.ShloMosaic Idealize.ShloMosaic.TcCoe
open Cert.ReferenceIdeal Cert.ReferenceIdeal.Gen

theorem gather3 {α : Type} (x : S608x64x16.Idx → α) (idx : IVec S11552x1 32) (e : Fin 11552) (d : Fin 64) (n : Fin 16) :
    Host.gather gather_S608x64x16_S11552x1_S11552x64x16_12_0_n_n_0_1_16416 x idx (ix3 e d n)
      = x (ix3 ⟨min (idx (ix2 e (0 : Fin 1))).toInt.toNat 607, by omega⟩ d n) := by
  have hs : ∀ k, gather_S608x64x16_S11552x1_S11552x64x16_12_0_n_n_0_1_16416.siIdx (ix3 e d n) k = ix2 e (0 : Fin 1) := by
    intro k
    funext b; refine Fin.ext ?_
    match b with
    | ⟨0, _⟩ => rfl
    | ⟨1, _⟩ => exact Nat.lt_one_iff.1 (Fin.isLt _)
  have h0 : gather_S608x64x16_S11552x1_S11552x64x16_12_0_n_n_0_1_16416.start (ix3 e d n) idx 0 = min (idx (ix2 e (0 : Fin 1))).toInt.toNat 607 := by
    unfold GatherDims.start
    rw [dif_pos (by decide), hs]
    rfl
  unfold Host.gather
  congr 1
  funext a
  refine Fin.ext ?_
  match a with
  | ⟨0, _⟩ =>
    exact congrArg (fun z => z + 0 + 0) h0
  | ⟨1, _⟩ => exact Nat.zero_add _
  | ⟨2, _⟩ => exact Nat.zero_add _

theorem gather2 {α : Type} (x : S608x64.Idx → α) (idx : IVec S11552x1 32) (e : Fin 11552) (d : Fin 64) :
    Host.gather gather_S608x64_S11552x1_S11552x64_1_0_n_n_0_1_164 x idx (ix2 e d)
      = x (ix2 ⟨min (idx (ix2 e (0 : Fin 1))).toInt.toNat 607, by omega⟩ d) := by
  have hs : ∀ k, gather_S608x64_S11552x1_S11552x64_1_0_n_n_0_1_164.siIdx (ix2 e d) k = ix2 e (0 : Fin 1) := by
    intro k
    funext b; refine Fin.ext ?_
    match b with
    | ⟨0, _⟩ => rfl
    | ⟨1, _⟩ => exact Nat.lt_one_iff.1 (Fin.isLt _)
  have h0 : gather_S608x64_S11552x1_S11552x64_1_0_n_n_0_1_164.start (ix2 e d) idx 0 = min (idx (ix2 e (0 : Fin 1))).toInt.toNat 607 := by
    unfold GatherDims.start
    rw [dif_pos (by decide), hs]
    rfl
  unfold Host.gather
  congr 1
  funext a
  refine Fin.ext ?_
  match a with
  | ⟨0, _⟩ =>
    exact congrArg (fun z => z + 0 + 0) h0
  | ⟨1, _⟩ => exact Nat.zero_add _

theorem gather1 {α : Type} (x : S608.Idx → α) (idx : IVec S11552x1 32) (e : Fin 11552) :
    Host.gather gather_S608_S11552x1_S11552_n_0_n_n_0_1_1 x idx (ix1 e)
      = x (ix1 ⟨min (idx (ix2 e (0 : Fin 1))).toInt.toNat 607, by omega⟩) := by
  have hs : ∀ k, gather_S608_S11552x1_S11552_n_0_n_n_0_1_1.siIdx (ix1 e) k = ix2 e (0 : Fin 1) := by
    intro k
    funext b; refine Fin.ext ?_
    match b with
    | ⟨0, _⟩ => rfl
    | ⟨1, _⟩ => exact Nat.lt_one_iff.1 (Fin.isLt _)
  have h0 : gather_S608_S11552x1_S11552_n_0_n_n_0_1_1.start (ix1 e) idx 0 = min (idx (ix2 e (0 : Fin 1))).toInt.toNat 607 := by
    unfold GatherDims.start
    rw [dif_pos (by decide), hs]
    rfl
  unfold Host.gather
  congr 1
  funext a
  refine Fin.ext ?_
  match a with
  | ⟨0, _⟩ =>
    exact congrArg (fun z => z + 0 + 0) h0

theorem land3 (idx : IVec S11552x1 32) (j : S11552x64x16.Idx) (p : Fin 608) (d : Fin 64) (n : Fin 16) :
    scatter_S608x64x16_S11552x1_S11552x64x16_12_0_0_1.resultIdx? j idx = some (ix3 p d n)
      ↔ (idx (ix2 (j 0) (0 : Fin 1))).toInt = (p.val : Int) ∧ j 1 = d ∧ j 2 = n := by
  have hs : ∀ k, scatter_S608x64x16_S11552x1_S11552x64x16_12_0_0_1.siIdx j k = ix2 (j 0) (0 : Fin 1) := by
    intro k
    funext b; refine Fin.ext ?_
    match b with
    | ⟨0, _⟩ => rfl
    | ⟨1, _⟩ => exact Nat.lt_one_iff.1 (Fin.isLt _)
  have h0 : scatter_S608x64x16_S11552x1_S11552x64x16_12_0_0_1.start j idx 0 = (idx (ix2 (j 0) (0 : Fin 1))).toInt := by
    unfold ScatterDims.start
    rw [dif_pos (by decide), hs]
    rfl
  have w0 : scatter_S608x64x16_S11552x1_S11552x64x16_12_0_0_1.window j 0 = 0 := rfl
  have s1 : scatter_S608x64x16_S11552x1_S11552x64x16_12_0_0_1.start j idx 1 = 0 := rfl
  have s2 : scatter_S608x64x16_S11552x1_S11552x64x16_12_0_0_1.start j idx 2 = 0 := rfl
  have w1 : scatter_S608x64x16_S11552x1_S11552x64x16_12_0_0_1.window j 1 = (j 1).val := rfl
  have w2 : scatter_S608x64x16_S11552x1_S11552x64x16_12_0_0_1.window j 2 = (j 2).val := rfl
  rw [Routing.resultIdx?_eq_some]
  constructor
  · intro h
    have a0 := h 0; have a1 := h 1; have a2 := h 2
    rw [h0, w0] at a0; rw [s1, w1] at a1; rw [s2, w2] at a2
    refine ⟨by simpa using a0, Fin.ext ?_, Fin.ext ?_⟩
    · have : ((j 1).val : Int) = (d.val : Int) := by simpa using a1
      exact_mod_cast this
    · have : ((j 2).val : Int) = (n.val : Int) := by simpa using a2
      exact_mod_cast this
  · rintro ⟨a0, a1, a2⟩ a
    match a with
    | ⟨0, _⟩ => exact (congrArg₂ (· + ·) h0 (congrArg Nat.cast w0)).trans (by simpa using a0)
    | ⟨1, _⟩ => exact (congrArg₂ (· + ·) s1 (congrArg Nat.cast w1)).trans (by simpa using congrArg (fun z => (Fin.val z : Int)) a1)
    | ⟨2, _⟩ => exact (congrArg₂ (· + ·) s2 (congrArg Nat.cast w2)).trans (by simpa using congrArg (fun z => (Fin.val z : Int)) a2)

theorem land2 (idx : IVec S11552x1 32) (j : S11552x64.Idx) (p : Fin 608) (d : Fin 64) :
    scatter_S608x64_S11552x1_S11552x64_1_0_0_1.resultIdx? j idx = some (ix2 p d)
      ↔ (idx (ix2 (j 0) (0 : Fin 1))).toInt = (p.val : Int) ∧ j 1 = d := by
  have hs : ∀ k, scatter_S608x64_S11552x1_S11552x64_1_0_0_1.siIdx j k = ix2 (j 0) (0 : Fin 1) := by
    intro k
    funext b; refine Fin.ext ?_
    match b with
    | ⟨0, _⟩ => rfl
    | ⟨1, _⟩ => exact Nat.lt_one_iff.1 (Fin.isLt _)
  have h0 : scatter_S608x64_S11552x1_S11552x64_1_0_0_1.start j idx 0 = (idx (ix2 (j 0) (0 : Fin 1))).toInt := by
    unfold ScatterDims.start
    rw [dif_pos (by decide), hs]
    rfl
  have w0 : scatter_S608x64_S11552x1_S11552x64_1_0_0_1.window j 0 = 0 := rfl
  have s1 : scatter_S608x64_S11552x1_S11552x64_1_0_0_1.start j idx 1 = 0 := rfl
  have w1 : scatter_S608x64_S11552x1_S11552x64_1_0_0_1.window j 1 = (j 1).val := rfl
  rw [Routing.resultIdx?_eq_some]
  constructor
  · intro h
    have a0 := h 0; have a1 := h 1
    rw [h0, w0] at a0; rw [s1, w1] at a1
    refine ⟨by simpa using a0, Fin.ext ?_⟩
    have : ((j 1).val : Int) = (d.val : Int) := by simpa using a1
    exact_mod_cast this
  · rintro ⟨a0, a1⟩ a
    match a with
    | ⟨0, _⟩ => exact (congrArg₂ (· + ·) h0 (congrArg Nat.cast w0)).trans (by simpa using a0)
    | ⟨1, _⟩ => exact (congrArg₂ (· + ·) s1 (congrArg Nat.cast w1)).trans (by simpa using congrArg (fun z => (Fin.val z : Int)) a1)

theorem land1 (idx : IVec S11552x1 32) (j : S11552.Idx) (p : Fin 608) :
    scatter_S608_S11552x1_S11552_n_0_0_1.resultIdx? j idx = some (ix1 p)
      ↔ (idx (ix2 (j 0) (0 : Fin 1))).toInt = (p.val : Int) := by
  have hs : ∀ k, scatter_S608_S11552x1_S11552_n_0_0_1.siIdx j k = ix2 (j 0) (0 : Fin 1) := by
    intro k
    funext b; refine Fin.ext ?_
    match b with
    | ⟨0, _⟩ => rfl
    | ⟨1, _⟩ => exact Nat.lt_one_iff.1 (Fin.isLt _)
  have h0 : scatter_S608_S11552x1_S11552_n_0_0_1.start j idx 0 = (idx (ix2 (j 0) (0 : Fin 1))).toInt := by
    unfold ScatterDims.start
    rw [dif_pos (by decide), hs]
    rfl
  have w0 : scatter_S608_S11552x1_S11552_n_0_0_1.window j 0 = 0 := rfl
  rw [Routing.resultIdx?_eq_some]
  constructor
  · intro h
    have a0 := h 0
    rw [h0, w0] at a0
    simpa using a0
  · rintro a0 a
    match a with
    | ⟨0, _⟩ => exact (congrArg₂ (· + ·) h0 (congrArg Nat.cast w0)).trans (by simpa using a0)

/-- The edges that end at node `p`. -/
def into (idx : IVec S11552x1 32) (p : Fin 608) : Finset (Fin 11552) :=
  Finset.univ.filter fun e => (idx (ix2 e (0 : Fin 1))).toInt = (p.val : Int)

theorem scat3 (x : FVec Ideal S608x64x16 .f32) (idx : IVec S11552x1 32) (upd : FVec Ideal S11552x64x16 .f32) (p : Fin 608) (d : Fin 64) (n : Fin 16) :
    (Host.scatterAdd scatter_S608x64x16_S11552x1_S11552x64x16_12_0_0_1 x idx upd (ix3 p d n) : EReal)
      = x (ix3 p d n) + ∑ e ∈ into idx p, (upd (ix3 e d n) : EReal) := by
  show (_ : EReal) + ∑ j ∈ Finset.univ.filter (fun j => scatter_S608x64x16_S11552x1_S11552x64x16_12_0_0_1.resultIdx? j idx = some (ix3 p d n)), (upd j : EReal) = _
  refine congrArg (fun z : EReal => _ + z) ?_
  refine Finset.sum_nbij' (fun j => j 0) (fun e => ix3 e d n) ?_ ?_ ?_ ?_ ?_
  · intro j hj
    exact Finset.mem_filter.2 ⟨Finset.mem_univ _, ((land3 idx j p d n).1 (Finset.mem_filter.1 hj).2).1⟩
  · intro e he
    exact Finset.mem_filter.2 ⟨Finset.mem_univ _, (land3 idx (ix3 e d n) p d n).2 ⟨(Finset.mem_filter.1 he).2, rfl, rfl⟩⟩
  · intro j hj
    have h := (land3 idx j p d n).1 (Finset.mem_filter.1 hj).2
    funext a
    match a with
    | ⟨0, _⟩ => rfl
    | ⟨1, _⟩ => exact h.2.1.symm
    | ⟨2, _⟩ => exact h.2.2.symm
  · intro e _; rfl
  · intro j hj
    have h := (land3 idx j p d n).1 (Finset.mem_filter.1 hj).2
    refine congrArg upd ?_
    funext a
    match a with
    | ⟨0, _⟩ => rfl
    | ⟨1, _⟩ => exact h.2.1
    | ⟨2, _⟩ => exact h.2.2

theorem scat2 (x : FVec Ideal S608x64 .f32) (idx : IVec S11552x1 32) (upd : FVec Ideal S11552x64 .f32) (p : Fin 608) (d : Fin 64) :
    (Host.scatterAdd scatter_S608x64_S11552x1_S11552x64_1_0_0_1 x idx upd (ix2 p d) : EReal)
      = x (ix2 p d) + ∑ e ∈ into idx p, (upd (ix2 e d) : EReal) := by
  show (_ : EReal) + ∑ j ∈ Finset.univ.filter (fun j => scatter_S608x64_S11552x1_S11552x64_1_0_0_1.resultIdx? j idx = some (ix2 p d)), (upd j : EReal) = _
  refine congrArg (fun z : EReal => _ + z) ?_
  refine Finset.sum_nbij' (fun j => j 0) (fun e => ix2 e d) ?_ ?_ ?_ ?_ ?_
  · intro j hj
    exact Finset.mem_filter.2 ⟨Finset.mem_univ _, ((land2 idx j p d).1 (Finset.mem_filter.1 hj).2).1⟩
  · intro e he
    exact Finset.mem_filter.2 ⟨Finset.mem_univ _, (land2 idx (ix2 e d) p d).2 ⟨(Finset.mem_filter.1 he).2, rfl⟩⟩
  · intro j hj
    have h := (land2 idx j p d).1 (Finset.mem_filter.1 hj).2
    funext a
    match a with
    | ⟨0, _⟩ => rfl
    | ⟨1, _⟩ => exact h.2.symm
  · intro e _; rfl
  · intro j hj
    have h := (land2 idx j p d).1 (Finset.mem_filter.1 hj).2
    refine congrArg upd ?_
    funext a
    match a with
    | ⟨0, _⟩ => rfl
    | ⟨1, _⟩ => exact h.2

theorem scat1 (x : FVec Ideal S608 .f32) (idx : IVec S11552x1 32) (upd : FVec Ideal S11552 .f32) (p : Fin 608) :
    (Host.scatterAdd scatter_S608_S11552x1_S11552_n_0_0_1 x idx upd (ix1 p) : EReal)
      = x (ix1 p) + ∑ e ∈ into idx p, (upd (ix1 e) : EReal) := by
  show (_ : EReal) + ∑ j ∈ Finset.univ.filter (fun j => scatter_S608_S11552x1_S11552_n_0_0_1.resultIdx? j idx = some (ix1 p)), (upd j : EReal) = _
  refine congrArg (fun z : EReal => _ + z) ?_
  refine Finset.sum_nbij' (fun j => j 0) (fun e => ix1 e) ?_ ?_ ?_ ?_ ?_
  · intro j hj
    exact Finset.mem_filter.2 ⟨Finset.mem_univ _, (land1 idx j p).1 (Finset.mem_filter.1 hj).2⟩
  · intro e he
    exact Finset.mem_filter.2 ⟨Finset.mem_univ _, (land1 idx (ix1 e) p).2 (Finset.mem_filter.1 he).2⟩
  · intro j hj
    funext a
    match a with
    | ⟨0, _⟩ => rfl
  · intro e _; rfl
  · intro j hj
    refine congrArg upd ?_
    funext a
    match a with
    | ⟨0, _⟩ => rfl

end Cert.Proof.Rf
-- ==== Proof.Ref.lean ====
module

public import proofs.«01_k».proof.Proof.Gcn
public import proofs.«01_k».proof.Proof.Model
public import Idealize.ShloMosaic.Lib.DynamicIndex
public import Idealize.ShloMosaic.Lib.WordCmp

@[expose] public section

set_option maxRecDepth 8192

/-! The reference's loop, read entry by entry: its state, its rows and its result are the model's. -/

noncomputable section

namespace Cert.Proof.Rf

open Idealize.ShloMosaic Idealize.ShloMosaic.TcCoe
open Cert.ReferenceIdeal Cert.ReferenceIdeal.Gen Cert.ReferenceIdeal.Value

abbrev Val := Valuation τ sig (Elt Ideal)

/-! ### What the loop carries, at its types -/

def cdt (X : Val) : FVec Ideal S256x608x64 .f32 := X (Proc.devRef .tc main_v52_0)
def cB (X : Val) : FVec Ideal S256x608x16 .f32 := X (Proc.devRef .tc main_v52_1)
def cC (X : Val) : FVec Ideal S256x608x16 .f32 := X (Proc.devRef .tc main_v52_2)
def cu (X : Val) : FVec Ideal S256x608x64 .f32 := X (Proc.devRef .tc main_v52_3)
def cz (X : Val) : FVec Ideal S256x608x64 .f32 := X (Proc.devRef .tc main_v52_4)
def cA (X : Val) : FVec Ideal S64x16 .f32 := X (Proc.devRef .tc main_v52_5)
def cgA (X : Val) : FVec Ideal S64x64 .f32 := X (Proc.devRef .tc main_v52_6)
def cnrm (X : Val) : FVec Ideal S11552 .f32 := X (Proc.devRef .tc main_v52_7)
def csrc (X : Val) : IVec S11552 32 := X (Proc.devRef .tc main_v52_8)
def cdst (X : Val) : IVec S11552 32 := X (Proc.devRef .tc main_v52_9)
def cbA (X : Val) : FVec Ideal S64 .f32 := X (Proc.devRef .tc main_v52_10)
def cgB (X : Val) : FVec Ideal S64x64 .f32 := X (Proc.devRef .tc main_v52_11)
def cbB (X : Val) : FVec Ideal S64 .f32 := X (Proc.devRef .tc main_v52_12)
def cgC (X : Val) : FVec Ideal S64x64 .f32 := X (Proc.devRef .tc main_v52_13)
def cbC (X : Val) : FVec Ideal S64 .f32 := X (Proc.devRef .tc main_v52_14)
def cD (X : Val) : FVec Ideal S64 .f32 := X (Proc.devRef .tc main_v52_15)
def ck (X : Val) : IVec S_ 32 := X (Proc.devRef .tc main_v52_16)
def cs (X : Val) : FVec Ideal S608x64x16 .f32 := X (Proc.devRef .tc main_v52_17)
def cy (X : Val) : FVec Ideal S256x608x64 .f32 := X (Proc.devRef .tc main_v52_18)
def cow (X : Val) : FVec Ideal S32x64 .f32 := X (Proc.devRef .tc main_arg9)

/-- The sources with negative ones wrapped, as a column. -/
def wrap (s : IVec S11552 32) : IVec S11552x1 32 :=
  broadcastInDim S11552x1 ![0] bcast_S11552_S11552x1_0 (select (cmpi .slt s (broadcastInDim S11552 ![] bcast_S_S11552 (constantI S_ 32 0#32))) (addi s (broadcastInDim S11552 ![] bcast_S_S11552 (constantI S_ 32 608#32))) s)

def colm (s : IVec S11552 32) : IVec S11552x1 32 := broadcastInDim S11552x1 ![0] bcast_S11552_S11552x1_0 s

theorem colm_apply (s : IVec S11552 32) (e : Fin 11552) (b : Fin 1) : colm s (ix2 e b) = s (ix1 e) := by
  unfold colm
  pointwise

/-- The node an edge starts at. -/
def frm (s : IVec S11552 32) (e : Fin 11552) : Fin 608 := ⟨min (wrap s (ix2 e (0 : Fin 1))).toInt.toNat 607, by omega⟩

/-- The sum over the edges into `p`. -/
def aggr (nrm : FVec Ideal S11552 .f32) (src dst : IVec S11552 32) (h : Fin 608 → EReal) (p : Fin 608) : EReal :=
  ∑ e ∈ into (colm dst) p, (nrm (ix1 e) : EReal) * h (frm src e)

def agg3 (nrm : FVec Ideal S11552 .f32) (src dst : IVec S11552 32) (x : FVec Ideal S608x64x16 .f32) : FVec Ideal S608x64x16 .f32 :=
  Host.scatterAdd scatter_S608x64x16_S11552x1_S11552x64x16_12_0_0_1 (broadcastInDim S608x64x16 ![] bcast_S_S608x64x16 (constant S_ .f32 0x00000000#32)) (colm dst) (mulf (broadcastInDim S11552x64x16 ![0, 1, 2] bcast_S11552x1x1_S11552x64x16_0_1_2 (broadcastInDim S11552x1x1 ![0] bcast_S11552_S11552x1x1_0 nrm)) (Host.gather gather_S608x64x16_S11552x1_S11552x64x16_12_0_n_n_0_1_16416 x (wrap src)))

def agg2 (nrm : FVec Ideal S11552 .f32) (src dst : IVec S11552 32) (x : FVec Ideal S608x64 .f32) : FVec Ideal S608x64 .f32 :=
  Host.scatterAdd scatter_S608x64_S11552x1_S11552x64_1_0_0_1 (broadcastInDim S608x64 ![] bcast_S_S608x64 (constant S_ .f32 0x00000000#32)) (colm dst) (mulf (broadcastInDim S11552x64 ![0, 1] bcast_S11552x1_S11552x64_0_1 (broadcastInDim S11552x1 ![0] bcast_S11552_S11552x1_0 nrm)) (Host.gather gather_S608x64_S11552x1_S11552x64_1_0_n_n_0_1_164 x (wrap src)))

theorem agg3_apply (nrm : FVec Ideal S11552 .f32) (src dst : IVec S11552 32) (x : FVec Ideal S608x64x16 .f32) (p : Fin 608) (d : Fin 64) (n : Fin 16) :
    (agg3 nrm src dst x (ix3 p d n) : EReal) = aggr nrm src dst (fun q => x (ix3 q d n)) p := by
  unfold agg3 aggr
  refine (scat3 _ _ _ p d n).trans ?_
  refine (congrArg₂ (· + ·) (show (_ : EReal) = 0 from ?_) (Finset.sum_congr rfl fun e _ => ?_)).trans (zero_add _)
  · exact Ideal.ofBits_zero .f32
  · refine Eq.trans (b := (nrm (ix1 e) : EReal) * Host.gather gather_S608x64x16_S11552x1_S11552x64x16_12_0_n_n_0_1_16416 x (wrap src) (ix3 e d n)) ?_ ?_
    · generalize Host.gather gather_S608x64x16_S11552x1_S11552x64x16_12_0_n_n_0_1_16416 x (wrap src) = g
      pointwise
    · rw [gather3]; rfl

theorem agg2_apply (nrm : FVec Ideal S11552 .f32) (src dst : IVec S11552 32) (x : FVec Ideal S608x64 .f32) (p : Fin 608) (d : Fin 64) :
    (agg2 nrm src dst x (ix2 p d) : EReal) = aggr nrm src dst (fun q => x (ix2 q d)) p := by
  unfold agg2 aggr
  refine (scat2 _ _ _ p d).trans ?_
  refine (congrArg₂ (· + ·) (show (_ : EReal) = 0 from ?_) (Finset.sum_congr rfl fun e _ => ?_)).trans (zero_add _)
  · exact Ideal.ofBits_zero .f32
  · refine Eq.trans (b := (nrm (ix1 e) : EReal) * Host.gather gather_S608x64_S11552x1_S11552x64_1_0_n_n_0_1_164 x (wrap src) (ix2 e d)) ?_ ?_
    · generalize Host.gather gather_S608x64_S11552x1_S11552x64_1_0_n_n_0_1_164 x (wrap src) = g
      pointwise
    · rw [gather2]; rfl

/-! ### The slices at the counter -/

theorem sl64 (Y : FVec Ideal S256x608x64 .f32) (c : IVec S_ 32) (k : Fin 256) (hc : c = fun _ => BitVec.ofNat 32 k.val) (p : Fin 608) (d : Fin 64) :
    shapeCast S608x64 (Host.dynamicSlice S1x608x64 Y (fun k => (((![c, constantI S_ 32 0#32, constantI S_ 32 0#32] : Fin 3 → (⟨S_, .i32⟩ : BufTy).Contents (Elt Ideal))) k (Shape.Idx.first h_S_)).toInt) sliceFits_S256x608x64_S1x608x64) shapeCasts_S1x608x64_S608x64 (ix2 p d)
      = Y (ix3 k p d) := by
  have hb : (BitVec.ofNat 32 k.val).toInt = (k.val : Int) := by
    have := k.isLt
    rw [BitVec.toInt_eq_toNat_of_lt (by rw [BitVec.toNat_ofNat]; omega), BitVec.toNat_ofNat]; omega
  have hs : S256x608x64.Slices (![k.val, 0, 0]) S1x608x64 := ⟨rfl, fun a => by
    have := k.isLt
    match a with
    | ⟨0, _⟩ => show k.val + 1 ≤ 256; omega
    | ⟨1, _⟩ => show 0 + 608 ≤ 608; omega
    | ⟨2, _⟩ => show 0 + 64 ≤ 64; omega⟩
  rw [Host.dynamicSlice_eq_extractStridedSlice S1x608x64 Y _ (![k.val, 0, 0]) _ hs (fun a => by
    subst hc
    match a with
    | ⟨0, _⟩ => exact hb
    | ⟨1, _⟩ => rfl
    | ⟨2, _⟩ => rfl)]
  pointwise

theorem sl16 (Y : FVec Ideal S256x608x16 .f32) (c : IVec S_ 32) (k : Fin 256) (hc : c = fun _ => BitVec.ofNat 32 k.val) (p : Fin 608) (d : Fin 16) :
    shapeCast S608x16 (Host.dynamicSlice S1x608x16 Y (fun k => (((![c, constantI S_ 32 0#32, constantI S_ 32 0#32] : Fin 3 → (⟨S_, .i32⟩ : BufTy).Contents (Elt Ideal))) k (Shape.Idx.first h_S_)).toInt) sliceFits_S256x608x16_S1x608x16) shapeCasts_S1x608x16_S608x16 (ix2 p d)
      = Y (ix3 k p d) := by
  have hb : (BitVec.ofNat 32 k.val).toInt = (k.val : Int) := by
    have := k.isLt
    rw [BitVec.toInt_eq_toNat_of_lt (by rw [BitVec.toNat_ofNat]; omega), BitVec.toNat_ofNat]; omega
  have hs : S256x608x16.Slices (![k.val, 0, 0]) S1x608x16 := ⟨rfl, fun a => by
    have := k.isLt
    match a with
    | ⟨0, _⟩ => show k.val + 1 ≤ 256; omega
    | ⟨1, _⟩ => show 0 + 608 ≤ 608; omega
    | ⟨2, _⟩ => show 0 + 16 ≤ 16; omega⟩
  rw [Host.dynamicSlice_eq_extractStridedSlice S1x608x16 Y _ (![k.val, 0, 0]) _ hs (fun a => by
    subst hc
    match a with
    | ⟨0, _⟩ => exact hb
    | ⟨1, _⟩ => rfl
    | ⟨2, _⟩ => rfl)]
  pointwise

/-! ### One step -/

/-- The model the reference runs. -/
def MR (X : Val) : Mdl where
  agg := aggr (cnrm X) (csrc X) (cdst X)
  gA d e := cgA X (ix2 d e)
  gB d e := cgB X (ix2 d e)
  gC d e := cgC X (ix2 d e)
  bA d := cbA X (ix1 d)
  bB d := cbB X (ix1 d)
  bC d := cbC X (ix1 d)
  D d := cD X (ix1 d)
  dt T p d := cdt X (ix3 (Fin.ofNat 256 T) p d)
  dec T p d n := Ideal.exp (cdt X (ix3 (Fin.ofNat 256 T) p d) * cA X (ix2 d n))
  u T p d := cu X (ix3 (Fin.ofNat 256 T) p d)
  z T p d := cz X (ix3 (Fin.ofNat 256 T) p d)
  B T p n := cB X (ix3 (Fin.ofNat 256 T) p n)
  C T p n := cC X (ix3 (Fin.ofNat 256 T) p n)
  ow d o := cow X (ix2 o d)

/-- A graph convolution of a state: mix features, sum over edges, add the bias. -/
def gcn3 (nrm : FVec Ideal S11552 .f32) (src dst : IVec S11552 32) (w : FVec Ideal S64x64 .f32) (s : FVec Ideal S608x64x16 .f32) (b : FVec Ideal S64 .f32) :
    FVec Ideal S608x64x16 .f32 :=
  addf (agg3 nrm src dst (transpose S608x64x16 [1, 0, 2] (Host.dotGeneral dot_S64x64_S608x64x16_S64x608x16_1_1_0_02_n_n none w s) transposes_S64x608x16_S608x64x16_1_0_2)) (broadcastInDim S608x64x16 ![0, 1, 2] bcast_S1x64x1_S608x64x16_0_1_2 (broadcastInDim S1x64x1 ![1] bcast_S64_S1x64x1_1 b))

def gcn2 (nrm : FVec Ideal S11552 .f32) (src dst : IVec S11552 32) (w : FVec Ideal S64x64 .f32) (s : FVec Ideal S608x64 .f32) (b : FVec Ideal S64 .f32) :
    FVec Ideal S608x64 .f32 :=
  addf (agg2 nrm src dst (Host.dotGeneral dot_S608x64_S64x64_S608x64_1_0_0_1_n_n none s (transpose S64x64 [1, 0] w transposes_S64x64_S64x64_1_0))) (broadcastInDim S608x64 ![0, 1] bcast_S1x64_S608x64_0_1 (broadcastInDim S1x64 ![1] bcast_S64_S1x64_1 b))

theorem gcn3_apply (nrm : FVec Ideal S11552 .f32) (src dst : IVec S11552 32) (w : FVec Ideal S64x64 .f32) (s : FVec Ideal S608x64x16 .f32) (b : FVec Ideal S64 .f32)
    (p : Fin 608) (d : Fin 64) (n : Fin 16) :
    (gcn3 nrm src dst w s b (ix3 p d n) : EReal)
      = aggr nrm src dst (fun q => ∑ e : Fin 64, (s (ix3 q e n) : EReal) * w (ix2 d e)) p + b (ix1 d) := by
  unfold gcn3
  refine Eq.trans (b := (agg3 nrm src dst (transpose S608x64x16 [1, 0, 2] (Host.dotGeneral dot_S64x64_S608x64x16_S64x608x16_1_1_0_02_n_n none w s) transposes_S64x608x16_S608x64x16_1_0_2) (ix3 p d n) : EReal) + b (ix1 d)) ?_ ?_
  · generalize agg3 nrm src dst _ = g
    pointwise
  · rw [agg3_apply]
    refine congrArg (fun f => aggr nrm src dst f p + (b (ix1 d) : EReal)) (funext fun q => ?_)
    pointwise
    exact Finset.sum_congr rfl fun e _ => mul_comm _ _

theorem gcn2_apply (nrm : FVec Ideal S11552 .f32) (src dst : IVec S11552 32) (w : FVec Ideal S64x64 .f32) (s : FVec Ideal S608x64 .f32) (b : FVec Ideal S64 .f32)
    (p : Fin 608) (d : Fin 64) :
    (gcn2 nrm src dst w s b (ix2 p d) : EReal)
      = aggr nrm src dst (fun q => ∑ e : Fin 64, (s (ix2 q e) : EReal) * w (ix2 d e)) p + b (ix1 d) := by
  unfold gcn2
  refine Eq.trans (b := (agg2 nrm src dst (Host.dotGeneral dot_S608x64_S64x64_S608x64_1_0_0_1_n_n none s (transpose S64x64 [1, 0] w transposes_S64x64_S64x64_1_0)) (ix2 p d) : EReal) + b (ix1 d)) ?_ ?_
  · generalize agg2 nrm src dst _ = g
    pointwise
  · rw [agg2_apply]
    refine congrArg (fun f => aggr nrm src dst f p + (b (ix1 d) : EReal)) (funext fun q => ?_)
    pointwise

/-- The new state from the two convolutions and the time row. -/
def mix (a : FVec Ideal S608x64x16 .f32) (b : FVec Ideal S608x64 .f32) (dt : FVec Ideal S608x64 .f32) (A : FVec Ideal S64x16 .f32) (B : FVec Ideal S608x16 .f32) :
    FVec Ideal S608x64x16 .f32 :=
  addf (mulf a (Host.exp (mulf (broadcastInDim S608x64x16 ![0, 1, 2] bcast_S608x64x1_S608x64x16_0_1_2 (broadcastInDim S608x64x1 ![0, 1] bcast_S608x64_S608x64x1_0_1 dt)) (broadcastInDim S608x64x16 ![0, 1, 2] bcast_S1x64x16_S608x64x16_0_1_2 (broadcastInDim S1x64x16 ![1, 2] bcast_S64x16_S1x64x16_1_2 A))))) (mulf (broadcastInDim S608x64x16 ![0, 1, 2] bcast_S608x64x1_S608x64x16_0_1_2 (broadcastInDim S608x64x1 ![0, 1] bcast_S608x64_S608x64x1_0_1 b)) (mulf (broadcastInDim S608x64x16 ![0, 1, 2] bcast_S608x64x1_S608x64x16_0_1_2 (broadcastInDim S608x64x1 ![0, 1] bcast_S608x64_S608x64x1_0_1 dt)) (broadcastInDim S608x64x16 ![0, 1, 2] bcast_S608x1x16_S608x64x16_0_1_2 (broadcastInDim S608x1x16 ![0, 2] bcast_S608x16_S608x1x16_0_2 B))))

theorem mix_apply (a : FVec Ideal S608x64x16 .f32) (b : FVec Ideal S608x64 .f32) (dt : FVec Ideal S608x64 .f32) (A : FVec Ideal S64x16 .f32) (B : FVec Ideal S608x16 .f32)
    (p : Fin 608) (d : Fin 64) (n : Fin 16) :
    (mix a b dt A B (ix3 p d n) : EReal)
      = a (ix3 p d n) * Ideal.exp ((dt (ix2 p d) : EReal) * A (ix2 d n)) + b (ix2 p d) * (dt (ix2 p d) * B (ix2 p n)) := by
  unfold mix
  pointwise

/-- The slice of a carried array at the counter. -/
def at64 (Y : FVec Ideal S256x608x64 .f32) (c : IVec S_ 32) : FVec Ideal S608x64 .f32 :=
  shapeCast S608x64 (Host.dynamicSlice S1x608x64 Y (fun k => (((![c, constantI S_ 32 0#32, constantI S_ 32 0#32] : Fin 3 → (⟨S_, .i32⟩ : BufTy).Contents (Elt Ideal))) k (Shape.Idx.first h_S_)).toInt) sliceFits_S256x608x64_S1x608x64) shapeCasts_S1x608x64_S608x64
def at16 (Y : FVec Ideal S256x608x16 .f32) (c : IVec S_ 32) : FVec Ideal S608x16 .f32 :=
  shapeCast S608x16 (Host.dynamicSlice S1x608x16 Y (fun k => (((![c, constantI S_ 32 0#32, constantI S_ 32 0#32] : Fin 3 → (⟨S_, .i32⟩ : BufTy).Contents (Elt Ideal))) k (Shape.Idx.first h_S_)).toInt) sliceFits_S256x608x16_S1x608x16) shapeCasts_S1x608x16_S608x16

/-- The state after the step, as the loop's body computes it. -/
def nst (X : Val) : FVec Ideal S608x64x16 .f32 :=
  mix (gcn3 (cnrm X) (csrc X) (cdst X) (cgA X) (cs X) (cbA X)) (gcn2 (cnrm X) (csrc X) (cdst X) (cgB X) (at64 (cu X) (ck X)) (cbB X))
    (at64 (cdt X) (ck X)) (cA X) (at16 (cB X) (ck X))

theorem v111_eq (X : Val) : res_main_while0b_v111 (F := Ideal) X = nst X := rfl

theorem ofNat_val (k : Fin 256) : Fin.ofNat 256 k.val = k := Fin.ext (Nat.mod_eq_of_lt k.isLt)

theorem nst_apply (X : Val) (k : Fin 256) (hc : ck X = fun _ => BitVec.ofNat 32 k.val) (p : Fin 608) (d : Fin 64) (n : Fin 16) :
    (nst X (ix3 p d n) : EReal) = (MR X).step k.val (fun p d n => cs X (ix3 p d n)) p d n := by
  unfold nst
  rw [mix_apply, gcn3_apply, gcn2_apply]
  have h1 : ∀ (Y : FVec Ideal S256x608x64 .f32) q e, at64 Y (ck X) (ix2 q e) = Y (ix3 k q e) := fun Y q e => sl64 Y _ k hc q e
  have h2 : ∀ (Y : FVec Ideal S256x608x16 .f32) q e, at16 Y (ck X) (ix2 q e) = Y (ix3 k q e) := fun Y q e => sl16 Y _ k hc q e
  simp only [h1, h2]
  unfold Mdl.step MR
  dsimp only
  rw [ofNat_val]

/-- The gated row, as the loop's body computes it. -/
def gat (c : FVec Ideal S608x64x16 .f32) (C : FVec Ideal S608x16 .f32) (D : FVec Ideal S64 .f32) (u z : FVec Ideal S608x64 .f32) : FVec Ideal S608x64 .f32 :=
  mulf (addf (Host.dotGeneral dot_S608x64x16_S608x16_S608x64_2_1_1_n_0_0 none c C) (mulf (broadcastInDim S608x64 ![0, 1] bcast_S1x64_S608x64_0_1 (broadcastInDim S1x64 ![1] bcast_S64_S1x64_1 D)) u)) (mulf z (Host.divf (broadcastInDim S608x64 ![] bcast_S_S608x64 (constant S_ .f32 0x3F800000#32)) (addf (broadcastInDim S608x64 ![] bcast_S_S608x64 (constant S_ .f32 0x3F800000#32)) (Host.exp (Host.negf z)))))

theorem gat_apply (c : FVec Ideal S608x64x16 .f32) (C : FVec Ideal S608x16 .f32) (D : FVec Ideal S64 .f32) (u z : FVec Ideal S608x64 .f32) (p : Fin 608) (d : Fin 64) :
    (gat c C D u z (ix2 p d) : EReal)
      = ((∑ n : Fin 16, (c (ix3 p d n) : EReal) * C (ix2 p n)) + D (ix1 d) * u (ix2 p d)) * (z (ix2 p d) * Ideal.logistic (z (ix2 p d))) := by
  unfold gat
  pointwise
  rfl

def row (X : Val) : FVec Ideal S608x64 .f32 :=
  gat (gcn3 (cnrm X) (csrc X) (cdst X) (cgC X) (nst X) (cbC X)) (at16 (cC X) (ck X)) (cD X) (at64 (cu X) (ck X)) (at64 (cz X) (ck X))

theorem row_apply (X : Val) (k : Fin 256) (hc : ck X = fun _ => BitVec.ofNat 32 k.val) (p : Fin 608) (d : Fin 64) :
    (row X (ix2 p d) : EReal) = (MR X).gated k.val (fun p d n => nst X (ix3 p d n)) p d := by
  unfold row
  rw [gat_apply]
  have h1 : ∀ (Y : FVec Ideal S256x608x64 .f32) q e, at64 Y (ck X) (ix2 q e) = Y (ix3 k q e) := fun Y q e => sl64 Y _ k hc q e
  have h2 : ∀ (Y : FVec Ideal S256x608x16 .f32) q e, at16 Y (ck X) (ix2 q e) = Y (ix3 k q e) := fun Y q e => sl16 Y _ k hc q e
  simp only [h1, h2, gcn3_apply]
  unfold Mdl.gated Mdl.rd MR
  dsimp only
  rw [ofNat_val]

def nys (X : Val) : FVec Ideal S256x608x64 .f32 :=
  Host.dynamicUpdateSlice (cy X) (broadcastInDim S1x608x64 ![1, 2] bcast_S608x64_S1x608x64_1_2 (row X)) (fun k => (((![ck X, constantI S_ 32 0#32, constantI S_ 32 0#32] : Fin 3 → (⟨S_, .i32⟩ : BufTy).Contents (Elt Ideal))) k (Shape.Idx.first h_S_)).toInt) updateFits_S256x608x64_S1x608x64

theorem v18_eq (X : Val) : step_main_v52_18 (F := Ideal) X = nys X := rfl

theorem nys_apply (X : Val) (k : Fin 256) (hc : ck X = fun _ => BitVec.ofNat 32 k.val) (T : Fin 256) (p : Fin 608) (d : Fin 64) :
    nys X (ix3 T p d) = if T = k then row X (ix2 p d) else cy X (ix3 T p d) := by
  have hb : (BitVec.ofNat 32 k.val).toInt = (k.val : Int) := by
    have := k.isLt
    rw [BitVec.toInt_eq_toNat_of_lt (by rw [BitVec.toNat_ofNat]; omega), BitVec.toNat_ofNat]; omega
  have hs : S256x608x64.Slices (![k.val, 0, 0]) S1x608x64 := ⟨rfl, fun a => by
    have := k.isLt
    match a with
    | ⟨0, _⟩ => show k.val + 1 ≤ 256; omega
    | ⟨1, _⟩ => show 0 + 608 ≤ 608; omega
    | ⟨2, _⟩ => show 0 + 64 ≤ 64; omega⟩
  unfold nys
  rw [WordCmp.dynamicUpdateSlice_eq_update _ _ _ _ (![k.val, 0, 0]) hs (fun a => by
    rw [hc]
    match a with
    | ⟨0, _⟩ => exact hb
    | ⟨1, _⟩ => rfl
    | ⟨2, _⟩ => rfl)]
  unfold updateSlice
  by_cases h : T = k
  · subst h
    rw [if_pos rfl, dif_pos (fun a => by
      match a with
      | ⟨0, _⟩ => exact ⟨Nat.le_refl _, Nat.lt_succ_self _⟩
      | ⟨1, _⟩ => exact ⟨Nat.zero_le _, by show p.val < 0 + 608; omega⟩
      | ⟨2, _⟩ => exact ⟨Nat.zero_le _, by show d.val < 0 + 64; omega⟩)]
    generalize row X = g
    pointwise
  · rw [if_neg h, dif_neg (fun q => by
      have q0 := q 0
      have q1 : k.val ≤ T.val := q0.1
      have q2 : T.val < k.val + 1 := q0.2
      exact h (Fin.ext (by omega)))]

/-! ### All the steps -/

/-- What holds after `k` steps from `X0`. -/
structure Inv (X0 : Val) (k : ℕ) (X : Val) : Prop where
  model : MR X = MR X0
  ctr : ck X = fun _ => BitVec.ofNat 32 k
  st : ∀ p d n, cs X (ix3 p d n) = (MR X0).st k p d n
  ys : ∀ (T : Fin 256) p d, T.val < k → cy X (ix3 T p d) = (MR X0).gated T.val ((MR X0).st (T.val + 1)) p d

theorem STEP_arg9 (X : Val) : STEP X (Proc.devRef .tc main_arg9) = X (Proc.devRef .tc main_arg9) := by
  unfold STEP
  rw [Function.update_of_ne (StableHlo.devRef_ne_of_ne (by decide)), Function.update_of_ne (StableHlo.devRef_ne_of_ne (by decide)), Function.update_of_ne (StableHlo.devRef_ne_of_ne (by decide))]

theorem MR_STEP (X : Val) : MR (STEP X) = MR X := by
  unfold MR cdt cB cC cu cz cA cgA cnrm csrc cdst cbA cgB cbB cgC cbC cD cow
  rw [STEP_main_v52_0, STEP_main_v52_1, STEP_main_v52_2, STEP_main_v52_3, STEP_main_v52_4, STEP_main_v52_5, STEP_main_v52_6, STEP_main_v52_7,
    STEP_main_v52_8, STEP_main_v52_9, STEP_main_v52_10, STEP_main_v52_11, STEP_main_v52_12, STEP_main_v52_13, STEP_main_v52_14, STEP_main_v52_15, STEP_arg9]

theorem Inv.next {X0 X : Val} {k : ℕ} (h : Inv X0 k X) (hk : k < 256) : Inv X0 (k + 1) (STEP X) := by
  have hcs : cs (STEP X) = nst X := by
    unfold cs
    rw [STEP_main_v52_17]
    exact v111_eq X
  have hcy : cy (STEP X) = nys X := by
    unfold cy
    rw [STEP_main_v52_18]
    exact v18_eq X
  have hn : (fun p d n => nst X (ix3 p d n)) = (MR X0).st (k + 1) := by
    funext p d n
    refine (nst_apply X ⟨k, hk⟩ h.ctr p d n).trans ?_
    rw [h.model]
    exact congrArg (fun s => (MR X0).step k s p d n) (funext fun p => funext fun d => funext fun n => h.st p d n)
  refine ⟨(MR_STEP X).trans h.model, ?_, fun p d n => ?_, fun T p d hT => ?_⟩
  · unfold ck
    rw [STEP_main_v52_16]
    have e : step_main_v52_16 X = addi (ck X) (constantI S_ 32 1#32) := rfl
    rw [e, h.ctr]
    funext y
    show BitVec.ofNat 32 k + 1#32 = BitVec.ofNat 32 (k + 1)
    rw [BitVec.ofNat_add]
  · rw [hcs]
    exact congrFun (congrFun (congrFun hn p) d) n
  · rw [hcy, nys_apply X ⟨k, hk⟩ h.ctr]
    by_cases e : T = ⟨k, hk⟩
    · rw [if_pos e, row_apply X ⟨k, hk⟩ h.ctr, h.model, hn]
      subst e
      rfl
    · rw [if_neg e]
      exact h.ys T p d (by
        have : T.val ≠ k := fun q => e (Fin.ext q)
        omega)

theorem Inv.iter {X0 : Val} (h : Inv X0 0 X0) : ∀ k, k ≤ 256 → Inv X0 k (STEP^[k] X0)
  | 0, _ => h
  | k + 1, hk => by
    rw [Function.iterate_succ_apply']
    exact (Inv.iter h k (by omega)).next (by omega)

theorem out_entry (X0 : Val) (hc : ck X0 = fun _ => 0#32) (hs : ∀ p d n, (cs X0 (ix3 p d n) : EReal) = 0) (p : Fin 608) (T : Fin 256) (o : Fin 32) :
    ((out_main_v54 (F := Ideal) (STEP^[256] X0) : FVec Ideal S608x256x32 .f32) (ix3 p T o) : EReal) = (MR X0).out T.val p o := by
  have h0 : Inv X0 0 X0 := ⟨rfl, hc, hs, fun T p d h => absurd h (Nat.not_lt_zero _)⟩
  have h := h0.iter 256 (Nat.le_refl _)
  generalize STEP^[256] X0 = X at h ⊢
  have e : (out_main_v54 (F := Ideal) X : FVec Ideal S608x256x32 .f32)
      = Host.dotGeneral dot_S608x256x64_S32x64_S608x256x32_2_1_01_0_n_n none (transpose S608x256x64 [1, 0, 2] (cy X) transposes_S256x608x64_S608x256x64_1_0_2) (cow X) := rfl
  rw [e]
  have h2 : ∀ d, (cow X (ix2 o d) : EReal) = (MR X0).ow d o := fun d => by rw [← h.model]; rfl
  refine Eq.trans (b := ∑ d : Fin 64, (cy X (ix3 T p d) : EReal) * cow X (ix2 o d)) ?_ ?_
  · pointwise
  · unfold Mdl.out
    exact Finset.sum_congr rfl fun d _ => congrArg₂ (· * ·) (h.ys T p d T.isLt) (h2 d)

end Cert.Proof.Rf
-- ==== Proof.RHost.lean ====
module

public import proofs.«01_k».proof.Proof.Ref

@[expose] public section

set_option maxRecDepth 8192

/-! What the reference's loop carries at its entry, entry by entry, from the arguments. -/

noncomputable section

namespace Cert.Proof.Rf

open Idealize.ShloMosaic Idealize.ShloMosaic.TcCoe
open Cert.ReferenceIdeal Cert.ReferenceIdeal.Gen Cert.ReferenceIdeal.Value

/-! ### The arguments, at their types -/

def xin (V : Val) : FVec Ideal S608x256x32 .f32 := V (Proc.devRef .tc main_arg0)
def edg (V : Val) : IVec S2x10944 32 := V (Proc.devRef .tc main_arg1)
def wgt (V : Val) : FVec Ideal S10944 .f32 := V (Proc.devRef .tc main_arg2)
def win (V : Val) : FVec Ideal S128x32 .f32 := V (Proc.devRef .tc main_arg3)
def xpj (V : Val) : FVec Ideal S34x64 .f32 := V (Proc.devRef .tc main_arg4)
def dtw (V : Val) : FVec Ideal S64x2 .f32 := V (Proc.devRef .tc main_arg5)
def dtb (V : Val) : FVec Ideal S64 .f32 := V (Proc.devRef .tc main_arg6)
def alog (V : Val) : FVec Ideal S64x16 .f32 := V (Proc.devRef .tc main_arg7)
def dsk (V : Val) : FVec Ideal S64 .f32 := V (Proc.devRef .tc main_arg8)

theorem k0 (V : Val) : K V main_arg0 = V (Proc.devRef .tc main_arg0) := K_arg V _ (by decide +kernel)
theorem k1 (V : Val) : K V main_arg1 = V (Proc.devRef .tc main_arg1) := K_arg V _ (by decide +kernel)
theorem k2 (V : Val) : K V main_arg2 = V (Proc.devRef .tc main_arg2) := K_arg V _ (by decide +kernel)
theorem k3 (V : Val) : K V main_arg3 = V (Proc.devRef .tc main_arg3) := K_arg V _ (by decide +kernel)
theorem k4 (V : Val) : K V main_arg4 = V (Proc.devRef .tc main_arg4) := K_arg V _ (by decide +kernel)
theorem k5 (V : Val) : K V main_arg5 = V (Proc.devRef .tc main_arg5) := K_arg V _ (by decide +kernel)
theorem k6 (V : Val) : K V main_arg6 = V (Proc.devRef .tc main_arg6) := K_arg V _ (by decide +kernel)
theorem k7 (V : Val) : K V main_arg7 = V (Proc.devRef .tc main_arg7) := K_arg V _ (by decide +kernel)
theorem k8 (V : Val) : K V main_arg8 = V (Proc.devRef .tc main_arg8) := K_arg V _ (by decide +kernel)
theorem k9 (V : Val) : K V main_arg9 = V (Proc.devRef .tc main_arg9) := K_arg V _ (by decide +kernel)
theorem k10 (V : Val) : K V main_arg10 = V (Proc.devRef .tc main_arg10) := K_arg V _ (by decide +kernel)
theorem k11 (V : Val) : K V main_arg11 = V (Proc.devRef .tc main_arg11) := K_arg V _ (by decide +kernel)
theorem k12 (V : Val) : K V main_arg12 = V (Proc.devRef .tc main_arg12) := K_arg V _ (by decide +kernel)
theorem k13 (V : Val) : K V main_arg13 = V (Proc.devRef .tc main_arg13) := K_arg V _ (by decide +kernel)
theorem k14 (V : Val) : K V main_arg14 = V (Proc.devRef .tc main_arg14) := K_arg V _ (by decide +kernel)
theorem k15 (V : Val) : K V main_arg15 = V (Proc.devRef .tc main_arg15) := K_arg V _ (by decide +kernel)

/-- The contents the loop enters with. -/
def X0 (V : Val) : Val := StableHlo.after ops0 V

theorem X0_at (V : Val) (r : Ref sig .tc) : X0 V (Proc.devRef .tc r) = K V r := rfl

theorem entry_eq (m : (ℓ : Loc nD τ sig) → Buf (Elt Ideal) ℓ) (c : Dev nD) : StableHlo.entryContents preI m c = X0 (fun b => m (c, b)) := by
  simp only [StableHlo.entryContents, StableHlo.afterL_cons, StableHlo.afterL_nil]
  unfold X0 ops0
  simp only [List.flatten_cons, List.flatten_nil, List.append_nil, StableHlo.after_append]

/-! ### The projections -/

/-- `u` at node `p`, time `T`, channel `d`. -/
def uE (V : Val) (T : Fin 256) (p : Fin 608) (d : Fin 64) : EReal :=
  ∑ a : Fin 32, (xin V (ix3 p T a) : EReal) * win V (ix2 ⟨d.val, by omega⟩ a)
/-- `z` at node `p`, time `T`, channel `d`. -/
def zE (V : Val) (T : Fin 256) (p : Fin 608) (d : Fin 64) : EReal :=
  ∑ a : Fin 32, (xin V (ix3 p T a) : EReal) * win V (ix2 ⟨64 + d.val, by omega⟩ a)

theorem cu_apply (V : Val) (T : Fin 256) (p : Fin 608) (d : Fin 64) : (cu (X0 V) (ix3 T p d) : EReal) = uE V T p d := by
  have e : cu (X0 V) = transpose S256x608x64 [1, 0, 2] (extractStridedSlice S608x256x64 ![0, 0, 0] (Host.dotGeneral dot_S608x256x32_S128x32_S608x256x128_2_1_01_0_n_n none (xin V) (win V)) slices_S608x256x128_S608x256x64_0_0_0) transposes_S608x256x64_S256x608x64_1_0_2 := by
    unfold cu xin win
    rw [X0_at, e_v52_3, e_v48, e_v32, e_v31, k0, k3]
    rfl
  rw [e]
  unfold uE
  pointwise

theorem cz_apply (V : Val) (T : Fin 256) (p : Fin 608) (d : Fin 64) : (cz (X0 V) (ix3 T p d) : EReal) = zE V T p d := by
  have e : cz (X0 V) = transpose S256x608x64 [1, 0, 2] (extractStridedSlice S608x256x64 ![0, 0, 64] (Host.dotGeneral dot_S608x256x32_S128x32_S608x256x128_2_1_01_0_n_n none (xin V) (win V)) slices_S608x256x128_S608x256x64_0_0_64) transposes_S608x256x64_S256x608x64_1_0_2 := by
    unfold cz xin win
    rw [X0_at, e_v52_4, e_v49, e_v33, e_v31, k0, k3]
    rfl
  rw [e]
  unfold zE
  pointwise

def rv34 (V : Val) : FVec Ideal S608x256x34 .f32 :=
  Host.dotGeneral dot_S608x256x64_S34x64_S608x256x34_2_1_01_0_n_n none (extractStridedSlice S608x256x64 ![0, 0, 0] (Host.dotGeneral dot_S608x256x32_S128x32_S608x256x128_2_1_01_0_n_n none (xin V) (win V)) slices_S608x256x128_S608x256x64_0_0_0) (xpj V)

theorem K34 (V : Val) : K V main_v34 = rv34 V := by
  unfold rv34 xin win xpj
  rw [e_v34, e_v32, e_v31, k0, k3, k4]

theorem rv34_apply (V : Val) (p : Fin 608) (T : Fin 256) (k : Fin 34) :
    (rv34 V (ix3 p T k) : EReal) = ∑ e : Fin 64, uE V T p e * xpj V (ix2 k e) := by
  unfold rv34 uE
  pointwise

theorem cB_apply (V : Val) (T : Fin 256) (p : Fin 608) (n : Fin 16) :
    (cB (X0 V) (ix3 T p n) : EReal) = ∑ e : Fin 64, uE V T p e * xpj V (ix2 ⟨2 + n.val, by omega⟩ e) := by
  have e : cB (X0 V) = transpose S256x608x16 [1, 0, 2] (extractStridedSlice S608x256x16 ![0, 0, 2] (rv34 V) slices_S608x256x34_S608x256x16_0_0_2) transposes_S608x256x16_S256x608x16_1_0_2 := by
    unfold cB
    rw [X0_at, e_v52_1, e_v46, e_v36, K34]
    rfl
  rw [e, ← rv34_apply]
  generalize rv34 V = g
  pointwise

theorem cC_apply (V : Val) (T : Fin 256) (p : Fin 608) (n : Fin 16) :
    (cC (X0 V) (ix3 T p n) : EReal) = ∑ e : Fin 64, uE V T p e * xpj V (ix2 ⟨18 + n.val, by omega⟩ e) := by
  have e : cC (X0 V) = transpose S256x608x16 [1, 0, 2] (extractStridedSlice S608x256x16 ![0, 0, 18] (rv34 V) slices_S608x256x34_S608x256x16_0_0_18) transposes_S608x256x16_S256x608x16_1_0_2 := by
    unfold cC
    rw [X0_at, e_v52_2, e_v47, e_v37, K34]
    rfl
  rw [e, ← rv34_apply]
  generalize rv34 V = g
  pointwise

def rv41 (V : Val) : FVec Ideal S608x256x64 .f32 :=
  addf (Host.dotGeneral dot_S608x256x2_S64x2_S608x256x64_2_1_01_0_n_n none (extractStridedSlice S608x256x2 ![0, 0, 0] (rv34 V) slices_S608x256x34_S608x256x2_0_0_0) (dtw V)) (broadcastInDim S608x256x64 ![0, 1, 2] bcast_S1x1x64_S608x256x64_0_1_2 (broadcastInDim S1x1x64 ![2] bcast_S64_S1x1x64_2 (dtb V)))

theorem K41 (V : Val) : K V main_v41 = rv41 V := by
  unfold rv41 dtw dtb
  rw [e_v41, e_v38, e_v35, K34, e_v40, e_v39, k5, k6]

/-- The time step's argument. -/
def dE (V : Val) (T : Fin 256) (p : Fin 608) (d : Fin 64) : EReal :=
  (∑ ρ : Fin 2, (∑ e : Fin 64, uE V T p e * xpj V (ix2 ⟨ρ.val, by omega⟩ e)) * dtw V (ix2 d ρ)) + dtb V (ix1 d)

theorem rv41_apply (V : Val) (p : Fin 608) (T : Fin 256) (d : Fin 64) : (rv41 V (ix3 p T d) : EReal) = dE V T p d := by
  unfold rv41 dE
  simp only [← rv34_apply]
  generalize rv34 V = g
  pointwise

/-- The softplus of the host's lines. -/
def rsp (x : FVec Ideal S608x256x64 .f32) : FVec Ideal S608x256x64 .f32 :=
  select (cmpf .une (subf x (broadcastInDim S608x256x64 ![] bcast_S_S608x256x64 (constant S_ .f32 0x00000000#32))) (subf x (broadcastInDim S608x256x64 ![] bcast_S_S608x256x64 (constant S_ .f32 0x00000000#32))))
    (addf x (broadcastInDim S608x256x64 ![] bcast_S_S608x256x64 (constant S_ .f32 0x00000000#32)))
    (addf (maximumf x (broadcastInDim S608x256x64 ![] bcast_S_S608x256x64 (constant S_ .f32 0x00000000#32))) (Host.log1p (Host.exp (Host.negf (Host.absf (subf x (broadcastInDim S608x256x64 ![] bcast_S_S608x256x64 (constant S_ .f32 0x00000000#32))))))))

theorem K42 (V : Val) : K V main_v42 = rsp (rv41 V) := by
  unfold rsp
  rw [e_v42, e_call0_v4, e_call0_v6, e_call0_v11, e_call0_v1, e_call0_v10, e_call0_v9, e_call0_v8, e_call0_v7, e_call0_v3, e_call0_v2, e_call0_v0, e_call0_v5, e_call0_cst, K41]

theorem rsp_apply (x : FVec Ideal S608x256x64 .f32) (p : Fin 608) (T : Fin 256) (d : Fin 64) :
    (rsp x (ix3 p T d) : EReal) = Trip.spl (x (ix3 p T d)) := by
  unfold rsp Trip.spl
  pointwise
  exact if_neg fun h => h rfl

theorem cdt_apply (V : Val) (T : Fin 256) (p : Fin 608) (d : Fin 64) : (cdt (X0 V) (ix3 T p d) : EReal) = Trip.spl (dE V T p d) := by
  have e : cdt (X0 V) = transpose S256x608x64 [1, 0, 2] (rsp (rv41 V)) transposes_S608x256x64_S256x608x64_1_0_2 := by
    unfold cdt
    rw [X0_at, e_v52_0, e_v45, K42]
    rfl
  rw [e, ← rv41_apply, ← rsp_apply]
  generalize rsp (rv41 V) = g
  pointwise

theorem cA_apply (V : Val) (d : Fin 64) (n : Fin 16) : (cA (X0 V) (ix2 d n) : EReal) = -(Ideal.exp (alog V (ix2 d n))) := by
  have e : cA (X0 V) = Host.negf (Host.exp (alog V)) := by
    unfold cA alog
    rw [X0_at, e_v52_5, e_v44, e_v43, k7]
    rfl
  rw [e]
  pointwise

theorem cs_apply (V : Val) (p : Fin 608) (d : Fin 64) (n : Fin 16) : (cs (X0 V) (ix3 p d n) : EReal) = 0 := by
  have e : cs (X0 V) = broadcastInDim S608x64x16 ![] bcast_S_S608x64x16 (constant S_ .f32 0x00000000#32) := by
    unfold cs
    rw [X0_at, e_v52_17, e_v50, e_cst_5]
    rfl
  rw [e]
  exact Ideal.ofBits_zero .f32

theorem ck_eq (V : Val) : ck (X0 V) = fun _ => 0#32 := by
  unfold ck
  rw [X0_at, e_v52_16, e_c_7]
  rfl

end Cert.Proof.Rf
-- ==== Proof.Graph.lean ====
module

public import proofs.«01_k».proof.Proof.RHost

@[expose] public section

set_option maxRecDepth 8192

/-! The graph: 32 complete graphs of 19 nodes, one edge per ordered pair and one loop per node. A sum over the edges
    into a node is a sum over the nodes of its graph. -/

noncomputable section

namespace Cert.Proof

open Idealize.ShloMosaic Idealize.ShloMosaic.TcCoe

/-- The edge from place `a` of node `p`'s graph into `p`, numbered as the program numbers it: loops last. -/
def edgN (p a : ℕ) : ℕ :=
  if a = p % 19 then 10944 + p else 342 * (p / 19) + 18 * a + (if p % 19 < a then p % 19 else p % 19 - 1)

/-- Where an edge starts. -/
def srcN (e : ℕ) : ℕ := if e < 10944 then 19 * (e / 342) + e % 342 / 18 else e - 10944

/-- Where an edge ends. -/
def dstN (e : ℕ) : ℕ :=
  if e < 10944 then 19 * (e / 342) + (if e % 18 < e % 342 / 18 then e % 18 else e % 18 + 1) else e - 10944

theorem edgN_lt {p a : ℕ} (hp : p < 608) (ha : a < 19) : edgN p a < 11552 := by
  unfold edgN
  split
  · omega
  · split <;> omega

theorem edgN_lt' {p a : ℕ} (hp : p < 608) (ha : a < 19) (h : a ≠ p % 19) : edgN p a < 10944 := by
  unfold edgN
  rw [if_neg h]
  split <;> omega

theorem digits {e g a x : ℕ} (h : e = 342 * g + 18 * a + x) (ha : a < 19) (hx : x < 18) :
    e / 342 = g ∧ e % 342 / 18 = a ∧ e % 18 = x := by
  have h1 : e / 342 = g := by omega
  have h2 : e % 342 = 18 * a + x := by omega
  refine ⟨h1, ?_, by omega⟩
  rw [h2]; omega

theorem edgN_digits {p a : ℕ} (ha : a < 19) (h : a ≠ p % 19) :
    edgN p a / 342 = p / 19 ∧ edgN p a % 342 / 18 = a ∧ edgN p a % 18 = (if p % 19 < a then p % 19 else p % 19 - 1) := by
  refine digits ?_ ha (by split <;> omega)
  unfold edgN
  rw [if_neg h]

theorem srcN_edgN {p a : ℕ} (hp : p < 608) (ha : a < 19) : srcN (edgN p a) = 19 * (p / 19) + a := by
  by_cases h : a = p % 19
  · unfold srcN edgN
    rw [if_pos h, if_neg (by omega)]
    omega
  · obtain ⟨h1, h2, _⟩ := edgN_digits ha h
    unfold srcN
    rw [if_pos (edgN_lt' hp ha h), h1, h2]

theorem dstN_edgN {p a : ℕ} (hp : p < 608) (ha : a < 19) : dstN (edgN p a) = p := by
  by_cases h : a = p % 19
  · unfold dstN edgN
    rw [if_pos h, if_neg (by omega)]
    omega
  · obtain ⟨h1, h2, h3⟩ := edgN_digits ha h
    unfold dstN
    rw [if_pos (edgN_lt' hp ha h), h1, h2, h3]
    by_cases q : p % 19 < a
    · rw [if_pos q, if_pos q]; omega
    · rw [if_neg q, if_neg (by omega)]; omega

theorem edgN_src {e : ℕ} (he : e < 11552) : edgN (dstN e) (srcN e % 19) = e := by
  unfold dstN srcN edgN
  by_cases h : e < 10944
  · simp only [if_pos h]
    by_cases q : e % 18 < e % 342 / 18
    · simp only [if_pos q]
      rw [if_neg (by omega), if_pos (by omega)]; omega
    · simp only [if_neg q]
      rw [if_neg (by omega), if_neg (by omega)]; omega
  · simp only [if_neg h]
    rw [if_pos trivial]; omega

/-- A sum over the edges into `p` is a sum over the places of its graph. -/
theorem sum_into (p : Fin 608) (f : Fin 11552 → EReal) :
    ∑ e ∈ Finset.univ.filter (fun e : Fin 11552 => dstN e.val = p.val), f e
      = ∑ a : Fin 19, f ⟨edgN p.val a.val, edgN_lt p.isLt a.isLt⟩ := by
  refine Finset.sum_nbij' (fun e => (⟨srcN e.val % 19, Nat.mod_lt _ (by omega)⟩ : Fin 19)) (fun a => ⟨edgN p.val a.val, edgN_lt p.isLt a.isLt⟩) ?_ ?_ ?_ ?_ ?_
  · intro e _; exact Finset.mem_univ _
  · intro a _
    exact Finset.mem_filter.2 ⟨Finset.mem_univ _, dstN_edgN p.isLt a.isLt⟩
  · intro e he
    have h := (Finset.mem_filter.1 he).2
    refine Fin.ext ?_
    show edgN p.val (srcN e.val % 19) = e.val
    rw [← h]; exact edgN_src e.isLt
  · intro a _
    refine Fin.ext ?_
    show srcN (edgN p.val a.val) % 19 = a.val
    rw [srcN_edgN p.isLt a.isLt]
    have := a.isLt
    omega
  · intro e he
    have h := (Finset.mem_filter.1 he).2
    refine congrArg f (Fin.ext ?_)
    show e.val = edgN p.val (srcN e.val % 19)
    rw [← h]; exact (edgN_src e.isLt).symm

/-! ### The normalised weights -/

/-- Node `a` of node `p`'s graph. -/
def mate (p : Fin 608) (a : Fin 19) : Fin 608 := ⟨19 * (p.val / 19) + a.val, by omega⟩

/-- The weight of the edge from place `a` into `p`; a loop weighs one. -/
def wE (w : Fin 10944 → EReal) (p : Fin 608) (a : Fin 19) : EReal :=
  if h : a.val = p.val % 19 then 1 else w ⟨edgN p.val a.val, edgN_lt' p.isLt a.isLt h⟩

/-- One over the root of a node's weighted degree. -/
def dvE (w : Fin 10944 → EReal) (p : Fin 608) : EReal :=
  Ideal.rsqrt (max (∑ a : Fin 19, wE w p a) (Ideal.ofBits .f32 0x2B8CBCCC#32))

/-- The aggregation at a node. -/
def agE (w : Fin 10944 → EReal) (h : Fin 608 → EReal) (p : Fin 608) : EReal :=
  ∑ a : Fin 19, (wE w p a * dvE w (mate p a) * dvE w p) * h (mate p a)

namespace Rf
open Cert.ReferenceIdeal Cert.ReferenceIdeal.Gen Cert.ReferenceIdeal.Value

/-- The edge list the graph's builder makes. -/
structure Edges (V : Val) : Prop where
  src : ∀ e : Fin 10944, edg V (ix2 (0 : Fin 2) e) = BitVec.ofNat 32 (srcN e.val)
  dst : ∀ e : Fin 10944, edg V (ix2 (1 : Fin 2) e) = BitVec.ofNat 32 (dstN e.val)

def rsrc (V : Val) : IVec S11552 32 :=
  concatenate S11552 0 [⟨S10944, shapeCast S10944 (extractStridedSlice S1x10944 ![0, 0] (edg V) slices_S2x10944_S1x10944_0_0) shapeCasts_S1x10944_S10944⟩, ⟨S608, iotaInDim S608 32 0⟩] concatenates_S10944_S608_S11552_d0
def rdst (V : Val) : IVec S11552 32 :=
  concatenate S11552 0 [⟨S10944, shapeCast S10944 (extractStridedSlice S1x10944 ![1, 0] (edg V) slices_S2x10944_S1x10944_1_0) shapeCasts_S1x10944_S10944⟩, ⟨S608, iotaInDim S608 32 0⟩] concatenates_S10944_S608_S11552_d0
def rw8 (V : Val) : FVec Ideal S11552 .f32 :=
  concatenate S11552 0 [⟨S10944, wgt V⟩, ⟨S608, broadcastInDim S608 ![] bcast_S_S608 (constant S_ .f32 0x3F800000#32)⟩] concatenates_S10944_S608_S11552_d0

theorem K3 (V : Val) : K V main_v3 = rsrc V := by
  unfold rsrc edg
  rw [e_v3, e_v2, e_v1, e_v0, k1]
theorem K6 (V : Val) : K V main_v6 = rdst V := by
  unfold rdst edg
  rw [e_v6, e_v5, e_v4, e_v0, k1]
theorem K8 (V : Val) : K V main_v8 = rw8 V := by
  unfold rw8 wgt
  rw [e_v8, e_v7, e_cst, k2]

theorem rsrc_apply {V : Val} (H : Edges V) (e : Fin 11552) : rsrc V (ix1 e) = BitVec.ofNat 32 (srcN e.val) := by
  refine Eq.trans (b := if h : e.val < 10944 then edg V (ix2 (0 : Fin 2) ⟨e.val, h⟩) else BitVec.ofNat 32 (e.val - 10944)) ?_ ?_
  · unfold rsrc
    pointwise
  · by_cases h : e.val < 10944
    · rw [dif_pos h, H.src]
    · rw [dif_neg h]
      unfold srcN
      rw [if_neg h]

theorem rdst_apply {V : Val} (H : Edges V) (e : Fin 11552) : rdst V (ix1 e) = BitVec.ofNat 32 (dstN e.val) := by
  refine Eq.trans (b := if h : e.val < 10944 then edg V (ix2 (1 : Fin 2) ⟨e.val, h⟩) else BitVec.ofNat 32 (e.val - 10944)) ?_ ?_
  · unfold rdst
    pointwise
  · by_cases h : e.val < 10944
    · rw [dif_pos h, H.dst]
    · rw [dif_neg h]
      unfold dstN
      rw [if_neg h]

theorem rw8_apply (V : Val) (e : Fin 11552) : (rw8 V (ix1 e) : EReal) = if h : e.val < 10944 then (wgt V (ix1 ⟨e.val, h⟩) : EReal) else 1 := by
  unfold rw8
  pointwise

theorem srcN_lt {e : ℕ} (he : e < 11552) : srcN e < 608 := by
  unfold srcN; split <;> omega
theorem dstN_lt {e : ℕ} (he : e < 11552) : dstN e < 608 := by
  unfold dstN; split
  · split <;> omega
  · omega

theorem toInt_small {k : ℕ} (h : k < 608) : (BitVec.ofNat 32 k).toInt = (k : Int) := by
  rw [BitVec.toInt_eq_toNat_of_lt (by rw [BitVec.toNat_ofNat]; omega), BitVec.toNat_ofNat]; omega

theorem into_eq {V : Val} (H : Edges V) (p : Fin 608) :
    into (colm (rdst V)) p = Finset.univ.filter (fun e : Fin 11552 => dstN e.val = p.val) := by
  unfold into
  refine Finset.filter_congr fun e _ => ?_
  rw [colm_apply, rdst_apply H, toInt_small (dstN_lt e.isLt)]
  exact Nat.cast_inj

/-- Wrapping leaves an index that is not negative. -/
theorem wrap_small (s : IVec S11552 32) (e : Fin 11552) {k : ℕ} (hk : k < 608) (h : s (ix1 e) = BitVec.ofNat 32 k) (b : Fin 1) :
    wrap s (ix2 e b) = BitVec.ofNat 32 k := by
  have h1 : wrap s (ix2 e b) = Scalar.select (IntOp.cmpi .slt (s (ix1 e)) 0#32) (IntOp.addi (s (ix1 e)) 608#32) (s (ix1 e)) := by
    unfold wrap
    pointwise
  have h2 : (BitVec.ofNat 32 k).slt 0#32 = false := by
    rw [BitVec.slt, toInt_small hk]
    simp
  have h3 : IntOp.cmpi .slt (BitVec.ofNat 32 k) 0#32 = 0#1 := by
    show BitVec.ofBool ((BitVec.ofNat 32 k).slt 0#32) = 0#1
    rw [h2]; rfl
  rw [h1, h, h3]
  rfl

theorem frm_small (s : IVec S11552 32) (e : Fin 11552) {k : ℕ} (hk : k < 608) (h : s (ix1 e) = BitVec.ofNat 32 k) : frm s e = ⟨k, hk⟩ := by
  refine Fin.ext ?_
  show min (wrap s (ix2 e (0 : Fin 1))).toInt.toNat 607 = k
  rw [wrap_small s e hk h, toInt_small hk]
  show min k 607 = k
  omega

theorem w8_edg (V : Val) (p : Fin 608) (a : Fin 19) :
    (rw8 V (ix1 ⟨edgN p.val a.val, edgN_lt p.isLt a.isLt⟩) : EReal) = wE (fun e => wgt V (ix1 e)) p a := by
  rw [rw8_apply]
  unfold wE
  by_cases h : a.val = p.val % 19
  · rw [dif_pos h, dif_neg]
    show ¬ edgN p.val a.val < 10944
    unfold edgN
    rw [if_pos h]; omega
  · rw [dif_neg h, dif_pos (edgN_lt' p.isLt a.isLt h)]

/-- One over the root of the degree, as the host's lines compute it. -/
def rdv (V : Val) : FVec Ideal S608 .f32 :=
  Host.rsqrt (maximumf (Host.scatterAdd scatter_S608_S11552x1_S11552_n_0_0_1 (broadcastInDim S608 ![] bcast_S_S608 (constant S_ .f32 0x00000000#32)) (colm (rdst V)) (rw8 V)) (broadcastInDim S608 ![] bcast_S_S608 (constant S_ .f32 0x2B8CBCCC#32)))

theorem K14 (V : Val) : K V main_v14 = rdv V := by
  unfold rdv colm
  rw [e_v14, e_v13, e_v12, e_cst_1, e_v11, e_v9, e_cst_0, e_v10, K6, K8]

theorem rdv_apply {V : Val} (H : Edges V) (p : Fin 608) : (rdv V (ix1 p) : EReal) = dvE (fun e => wgt V (ix1 e)) p := by
  have h1 : (Host.scatterAdd scatter_S608_S11552x1_S11552_n_0_0_1 (broadcastInDim S608 ![] bcast_S_S608 (constant S_ .f32 0x00000000#32)) (colm (rdst V)) (rw8 V) (ix1 p) : EReal)
      = ∑ a : Fin 19, wE (fun e => wgt V (ix1 e)) p a := by
    refine (scat1 _ _ _ p).trans ?_
    refine (congrArg₂ (· + ·) (show (_ : EReal) = 0 from Ideal.ofBits_zero .f32) rfl).trans ((zero_add _).trans ?_)
    rw [into_eq H, sum_into]
    exact Finset.sum_congr rfl fun a _ => w8_edg V p a
  unfold rdv dvE
  rw [← h1]
  generalize Host.scatterAdd scatter_S608_S11552x1_S11552_n_0_0_1 (broadcastInDim S608 ![] bcast_S_S608 (constant S_ .f32 0x00000000#32)) (colm (rdst V)) (rw8 V) = g
  pointwise

def rnm (V : Val) : FVec Ideal S11552 .f32 :=
  mulf (mulf (rw8 V) (Host.gather gather_S608_S11552x1_S11552_n_0_n_n_0_1_1 (rdv V) (wrap (rsrc V)))) (Host.gather gather_S608_S11552x1_S11552_n_0_n_n_0_1_1 (rdv V) (wrap (rdst V)))

theorem K30 (V : Val) : K V main_v30 = rnm V := by
  unfold rnm wrap
  rw [e_v30, e_v22, e_v21, e_v29, e_v20, e_v28, e_v19, e_v27, e_v16, e_v24, e_v15, e_v23, e_v18, e_v26, e_v17, e_v25, e_c, e_c_2, e_c_3, e_c_4, K14, K8, K3, K6]

theorem rnm_edg {V : Val} (H : Edges V) (p : Fin 608) (a : Fin 19) :
    (rnm V (ix1 ⟨edgN p.val a.val, edgN_lt p.isLt a.isLt⟩) : EReal)
      = wE (fun e => wgt V (ix1 e)) p a * dvE (fun e => wgt V (ix1 e)) (mate p a) * dvE (fun e => wgt V (ix1 e)) p := by
  have hg : ∀ (s : IVec S11552 32) (e : Fin 11552) (k : Fin 608), s (ix1 e) = BitVec.ofNat 32 k.val →
      (Host.gather gather_S608_S11552x1_S11552_n_0_n_n_0_1_1 (rdv V) (wrap s) (ix1 e) : EReal) = dvE (fun e => wgt V (ix1 e)) k := by
    intro s e k h
    rw [gather1, ← rdv_apply H]
    exact congrArg (fun z => (rdv V (ix1 z) : EReal)) (frm_small s e k.isLt h)
  unfold rnm
  refine (congrArg₂ (· * ·) (congrArg₂ (· * ·) (w8_edg V p a) (hg _ _ (mate p a) ?_)) (hg _ _ p ?_) : (_ : EReal) = _)
  · rw [rsrc_apply H]
    exact congrArg (BitVec.ofNat 32) (srcN_edgN p.isLt a.isLt)
  · rw [rdst_apply H]
    exact congrArg (BitVec.ofNat 32) (dstN_edgN p.isLt a.isLt)

/-- The reference's aggregation. -/
theorem agg_eq {V : Val} (H : Edges V) (h : Fin 608 → EReal) (p : Fin 608) :
    aggr (cnrm (X0 V)) (csrc (X0 V)) (cdst (X0 V)) h p = agE (fun e => wgt V (ix1 e)) h p := by
  have h1 : cnrm (X0 V) = rnm V := by unfold cnrm; rw [X0_at, e_v52_7, K30]; rfl
  have h2 : csrc (X0 V) = rsrc V := by unfold csrc; rw [X0_at, e_v52_8, K3]; rfl
  have h3 : cdst (X0 V) = rdst V := by unfold cdst; rw [X0_at, e_v52_9, K6]; rfl
  rw [h1, h2, h3]
  unfold aggr agE
  rw [into_eq H, sum_into]
  refine Finset.sum_congr rfl fun a _ => congrArg₂ (· * ·) (rnm_edg H p a) (congrArg h ?_)
  refine (frm_small (rsrc V) _ (k := (mate p a).val) (mate p a).isLt ?_).trans (Fin.ext rfl)
  rw [rsrc_apply H]
  exact congrArg (BitVec.ofNat 32) (srcN_edgN p.isLt a.isLt)

end Rf
end Cert.Proof
-- ==== Proof.KAdj.lean ====
module

public import proofs.«01_k».proof.Proof.KTab
public import proofs.«01_k».proof.Proof.Graph

@[expose] public section

set_option maxRecDepth 8192

/-! The kernel's normalised adjacency: eight blocks of 19 nodes along the diagonal of each cluster's matrix. A row
    against the cluster's features is the aggregation over the node's graph. -/

noncomputable section

namespace Cert.Proof.KH

open Idealize.ShloMosaic Idealize.ShloMosaic.TcCoe
open Cert.KernelIdeal Cert.KernelIdeal.Gen

theorem row_word : ∀ t : Fin 342, Scalar.select 0#1 (IntOp.addi (lit0 (S342.rowMajor (ix1 t))) 19#32) (lit0 (S342.rowMajor (ix1 t))) = BitVec.ofNat 32 (t.val / 18) := by
  decide +kernel

theorem col_word : ∀ t : Fin 342, Scalar.select 0#1 (IntOp.addi (lit1 (S342.rowMajor (ix1 t))) 19#32) (lit1 (S342.rowMajor (ix1 t))) = BitVec.ofNat 32 (if t.val % 18 < t.val / 18 then t.val % 18 else t.val % 18 + 1) := by
  decide +kernel

def rowT (t : Fin 342) : Fin 19 := ⟨t.val / 18, by omega⟩
def colT (t : Fin 342) : Fin 19 := ⟨if t.val % 18 < t.val / 18 then t.val % 18 else t.val % 18 + 1, by split <;> omega⟩

/-- The pairs of places, as the scatter reads them. -/
def prs (f g : IVec S342 32) : IVec S342x2 32 :=
  concatenate S342x2 1 [⟨S342x1, broadcastInDim S342x1 ![0] bcast_S342_S342x1_0 (select (constantI S342 1 0#1) (addi f (broadcastInDim S342 ![] bcast_S_S342 (constantI S_ 32 19#32))) f)⟩,
    ⟨S342x1, broadcastInDim S342x1 ![0] bcast_S342_S342x1_0 (select (constantI S342 1 0#1) (addi g (broadcastInDim S342 ![] bcast_S_S342 (constantI S_ 32 19#32))) g)⟩] concatenates_S342x1_S342x1_S342x2_d1

theorem prs_0 (f g : IVec S342 32) (t : Fin 342) : prs f g (ix2 t (0 : Fin 2)) = Scalar.select 0#1 (IntOp.addi (f (ix1 t)) 19#32) (f (ix1 t)) := by
  unfold prs
  pointwise

theorem prs_1 (f g : IVec S342 32) (t : Fin 342) : prs f g (ix2 t (1 : Fin 2)) = Scalar.select 0#1 (IntOp.addi (g (ix1 t)) 19#32) (g (ix1 t)) := by
  unfold prs
  pointwise

theorem c10_eq (V : Val) : (K V main_call0_v10 : IVec S342x2 32) = prs (fun i => lit0 (S342.rowMajor i)) (fun i => lit1 (S342.rowMajor i)) := by
  unfold prs
  rw [e_v10, e_v8, e_v9, e_v4, e_v7, e_v3, e_v6, e_v2, e_v5, e_c_0, e_c_2, e_c_3, e_c_4, e_c, e_c_1]

theorem toInt_small (n : ℕ) (h : n < 4096) : (BitVec.ofNat 32 n).toInt = (n : Int) := by
  rw [BitVec.toInt_eq_toNat_of_lt (by rw [BitVec.toNat_ofNat]; omega), BitVec.toNat_ofNat]
  omega

theorem c10_row (V : Val) (t : Fin 342) : ((K V main_call0_v10 : IVec S342x2 32) (ix2 t (0 : Fin 2))).toInt = ((rowT t).val : Int) := by
  rw [c10_eq, prs_0, row_word]
  exact toInt_small _ (by omega)

theorem c10_col (V : Val) (t : Fin 342) : ((K V main_call0_v10 : IVec S342x2 32) (ix2 t (1 : Fin 2))).toInt = ((colT t).val : Int) := by
  rw [c10_eq, prs_1, col_word]
  exact toInt_small _ (by split <;> omega)

theorem pair_inj (t t' : Fin 342) (h : rowT t = rowT t') (h' : colT t = colT t') : t = t' := by
  have e : t.val / 18 = t'.val / 18 := congrArg Fin.val h
  have e' : (if t.val % 18 < t.val / 18 then t.val % 18 else t.val % 18 + 1) = (if t'.val % 18 < t'.val / 18 then t'.val % 18 else t'.val % 18 + 1) := congrArg Fin.val h'
  refine Fin.ext ?_
  split at e' <;> split at e' <;> omega

/-- The edge between two different places. -/
def edT (a b : Fin 19) : Fin 342 := Fin.ofNat 342 (18 * a.val + (if b.val < a.val then b.val else b.val - 1))

def c1v (V : Val) : FVec Ideal S32x342 .f32 := K V main_call0_v1
theorem c1v_apply (V : Val) (g : Fin 32) (t : Fin 342) : c1v V (ix2 g t) = wgt V (ix1 ⟨342 * g.val + t.val, by omega⟩) := by
  have q : c1v V = shapeCast S32x342 (wgt V) shapeCasts_S10944_S32x342 := by
    unfold c1v
    rw [e_v1, k2]
  rw [q]
  pointwise
  refine congrArg (fun z => wgt V (ix1 z)) (Fin.ext ?_)
  show g.val * 342 + t.val = 342 * g.val + t.val
  omega

def c11 (V : Val) : FVec Ideal S32x19x19 .f32 := K V main_call0_v11
theorem c11_apply (V : Val) (g : Fin 32) (a b : Fin 19) :
    (c11 V (ix3 g a b) : EReal) = if a.val ≠ b.val then (c1v V (ix2 g (edT a b)) : EReal) else 0 := by
  have hv : (edT a b).val = (18 * a.val + (if b.val < a.val then b.val else b.val - 1)) % 342 := rfl
  unfold c11
  rw [e_v11]
  refine (set_pair (K V main_call0_v0) (K V main_call0_v10) (c1v V) rowT colT (c10_row V) (c10_col V) pair_inj g a b (edT a b) (a.val ≠ b.val) ?_ ?_).trans ?_
  · intro h
    by_cases q : b.val < a.val
    · rw [if_pos q] at hv
      refine ⟨Fin.ext ?_, Fin.ext ?_⟩
      · show (edT a b).val / 18 = a.val
        omega
      · show (if (edT a b).val % 18 < (edT a b).val / 18 then (edT a b).val % 18 else (edT a b).val % 18 + 1) = b.val
        split <;> omega
    · rw [if_neg q] at hv
      refine ⟨Fin.ext ?_, Fin.ext ?_⟩
      · show (edT a b).val / 18 = a.val
        omega
      · show (if (edT a b).val % 18 < (edT a b).val / 18 then (edT a b).val % 18 else (edT a b).val % 18 + 1) = b.val
        split <;> omega
  · intro t' h h' e
    have h1 : t'.val / 18 = a.val := congrArg Fin.val h
    have h2 : (if t'.val % 18 < t'.val / 18 then t'.val % 18 else t'.val % 18 + 1) = b.val := congrArg Fin.val h'
    split at h2 <;> omega
  · refine if_congr Iff.rfl rfl ?_
    rw [e_v0, e_cst]
    exact Ideal.ofBits_zero .f32

/-- The node at a place of a graph. -/
def nod (g : Fin 32) (b : Fin 19) : Fin 608 := ⟨19 * g.val + b.val, by omega⟩

def c20 (V : Val) : FVec Ideal S32x19x19 .f32 := K V main_call0_v20

/-- The places' own weights. -/
def eyeW : FVec Ideal S32x19x19 .f32 :=
  broadcastInDim S32x19x19 ![0, 1, 2] bcast_S1x19x19_S32x19x19_0_1_2 (broadcastInDim S1x19x19 ![1, 2] bcast_S19x19_S1x19x19_1_2 (uitofp .f32 (cmpi .eq (addi (iotaInDim S19x19 32 0) (broadcastInDim S19x19 ![] bcast_S_S19x19 (constantI S_ 32 0#32))) (iotaInDim S19x19 32 1))))

theorem eyeW_apply (g : Fin 32) (a b : Fin 19) : (eyeW (ix3 g a b) : EReal) = if a.val = b.val then 1 else 0 := by
  unfold eyeW
  refine Eq.trans ?_ (word_eq a.val b.val (by omega) (by omega))
  pointwise
  rw [show IntOp.addi (BitVec.ofNat 32 a.val) 0#32 = BitVec.ofNat 32 a.val from BitVec.add_zero _]

theorem c20_apply (V : Val) (g : Fin 32) (a b : Fin 19) :
    (c20 V (ix3 g a b) : EReal) = wE (fun e => (wgt V (ix1 e) : EReal)) (nod g b) a := by
  have q : c20 V = addf (c11 V) eyeW := by
    unfold c20 c11 eyeW
    rw [e_v20, e_v19, e_v18, e_v17, e_v16, e_v15, e_v12, e_v13, e_v14, e_c_5]
  have hn : (nod g b).val % 19 = b.val := by show (19 * g.val + b.val) % 19 = b.val; omega
  have hd : (nod g b).val / 19 = g.val := by show (19 * g.val + b.val) / 19 = g.val; omega
  rw [q]
  refine Eq.trans (b := (c11 V (ix3 g a b) : EReal) + (eyeW (ix3 g a b) : EReal)) rfl ?_
  rw [c11_apply, eyeW_apply]
  unfold wE
  by_cases h : a.val = b.val
  · rw [if_neg (by omega), if_pos h, dif_pos (by omega), zero_add]
  · rw [if_pos h, if_neg h, dif_neg (by omega), add_zero, c1v_apply]
    refine congrArg (fun z => (wgt V (ix1 z) : EReal)) (Fin.ext ?_)
    have hv : (edT a b).val = (18 * a.val + (if b.val < a.val then b.val else b.val - 1)) % 342 := rfl
    show 342 * g.val + (edT a b).val = edgN (nod g b).val a.val
    unfold edgN
    rw [if_neg (by omega), hn, hd, hv]
    split <;> omega

def c24 (V : Val) : FVec Ideal S32x19 .f32 := K V main_call0_v24
def c31 (V : Val) : FVec Ideal S32x19x19 .f32 := K V main_call0_v31

theorem c24_apply (V : Val) (g : Fin 32) (b : Fin 19) : (c24 V (ix2 g b) : EReal) = dvE (fun e => (wgt V (ix1 e) : EReal)) (nod g b) := by
  have q : c24 V = Host.rsqrt (maximumf (Host.reduceAdd (c20 V) (constant S_ .f32 0x00000000#32) reducesTo_S32x19x19_S32x19_d1 h_S_) (broadcastInDim S32x19 ![] bcast_S_S32x19 (constant S_ .f32 0x2B8CBCCC#32))) := by
    unfold c24 c20
    rw [e_v24, e_v23, e_v21, e_cst_6, e_v22, e_cst_7]
  have hs : (∑ a : Fin 19, wE (fun e => (wgt V (ix1 e) : EReal)) (nod g b) a) = ∑ a : Fin 19, (c20 V (ix3 g a b) : EReal) :=
    Finset.sum_congr rfl fun a _ => (c20_apply V g a b).symm
  unfold dvE
  rw [q, hs]
  generalize c20 V = x
  pointwise

theorem c31_apply (V : Val) (g : Fin 32) (x y : Fin 19) :
    (c31 V (ix3 g x y) : EReal) = wE (fun e => (wgt V (ix1 e) : EReal)) (nod g x) y * dvE (fun e => (wgt V (ix1 e) : EReal)) (nod g y) * dvE (fun e => (wgt V (ix1 e) : EReal)) (nod g x) := by
  have q : c31 V = mulf (mulf (transpose S32x19x19 [0, 2, 1] (c20 V) transposes_S32x19x19_S32x19x19_0_2_1) (broadcastInDim S32x19x19 ![0, 1, 2] bcast_S32x1x19_S32x19x19_0_1_2 (broadcastInDim S32x1x19 ![0, 2] bcast_S32x19_S32x1x19_0_2 (c24 V))))
      (broadcastInDim S32x19x19 ![0, 1, 2] bcast_S32x19x1_S32x19x19_0_1_2 (broadcastInDim S32x19x1 ![0, 1] bcast_S32x19_S32x19x1_0_1 (c24 V))) := by
    unfold c31 c24 c20
    rw [e_v31, e_v28, e_v25, e_v27, e_v26, e_v30, e_v29]
  rw [← c20_apply, ← c24_apply, ← c24_apply, q]
  generalize c20 V = s
  generalize c24 V = t
  pointwise

/-- One graph's block of every cluster. -/
theorem adj_step (g : FVec Ideal S32x19x19 .f32) (X : FVec Ideal S4x152x152 .f32) (idx : IVec S2 32) (upd : FVec Ideal S4x19x19 .f32) (t : ℕ) (ht : t < 8)
    (hz0 : (idx (ix1 (0 : Fin 2))).toInt = ((19 * t : ℕ) : Int)) (hz1 : (idx (ix1 (1 : Fin 2))).toInt = ((19 * t : ℕ) : Int))
    (hu : ∀ (i : Fin 4) (x y : Fin 19), upd (ix3 i x y) = g (ix3 ⟨8 * i.val + t, by omega⟩ x y))
    (hX : ∀ (i : Fin 4) (r x : Fin 152), (X (ix3 i r x) : EReal) = if r.val / 19 = x.val / 19 ∧ r.val / 19 < t then (g (ix3 ⟨8 * i.val + r.val / 19, by omega⟩ ⟨r.val % 19, by omega⟩ ⟨x.val % 19, by omega⟩) : EReal) else 0)
    (i : Fin 4) (r x : Fin 152) :
    (Host.scatter scatter_S4x152x152_S2_S4x19x19_012_n_12_0 (fun _ b => b) X idx upd (ix3 i r x) : EReal)
      = if r.val / 19 = x.val / 19 ∧ r.val / 19 < t + 1 then (g (ix3 ⟨8 * i.val + r.val / 19, by omega⟩ ⟨r.val % 19, by omega⟩ ⟨x.val % 19, by omega⟩) : EReal) else 0 := by
  rw [set_blk X idx upd (19 * t) (19 * t) hz0 hz1 (by omega) (by omega) i r x]
  by_cases h : (19 * t ≤ r.val ∧ r.val < 19 * t + 19) ∧ (19 * t ≤ x.val ∧ x.val < 19 * t + 19)
  · have h1 : r.val / 19 = t := by omega
    have h2 : x.val / 19 = t := by omega
    rw [if_pos h, if_pos (by omega), hu]
    have e0 : (⟨8 * i.val + t, by omega⟩ : Fin 32) = ⟨8 * i.val + r.val / 19, by omega⟩ := Fin.ext (by show 8 * i.val + t = 8 * i.val + r.val / 19; omega)
    have e1 : Fin.ofNat 19 (r.val - 19 * t) = (⟨r.val % 19, by omega⟩ : Fin 19) := Fin.ext (by show (r.val - 19 * t) % 19 = r.val % 19; omega)
    have e2 : Fin.ofNat 19 (x.val - 19 * t) = (⟨x.val % 19, by omega⟩ : Fin 19) := Fin.ext (by show (x.val - 19 * t) % 19 = x.val % 19; omega)
    rw [e0, e1, e2]
  · rw [if_neg h, hX]
    exact if_congr (by omega) rfl rfl

theorem upd0 (V : Val) (i : Fin 4) (x y : Fin 19) : (K V main_call0_v35 : FVec Ideal S4x19x19 .f32) (ix3 i x y) = c31 V (ix3 ⟨8 * i.val + 0, by omega⟩ x y) := by
  have q : (K V main_call0_v35 : FVec Ideal S4x19x19 .f32) = shapeCast S4x19x19 (extractStridedSlice S4x1x19x19 ![0, 0, 0, 0] (shapeCast S4x8x19x19 (c31 V) shapeCasts_S32x19x19_S4x8x19x19) slices_S4x8x19x19_S4x1x19x19_0_0_0_0) shapeCasts_S4x1x19x19_S4x19x19 := by
    unfold c31
    rw [e_v35, e_v34, e_v33]
  rw [q]
  generalize c31 V = g
  pointwise
  refine congrArg (fun z => g (ix3 z x y)) (Fin.ext ?_)
  show i.val * 8 + 0 = 8 * i.val + 0
  omega

theorem adj0 (V : Val) (i : Fin 4) (r x : Fin 152) :
    ((K V main_call0_v39 : FVec Ideal S4x152x152 .f32) (ix3 i r x) : EReal) = if r.val / 19 = x.val / 19 ∧ r.val / 19 < 0 + 1 then (c31 V (ix3 ⟨8 * i.val + r.val / 19, by omega⟩ ⟨r.val % 19, by omega⟩ ⟨x.val % 19, by omega⟩) : EReal) else 0 := by
  rw [e_v39]
  refine adj_step (c31 V) (K V main_call0_v32) (K V main_call0_v38) (K V main_call0_v35) 0 (by omega) ?_ ?_ (upd0 V) ?_ i r x
  · rw [e_v38, e_v36, e_c_9, e_v37, e_c_10]; rfl
  · rw [e_v38, e_v36, e_c_9, e_v37, e_c_10]; rfl
  · intro i r x
    rw [if_neg (by omega), e_v32, e_cst_8]
    exact Ideal.ofBits_zero .f32

theorem upd1 (V : Val) (i : Fin 4) (x y : Fin 19) : (K V main_call0_v42 : FVec Ideal S4x19x19 .f32) (ix3 i x y) = c31 V (ix3 ⟨8 * i.val + 1, by omega⟩ x y) := by
  have q : (K V main_call0_v42 : FVec Ideal S4x19x19 .f32) = shapeCast S4x19x19 (extractStridedSlice S4x1x19x19 ![0, 1, 0, 0] (shapeCast S4x8x19x19 (c31 V) shapeCasts_S32x19x19_S4x8x19x19) slices_S4x8x19x19_S4x1x19x19_0_1_0_0) shapeCasts_S4x1x19x19_S4x19x19 := by
    unfold c31
    rw [e_v42, e_v41, e_v40]
  rw [q]
  generalize c31 V = g
  pointwise
  refine congrArg (fun z => g (ix3 z x y)) (Fin.ext ?_)
  show i.val * 8 + 1 = 8 * i.val + 1
  omega

theorem adj1 (V : Val) (i : Fin 4) (r x : Fin 152) :
    ((K V main_call0_v46 : FVec Ideal S4x152x152 .f32) (ix3 i r x) : EReal) = if r.val / 19 = x.val / 19 ∧ r.val / 19 < 1 + 1 then (c31 V (ix3 ⟨8 * i.val + r.val / 19, by omega⟩ ⟨r.val % 19, by omega⟩ ⟨x.val % 19, by omega⟩) : EReal) else 0 := by
  rw [e_v46]
  refine adj_step (c31 V) (K V main_call0_v39) (K V main_call0_v45) (K V main_call0_v42) 1 (by omega) ?_ ?_ (upd1 V) ?_ i r x
  · rw [e_v45, e_v43, e_c_11, e_v44, e_c_12]; rfl
  · rw [e_v45, e_v43, e_c_11, e_v44, e_c_12]; rfl
  · exact adj0 V

theorem upd2 (V : Val) (i : Fin 4) (x y : Fin 19) : (K V main_call0_v49 : FVec Ideal S4x19x19 .f32) (ix3 i x y) = c31 V (ix3 ⟨8 * i.val + 2, by omega⟩ x y) := by
  have q : (K V main_call0_v49 : FVec Ideal S4x19x19 .f32) = shapeCast S4x19x19 (extractStridedSlice S4x1x19x19 ![0, 2, 0, 0] (shapeCast S4x8x19x19 (c31 V) shapeCasts_S32x19x19_S4x8x19x19) slices_S4x8x19x19_S4x1x19x19_0_2_0_0) shapeCasts_S4x1x19x19_S4x19x19 := by
    unfold c31
    rw [e_v49, e_v48, e_v47]
  rw [q]
  generalize c31 V = g
  pointwise
  refine congrArg (fun z => g (ix3 z x y)) (Fin.ext ?_)
  show i.val * 8 + 2 = 8 * i.val + 2
  omega

theorem adj2 (V : Val) (i : Fin 4) (r x : Fin 152) :
    ((K V main_call0_v53 : FVec Ideal S4x152x152 .f32) (ix3 i r x) : EReal) = if r.val / 19 = x.val / 19 ∧ r.val / 19 < 2 + 1 then (c31 V (ix3 ⟨8 * i.val + r.val / 19, by omega⟩ ⟨r.val % 19, by omega⟩ ⟨x.val % 19, by omega⟩) : EReal) else 0 := by
  rw [e_v53]
  refine adj_step (c31 V) (K V main_call0_v46) (K V main_call0_v52) (K V main_call0_v49) 2 (by omega) ?_ ?_ (upd2 V) ?_ i r x
  · rw [e_v52, e_v50, e_c_13, e_v51, e_c_14]; rfl
  · rw [e_v52, e_v50, e_c_13, e_v51, e_c_14]; rfl
  · exact adj1 V

theorem upd3 (V : Val) (i : Fin 4) (x y : Fin 19) : (K V main_call0_v56 : FVec Ideal S4x19x19 .f32) (ix3 i x y) = c31 V (ix3 ⟨8 * i.val + 3, by omega⟩ x y) := by
  have q : (K V main_call0_v56 : FVec Ideal S4x19x19 .f32) = shapeCast S4x19x19 (extractStridedSlice S4x1x19x19 ![0, 3, 0, 0] (shapeCast S4x8x19x19 (c31 V) shapeCasts_S32x19x19_S4x8x19x19) slices_S4x8x19x19_S4x1x19x19_0_3_0_0) shapeCasts_S4x1x19x19_S4x19x19 := by
    unfold c31
    rw [e_v56, e_v55, e_v54]
  rw [q]
  generalize c31 V = g
  pointwise
  refine congrArg (fun z => g (ix3 z x y)) (Fin.ext ?_)
  show i.val * 8 + 3 = 8 * i.val + 3
  omega

theorem adj3 (V : Val) (i : Fin 4) (r x : Fin 152) :
    ((K V main_call0_v60 : FVec Ideal S4x152x152 .f32) (ix3 i r x) : EReal) = if r.val / 19 = x.val / 19 ∧ r.val / 19 < 3 + 1 then (c31 V (ix3 ⟨8 * i.val + r.val / 19, by omega⟩ ⟨r.val % 19, by omega⟩ ⟨x.val % 19, by omega⟩) : EReal) else 0 := by
  rw [e_v60]
  refine adj_step (c31 V) (K V main_call0_v53) (K V main_call0_v59) (K V main_call0_v56) 3 (by omega) ?_ ?_ (upd3 V) ?_ i r x
  · rw [e_v59, e_v57, e_c_15, e_v58, e_c_16]; rfl
  · rw [e_v59, e_v57, e_c_15, e_v58, e_c_16]; rfl
  · exact adj2 V

theorem upd4 (V : Val) (i : Fin 4) (x y : Fin 19) : (K V main_call0_v63 : FVec Ideal S4x19x19 .f32) (ix3 i x y) = c31 V (ix3 ⟨8 * i.val + 4, by omega⟩ x y) := by
  have q : (K V main_call0_v63 : FVec Ideal S4x19x19 .f32) = shapeCast S4x19x19 (extractStridedSlice S4x1x19x19 ![0, 4, 0, 0] (shapeCast S4x8x19x19 (c31 V) shapeCasts_S32x19x19_S4x8x19x19) slices_S4x8x19x19_S4x1x19x19_0_4_0_0) shapeCasts_S4x1x19x19_S4x19x19 := by
    unfold c31
    rw [e_v63, e_v62, e_v61]
  rw [q]
  generalize c31 V = g
  pointwise
  refine congrArg (fun z => g (ix3 z x y)) (Fin.ext ?_)
  show i.val * 8 + 4 = 8 * i.val + 4
  omega

theorem adj4 (V : Val) (i : Fin 4) (r x : Fin 152) :
    ((K V main_call0_v67 : FVec Ideal S4x152x152 .f32) (ix3 i r x) : EReal) = if r.val / 19 = x.val / 19 ∧ r.val / 19 < 4 + 1 then (c31 V (ix3 ⟨8 * i.val + r.val / 19, by omega⟩ ⟨r.val % 19, by omega⟩ ⟨x.val % 19, by omega⟩) : EReal) else 0 := by
  rw [e_v67]
  refine adj_step (c31 V) (K V main_call0_v60) (K V main_call0_v66) (K V main_call0_v63) 4 (by omega) ?_ ?_ (upd4 V) ?_ i r x
  · rw [e_v66, e_v64, e_c_17, e_v65, e_c_18]; rfl
  · rw [e_v66, e_v64, e_c_17, e_v65, e_c_18]; rfl
  · exact adj3 V

theorem upd5 (V : Val) (i : Fin 4) (x y : Fin 19) : (K V main_call0_v70 : FVec Ideal S4x19x19 .f32) (ix3 i x y) = c31 V (ix3 ⟨8 * i.val + 5, by omega⟩ x y) := by
  have q : (K V main_call0_v70 : FVec Ideal S4x19x19 .f32) = shapeCast S4x19x19 (extractStridedSlice S4x1x19x19 ![0, 5, 0, 0] (shapeCast S4x8x19x19 (c31 V) shapeCasts_S32x19x19_S4x8x19x19) slices_S4x8x19x19_S4x1x19x19_0_5_0_0) shapeCasts_S4x1x19x19_S4x19x19 := by
    unfold c31
    rw [e_v70, e_v69, e_v68]
  rw [q]
  generalize c31 V = g
  pointwise
  refine congrArg (fun z => g (ix3 z x y)) (Fin.ext ?_)
  show i.val * 8 + 5 = 8 * i.val + 5
  omega

theorem adj5 (V : Val) (i : Fin 4) (r x : Fin 152) :
    ((K V main_call0_v74 : FVec Ideal S4x152x152 .f32) (ix3 i r x) : EReal) = if r.val / 19 = x.val / 19 ∧ r.val / 19 < 5 + 1 then (c31 V (ix3 ⟨8 * i.val + r.val / 19, by omega⟩ ⟨r.val % 19, by omega⟩ ⟨x.val % 19, by omega⟩) : EReal) else 0 := by
  rw [e_v74]
  refine adj_step (c31 V) (K V main_call0_v67) (K V main_call0_v73) (K V main_call0_v70) 5 (by omega) ?_ ?_ (upd5 V) ?_ i r x
  · rw [e_v73, e_v71, e_c_19, e_v72, e_c_20]; rfl
  · rw [e_v73, e_v71, e_c_19, e_v72, e_c_20]; rfl
  · exact adj4 V

theorem upd6 (V : Val) (i : Fin 4) (x y : Fin 19) : (K V main_call0_v77 : FVec Ideal S4x19x19 .f32) (ix3 i x y) = c31 V (ix3 ⟨8 * i.val + 6, by omega⟩ x y) := by
  have q : (K V main_call0_v77 : FVec Ideal S4x19x19 .f32) = shapeCast S4x19x19 (extractStridedSlice S4x1x19x19 ![0, 6, 0, 0] (shapeCast S4x8x19x19 (c31 V) shapeCasts_S32x19x19_S4x8x19x19) slices_S4x8x19x19_S4x1x19x19_0_6_0_0) shapeCasts_S4x1x19x19_S4x19x19 := by
    unfold c31
    rw [e_v77, e_v76, e_v75]
  rw [q]
  generalize c31 V = g
  pointwise
  refine congrArg (fun z => g (ix3 z x y)) (Fin.ext ?_)
  show i.val * 8 + 6 = 8 * i.val + 6
  omega

theorem adj6 (V : Val) (i : Fin 4) (r x : Fin 152) :
    ((K V main_call0_v81 : FVec Ideal S4x152x152 .f32) (ix3 i r x) : EReal) = if r.val / 19 = x.val / 19 ∧ r.val / 19 < 6 + 1 then (c31 V (ix3 ⟨8 * i.val + r.val / 19, by omega⟩ ⟨r.val % 19, by omega⟩ ⟨x.val % 19, by omega⟩) : EReal) else 0 := by
  rw [e_v81]
  refine adj_step (c31 V) (K V main_call0_v74) (K V main_call0_v80) (K V main_call0_v77) 6 (by omega) ?_ ?_ (upd6 V) ?_ i r x
  · rw [e_v80, e_v78, e_c_21, e_v79, e_c_22]; rfl
  · rw [e_v80, e_v78, e_c_21, e_v79, e_c_22]; rfl
  · exact adj5 V

theorem upd7 (V : Val) (i : Fin 4) (x y : Fin 19) : (K V main_call0_v84 : FVec Ideal S4x19x19 .f32) (ix3 i x y) = c31 V (ix3 ⟨8 * i.val + 7, by omega⟩ x y) := by
  have q : (K V main_call0_v84 : FVec Ideal S4x19x19 .f32) = shapeCast S4x19x19 (extractStridedSlice S4x1x19x19 ![0, 7, 0, 0] (shapeCast S4x8x19x19 (c31 V) shapeCasts_S32x19x19_S4x8x19x19) slices_S4x8x19x19_S4x1x19x19_0_7_0_0) shapeCasts_S4x1x19x19_S4x19x19 := by
    unfold c31
    rw [e_v84, e_v83, e_v82]
  rw [q]
  generalize c31 V = g
  pointwise
  refine congrArg (fun z => g (ix3 z x y)) (Fin.ext ?_)
  show i.val * 8 + 7 = 8 * i.val + 7
  omega

theorem adj7 (V : Val) (i : Fin 4) (r x : Fin 152) :
    ((K V main_call0_v88 : FVec Ideal S4x152x152 .f32) (ix3 i r x) : EReal) = if r.val / 19 = x.val / 19 ∧ r.val / 19 < 7 + 1 then (c31 V (ix3 ⟨8 * i.val + r.val / 19, by omega⟩ ⟨r.val % 19, by omega⟩ ⟨x.val % 19, by omega⟩) : EReal) else 0 := by
  rw [e_v88]
  refine adj_step (c31 V) (K V main_call0_v81) (K V main_call0_v87) (K V main_call0_v84) 7 (by omega) ?_ ?_ (upd7 V) ?_ i r x
  · rw [e_v87, e_v85, e_c_23, e_v86, e_c_24]; rfl
  · rw [e_v87, e_v85, e_c_23, e_v86, e_c_24]; rfl
  · exact adj6 V

def c88 (V : Val) : FVec Ideal S4x152x152 .f32 := K V main_call0_v88

/-- A row against the cluster's features. -/
theorem adj_sum (V : Val) (h : Fin 608 → EReal) (p : Fin 608) :
    (∑ x : Fin 152, (c88 V (ix3 (Trip.ci p) (Trip.ro p) x) : EReal) * h (Trip.nd (Trip.ci p) x))
      = agE (fun e => (wgt V (ix1 e) : EReal)) h p := by
  have hc : (Trip.ci p).val = p.val / 152 := rfl
  have hr : (Trip.ro p).val = p.val % 152 := rfl
  have s1 : ∀ x : Fin 152, (c88 V (ix3 (Trip.ci p) (Trip.ro p) x) : EReal) * h (Trip.nd (Trip.ci p) x)
      = if (Trip.ro p).val / 19 = x.val / 19 then (c31 V (ix3 ⟨8 * (Trip.ci p).val + (Trip.ro p).val / 19, by omega⟩ ⟨(Trip.ro p).val % 19, by omega⟩ ⟨x.val % 19, by omega⟩) : EReal) * h (Trip.nd (Trip.ci p) x) else 0 := by
    intro x
    rw [show (c88 V (ix3 (Trip.ci p) (Trip.ro p) x) : EReal) = _ from adj7 V _ _ _]
    by_cases q : (Trip.ro p).val / 19 = x.val / 19
    · rw [if_pos (by omega), if_pos q]
    · rw [if_neg (by omega), if_neg q, zero_mul]
  rw [Finset.sum_congr rfl fun x _ => s1 x, ← Finset.sum_filter]
  unfold agE
  refine Finset.sum_nbij' (fun x => ⟨x.val % 19, by omega⟩) (fun a => ⟨19 * ((Trip.ro p).val / 19) + a.val, by omega⟩) ?_ ?_ ?_ ?_ ?_
  · intro x _
    exact Finset.mem_univ _
  · intro a _
    rw [Finset.mem_filter]
    exact ⟨Finset.mem_univ _, by dsimp only; omega⟩
  · intro x hx
    have := (Finset.mem_filter.1 hx).2
    refine Fin.ext ?_
    show 19 * ((Trip.ro p).val / 19) + x.val % 19 = x.val
    omega
  · intro a _
    refine Fin.ext ?_
    show (19 * ((Trip.ro p).val / 19) + a.val) % 19 = a.val
    omega
  · intro x hx
    have hx' := (Finset.mem_filter.1 hx).2
    have n1 : nod ⟨8 * (Trip.ci p).val + (Trip.ro p).val / 19, by omega⟩ ⟨(Trip.ro p).val % 19, by omega⟩ = p :=
      Fin.ext (by show 19 * (8 * (Trip.ci p).val + (Trip.ro p).val / 19) + (Trip.ro p).val % 19 = p.val; omega)
    have n2 : nod ⟨8 * (Trip.ci p).val + (Trip.ro p).val / 19, by omega⟩ ⟨x.val % 19, by omega⟩ = mate p ⟨x.val % 19, by omega⟩ :=
      Fin.ext (by show 19 * (8 * (Trip.ci p).val + (Trip.ro p).val / 19) + x.val % 19 = 19 * (p.val / 19) + x.val % 19; omega)
    have n3 : Trip.nd (Trip.ci p) x = mate p ⟨x.val % 19, by omega⟩ :=
      Fin.ext (by show 152 * (Trip.ci p).val + x.val = 19 * (p.val / 19) + x.val % 19; omega)
    rw [c31_apply, n1, n2, n3]

end Cert.Proof.KH
-- ==== Proof.Arith.lean ====
module

public import Idealize.ShloMosaic.Lib.Pointwise

@[expose] public section

/-! Two facts of extended reals: a product of sums of finite values re-associates, and a power of an exponential is
    the exponential of a multiple. -/

noncomputable section

namespace Cert.Proof

open Idealize.ShloMosaic

theorem coe_total {ι : Type} (s : Finset ι) (f : ι → ℝ) : ((∑ i ∈ s, f i : ℝ) : EReal) = ∑ i ∈ s, (f i : EReal) := by
  classical
  induction s using Finset.induction with
  | empty => rfl
  | insert a s h ih => rw [Finset.sum_insert h, Finset.sum_insert h, EReal.coe_add, ih]

theorem fin_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem fin_total {ι : Type} (s : Finset ι) (f : ι → EReal) (h : ∀ i, ∃ r : ℝ, f i = (r : EReal)) : ∃ r : ℝ, (∑ i ∈ s, f i) = (r : EReal) := by
  choose g hg using h
  exact ⟨∑ i ∈ s, g i, by rw [coe_total]; exact Finset.sum_congr rfl fun i _ => hg i⟩

theorem reassoc {m n : ℕ} (u : Fin n → EReal) (x : Fin m → Fin n → EReal) (w : Fin m → EReal)
    (hu : ∀ e, ∃ r : ℝ, u e = (r : EReal)) (hx : ∀ ρ e, ∃ r : ℝ, x ρ e = (r : EReal)) (hw : ∀ ρ, ∃ r : ℝ, w ρ = (r : EReal)) :
    (∑ e, u e * ∑ ρ, x ρ e * w ρ) = ∑ ρ, (∑ e, u e * x ρ e) * w ρ := by
  choose u' hu using hu
  choose x' hx using hx
  choose w' hw using hw
  simp only [hu, hx, hw, ← EReal.coe_mul, ← coe_total]
  refine congrArg (fun z : ℝ => (z : EReal)) ?_
  simp only [Finset.mul_sum, Finset.sum_mul]
  rw [Finset.sum_comm]
  exact Finset.sum_congr rfl fun ρ _ => Finset.sum_congr rfl fun e _ => (mul_assoc _ _ _).symm

theorem exp_log (n : ℕ) : Ideal.exp (Ideal.log (((n + 1 : ℕ) : ℝ) : EReal)) = (((n + 1 : ℕ) : ℝ) : EReal) := by
  have hp : (0 : ℝ) < ((n + 1 : ℕ) : ℝ) := Nat.cast_pos.2 (Nat.succ_pos n)
  have h : Ideal.log (((n + 1 : ℕ) : ℝ) : EReal) = ((Real.log ((n + 1 : ℕ) : ℝ) : ℝ) : EReal) := if_neg (not_le.2 hp)
  rw [h]
  exact congrArg (fun z : ℝ => (z : EReal)) (Real.exp_log hp)

theorem top_power (n : ℕ) : (⊤ : EReal) ^ (n + 1) = ⊤ := by
  induction n with
  | zero => exact pow_one _
  | succ n ih => rw [pow_succ, ih, EReal.top_mul_top]

theorem exp_pow (s : EReal) (n : ℕ) : Ideal.exp (-s) ^ (n + 1) = Ideal.exp (s * -(((n + 1 : ℕ) : ℝ) : EReal)) := by
  have hp : (0 : ℝ) < ((n + 1 : ℕ) : ℝ) := Nat.cast_pos.2 (Nat.succ_pos n)
  induction s with
  | bot =>
    rw [mul_neg, EReal.bot_mul_coe_of_pos hp, EReal.neg_bot]
    show (⊤ : EReal) ^ (n + 1) = ⊤
    exact top_power n
  | top =>
    rw [mul_neg, EReal.top_mul_coe_of_pos hp, EReal.neg_top]
    show (0 : EReal) ^ (n + 1) = 0
    exact zero_pow (Nat.succ_ne_zero n)
  | coe r =>
    rw [← EReal.coe_neg, ← EReal.coe_neg, ← EReal.coe_mul]
    show ((Real.exp (-r) : ℝ) : EReal) ^ (n + 1) = ((Real.exp (r * -((n + 1 : ℕ) : ℝ)) : ℝ) : EReal)
    rw [← EReal.coe_pow, ← Real.exp_nat_mul]
    refine congrArg (fun z : ℝ => ((Real.exp z : ℝ) : EReal)) ?_
    ring

end Cert.Proof
-- ==== Proof.Same.lean ====
module

public import proofs.«01_k».proof.Proof.KAdj
public import proofs.«01_k».proof.Proof.Arith

@[expose] public section

set_option maxRecDepth 8192

/-! The kernel's data and the reference's are one: the same projections, decays, graph and weights. -/

noncomputable section

namespace Cert.Proof

open Idealize.ShloMosaic Idealize.ShloMosaic.TcCoe

/-- Two runs' arguments, entry by entry the same. -/
structure Same (U : KH.Val) (V : Rf.Val) : Prop where
  xin : ∀ p T a, (Rf.xin V (ix3 p T a) : EReal) = KH.xin U (ix3 p T a)
  wgt : ∀ e, (Rf.wgt V (ix1 e) : EReal) = KH.wgt U (ix1 e)
  win : ∀ e a, (Rf.win V (ix2 e a) : EReal) = KH.win U (ix2 e a)
  xpj : ∀ e a, (Rf.xpj V (ix2 e a) : EReal) = KH.xpj U (ix2 e a)
  dtw : ∀ e a, (Rf.dtw V (ix2 e a) : EReal) = KH.dtw U (ix2 e a)
  dtb : ∀ d, (Rf.dtb V (ix1 d) : EReal) = KH.dtb U (ix1 d)
  dsk : ∀ d, (Rf.cD (Rf.X0 V) (ix1 d) : EReal) = KH.dsk U (ix1 d)
  ow : ∀ o d, (Rf.cow (Rf.X0 V) (ix2 o d) : EReal) = KH.ow U (ix2 o d)
  gAw : ∀ d e, (Rf.cgA (Rf.X0 V) (ix2 d e) : EReal) = KH.gAw U (ix2 d e)
  gAb : ∀ d, (Rf.cbA (Rf.X0 V) (ix1 d) : EReal) = KH.gAb U (ix1 d)
  gBw : ∀ d e, (Rf.cgB (Rf.X0 V) (ix2 d e) : EReal) = KH.gBw U (ix2 d e)
  gBb : ∀ d, (Rf.cbB (Rf.X0 V) (ix1 d) : EReal) = KH.gBb U (ix1 d)
  gCw : ∀ d e, (Rf.cgC (Rf.X0 V) (ix2 d e) : EReal) = KH.gCw U (ix2 d e)
  gCb : ∀ d, (Rf.cbC (Rf.X0 V) (ix1 d) : EReal) = KH.gCb U (ix1 d)

/-- What the setup fixes: the graph, the decays, and finite values where products re-associate. -/
structure Set0 (V : Rf.Val) : Prop where
  edges : Rf.Edges V
  alog : ∀ d n, (Rf.alog V (ix2 d n) : EReal) = Ideal.log (((n.val + 1 : ℕ) : ℝ) : EReal)
  xin : ∀ p T a, ∃ r : ℝ, (Rf.xin V (ix3 p T a) : EReal) = (r : EReal)
  win : ∀ (e : Fin 64) a, ∃ r : ℝ, (Rf.win V (ix2 ⟨e.val, by omega⟩ a) : EReal) = (r : EReal)
  xpj : ∀ (ρ : Fin 2) e, ∃ r : ℝ, (Rf.xpj V (ix2 ⟨ρ.val, by omega⟩ e) : EReal) = (r : EReal)
  dtw : ∀ d ρ, ∃ r : ℝ, (Rf.dtw V (ix2 d ρ) : EReal) = (r : EReal)

theorem Mdl.eq_of {A B : Mdl} (h1 : ∀ h p, A.agg h p = B.agg h p) (h2 : ∀ d e, A.gA d e = B.gA d e) (h3 : ∀ d e, A.gB d e = B.gB d e) (h4 : ∀ d e, A.gC d e = B.gC d e)
    (h5 : ∀ d, A.bA d = B.bA d) (h6 : ∀ d, A.bB d = B.bB d) (h7 : ∀ d, A.bC d = B.bC d) (h8 : ∀ d, A.D d = B.D d) (h9 : ∀ T p d, A.dt T p d = B.dt T p d)
    (h10 : ∀ T p d n, A.dec T p d n = B.dec T p d n) (h11 : ∀ T p d, A.u T p d = B.u T p d) (h12 : ∀ T p d, A.z T p d = B.z T p d)
    (h13 : ∀ T p n, A.B T p n = B.B T p n) (h14 : ∀ T p n, A.C T p n = B.C T p n) (h15 : ∀ d o, A.ow d o = B.ow d o) : A = B := by
  cases A
  cases B
  obtain rfl := funext fun h => funext fun p => h1 h p
  obtain rfl := funext fun d => funext fun e => h2 d e
  obtain rfl := funext fun d => funext fun e => h3 d e
  obtain rfl := funext fun d => funext fun e => h4 d e
  obtain rfl := funext fun d => h5 d
  obtain rfl := funext fun d => h6 d
  obtain rfl := funext fun d => h7 d
  obtain rfl := funext fun d => h8 d
  obtain rfl := funext fun T => funext fun p => funext fun d => h9 T p d
  obtain rfl := funext fun T => funext fun p => funext fun d => funext fun n => h10 T p d n
  obtain rfl := funext fun T => funext fun p => funext fun d => h11 T p d
  obtain rfl := funext fun T => funext fun p => funext fun d => h12 T p d
  obtain rfl := funext fun T => funext fun p => funext fun n => h13 T p n
  obtain rfl := funext fun T => funext fun p => funext fun n => h14 T p n
  obtain rfl := funext fun d => funext fun o => h15 d o
  rfl

section
open Cert.KernelIdeal Cert.KernelIdeal.Gen

variable (m : (ℓ : Loc nD τ sig) → Buf (Elt Ideal) ℓ) (c : Dev nD) (U : KH.Val) (hU : U = fun b => m (c, b)) (V : Rf.Val) (hS : Same U V)

attribute [local irreducible] K

include hU in
theorem v186_at : Trip.hv186 m c = KH.b186 U := by subst hU; unfold Trip.hv186 KH.b186; exact KH.kv m c main_call0_v186
include hU in
theorem v90_at : Trip.hv90 m c = KH.b90 U := by subst hU; unfold Trip.hv90 KH.b90; exact KH.kv m c main_call0_v90
include hU in
theorem v92_at : Trip.hv92 m c = KH.b92 U := by subst hU; unfold Trip.hv92 KH.b92; exact KH.kv m c main_call0_v92
include hU in
theorem v117_at : Trip.hv117 m c = KH.b117 U := by subst hU; unfold Trip.hv117 KH.b117; exact KH.kv m c main_call0_v117
include hU in
theorem v123_at : Trip.hv123 m c = KH.b123 U := by subst hU; unfold Trip.hv123 KH.b123; exact KH.kv m c main_call0_v123
include hU in
theorem v131_at : Trip.hv131 m c = KH.b131 U := by subst hU; unfold Trip.hv131 KH.b131; exact KH.kv m c main_call0_v131
include hU in
theorem v88_at : Trip.hv88 m c = KH.c88 U := by subst hU; unfold Trip.hv88 KH.c88; exact KH.kv m c main_call0_v88
include hU in
theorem hD_at : Trip.hD m c = KH.dsk U := by
  subst hU; unfold Trip.hD KH.dsk
  exact (KH.kv m c main_arg8).trans (KH.k8 _)

/-- The time the step reads. -/
theorem time_at (T : ℕ) : 64 * (Fin.ofNat 4 (T / 64)).val + (Fin.ofNat 64 (T % 64)).val = (Fin.ofNat 256 T).val := by
  show 64 * (T / 64 % 4) + T % 64 % 64 = T % 256
  omega

include hU hS in
theorem x_at (T : ℕ) (p : Fin 608) (a : Fin 32) :
    (Trip.hv186 m c (ix5 (Fin.ofNat 4 (T / 64)) (Fin.ofNat 64 (T % 64)) (Trip.ci p) (Trip.ro p) a) : EReal) = Rf.xin V (ix3 p (Fin.ofNat 256 T) a) := by
  rw [v186_at m c U hU, KH.b186_apply, hS.xin, Trip.nd_ci_ro]
  exact congrArg (fun z => (KH.xin U (ix3 p z a) : EReal)) (Fin.ext (time_at T))

include hU hS in
theorem z_at (T : ℕ) (p : Fin 608) (d : Fin 64) :
    Trip.zE m c (Trip.ci p) (Fin.ofNat 4 (T / 64)) (Fin.ofNat 64 (T % 64)) (Trip.ro p) d = Rf.zE V (Fin.ofNat 256 T) p d := by
  unfold Trip.zE Rf.zE
  refine Finset.sum_congr rfl fun a _ => ?_
  rw [x_at m c U hU V hS, v92_at m c U hU, KH.b92_apply, hS.win]

include hU hS in
theorem u_at (T : ℕ) (p : Fin 608) (e : Fin 64) :
    (∑ a : Fin 32, (Trip.hv186 m c (ix5 (Fin.ofNat 4 (T / 64)) (Fin.ofNat 64 (T % 64)) (Trip.ci p) (Trip.ro p) a) : EReal) * (Trip.hv90 m c) (ix2 a e)) = Rf.uE V (Fin.ofNat 256 T) p e := by
  unfold Rf.uE
  refine Finset.sum_congr rfl fun a _ => ?_
  rw [x_at m c U hU V hS, v90_at m c U hU, KH.b90_apply, hS.win]

include hU hS in
theorem p_at (T : ℕ) (p : Fin 608) (k : Fin 256) :
    Trip.pE m c (Trip.ci p) T (Trip.ro p) k = (∑ e : Fin 64, Rf.uE V (Fin.ofNat 256 T) p e * (KH.b117 U (ix2 e k) : EReal)) + (KH.b123 U (ix1 k) : EReal) := by
  unfold Trip.pE
  rw [v117_at m c U hU, v123_at m c U hU]
  simp only [u_at m c U hU V hS]

theorem u_fin (H : Set0 V) (T : Fin 256) (p : Fin 608) (e : Fin 64) : ∃ r : ℝ, Rf.uE V T p e = (r : EReal) :=
  fin_total _ _ fun a => fin_mul (H.xin p T a) (H.win e a)

include hS in
theorem dt_sum (H : Set0 V) (T : Fin 256) (p : Fin 608) (d : Fin 64) :
    (∑ e : Fin 64, Rf.uE V T p e * KH.wdt U e d) + (KH.dtb U (ix1 d) : EReal) = Rf.dE V T p d := by
  have h := reassoc (fun e => Rf.uE V T p e) (fun (ρ : Fin 2) e => (Rf.xpj V (ix2 ⟨ρ.val, by omega⟩ e) : EReal)) (fun ρ => (Rf.dtw V (ix2 d ρ) : EReal))
    (u_fin V H T p) H.xpj (H.dtw d)
  unfold Rf.dE
  rw [← hS.dtb, ← h]
  refine congrArg (fun z : EReal => z + (Rf.dtb V (ix1 d) : EReal)) (Finset.sum_congr rfl fun e _ => ?_)
  refine congrArg (fun z : EReal => Rf.uE V T p e * z) ?_
  unfold KH.wdt
  refine Finset.sum_congr rfl fun ρ _ => ?_
  rw [hS.xpj, hS.dtw]

include hU hS in
theorem p_dt (H : Set0 V) (T : ℕ) (p : Fin 608) (d : Fin 64) :
    Trip.pE m c (Trip.ci p) T (Trip.ro p) ⟨d.val, by omega⟩ = Rf.dE V (Fin.ofNat 256 T) p d := by
  rw [p_at m c U hU V hS, ← dt_sum U V hS H, KH.b123_if, if_pos (by dsimp only; omega)]
  simp only [KH.b117_dt]
  exact congrArg (fun z => _ + (KH.dtb U (ix1 z) : EReal)) (Fin.ext (by show d.val % 64 = d.val; omega))

include hU hS in
theorem p_de (H : Set0 V) (T : ℕ) (p : Fin 608) (d : Fin 64) :
    Trip.pE m c (Trip.ci p) T (Trip.ro p) ⟨64 + d.val, by omega⟩ = Rf.dE V (Fin.ofNat 256 T) p d := by
  rw [p_at m c U hU V hS, ← dt_sum U V hS H, KH.b123_if, if_pos (by dsimp only; omega)]
  simp only [KH.b117_de]
  exact congrArg (fun z => _ + (KH.dtb U (ix1 z) : EReal)) (Fin.ext (by show (64 + d.val) % 64 = d.val; omega))

include hU hS in
theorem p_u (T : ℕ) (p : Fin 608) (d : Fin 64) :
    Trip.pE m c (Trip.ci p) T (Trip.ro p) ⟨128 + d.val, by omega⟩ = Rf.uE V (Fin.ofNat 256 T) p d := by
  rw [p_at m c U hU V hS, KH.b123_if, if_neg (by dsimp only; omega), add_zero]
  simp only [KH.b117_u, mul_ite, mul_one, mul_zero]
  rw [Finset.sum_eq_single d (fun e _ h => if_neg fun q => h (Fin.ext q)) (fun h => absurd (Finset.mem_univ d) h), if_pos rfl]

include hU hS in
theorem p_b (T : ℕ) (p : Fin 608) (n : Fin 16) :
    Trip.pE m c (Trip.ci p) T (Trip.ro p) ⟨192 + n.val, by omega⟩ = ∑ e : Fin 64, Rf.uE V (Fin.ofNat 256 T) p e * (Rf.xpj V (ix2 ⟨2 + n.val, by omega⟩ e) : EReal) := by
  rw [p_at m c U hU V hS, KH.b123_if, if_neg (by dsimp only; omega), add_zero]
  refine Finset.sum_congr rfl fun e _ => ?_
  rw [KH.b117_b, hS.xpj]

include hU hS in
theorem p_c (T : ℕ) (p : Fin 608) (n : Fin 16) :
    Trip.pE m c (Trip.ci p) T (Trip.ro p) ⟨208 + n.val, by omega⟩ = ∑ e : Fin 64, Rf.uE V (Fin.ofNat 256 T) p e * (Rf.xpj V (ix2 ⟨18 + n.val, by omega⟩ e) : EReal) := by
  rw [p_at m c U hU V hS, KH.b123_if, if_neg (by dsimp only; omega), add_zero]
  refine Finset.sum_congr rfl fun e _ => ?_
  rw [KH.b117_c, hS.xpj]

include hU hS in
/-- The two are one. -/
theorem same_model (H : Set0 V) :
    Trip.MK m c (fun d e => KH.gAw U (ix2 d e)) (fun d e => KH.gBw U (ix2 d e)) (fun d e => KH.gCw U (ix2 d e))
      (fun d => KH.gAb U (ix1 d)) (fun d => KH.gBb U (ix1 d)) (fun d => KH.gCb U (ix1 d)) = Rf.MR (Rf.X0 V) := by
  refine Mdl.eq_of ?_ ?_ ?_ ?_ ?_ ?_ ?_ ?_ ?_ ?_ ?_ ?_ ?_ ?_ ?_
  · intro h p
    unfold Trip.MK Rf.MR
    dsimp only
    rw [Rf.agg_eq H.edges, v88_at m c U hU, KH.adj_sum]
    exact congrArg (fun w => agE w h p) (funext fun e => (hS.wgt e).symm)
  · intro d e; exact (hS.gAw d e).symm
  · intro d e; exact (hS.gBw d e).symm
  · intro d e; exact (hS.gCw d e).symm
  · intro d; exact (hS.gAb d).symm
  · intro d; exact (hS.gBb d).symm
  · intro d; exact (hS.gCb d).symm
  · intro d
    unfold Trip.MK Rf.MR
    dsimp only
    rw [hS.dsk, hD_at m c U hU]
  · intro T p d
    unfold Trip.MK Rf.MR
    dsimp only
    rw [p_dt m c U hU V hS H, Rf.cdt_apply]
  · intro T p d n
    unfold Trip.MK Rf.MR
    dsimp only
    rw [p_de m c U hU V hS H, Rf.cdt_apply, Rf.cA_apply, H.alog, exp_log, exp_pow]
  · intro T p d
    unfold Trip.MK Rf.MR
    dsimp only
    rw [p_u m c U hU V hS, Rf.cu_apply]
  · intro T p d
    unfold Trip.MK Rf.MR
    dsimp only
    rw [z_at m c U hU V hS, Rf.cz_apply]
  · intro T p n
    unfold Trip.MK Rf.MR
    dsimp only
    rw [p_b m c U hU V hS, Rf.cB_apply]
  · intro T p n
    unfold Trip.MK Rf.MR
    dsimp only
    rw [p_c m c U hU V hS, Rf.cC_apply]
  · intro d o
    unfold Trip.MK Rf.MR
    dsimp only
    rw [v131_at m c U hU, KH.b131_apply, hS.ow]

end

end Cert.Proof
-- ==== Proof.Setup.lean ====
module

public import proofs.«01_k».proof.Pre_setup_graph
public import Idealize.ShloMosaic.Lib.Pointwise

@[expose] public section

set_option maxRecDepth 8192

/-! What the precondition says, entry by entry. -/

noncomputable section

namespace Cert.Proof.Pre

open Idealize.ShloMosaic
open Cert.Pre_setup_graph Cert.Pre_setup_graph.Facts

theorem facts : Cert.Pre_setup_graph.Facts where
  bcast_S_S32x19x18 := by decide
  shapeCasts_S2x10944_S2x32x19x18 := by decide +kernel
  bcast_S_S64x16 := by decide
  slices_S2x32x19x18_S1x32x19x18_0_0_0_0 := by decide
  shapeCasts_S1x32x19x18_S32x19x18 := by decide +kernel
  slices_S2x32x19x18_S1x32x19x18_1_0_0_0 := by decide
  bcast_S_S608x256x32 := by decide
  slices_S128x32_S64x32_0_0 := by decide
  bcast_S_S64x32 := by decide
  slices_S34x64_S2x64_0_0 := by decide
  bcast_S_S2x64 := by decide
  bcast_S_S64x2 := by decide

attribute [local instance] facts

theorem eq_of_cmpi {w : ℕ} {x y : BitVec w} (h : IntOp.cmpi .eq x y = 1#1) : x = y := by
  by_contra q
  have e : IntOp.cmpi .eq x y = BitVec.ofBool (x == y) := rfl
  rw [e, beq_false_of_ne q] at h
  exact absurd h (by decide)

theorem eq_of_oeq {x y : EReal} (h : Ideal.cmp .oeq x y = 1#1) : x = y := by
  by_contra q
  have e : Ideal.cmp .oeq x y = BitVec.ofBool (decide (x = y)) := rfl
  rw [e, decide_eq_false q] at h
  exact absurd h (by decide)

theorem fin_of_olt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have q : max x (-x) < ⊤ := by
    by_contra q
    have e : Ideal.cmp .olt (max x (-x)) ⊤ = BitVec.ofBool (decide (max x (-x) < ⊤)) := rfl
    rw [e, decide_eq_false q] at h
    exact absurd h (by decide)
  rw [max_lt_iff] at q
  induction x with
  | bot => exact absurd q.2 (by simp)
  | top => exact absurd q.1 (by simp)
  | coe r => exact ⟨r, rfl⟩

variable (a0 : FVec Ideal S608x256x32 .f32) (a1 : IVec S2x10944 32) (a2 : FVec Ideal S10944 .f32) (a3 : FVec Ideal S128x32 .f32) (a4 : FVec Ideal S34x64 .f32)
  (a5 : FVec Ideal S64x2 .f32) (a6 : FVec Ideal S64 .f32) (a7 : FVec Ideal S64x16 .f32) (a8 : FVec Ideal S64 .f32) (a9 : FVec Ideal S32x64 .f32)
  (a10 : FVec Ideal S64x64 .f32) (a11 : FVec Ideal S64 .f32) (a12 : FVec Ideal S64x64 .f32) (a13 : FVec Ideal S64 .f32) (a14 : FVec Ideal S64x64 .f32) (a15 : FVec Ideal S64 .f32)

theorem add_word (g a : ℕ) : IntOp.addi (IntOp.muli (BitVec.ofNat 32 g) 19#32) (BitVec.ofNat 32 a) = BitVec.ofNat 32 (19 * g + a) := by
  show BitVec.ofNat 32 g * BitVec.ofNat 32 19 + BitVec.ofNat 32 a = _
  rw [← BitVec.ofNat_mul, ← BitVec.ofNat_add, Nat.mul_comm]

theorem to_word : ∀ (a : Fin 19) (x : Fin 18), Scalar.select (IntOp.cmpi .slt (BitVec.ofNat 32 x.val) (BitVec.ofNat 32 a.val)) (BitVec.ofNat 32 x.val) (IntOp.addi (BitVec.ofNat 32 x.val) 1#32)
    = BitVec.ofNat 32 (if x.val < a.val then x.val else x.val + 1) := by
  decide +kernel

theorem src_of (h : (fn a0 a1 a2 a3 a4 a5 a6 a7 a8 a9 a10 a11 a12 a13 a14 a15).1 = fun _ => 1#1) (g : Fin 32) (a : Fin 19) (x : Fin 18) :
    a1 (ix2 (0 : Fin 2) ⟨342 * g.val + 18 * a.val + x.val, by omega⟩) = BitVec.ofNat 32 (19 * g.val + a.val) := by
  have e : (fn a0 a1 a2 a3 a4 a5 a6 a7 a8 a9 a10 a11 a12 a13 a14 a15).1
    = cmpi .eq (shapeCast S32x19x18 (extractStridedSlice S1x32x19x18 ![0, 0, 0, 0] (shapeCast S2x32x19x18 a1 shapeCasts_S2x10944_S2x32x19x18) slices_S2x32x19x18_S1x32x19x18_0_0_0_0) shapeCasts_S1x32x19x18_S32x19x18)
      (addi (muli (iotaInDim S32x19x18 32 0) (broadcastInDim S32x19x18 ![] bcast_S_S32x19x18 (constantI S_ 32 19#32))) (iotaInDim S32x19x18 32 1)) := rfl
  have h' := congrFun (e.symm.trans h) (ix3 g a x)
  rw [← add_word]
  refine eq_of_cmpi (Eq.trans ?_ h')
  clear h' h e
  symm
  pointwise
  refine congrArg (fun z => IntOp.cmpi .eq (a1 (ix2 (0 : Fin 2) z)) _) (Fin.ext ?_)
  show g.val * 342 + a.val * 18 + x.val = 342 * g.val + 18 * a.val + x.val
  omega

theorem dst_of (h : (fn a0 a1 a2 a3 a4 a5 a6 a7 a8 a9 a10 a11 a12 a13 a14 a15).2.1 = fun _ => 1#1) (g : Fin 32) (a : Fin 19) (x : Fin 18) :
    a1 (ix2 (1 : Fin 2) ⟨342 * g.val + 18 * a.val + x.val, by omega⟩) = BitVec.ofNat 32 (19 * g.val + (if x.val < a.val then x.val else x.val + 1)) := by
  have e : (fn a0 a1 a2 a3 a4 a5 a6 a7 a8 a9 a10 a11 a12 a13 a14 a15).2.1
    = cmpi .eq (shapeCast S32x19x18 (extractStridedSlice S1x32x19x18 ![1, 0, 0, 0] (shapeCast S2x32x19x18 a1 shapeCasts_S2x10944_S2x32x19x18) slices_S2x32x19x18_S1x32x19x18_1_0_0_0) shapeCasts_S1x32x19x18_S32x19x18)
      (addi (muli (iotaInDim S32x19x18 32 0) (broadcastInDim S32x19x18 ![] bcast_S_S32x19x18 (constantI S_ 32 19#32))) (select (cmpi .slt (iotaInDim S32x19x18 32 2) (iotaInDim S32x19x18 32 1)) (iotaInDim S32x19x18 32 2) (addi (iotaInDim S32x19x18 32 2) (broadcastInDim S32x19x18 ![] bcast_S_S32x19x18 (constantI S_ 32 1#32))))) := rfl
  have h' := congrFun (e.symm.trans h) (ix3 g a x)
  rw [← add_word, ← to_word]
  refine eq_of_cmpi (Eq.trans ?_ h')
  clear h' h e
  symm
  pointwise
  refine congrArg (fun z => IntOp.cmpi .eq (a1 (ix2 (1 : Fin 2) z)) _) (Fin.ext ?_)
  show g.val * 342 + a.val * 18 + x.val = 342 * g.val + 18 * a.val + x.val
  omega

theorem log_of (h : (fn a0 a1 a2 a3 a4 a5 a6 a7 a8 a9 a10 a11 a12 a13 a14 a15).2.2.1 = fun _ => 1#1) (d : Fin 64) (n : Fin 16) :
    (a7 (ix2 d n) : EReal) = Ideal.log (((n.val + 1 : ℕ) : ℝ) : EReal) := by
  have e : (fn a0 a1 a2 a3 a4 a5 a6 a7 a8 a9 a10 a11 a12 a13 a14 a15).2.2.1
    = cmpf .oeq a7 (Host.log (sitofp .f32 (addi (iotaInDim S64x16 32 1) (broadcastInDim S64x16 ![] bcast_S_S64x16 (constantI S_ 32 1#32))))) := rfl
  have h' := congrFun (e.symm.trans h) (ix2 d n)
  have hw : ∀ n : Fin 16, (IntOp.addi (BitVec.ofNat 32 n.val) 1#32).toInt = ((n.val + 1 : ℕ) : Int) := by decide +kernel
  have hr : (((IntOp.addi (BitVec.ofNat 32 n.val) 1#32).toInt : ℝ) : EReal) = (((n.val + 1 : ℕ) : ℝ) : EReal) := by
    rw [hw]
    norm_cast
  rw [← hr]
  refine eq_of_oeq (Eq.trans ?_ h')
  clear h' h e
  symm
  pointwise
  rfl

theorem xin_of (h : (fn a0 a1 a2 a3 a4 a5 a6 a7 a8 a9 a10 a11 a12 a13 a14 a15).2.2.2.1 = fun _ => 1#1) (p : Fin 608) (t : Fin 256) (a : Fin 32) :
    ∃ r : ℝ, (a0 (ix3 p t a) : EReal) = (r : EReal) := by
  have e : (fn a0 a1 a2 a3 a4 a5 a6 a7 a8 a9 a10 a11 a12 a13 a14 a15).2.2.2.1
    = cmpf .olt (Host.absf a0) (broadcastInDim S608x256x32 ![] bcast_S_S608x256x32 (constant (F := Ideal) S_ .f32 0x7F800000#32)) := rfl
  have h' := congrFun (e.symm.trans h) (ix3 p t a)
  exact fin_of_olt h'

theorem win_of (h : (fn a0 a1 a2 a3 a4 a5 a6 a7 a8 a9 a10 a11 a12 a13 a14 a15).2.2.2.2.1 = fun _ => 1#1) (e : Fin 64) (a : Fin 32) :
    ∃ r : ℝ, (a3 (ix2 ⟨e.val, by omega⟩ a) : EReal) = (r : EReal) := by
  have q : (fn a0 a1 a2 a3 a4 a5 a6 a7 a8 a9 a10 a11 a12 a13 a14 a15).2.2.2.2.1
    = cmpf .olt (Host.absf (extractStridedSlice S64x32 ![0, 0] a3 slices_S128x32_S64x32_0_0)) (broadcastInDim S64x32 ![] bcast_S_S64x32 (constant (F := Ideal) S_ .f32 0x7F800000#32)) := rfl
  have h' := congrFun (q.symm.trans h) (ix2 e a)
  have s : (extractStridedSlice S64x32 ![0, 0] a3 slices_S128x32_S64x32_0_0) (ix2 e a) = a3 (ix2 ⟨e.val, by omega⟩ a) := by
    pointwise
  rw [← s]
  exact fin_of_olt h'

theorem xpj_of (h : (fn a0 a1 a2 a3 a4 a5 a6 a7 a8 a9 a10 a11 a12 a13 a14 a15).2.2.2.2.2.1 = fun _ => 1#1) (ρ : Fin 2) (e : Fin 64) :
    ∃ r : ℝ, (a4 (ix2 ⟨ρ.val, by omega⟩ e) : EReal) = (r : EReal) := by
  have q : (fn a0 a1 a2 a3 a4 a5 a6 a7 a8 a9 a10 a11 a12 a13 a14 a15).2.2.2.2.2.1
    = cmpf .olt (Host.absf (extractStridedSlice S2x64 ![0, 0] a4 slices_S34x64_S2x64_0_0)) (broadcastInDim S2x64 ![] bcast_S_S2x64 (constant (F := Ideal) S_ .f32 0x7F800000#32)) := rfl
  have h' := congrFun (q.symm.trans h) (ix2 ρ e)
  have s : (extractStridedSlice S2x64 ![0, 0] a4 slices_S34x64_S2x64_0_0) (ix2 ρ e) = a4 (ix2 ⟨ρ.val, by omega⟩ e) := by
    pointwise
  rw [← s]
  exact fin_of_olt h'

theorem dtw_of (h : (fn a0 a1 a2 a3 a4 a5 a6 a7 a8 a9 a10 a11 a12 a13 a14 a15).2.2.2.2.2.2 = fun _ => 1#1) (d : Fin 64) (ρ : Fin 2) :
    ∃ r : ℝ, (a5 (ix2 d ρ) : EReal) = (r : EReal) := by
  have q : (fn a0 a1 a2 a3 a4 a5 a6 a7 a8 a9 a10 a11 a12 a13 a14 a15).2.2.2.2.2.2
    = cmpf .olt (Host.absf a5) (broadcastInDim S64x2 ![] bcast_S_S64x2 (constant (F := Ideal) S_ .f32 0x7F800000#32)) := rfl
  have h' := congrFun (q.symm.trans h) (ix2 d ρ)
  exact fin_of_olt h'

end Cert.Proof.Pre
-- ==== Proof.Args.lean ====
module

public import proofs.«01_k».proof.Defs
public import proofs.«01_k».proof.Proof.Same
public import proofs.«01_k».proof.Proof.Setup

@[expose] public section

set_option maxRecDepth 8192

/-! From the claim's own words — equal arguments, a setup of all ones — to what the two models' equality asks. -/

noncomputable section

namespace Cert.Proof

open Idealize.ShloMosaic Idealize.ShloMosaic.TcCoe

namespace Rf
open Cert.ReferenceIdeal Cert.ReferenceIdeal.Gen Cert.ReferenceIdeal.Value

theorem cgA_arg (V : Val) : cgA (X0 V) = V (Proc.devRef .tc main_arg10) := by
  unfold cgA
  rw [X0_at, e_v52_6, k10]
  rfl

theorem cbA_arg (V : Val) : cbA (X0 V) = V (Proc.devRef .tc main_arg11) := by
  unfold cbA
  rw [X0_at, e_v52_10, k11]
  rfl

theorem cgB_arg (V : Val) : cgB (X0 V) = V (Proc.devRef .tc main_arg12) := by
  unfold cgB
  rw [X0_at, e_v52_11, k12]
  rfl

theorem cbB_arg (V : Val) : cbB (X0 V) = V (Proc.devRef .tc main_arg13) := by
  unfold cbB
  rw [X0_at, e_v52_12, k13]
  rfl

theorem cgC_arg (V : Val) : cgC (X0 V) = V (Proc.devRef .tc main_arg14) := by
  unfold cgC
  rw [X0_at, e_v52_13, k14]
  rfl

theorem cbC_arg (V : Val) : cbC (X0 V) = V (Proc.devRef .tc main_arg15) := by
  unfold cbC
  rw [X0_at, e_v52_14, k15]
  rfl

theorem cD_arg (V : Val) : cD (X0 V) = V (Proc.devRef .tc main_arg8) := by
  unfold cD
  rw [X0_at, e_v52_15, k8]
  rfl

theorem cow_arg (V : Val) : cow (X0 V) = V (Proc.devRef .tc main_arg9) := by
  unfold cow
  rw [X0_at, k9]

/-- A setup of all ones gives the graph's edges. -/
theorem edges_of (V : Val) (hs : ∀ (g : Fin 32) (a : Fin 19) (x : Fin 18), edg V (ix2 (0 : Fin 2) ⟨342 * g.val + 18 * a.val + x.val, by omega⟩) = BitVec.ofNat 32 (19 * g.val + a.val))
    (hd : ∀ (g : Fin 32) (a : Fin 19) (x : Fin 18), edg V (ix2 (1 : Fin 2) ⟨342 * g.val + 18 * a.val + x.val, by omega⟩) = BitVec.ofNat 32 (19 * g.val + (if x.val < a.val then x.val else x.val + 1))) : Edges V where
  src e := by
    have q : (⟨342 * (e.val / 342) + 18 * (e.val % 342 / 18) + e.val % 18, by omega⟩ : Fin 10944) = e := Fin.ext (by show 342 * (e.val / 342) + 18 * (e.val % 342 / 18) + e.val % 18 = e.val; omega)
    have h := hs ⟨e.val / 342, by omega⟩ ⟨e.val % 342 / 18, by omega⟩ ⟨e.val % 18, by omega⟩
    dsimp only at h
    rw [q] at h
    rw [h]
    unfold srcN
    rw [if_pos e.isLt]
  dst e := by
    have q : (⟨342 * (e.val / 342) + 18 * (e.val % 342 / 18) + e.val % 18, by omega⟩ : Fin 10944) = e := Fin.ext (by show 342 * (e.val / 342) + 18 * (e.val % 342 / 18) + e.val % 18 = e.val; omega)
    have h := hd ⟨e.val / 342, by omega⟩ ⟨e.val % 342 / 18, by omega⟩ ⟨e.val % 18, by omega⟩
    dsimp only at h
    rw [q] at h
    rw [h]
    unfold dstN
    rw [if_pos e.isLt]

end Rf

/-- A kernel's memory on one device. -/
abbrev KMem := (ℓ : Loc Cert.KernelIdeal.nD Cert.KernelIdeal.τ Cert.KernelIdeal.sig) → Buf (Elt Ideal) ℓ
/-- A reference's memory on one device. -/
abbrev RMem := (ℓ : Loc Cert.ReferenceIdeal.nD Cert.ReferenceIdeal.τ Cert.ReferenceIdeal.sig) → Buf (Elt Ideal) ℓ

/-- The arguments of the two runs are equal on a device. -/
def Args (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

theorem same_of {m : KMem} {m' : RMem} {c : Dev Cert.KernelIdeal.nD} (h : Args m m' c) : Same (fun b => m (c, b)) (fun b => m' (c, b)) := by
  obtain ⟨h0, h1, h2, h3, h4, h5, h6, h7, h8, h9, h10, h11, h12, h13, h14, h15⟩ := h
  exact {
    xin := fun p T a => congrFun h0 (ix3 p T a)
    wgt := fun e => congrFun h2 (ix1 e)
    win := fun e a => congrFun h3 (ix2 e a)
    xpj := fun e a => congrFun h4 (ix2 e a)
    dtw := fun e a => congrFun h5 (ix2 e a)
    dtb := fun d => congrFun h6 (ix1 d)
    dsk := fun d => (congrFun (Rf.cD_arg _) (ix1 d)).trans (congrFun h8 (ix1 d))
    ow := fun o d => (congrFun (Rf.cow_arg _) (ix2 o d)).trans (congrFun h9 (ix2 o d))
    gAw := fun d e => (congrFun (Rf.cgA_arg _) (ix2 d e)).trans (congrFun h10 (ix2 d e))
    gAb := fun d => (congrFun (Rf.cbA_arg _) (ix1 d)).trans (congrFun h11 (ix1 d))
    gBw := fun d e => (congrFun (Rf.cgB_arg _) (ix2 d e)).trans (congrFun h12 (ix2 d e))
    gBb := fun d => (congrFun (Rf.cbB_arg _) (ix1 d)).trans (congrFun h13 (ix1 d))
    gCw := fun d e => (congrFun (Rf.cgC_arg _) (ix2 d e)).trans (congrFun h14 (ix2 d e))
    gCb := fun d => (congrFun (Rf.cbC_arg _) (ix1 d)).trans (congrFun h15 (ix1 d)) }

theorem set0_of {m : KMem} {m' : RMem} (hp : Cert.Pre_KernelIdeal_setup_graph (hPre_setup_graph := Pre.facts) m) {c : Dev Cert.KernelIdeal.nD} (h : Args m m' c) : Set0 (fun b => m' (c, b)) := by
  obtain ⟨h0, h1, h2, h3, h4, h5, h6, h7, h8, h9, h10, h11, h12, h13, h14, h15⟩ := h
  obtain ⟨p0, p1, p2, p3, p4, p5, p6⟩ := hp c
  exact {
    edges := Rf.edges_of _ (fun g a x => (congrFun h1 _).trans (Pre.src_of _ _ _ _ _ _ _ _ _ _ _ _ _ _ _ _ p0 g a x))
      (fun g a x => (congrFun h1 _).trans (Pre.dst_of _ _ _ _ _ _ _ _ _ _ _ _ _ _ _ _ p1 g a x))
    alog := fun d n => (congrFun h7 _).trans (Pre.log_of _ _ _ _ _ _ _ _ _ _ _ _ _ _ _ _ p2 d n)
    xin := fun p T a => (Pre.xin_of _ _ _ _ _ _ _ _ _ _ _ _ _ _ _ _ p3 p T a).imp fun _ q => (congrFun h0 _).trans q
    win := fun e a => (Pre.win_of _ _ _ _ _ _ _ _ _ _ _ _ _ _ _ _ p4 e a).imp fun _ q => (congrFun h3 _).trans q
    xpj := fun ρ e => (Pre.xpj_of _ _ _ _ _ _ _ _ _ _ _ _ _ _ _ _ p5 ρ e).imp fun _ q => (congrFun h4 _).trans q
    dtw := fun d ρ => (Pre.dtw_of _ _ _ _ _ _ _ _ _ _ _ _ _ _ _ _ p6 d ρ).imp fun _ q => (congrFun h5 _).trans q }

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Args
public import Idealize.ShloMosaic.Lib.Claim
public import Idealize.ShloMosaic.Adequacy
public import Idealize.ShloMosaic.Init

@[expose] public section

set_option maxRecDepth 8192

noncomputable section

namespace Cert.Proof

open Idealize.ShloMosaic Idealize.ShloMosaic.TcCoe Idealize.SL.Sem

/-- The reference ends with its arguments unchanged; it declares no semaphore. -/
theorem frame_ri : Cert.quiescent_ReferenceIdeal (hReferenceIdeal := Cert.ReferenceIdeal.Gen.facts) := fun m ρ _ =>
  (θ_run Cert.ReferenceIdeal.defs _ _).mono
    (fun r h => by
      have h' := h
      exact ⟨fun c => (h' c).2, Idealize.ShloMosaic.sem_eq_zero_of_no_sems (by decide) r.2⟩)
    (Cert.ReferenceIdeal.Value.run (F := Ideal) m ρ)

section
open Cert.ReferenceIdeal Cert.ReferenceIdeal.Gen Cert.ReferenceIdeal.Value

/-- The result both runs leave on a device: the model's, entry by entry. -/
def res (m' : RMem) (c : Dev nD) : FVec Ideal S608x256x32 .f32 := fun j =>
  (Rf.MR (Rf.X0 fun b => m' (c, b))).out (j 1).val (j 0) (j 2)

theorem ref_res (m' : RMem) (c : Dev nD) : (out_main_v54 (F := Ideal) (STEP^[256] (StableHlo.entryContents preI m' c)) : FVec Ideal S608x256x32 .f32) = res m' c := by
  rw [Rf.entry_eq]
  funext j
  rw [Idealize.ShloMosaic.eq_ix3 j]
  exact Rf.out_entry (Rf.X0 fun b => m' (c, b)) (Rf.ck_eq _) (Rf.cs_apply _) (j 0) (j 1) (j 2)
end

section
open Cert.KernelIdeal Cert.KernelIdeal.Gen

theorem kernel_res {m : KMem} {m' : RMem} (hp : Cert.Pre_KernelIdeal_setup_graph (hPre_setup_graph := Pre.facts) m) {c : Dev nD} (ha : Args m m' c)
    (r : PUnit × MemSt nD τ sig (Elt Ideal)) (h : Pipeline.FramePost cfgs (dats m) 0 (Pipeline.afterTail₀ cfgs (dats m) 0 (V0 m) [hostOps1]) r) :
    (r.2.mem ((c.tc : Thread nD τ).loc main_v0) : FVec Ideal S608x256x32 .f32) = res m' c := by
  funext j
  rw [Idealize.ShloMosaic.eq_ix3 j]
  refine (Trip.kernel_entry m c (fun i => KH.wok m c i _ rfl) r h (j 0) (j 1) (j 2)).trans ?_
  rw [same_model m c _ rfl _ (same_of ha) (set0_of hp ha)]
  rfl
end

theorem algebraic : Cert.algebraic_KernelIdeal_ReferenceIdeal_pre_setup_graph (hKernelIdeal := Cert.KernelIdeal.Gen.facts) (hReferenceIdeal := Cert.ReferenceIdeal.Gen.facts)
    (hPre_setup_graph := Pre.facts) := fun m g m' g' hp ha =>
  ⟨fun c => res m' c,
    (θ_run Cert.KernelIdeal.defs _ _).mono (fun r h c => ⟨kernel_res hp (ha c) r h.1, h.2 c⟩)
      (θ_run_and (Cert.KernelIdeal.Gen.run_main (F := Ideal) m g) (Cert.KernelIdeal.Gen.unchanged (F := Ideal) m g)),
    (θ_run Cert.ReferenceIdeal.defs _ _).mono (fun r h c => ⟨(h c).1.trans (ref_res m' c), (h c).2⟩)
      (Cert.ReferenceIdeal.Value.run (F := Ideal) m' g')⟩

theorem claim : Cert.Claim := ⟨Cert.Kernel.Gen.facts, Cert.KernelIdeal.Gen.facts, Cert.ReferenceIdeal.Gen.facts, Pre.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
